-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_scores [hPre_finite_scores : Cert.Pre_finite_scores.Facts] (m : (ℓ : Loc Cert.KernelIdeal.nD Cert.KernelIdeal.τ Cert.KernelIdeal.sig) → Buf (Elt Ideal) ℓ) : Prop :=
  ∀ c : Dev Cert.KernelIdeal.nD,
    (Cert.Pre_finite_scores.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_scores [hPre_finite_scores : Cert.Pre_finite_scores.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_scores.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ r.2.sem = fun _ => 0)

def quiescent_KernelIdeal_pre_finite_scores [hKernelIdeal : Cert.KernelIdeal.Facts] [hPre_finite_scores : Cert.Pre_finite_scores.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_scores m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))
      ∧ r.2.sem = fun _ => 0)

def quiescent_ReferenceIdeal_pre_finite_scores [hReferenceIdeal : Cert.ReferenceIdeal.Facts] [hPre_finite_scores : Cert.Pre_finite_scores.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_scores m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))
      ∧ r.2.sem = fun _ => 0)

def preserves_Kernel_KernelIdeal : Prop :=
  IdealRules.named_const.Statement Cert.KernelIdeal.κ "mask" .f32 0xFE967699#32 ⊥
  ∧ IdealRules.named_const.Statement Cert.KernelIdeal.κ "log8_scale" .f32 0x40F6384F#32 ((16 * (Real.log 8)⁻¹ : ℝ) : EReal)

def algebraic_KernelIdeal_ReferenceIdeal_pre_finite_scores [hKernelIdeal : Cert.KernelIdeal.Facts] [hReferenceIdeal : Cert.ReferenceIdeal.Facts] [hPre_finite_scores : Cert.Pre_finite_scores.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_scores m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v31)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v31) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v114) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_scores : Cert.Pre_finite_scores.Facts),
    quiescent_Kernel (hKernel := hKernel)
    ∧ quiescent_KernelIdeal (hKernelIdeal := hKernelIdeal)
    ∧ quiescent_KernelIdeal_pre_finite_scores (hKernelIdeal := hKernelIdeal) (hPre_finite_scores := hPre_finite_scores)
    ∧ quiescent_ReferenceIdeal (hReferenceIdeal := hReferenceIdeal)
    ∧ quiescent_ReferenceIdeal_pre_finite_scores (hReferenceIdeal := hReferenceIdeal) (hPre_finite_scores := hPre_finite_scores)
    ∧ preserves_Kernel_KernelIdeal
    ∧ algebraic_KernelIdeal_ReferenceIdeal_pre_finite_scores (hKernelIdeal := hKernelIdeal) (hReferenceIdeal := hReferenceIdeal) (hPre_finite_scores := hPre_finite_scores)
-- ==== Pre_finite_scores.lean ====
abbrev S1x2048x768 : Shape := ⟨3, ![1, 2048, 768]⟩
abbrev S1x12x32x64 : Shape := ⟨4, ![1, 12, 32, 64]⟩
abbrev S1x12x32 : Shape := ⟨3, ![1, 12, 32]⟩
abbrev S768x768 : Shape := ⟨2, ![768, 768]⟩
abbrev S768x1536 : Shape := ⟨2, ![768, 1536]⟩
abbrev S768 : Shape := ⟨1, ![768]⟩
abbrev S12x1x64 : Shape := ⟨3, ![12, 1, 64]⟩
abbrev S12x1x1 : Shape := ⟨3, ![12, 1, 1]⟩
abbrev S32x12 : Shape := ⟨2, ![32, 12]⟩
abbrev S_ : Shape := ⟨0, ![]⟩

class Facts : Prop where
  bcast_S_S1x2048x768 : S_.BroadcastsInDim S1x2048x768 (![] : Fin 0 → Fin S1x2048x768.rank)
  reducesTo_S1x2048x768_S_d0_1_2 : S1x2048x768.ReducesTo [0, 1, 2] S_
  h_S_ : 0 < S_.numel
  bcast_S_S1x12x32x64 : S_.BroadcastsInDim S1x12x32x64 (![] : Fin 0 → Fin S1x12x32x64.rank)
  reducesTo_S1x12x32x64_S_d0_1_2_3 : S1x12x32x64.ReducesTo [0, 1, 2, 3] S_
  bcast_S_S768x768 : S_.BroadcastsInDim S768x768 (![] : Fin 0 → Fin S768x768.rank)
  reducesTo_S768x768_S_d0_1 : S768x768.ReducesTo [0, 1] S_
  slices_S768x1536_S768x768_0_0 : S768x1536.Slices ![0, 0] S768x768
  bcast_S_S12x1x64 : S_.BroadcastsInDim S12x1x64 (![] : Fin 0 → Fin S12x1x64.rank)
  reducesTo_S12x1x64_S_d0_1_2 : S12x1x64.ReducesTo [0, 1, 2] S_
  bcast_S_S32x12 : S_.BroadcastsInDim S32x12 (![] : Fin 0 → Fin S32x12.rank)
  reducesTo_S32x12_S_d0_1 : S32x12.ReducesTo [0, 1] S_

variable [Facts]

def fn_part1 {F : FTy → Type} [FloatOps F] (main_arg8 : FVec F S12x1x64 .f32) (main_arg11 : FVec F S32x12 .f32) (main_v13 : IVec S_ 1) (main_v15 : FVec F S768x768 .f32) (main_v16 : FVec F S768x768 .f32) : IVec S_ 1 :=
  let main_v17 : IVec S768x768 1 := cmpf .olt main_v15 main_v16
  let main_c_5 : IVec S_ 1 := constantI S_ 1 1#1
  let main_v18 : IVec S_ 1 := (fun x v => Host.reduce IntOp.andi x v reducesTo_S768x768_S_d0_1 h_S_) main_v17 main_c_5
  let main_v19 : IVec S_ 1 := andi main_v13 main_v18
  let main_v20 : FVec F S12x1x64 .f32 := Host.absf main_arg8
  let main_cst_6 : FVec F S_ .f32 := constant S_ .f32 0x7F800000#32
  let main_v21 : FVec F S12x1x64 .f32 := broadcastInDim S12x1x64 ![] bcast_S_S12x1x64 main_cst_6
  let main_v22 : IVec S12x1x64 1 := cmpf .olt main_v20 main_v21
  let main_c_7 : IVec S_ 1 := constantI S_ 1 1#1
  let main_v23 : IVec S_ 1 := (fun x v => Host.reduce IntOp.andi x v reducesTo_S12x1x64_S_d0_1_2 h_S_) main_v22 main_c_7
  let main_v24 : IVec S_ 1 := andi main_v19 main_v23
  let main_v25 : FVec F S32x12 .f32 := Host.absf main_arg11
  let main_cst_8 : FVec F S_ .f32 := constant S_ .f32 0x7F800000#32
  let main_v26 : FVec F S32x12 .f32 := broadcastInDim S32x12 ![] bcast_S_S32x12 main_cst_8
  let main_v27 : IVec S32x12 1 := cmpf .olt main_v25 main_v26
  let main_c_9 : IVec S_ 1 := constantI S_ 1 1#1
  let main_v28 : IVec S_ 1 := (fun x v => Host.reduce IntOp.andi x v reducesTo_S32x12_S_d0_1 h_S_) main_v27 main_c_9
  let main_v29 : IVec S_ 1 := andi main_v24 main_v28
  main_v29

def fn {F : FTy → Type} [FloatOps F] (main_arg0 : FVec F S1x2048x768 .f32) (main_arg1 : FVec F S1x12x32x64 .f32) (main_arg2 : FVec F S1x12x32x64 .f32) (main_arg3 : IVec S1x12x32 1) (main_arg4 : FVec F S768x768 .f32) (main_arg5 : FVec F S768x1536 .f32) (main_arg6 : FVec F S768x768 .f32) (main_arg7 : FVec F S768 .f32) (main_arg8 : FVec F S12x1x64 .f32) (main_arg9 : FVec F S12x1x64 .f32) (main_arg10 : FVec F S12x1x1 .f32) (main_arg11 : FVec F S32x12 .f32) : IVec S_ 1 :=
  let main_v0 : FVec F S1x2048x768 .f32 := Host.absf main_arg0
  let main_cst : FVec F S_ .f32 := constant S_ .f32 0x7F800000#32
  let main_v1 : FVec F S1x2048x768 .f32 := broadcastInDim S1x2048x768 ![] bcast_S_S1x2048x768 main_cst
  let main_v2 : IVec S1x2048x768 1 := cmpf .olt main_v0 main_v1
  let main_c : IVec S_ 1 := constantI S_ 1 1#1
  let main_v3 : IVec S_ 1 := (fun x v => Host.reduce IntOp.andi x v reducesTo_S1x2048x768_S_d0_1_2 h_S_) main_v2 main_c
  let main_v4 : FVec F S1x12x32x64 .f32 := Host.absf main_arg1
  let main_cst_0 : FVec F S_ .f32 := constant S_ .f32 0x7F800000#32
  let main_v5 : FVec F S1x12x32x64 .f32 := broadcastInDim S1x12x32x64 ![] bcast_S_S1x12x32x64 main_cst_0
  let main_v6 : IVec S1x12x32x64 1 := cmpf .olt main_v4 main_v5
  let main_c_1 : IVec S_ 1 := constantI S_ 1 1#1
  let main_v7 : IVec S_ 1 := (fun x v => Host.reduce IntOp.andi x v reducesTo_S1x12x32x64_S_d0_1_2_3 h_S_) main_v6 main_c_1
  let main_v8 : IVec S_ 1 := andi main_v3 main_v7
  let main_v9 : FVec F S768x768 .f32 := Host.absf main_arg4
  let main_cst_2 : FVec F S_ .f32 := constant S_ .f32 0x7F800000#32
  let main_v10 : FVec F S768x768 .f32 := broadcastInDim S768x768 ![] bcast_S_S768x768 main_cst_2
  let main_v11 : IVec S768x768 1 := cmpf .olt main_v9 main_v10
  let main_c_3 : IVec S_ 1 := constantI S_ 1 1#1
  let main_v12 : IVec S_ 1 := (fun x v => Host.reduce IntOp.andi x v reducesTo_S768x768_S_d0_1 h_S_) main_v11 main_c_3
  let main_v13 : IVec S_ 1 := andi main_v8 main_v12
  let main_v14 : FVec F S768x768 .f32 := (extractStridedSlice S768x768 ![0, 0] · slices_S768x1536_S768x768_0_0) main_arg5
  let main_v15 : FVec F S768x768 .f32 := Host.absf main_v14
  let main_cst_4 : FVec F S_ .f32 := constant S_ .f32 0x7F800000#32
  let main_v16 : FVec F S768x768 .f32 := broadcastInDim S768x768 ![] bcast_S_S768x768 main_cst_4
  fn_part1 (F := F) main_arg8 main_arg11 main_v13 main_v15 main_v16
-- ==== Kernel.lean ====
abbrev S1x2048x768 : Shape := ⟨3, ![1, 2048, 768]⟩
abbrev S1x12x32x64 : Shape := ⟨4, ![1, 12, 32, 64]⟩
abbrev S1x12x32 : Shape := ⟨3, ![1, 12, 32]⟩
abbrev S768x768 : Shape := ⟨2, ![768, 768]⟩
abbrev S768x1536 : Shape := ⟨2, ![768, 1536]⟩
abbrev S768 : Shape := ⟨1, ![768]⟩
abbrev S12x1x64 : Shape := ⟨3, ![12, 1, 64]⟩
abbrev S12x1x1 : Shape := ⟨3, ![12, 1, 1]⟩
abbrev S32x12 : Shape := ⟨2, ![32, 12]⟩
abbrev S2048x768 : Shape := ⟨2, ![2048, 768]⟩
abbrev S12x2048x64 : Shape := ⟨3, ![12, 2048, 64]⟩
abbrev S768x128 : Shape := ⟨2, ![768, 128]⟩
abbrev S2x2048x64 : Shape := ⟨3, ![2, 2048, 64]⟩
abbrev S2048x128 : Shape := ⟨2, ![2048, 128]⟩
abbrev S2048x64 : Shape := ⟨2, ![2048, 64]⟩
abbrev S1x2048x64 : Shape := ⟨3, ![1, 2048, 64]⟩
abbrev S24x2048x64 : Shape := ⟨3, ![24, 2048, 64]⟩
abbrev S12x32x64 : Shape := ⟨3, ![12, 32, 64]⟩
abbrev S12x33x64 : Shape := ⟨3, ![12, 33, 64]⟩
abbrev S_ : Shape := ⟨0, ![]⟩
abbrev S12x64x64 : Shape := ⟨3, ![12, 64, 64]⟩
abbrev S12x1 : Shape := ⟨2, ![12, 1]⟩
abbrev S12x32 : Shape := ⟨2, ![12, 32]⟩
abbrev S12x31 : Shape := ⟨2, ![12, 31]⟩
abbrev S12x64 : Shape := ⟨2, ![12, 64]⟩
abbrev S12x128 : Shape := ⟨2, ![12, 128]⟩
abbrev S12x1x128 : Shape := ⟨3, ![12, 1, 128]⟩
abbrev S12x256x768 : Shape := ⟨3, ![12, 256, 768]⟩
abbrev S1x1x128 : Shape := ⟨3, ![1, 1, 128]⟩
abbrev S1x256x768 : Shape := ⟨3, ![1, 256, 768]⟩
abbrev S256x768 : Shape := ⟨2, ![256, 768]⟩
abbrev S128x384 : Shape := ⟨2, ![128, 384]⟩
abbrev S1x1x1 : Shape := ⟨3, ![1, 1, 1]⟩
abbrev S1x128x384 : Shape := ⟨3, ![1, 128, 384]⟩
abbrev S12x512x64 : Shape := ⟨3, ![12, 512, 64]⟩
abbrev S2x256x64 : Shape := ⟨3, ![2, 256, 64]⟩
abbrev S2x512x64 : Shape := ⟨3, ![2, 512, 64]⟩
abbrev S2x256x768 : Shape := ⟨3, ![2, 256, 768]⟩
abbrev S2x64x64 : Shape := ⟨3, ![2, 64, 64]⟩
abbrev S2x1x128 : Shape := ⟨3, ![2, 1, 128]⟩
abbrev S2x256x512 : Shape := ⟨3, ![2, 256, 512]⟩
abbrev S1x256x64 : Shape := ⟨3, ![1, 256, 64]⟩
abbrev S256x64 : Shape := ⟨2, ![256, 64]⟩
abbrev S1x512x64 : Shape := ⟨3, ![1, 512, 64]⟩
abbrev S512x64 : Shape := ⟨2, ![512, 64]⟩
abbrev S256x512 : Shape := ⟨2, ![256, 512]⟩
abbrev S1x256x512 : Shape := ⟨3, ![1, 256, 512]⟩
abbrev S256x256 : Shape := ⟨2, ![256, 256]⟩
abbrev S1x256x256 : Shape := ⟨3, ![1, 256, 256]⟩
abbrev S256 : Shape := ⟨1, ![256]⟩
abbrev S256x1 : Shape := ⟨2, ![256, 1]⟩
abbrev S1x64x64 : Shape := ⟨3, ![1, 64, 64]⟩
abbrev S64x64 : Shape := ⟨2, ![64, 64]⟩
abbrev S1x1x64 : Shape := ⟨3, ![1, 1, 64]⟩
abbrev S1x64 : Shape := ⟨2, ![1, 64]⟩
abbrev S1x1 : Shape := ⟨2, ![1, 1]⟩
abbrev S2x1024x64 : Shape := ⟨3, ![2, 1024, 64]⟩
abbrev S2x256x1024 : Shape := ⟨3, ![2, 256, 1024]⟩
abbrev S1x1024x64 : Shape := ⟨3, ![1, 1024, 64]⟩
abbrev S1024x64 : Shape := ⟨2, ![1024, 64]⟩
abbrev S256x1024 : Shape := ⟨2, ![256, 1024]⟩
abbrev S1x256x1024 : Shape := ⟨3, ![1, 256, 1024]⟩
abbrev S2x1536x64 : Shape := ⟨3, ![2, 1536, 64]⟩
abbrev S2x256x1536 : Shape := ⟨3, ![2, 256, 1536]⟩
abbrev S1x1536x64 : Shape := ⟨3, ![1, 1536, 64]⟩
abbrev S1536x64 : Shape := ⟨2, ![1536, 64]⟩
abbrev S256x1536 : Shape := ⟨2, ![256, 1536]⟩
abbrev S1x256x1536 : Shape := ⟨3, ![1, 256, 1536]⟩
abbrev S2x256x2048 : Shape := ⟨3, ![2, 256, 2048]⟩
abbrev S256x2048 : Shape := ⟨2, ![256, 2048]⟩
abbrev S1x256x2048 : Shape := ⟨3, ![1, 256, 2048]⟩
abbrev S1x768 : Shape := ⟨2, ![1, 768]⟩
abbrev S512x768 : Shape := ⟨2, ![512, 768]⟩

abbrev nBuf : Space → Nat
  | .hbm => 55
  | .vmem => 105
  | .smem => 0
  | _ => 0

abbrev bufTy : (tb : Table) → Fin (tcTables nBuf tb) → BufTy
  | .hbm, ⟨0, _⟩ => ⟨S1x2048x768, .f32⟩
  | .hbm, ⟨1, _⟩ => ⟨S1x12x32x64, .f32⟩
  | .hbm, ⟨2, _⟩ => ⟨S1x12x32x64, .f32⟩
  | .hbm, ⟨3, _⟩ => ⟨S1x12x32, .i1⟩
  | .hbm, ⟨4, _⟩ => ⟨S768x768, .f32⟩
  | .hbm, ⟨5, _⟩ => ⟨S768x1536, .f32⟩
  | .hbm, ⟨6, _⟩ => ⟨S768x768, .f32⟩
  | .hbm, ⟨7, _⟩ => ⟨S768, .f32⟩
  | .hbm, ⟨8, _⟩ => ⟨S12x1x64, .f32⟩
  | .hbm, ⟨9, _⟩ => ⟨S12x1x64, .f32⟩
  | .hbm, ⟨10, _⟩ => ⟨S12x1x1, .f32⟩
  | .hbm, ⟨11, _⟩ => ⟨S32x12, .f32⟩
  | .hbm, ⟨12, _⟩ => ⟨S2048x768, .f32⟩
  | .hbm, ⟨13, _⟩ => ⟨S12x2048x64, .bf16⟩
  | .hbm, ⟨14, _⟩ => ⟨S24x2048x64, .bf16⟩
  | .hbm, ⟨15, _⟩ => ⟨S12x32x64, .f32⟩
  | .hbm, ⟨16, _⟩ => ⟨S12x33x64, .f32⟩
  | .hbm, ⟨17, _⟩ => ⟨S12x32x64, .f32⟩
  | .hbm, ⟨18, _⟩ => ⟨S12x33x64, .f32⟩
  | .hbm, ⟨19, _⟩ => ⟨S_, .i32⟩
  | .hbm, ⟨20, _⟩ => ⟨S_, .f32⟩
  | .hbm, ⟨21, _⟩ => ⟨S12x64x64, .f32⟩
  | .hbm, ⟨22, _⟩ => ⟨S12x64x64, .bf16⟩
  | .hbm, ⟨23, _⟩ => ⟨S_, .i32⟩
  | .hbm, ⟨24, _⟩ => ⟨S_, .f32⟩
  | .hbm, ⟨25, _⟩ => ⟨S12x64x64, .f32⟩
  | .hbm, ⟨26, _⟩ => ⟨S12x64x64, .bf16⟩
  | .hbm, ⟨27, _⟩ => ⟨S_, .f32⟩
  | .hbm, ⟨28, _⟩ => ⟨S12x1, .f32⟩
  | .hbm, ⟨29, _⟩ => ⟨S12x32, .i1⟩
  | .hbm, ⟨30, _⟩ => ⟨S12x32, .f32⟩
  | .hbm, ⟨31, _⟩ => ⟨S_, .f32⟩
  | .hbm, ⟨32, _⟩ => ⟨S12x31, .f32⟩
  | .hbm, ⟨33, _⟩ => ⟨S12x64, .f32⟩
  | .hbm, ⟨34, _⟩ => ⟨S_, .i32⟩
  | .hbm, ⟨35, _⟩ => ⟨S_, .f32⟩
  | .hbm, ⟨36, _⟩ => ⟨S12x128, .f32⟩
  | .hbm, ⟨37, _⟩ => ⟨S12x1x128, .f32⟩
  | .hbm, ⟨38, _⟩ => ⟨S12x32, .f32⟩
  | .hbm, ⟨39, _⟩ => ⟨S_, .f32⟩
  | .hbm, ⟨40, _⟩ => ⟨S12x32, .f32⟩
  | .hbm, ⟨41, _⟩ => ⟨S12x32, .f32⟩
  | .hbm, ⟨42, _⟩ => ⟨S_, .i32⟩
  | .hbm, ⟨43, _⟩ => ⟨S_, .f32⟩
  | .hbm, ⟨44, _⟩ => ⟨S12x128, .f32⟩
  | .hbm, ⟨45, _⟩ => ⟨S12x1x128, .f32⟩
  | .hbm, ⟨46, _⟩ => ⟨S12x1x128, .f32⟩
  | .hbm, ⟨47, _⟩ => ⟨S12x256x768, .f32⟩
  | .hbm, ⟨48, _⟩ => ⟨S12x512x64, .bf16⟩
  | .hbm, ⟨49, _⟩ => ⟨S12x512x64, .bf16⟩
  | .hbm, ⟨50, _⟩ => ⟨S12x512x64, .bf16⟩
  | .hbm, ⟨51, _⟩ => ⟨S12x512x64, .bf16⟩
  | .hbm, ⟨52, _⟩ => ⟨S1x768, .f32⟩
  | .hbm, ⟨53, _⟩ => ⟨S2048x768, .f32⟩
  | .hbm, ⟨54, _⟩ => ⟨S1x2048x768, .f32⟩
  | .local _ .vmem, ⟨0, _⟩ => ⟨S2048x768, .f32⟩
  | .local _ .vmem, ⟨1, _⟩ => ⟨S768x128, .f32⟩
  | .local _ .vmem, ⟨2, _⟩ => ⟨S768x128, .f32⟩
  | .local _ .vmem, ⟨3, _⟩ => ⟨S2x2048x64, .bf16⟩
  | .local _ .vmem, ⟨4, _⟩ => ⟨S2x2048x64, .bf16⟩
  | .local _ .vmem, ⟨5, _⟩ => ⟨S2048x768, .f32⟩
  | .local _ .vmem, ⟨6, _⟩ => ⟨S768x128, .f32⟩
  | .local _ .vmem, ⟨7, _⟩ => ⟨S768x128, .f32⟩
  | .local _ .vmem, ⟨8, _⟩ => ⟨S2x2048x64, .bf16⟩
  | .local _ .vmem, ⟨9, _⟩ => ⟨S2x2048x64, .bf16⟩
  | .local _ .vmem, ⟨10, _⟩ => ⟨S1x1x128, .f32⟩
  | .local _ .vmem, ⟨11, _⟩ => ⟨S1x1x128, .f32⟩
  | .local _ .vmem, ⟨12, _⟩ => ⟨S1x256x768, .f32⟩
  | .local _ .vmem, ⟨13, _⟩ => ⟨S1x256x768, .f32⟩
  | .local _ .vmem, ⟨14, _⟩ => ⟨S2x256x64, .bf16⟩
  | .local _ .vmem, ⟨15, _⟩ => ⟨S2x256x64, .bf16⟩
  | .local _ .vmem, ⟨16, _⟩ => ⟨S2x512x64, .bf16⟩
  | .local _ .vmem, ⟨17, _⟩ => ⟨S2x512x64, .bf16⟩
  | .local _ .vmem, ⟨18, _⟩ => ⟨S2x512x64, .bf16⟩
  | .local _ .vmem, ⟨19, _⟩ => ⟨S2x512x64, .bf16⟩
  | .local _ .vmem, ⟨20, _⟩ => ⟨S2x256x768, .f32⟩
  | .local _ .vmem, ⟨21, _⟩ => ⟨S2x256x768, .f32⟩
  | .local _ .vmem, ⟨22, _⟩ => ⟨S2x64x64, .bf16⟩
  | .local _ .vmem, ⟨23, _⟩ => ⟨S2x64x64, .bf16⟩
  | .local _ .vmem, ⟨24, _⟩ => ⟨S2x64x64, .bf16⟩
  | .local _ .vmem, ⟨25, _⟩ => ⟨S2x64x64, .bf16⟩
  | .local _ .vmem, ⟨26, _⟩ => ⟨S2x1x128, .f32⟩
  | .local _ .vmem, ⟨27, _⟩ => ⟨S2x1x128, .f32⟩
  | .local _ .vmem, ⟨28, _⟩ => ⟨S2x1x128, .f32⟩
  | .local _ .vmem, ⟨29, _⟩ => ⟨S2x1x128, .f32⟩
  | .local _ .vmem, ⟨30, _⟩ => ⟨S2x1x128, .f32⟩
  | .local _ .vmem, ⟨31, _⟩ => ⟨S2x1x128, .f32⟩
  | .local _ .vmem, ⟨32, _⟩ => ⟨S2x256x64, .bf16⟩
  | .local _ .vmem, ⟨33, _⟩ => ⟨S2x256x64, .bf16⟩
  | .local _ .vmem, ⟨34, _⟩ => ⟨S2x256x512, .f32⟩
  | .local _ .vmem, ⟨35, _⟩ => ⟨S2x256x64, .bf16⟩
  | .local _ .vmem, ⟨36, _⟩ => ⟨S2x256x64, .bf16⟩
  | .local _ .vmem, ⟨37, _⟩ => ⟨S2x1024x64, .bf16⟩
  | .local _ .vmem, ⟨38, _⟩ => ⟨S2x1024x64, .bf16⟩
  | .local _ .vmem, ⟨39, _⟩ => ⟨S2x1024x64, .bf16⟩
  | .local _ .vmem, ⟨40, _⟩ => ⟨S2x1024x64, .bf16⟩
  | .local _ .vmem, ⟨41, _⟩ => ⟨S2x256x768, .f32⟩
  | .local _ .vmem, ⟨42, _⟩ => ⟨S2x256x768, .f32⟩
  | .local _ .vmem, ⟨43, _⟩ => ⟨S2x64x64, .bf16⟩
  | .local _ .vmem, ⟨44, _⟩ => ⟨S2x64x64, .bf16⟩
  | .local _ .vmem, ⟨45, _⟩ => ⟨S2x64x64, .bf16⟩
  | .local _ .vmem, ⟨46, _⟩ => ⟨S2x64x64, .bf16⟩
  | .local _ .vmem, ⟨47, _⟩ => ⟨S2x1x128, .f32⟩
  | .local _ .vmem, ⟨48, _⟩ => ⟨S2x1x128, .f32⟩
  | .local _ .vmem, ⟨49, _⟩ => ⟨S2x1x128, .f32⟩
  | .local _ .vmem, ⟨50, _⟩ => ⟨S2x1x128, .f32⟩
  | .local _ .vmem, ⟨51, _⟩ => ⟨S2x1x128, .f32⟩
  | .local _ .vmem, ⟨52, _⟩ => ⟨S2x1x128, .f32⟩
  | .local _ .vmem, ⟨53, _⟩ => ⟨S2x256x64, .bf16⟩
  | .local _ .vmem, ⟨54, _⟩ => ⟨S2x256x64, .bf16⟩
  | .local _ .vmem, ⟨55, _⟩ => ⟨S2x256x1024, .f32⟩
  | .local _ .vmem, ⟨56, _⟩ => ⟨S2x256x64, .bf16⟩
  | .local _ .vmem, ⟨57, _⟩ => ⟨S2x256x64, .bf16⟩
  | .local _ .vmem, ⟨58, _⟩ => ⟨S2x1536x64, .bf16⟩
  | .local _ .vmem, ⟨59, _⟩ => ⟨S2x1536x64, .bf16⟩
  | .local _ .vmem, ⟨60, _⟩ => ⟨S2x1536x64, .bf16⟩
  | .local _ .vmem, ⟨61, _⟩ => ⟨S2x1536x64, .bf16⟩
  | .local _ .vmem, ⟨62, _⟩ => ⟨S2x256x768, .f32⟩
  | .local _ .vmem, ⟨63, _⟩ => ⟨S2x256x768, .f32⟩
  | .local _ .vmem, ⟨64, _⟩ => ⟨S2x64x64, .bf16⟩
  | .local _ .vmem, ⟨65, _⟩ => ⟨S2x64x64, .bf16⟩
  | .local _ .vmem, ⟨66, _⟩ => ⟨S2x64x64, .bf16⟩
  | .local _ .vmem, ⟨67, _⟩ => ⟨S2x64x64, .bf16⟩
  | .local _ .vmem, ⟨68, _⟩ => ⟨S2x1x128, .f32⟩
  | .local _ .vmem, ⟨69, _⟩ => ⟨S2x1x128, .f32⟩
  | .local _ .vmem, ⟨70, _⟩ => ⟨S2x1x128, .f32⟩
  | .local _ .vmem, ⟨71, _⟩ => ⟨S2x1x128, .f32⟩
  | .local _ .vmem, ⟨72, _⟩ => ⟨S2x1x128, .f32⟩
  | .local _ .vmem, ⟨73, _⟩ => ⟨S2x1x128, .f32⟩
  | .local _ .vmem, ⟨74, _⟩ => ⟨S2x256x64, .bf16⟩
  | .local _ .vmem, ⟨75, _⟩ => ⟨S2x256x64, .bf16⟩
  | .local _ .vmem, ⟨76, _⟩ => ⟨S2x256x1536, .f32⟩
  | .local _ .vmem, ⟨77, _⟩ => ⟨S2x256x64, .bf16⟩
  | .local _ .vmem, ⟨78, _⟩ => ⟨S2x256x64, .bf16⟩
  | .local _ .vmem, ⟨79, _⟩ => ⟨S2x2048x64, .bf16⟩
  | .local _ .vmem, ⟨80, _⟩ => ⟨S2x2048x64, .bf16⟩
  | .local _ .vmem, ⟨81, _⟩ => ⟨S2x2048x64, .bf16⟩
  | .local _ .vmem, ⟨82, _⟩ => ⟨S2x2048x64, .bf16⟩
  | .local _ .vmem, ⟨83, _⟩ => ⟨S2x256x768, .f32⟩
  | .local _ .vmem, ⟨84, _⟩ => ⟨S2x256x768, .f32⟩
  | .local _ .vmem, ⟨85, _⟩ => ⟨S2x64x64, .bf16⟩
  | .local _ .vmem, ⟨86, _⟩ => ⟨S2x64x64, .bf16⟩
  | .local _ .vmem, ⟨87, _⟩ => ⟨S2x64x64, .bf16⟩
  | .local _ .vmem, ⟨88, _⟩ => ⟨S2x64x64, .bf16⟩
  | .local _ .vmem, ⟨89, _⟩ => ⟨S2x1x128, .f32⟩
  | .local _ .vmem, ⟨90, _⟩ => ⟨S2x1x128, .f32⟩
  | .local _ .vmem, ⟨91, _⟩ => ⟨S2x1x128, .f32⟩
  | .local _ .vmem, ⟨92, _⟩ => ⟨S2x1x128, .f32⟩
  | .local _ .vmem, ⟨93, _⟩ => ⟨S2x1x128, .f32⟩
  | .local _ .vmem, ⟨94, _⟩ => ⟨S2x1x128, .f32⟩
  | .local _ .vmem, ⟨95, _⟩ => ⟨S2x256x64, .bf16⟩
  | .local _ .vmem, ⟨96, _⟩ => ⟨S2x256x64, .bf16⟩
  | .local _ .vmem, ⟨97, _⟩ => ⟨S2x256x2048, .f32⟩
  | .local _ .vmem, ⟨98, _⟩ => ⟨S12x512x64, .bf16⟩
  | .local _ .vmem, ⟨99, _⟩ => ⟨S12x512x64, .bf16⟩
  | .local _ .vmem, ⟨100, _⟩ => ⟨S12x512x64, .bf16⟩
  | .local _ .vmem, ⟨101, _⟩ => ⟨S12x512x64, .bf16⟩
  | .local _ .vmem, ⟨102, _⟩ => ⟨S768x768, .f32⟩
  | .local _ .vmem, ⟨103, _⟩ => ⟨S1x768, .f32⟩
  | .local _ .vmem, ⟨104, _⟩ => ⟨S2048x768, .f32⟩
  | _, _ => ⟨S1x2048x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | .vmem, ⟨68, _⟩ => true
  | .vmem, ⟨69, _⟩ => true
  | .vmem, ⟨70, _⟩ => true
  | .vmem, ⟨71, _⟩ => true
  | .vmem, ⟨72, _⟩ => true
  | .vmem, ⟨73, _⟩ => true
  | .vmem, ⟨74, _⟩ => true
  | .vmem, ⟨75, _⟩ => true
  | .vmem, ⟨76, _⟩ => true
  | .vmem, ⟨77, _⟩ => true
  | .vmem, ⟨78, _⟩ => true
  | .vmem, ⟨79, _⟩ => true
  | .vmem, ⟨80, _⟩ => true
  | .vmem, ⟨81, _⟩ => true
  | .vmem, ⟨82, _⟩ => true
  | .vmem, ⟨83, _⟩ => true
  | .vmem, ⟨84, _⟩ => true
  | .vmem, ⟨85, _⟩ => true
  | .vmem, ⟨86, _⟩ => true
  | .vmem, ⟨87, _⟩ => true
  | .vmem, ⟨88, _⟩ => true
  | .vmem, ⟨89, _⟩ => true
  | .vmem, ⟨90, _⟩ => true
  | .vmem, ⟨91, _⟩ => true
  | .vmem, ⟨92, _⟩ => true
  | .vmem, ⟨93, _⟩ => true
  | .vmem, ⟨94, _⟩ => true
  | .vmem, ⟨95, _⟩ => true
  | .vmem, ⟨96, _⟩ => true
  | .vmem, ⟨97, _⟩ => true
  | .vmem, ⟨98, _⟩ => true
  | .vmem, ⟨99, _⟩ => true
  | .vmem, ⟨100, _⟩ => true
  | .vmem, ⟨101, _⟩ => true
  | .vmem, ⟨102, _⟩ => true
  | .vmem, ⟨103, _⟩ => true
  | .vmem, ⟨104, _⟩ => true
  | _, _ => false

abbrev semScoped : Fin 0 → Bool
  | ⟨_, h⟩ => absurd h (Nat.not_lt_zero _)

abbrev dmaSemScoped : Fin 101 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | ⟨78, _⟩ => true
  | ⟨79, _⟩ => true
  | ⟨80, _⟩ => true
  | ⟨81, _⟩ => true
  | ⟨82, _⟩ => true
  | ⟨83, _⟩ => true
  | ⟨84, _⟩ => true
  | ⟨85, _⟩ => true
  | ⟨86, _⟩ => true
  | ⟨87, _⟩ => true
  | ⟨88, _⟩ => true
  | ⟨89, _⟩ => true
  | ⟨90, _⟩ => true
  | ⟨91, _⟩ => true
  | ⟨92, _⟩ => true
  | ⟨93, _⟩ => true
  | ⟨94, _⟩ => true
  | ⟨95, _⟩ => true
  | ⟨96, _⟩ => true
  | ⟨97, _⟩ => true
  | ⟨98, _⟩ => true
  | ⟨99, _⟩ => true
  | ⟨100, _⟩ => true
  | _ => false

abbrev sig : RefSig :=
  ofTc nBuf bufTy 0 101 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_c : Ref sig .tc := ⟨.hbm, 19, rfl⟩
abbrev main_call0_v0 : Ref sig .tc := ⟨.hbm, 20, rfl⟩
abbrev main_v7 : Ref sig .tc := ⟨.hbm, 21, rfl⟩
abbrev main_v8 : Ref sig .tc := ⟨.hbm, 22, rfl⟩
abbrev main_c_0 : Ref sig .tc := ⟨.hbm, 23, rfl⟩
abbrev main_call1_v0 : Ref sig .tc := ⟨.hbm, 24, rfl⟩
abbrev main_v9 : Ref sig .tc := ⟨.hbm, 25, rfl⟩
abbrev main_v10 : Ref sig .tc := ⟨.hbm, 26, rfl⟩
abbrev main_cst : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_cst_1 : Ref sig .tc := ⟨.hbm, 31, rfl⟩
abbrev main_v14 : Ref sig .tc := ⟨.hbm, 32, rfl⟩
abbrev main_v15 : Ref sig .tc := ⟨.hbm, 33, rfl⟩
abbrev main_c_2 : Ref sig .tc := ⟨.hbm, 34, rfl⟩
abbrev main_call2_v0 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_cst_3 : Ref sig .tc := ⟨.hbm, 39, rfl⟩
abbrev main_v19 : Ref sig .tc := ⟨.hbm, 40, rfl⟩
abbrev main_v20 : Ref sig .tc := ⟨.hbm, 41, rfl⟩
abbrev main_c_4 : Ref sig .tc := ⟨.hbm, 42, rfl⟩
abbrev main_call3_v0 : Ref sig .tc := ⟨.hbm, 43, rfl⟩
abbrev main_v21 : Ref sig .tc := ⟨.hbm, 44, rfl⟩
abbrev main_v22 : Ref sig .tc := ⟨.hbm, 45, rfl⟩
abbrev main_v23 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg1_0 : Ref sig .tc := ⟨.vmem, 6, rfl⟩
abbrev cc1_stg1_1 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg1_1 : Ref sig .tc := ⟨.vmem, 13, rfl⟩
abbrev cc3_stg0_0 : Ref sig .tc := ⟨.vmem, 14, rfl⟩
abbrev cc3_stg0_1 : Ref sig .tc := ⟨.vmem, 15, rfl⟩
abbrev cc3_stg1_0 : Ref sig .tc := ⟨.vmem, 16, rfl⟩
abbrev cc3_stg1_1 : Ref sig .tc := ⟨.vmem, 17, rfl⟩
abbrev cc3_stg2_0 : Ref sig .tc := ⟨.vmem, 18, rfl⟩
abbrev cc3_stg2_1 : Ref sig .tc := ⟨.vmem, 19, rfl⟩
abbrev cc3_stg3_0 : Ref sig .tc := ⟨.vmem, 20, rfl⟩
abbrev cc3_stg3_1 : Ref sig .tc := ⟨.vmem, 21, rfl⟩
abbrev cc3_stg4_0 : Ref sig .tc := ⟨.vmem, 22, rfl⟩
abbrev cc3_stg4_1 : Ref sig .tc := ⟨.vmem, 23, rfl⟩
abbrev cc3_stg5_0 : Ref sig .tc := ⟨.vmem, 24, rfl⟩
abbrev cc3_stg5_1 : Ref sig .tc := ⟨.vmem, 25, rfl⟩
abbrev cc3_stg6_0 : Ref sig .tc := ⟨.vmem, 26, rfl⟩
abbrev cc3_stg6_1 : Ref sig .tc := ⟨.vmem, 27, rfl⟩
abbrev cc3_stg7_0 : Ref sig .tc := ⟨.vmem, 28, rfl⟩
abbrev cc3_stg7_1 : Ref sig .tc := ⟨.vmem, 29, rfl⟩
abbrev cc3_stg8_0 : Ref sig .tc := ⟨.vmem, 30, rfl⟩
abbrev cc3_stg8_1 : Ref sig .tc := ⟨.vmem, 31, rfl⟩
abbrev cc3_stg9_0 : Ref sig .tc := ⟨.vmem, 32, rfl⟩
abbrev cc3_stg9_1 : Ref sig .tc := ⟨.vmem, 33, rfl⟩
abbrev cc3_scratch0 : Ref sig .tc := ⟨.vmem, 34, rfl⟩
abbrev cc4_stg0_0 : Ref sig .tc := ⟨.vmem, 35, rfl⟩
abbrev cc4_stg0_1 : Ref sig .tc := ⟨.vmem, 36, rfl⟩
abbrev cc4_stg1_0 : Ref sig .tc := ⟨.vmem, 37, rfl⟩
abbrev cc4_stg1_1 : Ref sig .tc := ⟨.vmem, 38, rfl⟩
abbrev cc4_stg2_0 : Ref sig .tc := ⟨.vmem, 39, rfl⟩
abbrev cc4_stg2_1 : Ref sig .tc := ⟨.vmem, 40, rfl⟩
abbrev cc4_stg3_0 : Ref sig .tc := ⟨.vmem, 41, rfl⟩
abbrev cc4_stg3_1 : Ref sig .tc := ⟨.vmem, 42, rfl⟩
abbrev cc4_stg4_0 : Ref sig .tc := ⟨.vmem, 43, rfl⟩
abbrev cc4_stg4_1 : Ref sig .tc := ⟨.vmem, 44, rfl⟩
abbrev cc4_stg5_0 : Ref sig .tc := ⟨.vmem, 45, rfl⟩
abbrev cc4_stg5_1 : Ref sig .tc := ⟨.vmem, 46, rfl⟩
abbrev cc4_stg6_0 : Ref sig .tc := ⟨.vmem, 47, rfl⟩
abbrev cc4_stg6_1 : Ref sig .tc := ⟨.vmem, 48, rfl⟩
abbrev cc4_stg7_0 : Ref sig .tc := ⟨.vmem, 49, rfl⟩
abbrev cc4_stg7_1 : Ref sig .tc := ⟨.vmem, 50, rfl⟩
abbrev cc4_stg8_0 : Ref sig .tc := ⟨.vmem, 51, rfl⟩
abbrev cc4_stg8_1 : Ref sig .tc := ⟨.vmem, 52, rfl⟩
abbrev cc4_stg9_0 : Ref sig .tc := ⟨.vmem, 53, rfl⟩
abbrev cc4_stg9_1 : Ref sig .tc := ⟨.vmem, 54, rfl⟩
abbrev cc4_scratch0 : Ref sig .tc := ⟨.vmem, 55, rfl⟩
abbrev cc5_stg0_0 : Ref sig .tc := ⟨.vmem, 56, rfl⟩
abbrev cc5_stg0_1 : Ref sig .tc := ⟨.vmem, 57, rfl⟩
abbrev cc5_stg1_0 : Ref sig .tc := ⟨.vmem, 58, rfl⟩
abbrev cc5_stg1_1 : Ref sig .tc := ⟨.vmem, 59, rfl⟩
abbrev cc5_stg2_0 : Ref sig .tc := ⟨.vmem, 60, rfl⟩
abbrev cc5_stg2_1 : Ref sig .tc := ⟨.vmem, 61, rfl⟩
abbrev cc5_stg3_0 : Ref sig .tc := ⟨.vmem, 62, rfl⟩
abbrev cc5_stg3_1 : Ref sig .tc := ⟨.vmem, 63, rfl⟩
abbrev cc5_stg4_0 : Ref sig .tc := ⟨.vmem, 64, rfl⟩
abbrev cc5_stg4_1 : Ref sig .tc := ⟨.vmem, 65, rfl⟩
abbrev cc5_stg5_0 : Ref sig .tc := ⟨.vmem, 66, rfl⟩
abbrev cc5_stg5_1 : Ref sig .tc := ⟨.vmem, 67, rfl⟩
abbrev cc5_stg6_0 : Ref sig .tc := ⟨.vmem, 68, rfl⟩
abbrev cc5_stg6_1 : Ref sig .tc := ⟨.vmem, 69, rfl⟩
abbrev cc5_stg7_0 : Ref sig .tc := ⟨.vmem, 70, rfl⟩
abbrev cc5_stg7_1 : Ref sig .tc := ⟨.vmem, 71, rfl⟩
abbrev cc5_stg8_0 : Ref sig .tc := ⟨.vmem, 72, rfl⟩
abbrev cc5_stg8_1 : Ref sig .tc := ⟨.vmem, 73, rfl⟩
abbrev cc5_stg9_0 : Ref sig .tc := ⟨.vmem, 74, rfl⟩
abbrev cc5_stg9_1 : Ref sig .tc := ⟨.vmem, 75, rfl⟩
abbrev cc5_scratch0 : Ref sig .tc := ⟨.vmem, 76, rfl⟩
abbrev cc6_stg0_0 : Ref sig .tc := ⟨.vmem, 77, rfl⟩
abbrev cc6_stg0_1 : Ref sig .tc := ⟨.vmem, 78, rfl⟩
abbrev cc6_stg1_0 : Ref sig .tc := ⟨.vmem, 79, rfl⟩
abbrev cc6_stg1_1 : Ref sig .tc := ⟨.vmem, 80, rfl⟩
abbrev cc6_stg2_0 : Ref sig .tc := ⟨.vmem, 81, rfl⟩
abbrev cc6_stg2_1 : Ref sig .tc := ⟨.vmem, 82, rfl⟩
abbrev cc6_stg3_0 : Ref sig .tc := ⟨.vmem, 83, rfl⟩
abbrev cc6_stg3_1 : Ref sig .tc := ⟨.vmem, 84, rfl⟩
abbrev cc6_stg4_0 : Ref sig .tc := ⟨.vmem, 85, rfl⟩
abbrev cc6_stg4_1 : Ref sig .tc := ⟨.vmem, 86, rfl⟩
abbrev cc6_stg5_0 : Ref sig .tc := ⟨.vmem, 87, rfl⟩
abbrev cc6_stg5_1 : Ref sig .tc := ⟨.vmem, 88, rfl⟩
abbrev cc6_stg6_0 : Ref sig .tc := ⟨.vmem, 89, rfl⟩
abbrev cc6_stg6_1 : Ref sig .tc := ⟨.vmem, 90, rfl⟩
abbrev cc6_stg7_0 : Ref sig .tc := ⟨.vmem, 91, rfl⟩
abbrev cc6_stg7_1 : Ref sig .tc := ⟨.vmem, 92, rfl⟩
abbrev cc6_stg8_0 : Ref sig .tc := ⟨.vmem, 93, rfl⟩
abbrev cc6_stg8_1 : Ref sig .tc := ⟨.vmem, 94, rfl⟩
abbrev cc6_stg9_0 : Ref sig .tc := ⟨.vmem, 95, rfl⟩
abbrev cc6_stg9_1 : Ref sig .tc := ⟨.vmem, 96, rfl⟩
abbrev cc6_scratch0 : Ref sig .tc := ⟨.vmem, 97, rfl⟩
abbrev cc7_stg0_0 : Ref sig .tc := ⟨.vmem, 98, rfl⟩
abbrev cc7_stg1_0 : Ref sig .tc := ⟨.vmem, 99, rfl⟩
abbrev cc7_stg2_0 : Ref sig .tc := ⟨.vmem, 100, rfl⟩
abbrev cc7_stg3_0 : Ref sig .tc := ⟨.vmem, 101, rfl⟩
abbrev cc7_stg4_0 : Ref sig .tc := ⟨.vmem, 102, rfl⟩
abbrev cc7_stg5_0 : Ref sig .tc := ⟨.vmem, 103, rfl⟩
abbrev cc7_stg6_0 : Ref sig .tc := ⟨.vmem, 104, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc1_sem0_0 : DmaSem sig := 5
abbrev cc1_sem1_0 : DmaSem sig := 6
abbrev cc1_sem1_1 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem1_1 : DmaSem sig := 13
abbrev cc3_sem0_0 : DmaSem sig := 14
abbrev cc3_sem0_1 : DmaSem sig := 15
abbrev cc3_sem1_0 : DmaSem sig := 16
abbrev cc3_sem1_1 : DmaSem sig := 17
abbrev cc3_sem2_0 : DmaSem sig := 18
abbrev cc3_sem2_1 : DmaSem sig := 19
abbrev cc3_sem3_0 : DmaSem sig := 20
abbrev cc3_sem3_1 : DmaSem sig := 21
abbrev cc3_sem4_0 : DmaSem sig := 22
abbrev cc3_sem4_1 : DmaSem sig := 23
abbrev cc3_sem5_0 : DmaSem sig := 24
abbrev cc3_sem5_1 : DmaSem sig := 25
abbrev cc3_sem6_0 : DmaSem sig := 26
abbrev cc3_sem6_1 : DmaSem sig := 27
abbrev cc3_sem7_0 : DmaSem sig := 28
abbrev cc3_sem7_1 : DmaSem sig := 29
abbrev cc3_sem8_0 : DmaSem sig := 30
abbrev cc3_sem8_1 : DmaSem sig := 31
abbrev cc3_sem9_0 : DmaSem sig := 32
abbrev cc3_sem9_1 : DmaSem sig := 33
abbrev cc4_sem0_0 : DmaSem sig := 34
abbrev cc4_sem0_1 : DmaSem sig := 35
abbrev cc4_sem1_0 : DmaSem sig := 36
abbrev cc4_sem1_1 : DmaSem sig := 37
abbrev cc4_sem2_0 : DmaSem sig := 38
abbrev cc4_sem2_1 : DmaSem sig := 39
abbrev cc4_sem3_0 : DmaSem sig := 40
abbrev cc4_sem3_1 : DmaSem sig := 41
abbrev cc4_sem4_0 : DmaSem sig := 42
abbrev cc4_sem4_1 : DmaSem sig := 43
abbrev cc4_sem5_0 : DmaSem sig := 44
abbrev cc4_sem5_1 : DmaSem sig := 45
abbrev cc4_sem6_0 : DmaSem sig := 46
abbrev cc4_sem6_1 : DmaSem sig := 47
abbrev cc4_sem7_0 : DmaSem sig := 48
abbrev cc4_sem7_1 : DmaSem sig := 49
abbrev cc4_sem8_0 : DmaSem sig := 50
abbrev cc4_sem8_1 : DmaSem sig := 51
abbrev cc4_sem9_0 : DmaSem sig := 52
abbrev cc4_sem9_1 : DmaSem sig := 53
abbrev cc5_sem0_0 : DmaSem sig := 54
abbrev cc5_sem0_1 : DmaSem sig := 55
abbrev cc5_sem1_0 : DmaSem sig := 56
abbrev cc5_sem1_1 : DmaSem sig := 57
abbrev cc5_sem2_0 : DmaSem sig := 58
abbrev cc5_sem2_1 : DmaSem sig := 59
abbrev cc5_sem3_0 : DmaSem sig := 60
abbrev cc5_sem3_1 : DmaSem sig := 61
abbrev cc5_sem4_0 : DmaSem sig := 62
abbrev cc5_sem4_1 : DmaSem sig := 63
abbrev cc5_sem5_0 : DmaSem sig := 64
abbrev cc5_sem5_1 : DmaSem sig := 65
abbrev cc5_sem6_0 : DmaSem sig := 66
abbrev cc5_sem6_1 : DmaSem sig := 67
abbrev cc5_sem7_0 : DmaSem sig := 68
abbrev cc5_sem7_1 : DmaSem sig := 69
abbrev cc5_sem8_0 : DmaSem sig := 70
abbrev cc5_sem8_1 : DmaSem sig := 71
abbrev cc5_sem9_0 : DmaSem sig := 72
abbrev cc5_sem9_1 : DmaSem sig := 73
abbrev cc6_sem0_0 : DmaSem sig := 74
abbrev cc6_sem0_1 : DmaSem sig := 75
abbrev cc6_sem1_0 : DmaSem sig := 76
abbrev cc6_sem1_1 : DmaSem sig := 77
abbrev cc6_sem2_0 : DmaSem sig := 78
abbrev cc6_sem2_1 : DmaSem sig := 79
abbrev cc6_sem3_0 : DmaSem sig := 80
abbrev cc6_sem3_1 : DmaSem sig := 81
abbrev cc6_sem4_0 : DmaSem sig := 82
abbrev cc6_sem4_1 : DmaSem sig := 83
abbrev cc6_sem5_0 : DmaSem sig := 84
abbrev cc6_sem5_1 : DmaSem sig := 85
abbrev cc6_sem6_0 : DmaSem sig := 86
abbrev cc6_sem6_1 : DmaSem sig := 87
abbrev cc6_sem7_0 : DmaSem sig := 88
abbrev cc6_sem7_1 : DmaSem sig := 89
abbrev cc6_sem8_0 : DmaSem sig := 90
abbrev cc6_sem8_1 : DmaSem sig := 91
abbrev cc6_sem9_0 : DmaSem sig := 92
abbrev cc6_sem9_1 : DmaSem sig := 93
abbrev cc7_sem0_0 : DmaSem sig := 94
abbrev cc7_sem1_0 : DmaSem sig := 95
abbrev cc7_sem2_0 : DmaSem sig := 96
abbrev cc7_sem3_0 : DmaSem sig := 97
abbrev cc7_sem4_0 : DmaSem sig := 98
abbrev cc7_sem5_0 : DmaSem sig := 99
abbrev cc7_sem6_0 : DmaSem sig := 100

abbrev nD : Nat := 1
abbrev τ : Topo := Topo.v7x

variable {F : FTy → Type} [FloatOps F]

abbrev grid0 : Pipeline.Grid := ⟨1, ![6], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 1 → Memref sig .tc .vmem S2048x768 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S768x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2x2048x64 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![12], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_2 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage1_0 : Fin 1 → Memref sig .tc .vmem S2048x768 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 2 → Memref sig .tc .vmem S768x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S2x2048x64 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![12], ![false]⟩

def cc2_transform_0 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc2_transform_1 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage2_0 : Fin 2 → Memref sig .tc .vmem S1x1x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S1x256x768 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev grid3 : Pipeline.Grid := ⟨2, ![6, 2], ![false, false]⟩

def k3_off1 (i : grid3.Coords) : Fin 3 → Nat :=
  let c0_15 : Index := 0#32
  let c0_16 : Index := 0#32
  let arg1 : BitVec 32 := BitVec.ofNat 32 (i 1).val
  let c0_i32 : BitVec 32 := 0#32
  let v0 : BitVec 32 := Scalar.addi arg1 c0_i32
  let c1_i32 : BitVec 32 := 1#32
  let v1 : BitVec 32 := Scalar.subi v0 c1_i32
  let c0_i32_0 : BitVec 32 := 0#32
  let v2 : BitVec 32 := Scalar.maxsi v1 c0_i32_0
  let c256_i32 : BitVec 32 := 256#32
  let v3 : BitVec 32 := Scalar.muli v2 c256_i32
  let v16 : Index := Scalar.indexCast v3
  ![0, 0, v16.toNat]
def k3_off2 (i : grid3.Coords) : Fin 3 → Nat :=
  let c0_17 : Index := 0#32
  let c0_18 : Index := 0#32
  let arg1 : BitVec 32 := BitVec.ofNat 32 (i 1).val
  let c0_i32 : BitVec 32 := 0#32
  let v0 : BitVec 32 := Scalar.addi arg1 c0_i32
  let c0_i32_1 : BitVec 32 := 0#32
  let v4 : BitVec 1 := Scalar.cmpi .eq v0 c0_i32_1
  let c256_i32_2 : BitVec 32 := 256#32
  let c0_i32_3 : BitVec 32 := 0#32
  let v5 : BitVec 32 := Scalar.select v4 c256_i32_2 c0_i32_3
  let v19 : Index := Scalar.indexCast v5
  ![0, 0, v19.toNat]
def k3_off3 (i : grid3.Coords) : Fin 3 → Nat :=
  let c1_66 : Index := 1#32
  let c0_67 : Index := 0#32
  let arg1 : BitVec 32 := BitVec.ofNat 32 (i 1).val
  let c0_i32 : BitVec 32 := 0#32
  let v0 : BitVec 32 := Scalar.addi arg1 c0_i32
  let c1_i32 : BitVec 32 := 1#32
  let v1 : BitVec 32 := Scalar.subi v0 c1_i32
  let c0_i32_0 : BitVec 32 := 0#32
  let v2 : BitVec 32 := Scalar.maxsi v1 c0_i32_0
  let c256_i32 : BitVec 32 := 256#32
  let v3 : BitVec 32 := Scalar.muli v2 c256_i32
  let v97 : Index := Scalar.indexCast v3
  ![1, 0, v97.toNat]
def k3_off4 (i : grid3.Coords) : Fin 3 → Nat :=
  let c1_68 : Index := 1#32
  let c0_69 : Index := 0#32
  let arg1 : BitVec 32 := BitVec.ofNat 32 (i 1).val
  let c0_i32 : BitVec 32 := 0#32
  let v0 : BitVec 32 := Scalar.addi arg1 c0_i32
  let c0_i32_1 : BitVec 32 := 0#32
  let v4 : BitVec 1 := Scalar.cmpi .eq v0 c0_i32_1
  let c256_i32_2 : BitVec 32 := 256#32
  let c0_i32_3 : BitVec 32 := 0#32
  let v5 : BitVec 32 := Scalar.select v4 c256_i32_2 c0_i32_3
  let v100 : Index := Scalar.indexCast v5
  ![1, 0, v100.toNat]
def cc3_transform_0 (i : grid3.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c0_i32_0 : BitVec 32 := 0#32
  let c0_i32_1 : BitVec 32 := 0#32
  ![arg0.toNat, v0.toNat, c0_i32_0.toNat]

def cc3_transform_1 (i : grid3.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc3_transform_2 (i : grid3.Coords) : Fin 3 → Nat :=
  let arg0 : BitVec 32 := BitVec.ofNat 32 (i 0).val
  let arg1 : BitVec 32 := BitVec.ofNat 32 (i 1).val
  let c6_i32 : BitVec 32 := 6#32
  let v0 : BitVec 32 := Scalar.addi c6_i32 arg0
  let c0_i32 : BitVec 32 := 0#32
  let c0_i32_0 : BitVec 32 := 0#32
  let c0_i32_1 : BitVec 32 := 0#32
  ![v0.toNat, c0_i32.toNat, c0_i32_0.toNat]

def cc3_transform_3 (i : grid3.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc3_transform_4 (i : grid3.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc3_transform_5 (i : grid3.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc3_transform_6 (i : grid3.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc3_transform_7 (i : grid3.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc3_transform_8 (i : grid3.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc3_transform_9 (i : grid3.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage3_0 : Fin 2 → Memref sig .tc .vmem S2x256x64 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true, true]

abbrev stage3_1 : Fin 2 → Memref sig .tc .vmem S2x512x64 .bf16 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true, false]

abbrev stage3_2 : Fin 2 → Memref sig .tc .vmem S2x512x64 .bf16 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true, false]

abbrev stage3_3 : Fin 2 → Memref sig .tc .vmem S2x256x768 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true, false]

abbrev stage3_4 : Fin 2 → Memref sig .tc .vmem S2x64x64 .bf16 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true, false]

abbrev stage3_5 : Fin 2 → Memref sig .tc .vmem S2x64x64 .bf16 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true, false]

abbrev stage3_6 : Fin 2 → Memref sig .tc .vmem S2x1x128 .f32 := fun | 0 => Memref.whole cc3_stg6_0 | 1 => Memref.whole cc3_stg6_1 | ⟨_ + 2, h⟩ => absurd h (Nat.not_lt.2 (Nat.le_add_left _ _))
abbrev sem3_6 : Fin 2 → DmaSem sig := fun | 0 => cc3_sem6_0 | 1 => cc3_sem6_1 | ⟨_ + 2, h⟩ => absurd h (Nat.not_lt.2 (Nat.le_add_left _ _))
abbrev reads3_6 : Fin grid3.rank → Bool := ![true, false]

abbrev stage3_7 : Fin 2 → Memref sig .tc .vmem S2x1x128 .f32 := fun | 0 => Memref.whole cc3_stg7_0 | 1 => Memref.whole cc3_stg7_1 | ⟨_ + 2, h⟩ => absurd h (Nat.not_lt.2 (Nat.le_add_left _ _))
abbrev sem3_7 : Fin 2 → DmaSem sig := fun | 0 => cc3_sem7_0 | 1 => cc3_sem7_1 | ⟨_ + 2, h⟩ => absurd h (Nat.not_lt.2 (Nat.le_add_left _ _))
abbrev reads3_7 : Fin grid3.rank → Bool := ![true, false]

abbrev stage3_8 : Fin 2 → Memref sig .tc .vmem S2x1x128 .f32 := fun | 0 => Memref.whole cc3_stg8_0 | 1 => Memref.whole cc3_stg8_1 | ⟨_ + 2, h⟩ => absurd h (Nat.not_lt.2 (Nat.le_add_left _ _))
abbrev sem3_8 : Fin 2 → DmaSem sig := fun | 0 => cc3_sem8_0 | 1 => cc3_sem8_1 | ⟨_ + 2, h⟩ => absurd h (Nat.not_lt.2 (Nat.le_add_left _ _))
abbrev reads3_8 : Fin grid3.rank → Bool := ![true, false]

abbrev stage3_9 : Fin 2 → Memref sig .tc .vmem S2x256x64 .bf16 := fun | 0 => Memref.whole cc3_stg9_0 | 1 => Memref.whole cc3_stg9_1 | ⟨_ + 2, h⟩ => absurd h (Nat.not_lt.2 (Nat.le_add_left _ _))
abbrev sem3_9 : Fin 2 → DmaSem sig := fun | 0 => cc3_sem9_0 | 1 => cc3_sem9_1 | ⟨_ + 2, h⟩ => absurd h (Nat.not_lt.2 (Nat.le_add_left _ _))
abbrev reads3_9 : Fin grid3.rank → Bool := ![true, true]

abbrev grid4 : Pipeline.Grid := ⟨2, ![6, 2], ![false, false]⟩

def k4_off1 (i : grid4.Coords) : Fin 3 → Nat :=
  let c0_14 : Index := 0#32
  let c0_15 : Index := 0#32
  let arg1 : BitVec 32 := BitVec.ofNat 32 (i 1).val
  let c2_i32 : BitVec 32 := 2#32
  let v0 : BitVec 32 := Scalar.addi arg1 c2_i32
  let c1_i32 : BitVec 32 := 1#32
  let v1 : BitVec 32 := Scalar.subi v0 c1_i32
  let c0_i32 : BitVec 32 := 0#32
  let v2 : BitVec 32 := Scalar.maxsi v1 c0_i32
  let c256_i32 : BitVec 32 := 256#32
  let v3 : BitVec 32 := Scalar.muli v2 c256_i32
  let v16 : Index := Scalar.indexCast v3
  ![0, 0, v16.toNat]
def k4_off2 (i : grid4.Coords) : Fin 3 → Nat :=
  let c0_16 : Index := 0#32
  let c0_17 : Index := 0#32
  let arg1 : BitVec 32 := BitVec.ofNat 32 (i 1).val
  let c2_i32 : BitVec 32 := 2#32
  let v0 : BitVec 32 := Scalar.addi arg1 c2_i32
  let c0_i32_0 : BitVec 32 := 0#32
  let v4 : BitVec 1 := Scalar.cmpi .eq v0 c0_i32_0
  let c256_i32_1 : BitVec 32 := 256#32
  let c0_i32_2 : BitVec 32 := 0#32
  let v5 : BitVec 32 := Scalar.select v4 c256_i32_1 c0_i32_2
  let v19 : Index := Scalar.indexCast v5
  ![0, 0, v19.toNat]
def k4_off3 (i : grid4.Coords) : Fin 3 → Nat :=
  let c1_66 : Index := 1#32
  let c0_67 : Index := 0#32
  let arg1 : BitVec 32 := BitVec.ofNat 32 (i 1).val
  let c2_i32 : BitVec 32 := 2#32
  let v0 : BitVec 32 := Scalar.addi arg1 c2_i32
  let c1_i32 : BitVec 32 := 1#32
  let v1 : BitVec 32 := Scalar.subi v0 c1_i32
  let c0_i32 : BitVec 32 := 0#32
  let v2 : BitVec 32 := Scalar.maxsi v1 c0_i32
  let c256_i32 : BitVec 32 := 256#32
  let v3 : BitVec 32 := Scalar.muli v2 c256_i32
  let v97 : Index := Scalar.indexCast v3
  ![1, 0, v97.toNat]
def k4_off4 (i : grid4.Coords) : Fin 3 → Nat :=
  let c1_68 : Index := 1#32
  let c0_69 : Index := 0#32
  let arg1 : BitVec 32 := BitVec.ofNat 32 (i 1).val
  let c2_i32 : BitVec 32 := 2#32
  let v0 : BitVec 32 := Scalar.addi arg1 c2_i32
  let c0_i32_0 : BitVec 32 := 0#32
  let v4 : BitVec 1 := Scalar.cmpi .eq v0 c0_i32_0
  let c256_i32_1 : BitVec 32 := 256#32
  let c0_i32_2 : BitVec 32 := 0#32
  let v5 : BitVec 32 := Scalar.select v4 c256_i32_1 c0_i32_2
  let v100 : Index := Scalar.indexCast v5
  ![1, 0, v100.toNat]
def cc4_transform_0 (i : grid4.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.addi arg1 c2_i32
  let c0_i32 : BitVec 32 := 0#32
  let c0_i32_0 : BitVec 32 := 0#32
  ![arg0.toNat, v0.toNat, c0_i32.toNat]

def cc4_transform_1 (i : grid4.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc4_transform_2 (i : grid4.Coords) : Fin 3 → Nat :=
  let arg0 : BitVec 32 := BitVec.ofNat 32 (i 0).val
  let arg1 : BitVec 32 := BitVec.ofNat 32 (i 1).val
  let c6_i32 : BitVec 32 := 6#32
  let v0 : BitVec 32 := Scalar.addi c6_i32 arg0
  let c0_i32 : BitVec 32 := 0#32
  let c0_i32_0 : BitVec 32 := 0#32
  let c0_i32_1 : BitVec 32 := 0#32
  ![v0.toNat, c0_i32.toNat, c0_i32_0.toNat]

def cc4_transform_3 (i : grid4.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc4_transform_4 (i : grid4.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc4_transform_5 (i : grid4.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc4_transform_6 (i : grid4.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc4_transform_7 (i : grid4.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc4_transform_8 (i : grid4.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc4_transform_9 (i : grid4.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage4_0 : Fin 2 → Memref sig .tc .vmem S2x256x64 .bf16 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true, true]

abbrev stage4_1 : Fin 2 → Memref sig .tc .vmem S2x1024x64 .bf16 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true, false]

abbrev stage4_2 : Fin 2 → Memref sig .tc .vmem S2x1024x64 .bf16 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true, false]

abbrev stage4_3 : Fin 2 → Memref sig .tc .vmem S2x256x768 .f32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true, false]

abbrev stage4_4 : Fin 2 → Memref sig .tc .vmem S2x64x64 .bf16 := fun | 0 => Memref.whole cc4_stg4_0 | 1 => Memref.whole cc4_stg4_1 | ⟨_ + 2, h⟩ => absurd h (Nat.not_lt.2 (Nat.le_add_left _ _))
abbrev sem4_4 : Fin 2 → DmaSem sig := fun | 0 => cc4_sem4_0 | 1 => cc4_sem4_1 | ⟨_ + 2, h⟩ => absurd h (Nat.not_lt.2 (Nat.le_add_left _ _))
abbrev reads4_4 : Fin grid4.rank → Bool := ![true, false]

abbrev stage4_5 : Fin 2 → Memref sig .tc .vmem S2x64x64 .bf16 := fun | 0 => Memref.whole cc4_stg5_0 | 1 => Memref.whole cc4_stg5_1 | ⟨_ + 2, h⟩ => absurd h (Nat.not_lt.2 (Nat.le_add_left _ _))
abbrev sem4_5 : Fin 2 → DmaSem sig := fun | 0 => cc4_sem5_0 | 1 => cc4_sem5_1 | ⟨_ + 2, h⟩ => absurd h (Nat.not_lt.2 (Nat.le_add_left _ _))
abbrev reads4_5 : Fin grid4.rank → Bool := ![true, false]

abbrev stage4_6 : Fin 2 → Memref sig .tc .vmem S2x1x128 .f32 := fun | 0 => Memref.whole cc4_stg6_0 | 1 => Memref.whole cc4_stg6_1 | ⟨_ + 2, h⟩ => absurd h (Nat.not_lt.2 (Nat.le_add_left _ _))
abbrev sem4_6 : Fin 2 → DmaSem sig := fun | 0 => cc4_sem6_0 | 1 => cc4_sem6_1 | ⟨_ + 2, h⟩ => absurd h (Nat.not_lt.2 (Nat.le_add_left _ _))
abbrev reads4_6 : Fin grid4.rank → Bool := ![true, false]

abbrev stage4_7 : Fin 2 → Memref sig .tc .vmem S2x1x128 .f32 := fun | 0 => Memref.whole cc4_stg7_0 | 1 => Memref.whole cc4_stg7_1 | ⟨_ + 2, h⟩ => absurd h (Nat.not_lt.2 (Nat.le_add_left _ _))
abbrev sem4_7 : Fin 2 → DmaSem sig := fun | 0 => cc4_sem7_0 | 1 => cc4_sem7_1 | ⟨_ + 2, h⟩ => absurd h (Nat.not_lt.2 (Nat.le_add_left _ _))
abbrev reads4_7 : Fin grid4.rank → Bool := ![true, false]

abbrev stage4_8 : Fin 2 → Memref sig .tc .vmem S2x1x128 .f32 := fun | 0 => Memref.whole cc4_stg8_0 | 1 => Memref.whole cc4_stg8_1 | ⟨_ + 2, h⟩ => absurd h (Nat.not_lt.2 (Nat.le_add_left _ _))
abbrev sem4_8 : Fin 2 → DmaSem sig := fun | 0 => cc4_sem8_0 | 1 => cc4_sem8_1 | ⟨_ + 2, h⟩ => absurd h (Nat.not_lt.2 (Nat.le_add_left _ _))
abbrev reads4_8 : Fin grid4.rank → Bool := ![true, false]

abbrev stage4_9 : Fin 2 → Memref sig .tc .vmem S2x256x64 .bf16 := fun | 0 => Memref.whole cc4_stg9_0 | 1 => Memref.whole cc4_stg9_1 | ⟨_ + 2, h⟩ => absurd h (Nat.not_lt.2 (Nat.le_add_left _ _))
abbrev sem4_9 : Fin 2 → DmaSem sig := fun | 0 => cc4_sem9_0 | 1 => cc4_sem9_1 | ⟨_ + 2, h⟩ => absurd h (Nat.not_lt.2 (Nat.le_add_left _ _))
abbrev reads4_9 : Fin grid4.rank → Bool := ![true, true]

abbrev grid5 : Pipeline.Grid := ⟨2, ![6, 2], ![false, false]⟩

def k5_off1 (i : grid5.Coords) : Fin 3 → Nat :=
  let c0_14 : Index := 0#32
  let c0_15 : Index := 0#32
  let arg1 : BitVec 32 := BitVec.ofNat 32 (i 1).val
  let c4_i32 : BitVec 32 := 4#32
  let v0 : BitVec 32 := Scalar.addi arg1 c4_i32
  let c1_i32 : BitVec 32 := 1#32
  let v1 : BitVec 32 := Scalar.subi v0 c1_i32
  let c0_i32 : BitVec 32 := 0#32
  let v2 : BitVec 32 := Scalar.maxsi v1 c0_i32
  let c256_i32 : BitVec 32 := 256#32
  let v3 : BitVec 32 := Scalar.muli v2 c256_i32
  let v16 : Index := Scalar.indexCast v3
  ![0, 0, v16.toNat]
def k5_off2 (i : grid5.Coords) : Fin 3 → Nat :=
  let c0_16 : Index := 0#32
  let c0_17 : Index := 0#32
  let arg1 : BitVec 32 := BitVec.ofNat 32 (i 1).val
  let c4_i32 : BitVec 32 := 4#32
  let v0 : BitVec 32 := Scalar.addi arg1 c4_i32
  let c0_i32_0 : BitVec 32 := 0#32
  let v4 : BitVec 1 := Scalar.cmpi .eq v0 c0_i32_0
  let c256_i32_1 : BitVec 32 := 256#32
  let c0_i32_2 : BitVec 32 := 0#32
  let v5 : BitVec 32 := Scalar.select v4 c256_i32_1 c0_i32_2
  let v19 : Index := Scalar.indexCast v5
  ![0, 0, v19.toNat]
def k5_off3 (i : grid5.Coords) : Fin 3 → Nat :=
  let c1_65 : Index := 1#32
  let c0_66 : Index := 0#32
  let arg1 : BitVec 32 := BitVec.ofNat 32 (i 1).val
  let c4_i32 : BitVec 32 := 4#32
  let v0 : BitVec 32 := Scalar.addi arg1 c4_i32
  let c1_i32 : BitVec 32 := 1#32
  let v1 : BitVec 32 := Scalar.subi v0 c1_i32
  let c0_i32 : BitVec 32 := 0#32
  let v2 : BitVec 32 := Scalar.maxsi v1 c0_i32
  let c256_i32 : BitVec 32 := 256#32
  let v3 : BitVec 32 := Scalar.muli v2 c256_i32
  let v97 : Index := Scalar.indexCast v3
  ![1, 0, v97.toNat]
def k5_off4 (i : grid5.Coords) : Fin 3 → Nat :=
  let c1_67 : Index := 1#32
  let c0_68 : Index := 0#32
  let arg1 : BitVec 32 := BitVec.ofNat 32 (i 1).val
  let c4_i32 : BitVec 32 := 4#32
  let v0 : BitVec 32 := Scalar.addi arg1 c4_i32
  let c0_i32_0 : BitVec 32 := 0#32
  let v4 : BitVec 1 := Scalar.cmpi .eq v0 c0_i32_0
  let c256_i32_1 : BitVec 32 := 256#32
  let c0_i32_2 : BitVec 32 := 0#32
  let v5 : BitVec 32 := Scalar.select v4 c256_i32_1 c0_i32_2
  let v100 : Index := Scalar.indexCast v5
  ![1, 0, v100.toNat]
def cc5_transform_0 (i : grid5.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.addi arg1 c4_i32
  let c0_i32 : BitVec 32 := 0#32
  let c0_i32_0 : BitVec 32 := 0#32
  ![arg0.toNat, v0.toNat, c0_i32.toNat]

def cc5_transform_1 (i : grid5.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc5_transform_2 (i : grid5.Coords) : Fin 3 → Nat :=
  let arg0 : BitVec 32 := BitVec.ofNat 32 (i 0).val
  let arg1 : BitVec 32 := BitVec.ofNat 32 (i 1).val
  let c6_i32 : BitVec 32 := 6#32
  let v0 : BitVec 32 := Scalar.addi c6_i32 arg0
  let c0_i32 : BitVec 32 := 0#32
  let c0_i32_0 : BitVec 32 := 0#32
  let c0_i32_1 : BitVec 32 := 0#32
  ![v0.toNat, c0_i32.toNat, c0_i32_0.toNat]

def cc5_transform_3 (i : grid5.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc5_transform_4 (i : grid5.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc5_transform_5 (i : grid5.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc5_transform_6 (i : grid5.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc5_transform_7 (i : grid5.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc5_transform_8 (i : grid5.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc5_transform_9 (i : grid5.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage5_0 : Fin 2 → Memref sig .tc .vmem S2x256x64 .bf16 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true, true]

abbrev stage5_1 : Fin 2 → Memref sig .tc .vmem S2x1536x64 .bf16 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true, false]

abbrev stage5_2 : Fin 2 → Memref sig .tc .vmem S2x1536x64 .bf16 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true, false]

abbrev stage5_3 : Fin 2 → Memref sig .tc .vmem S2x256x768 .f32 := fun | 0 => Memref.whole cc5_stg3_0 | 1 => Memref.whole cc5_stg3_1 | ⟨_ + 2, h⟩ => absurd h (Nat.not_lt.2 (Nat.le_add_left _ _))
abbrev sem5_3 : Fin 2 → DmaSem sig := fun | 0 => cc5_sem3_0 | 1 => cc5_sem3_1 | ⟨_ + 2, h⟩ => absurd h (Nat.not_lt.2 (Nat.le_add_left _ _))
abbrev reads5_3 : Fin grid5.rank → Bool := ![true, false]

abbrev stage5_4 : Fin 2 → Memref sig .tc .vmem S2x64x64 .bf16 := fun | 0 => Memref.whole cc5_stg4_0 | 1 => Memref.whole cc5_stg4_1 | ⟨_ + 2, h⟩ => absurd h (Nat.not_lt.2 (Nat.le_add_left _ _))
abbrev sem5_4 : Fin 2 → DmaSem sig := fun | 0 => cc5_sem4_0 | 1 => cc5_sem4_1 | ⟨_ + 2, h⟩ => absurd h (Nat.not_lt.2 (Nat.le_add_left _ _))
abbrev reads5_4 : Fin grid5.rank → Bool := ![true, false]

abbrev stage5_5 : Fin 2 → Memref sig .tc .vmem S2x64x64 .bf16 := fun | 0 => Memref.whole cc5_stg5_0 | 1 => Memref.whole cc5_stg5_1 | ⟨_ + 2, h⟩ => absurd h (Nat.not_lt.2 (Nat.le_add_left _ _))
abbrev sem5_5 : Fin 2 → DmaSem sig := fun | 0 => cc5_sem5_0 | 1 => cc5_sem5_1 | ⟨_ + 2, h⟩ => absurd h (Nat.not_lt.2 (Nat.le_add_left _ _))
abbrev reads5_5 : Fin grid5.rank → Bool := ![true, false]

abbrev stage5_6 : Fin 2 → Memref sig .tc .vmem S2x1x128 .f32 := fun | 0 => Memref.whole cc5_stg6_0 | 1 => Memref.whole cc5_stg6_1 | ⟨_ + 2, h⟩ => absurd h (Nat.not_lt.2 (Nat.le_add_left _ _))
abbrev sem5_6 : Fin 2 → DmaSem sig := fun | 0 => cc5_sem6_0 | 1 => cc5_sem6_1 | ⟨_ + 2, h⟩ => absurd h (Nat.not_lt.2 (Nat.le_add_left _ _))
abbrev reads5_6 : Fin grid5.rank → Bool := ![true, false]

abbrev stage5_7 : Fin 2 → Memref sig .tc .vmem S2x1x128 .f32 := fun | 0 => Memref.whole cc5_stg7_0 | 1 => Memref.whole cc5_stg7_1 | ⟨_ + 2, h⟩ => absurd h (Nat.not_lt.2 (Nat.le_add_left _ _))
abbrev sem5_7 : Fin 2 → DmaSem sig := fun | 0 => cc5_sem7_0 | 1 => cc5_sem7_1 | ⟨_ + 2, h⟩ => absurd h (Nat.not_lt.2 (Nat.le_add_left _ _))
abbrev reads5_7 : Fin grid5.rank → Bool := ![true, false]

abbrev stage5_8 : Fin 2 → Memref sig .tc .vmem S2x1x128 .f32 := fun | 0 => Memref.whole cc5_stg8_0 | 1 => Memref.whole cc5_stg8_1 | ⟨_ + 2, h⟩ => absurd h (Nat.not_lt.2 (Nat.le_add_left _ _))
abbrev sem5_8 : Fin 2 → DmaSem sig := fun | 0 => cc5_sem8_0 | 1 => cc5_sem8_1 | ⟨_ + 2, h⟩ => absurd h (Nat.not_lt.2 (Nat.le_add_left _ _))
abbrev reads5_8 : Fin grid5.rank → Bool := ![true, false]

abbrev stage5_9 : Fin 2 → Memref sig .tc .vmem S2x256x64 .bf16 := fun | 0 => Memref.whole cc5_stg9_0 | 1 => Memref.whole cc5_stg9_1 | ⟨_ + 2, h⟩ => absurd h (Nat.not_lt.2 (Nat.le_add_left _ _))
abbrev sem5_9 : Fin 2 → DmaSem sig := fun | 0 => cc5_sem9_0 | 1 => cc5_sem9_1 | ⟨_ + 2, h⟩ => absurd h (Nat.not_lt.2 (Nat.le_add_left _ _))
abbrev reads5_9 : Fin grid5.rank → Bool := ![true, true]

abbrev grid6 : Pipeline.Grid := ⟨2, ![6, 2], ![false, false]⟩

def k6_off1 (i : grid6.Coords) : Fin 3 → Nat :=
  let c0_14 : Index := 0#32
  let c0_15 : Index := 0#32
  let arg1 : BitVec 32 := BitVec.ofNat 32 (i 1).val
  let c6_i32 : BitVec 32 := 6#32
  let v0 : BitVec 32 := Scalar.addi arg1 c6_i32
  let c1_i32 : BitVec 32 := 1#32
  let v1 : BitVec 32 := Scalar.subi v0 c1_i32
  let c0_i32 : BitVec 32 := 0#32
  let v2 : BitVec 32 := Scalar.maxsi v1 c0_i32
  let c256_i32 : BitVec 32 := 256#32
  let v3 : BitVec 32 := Scalar.muli v2 c256_i32
  let v16 : Index := Scalar.indexCast v3
  ![0, 0, v16.toNat]
def k6_off2 (i : grid6.Coords) : Fin 3 → Nat :=
  let c0_16 : Index := 0#32
  let c0_17 : Index := 0#32
  let arg1 : BitVec 32 := BitVec.ofNat 32 (i 1).val
  let c6_i32 : BitVec 32 := 6#32
  let v0 : BitVec 32 := Scalar.addi arg1 c6_i32
  let c0_i32_0 : BitVec 32 := 0#32
  let v4 : BitVec 1 := Scalar.cmpi .eq v0 c0_i32_0
  let c256_i32_1 : BitVec 32 := 256#32
  let c0_i32_2 : BitVec 32 := 0#32
  let v5 : BitVec 32 := Scalar.select v4 c256_i32_1 c0_i32_2
  let v19 : Index := Scalar.indexCast v5
  ![0, 0, v19.toNat]
def k6_off3 (i : grid6.Coords) : Fin 3 → Nat :=
  let c1_65 : Index := 1#32
  let c0_66 : Index := 0#32
  let arg1 : BitVec 32 := BitVec.ofNat 32 (i 1).val
  let c6_i32 : BitVec 32 := 6#32
  let v0 : BitVec 32 := Scalar.addi arg1 c6_i32
  let c1_i32 : BitVec 32 := 1#32
  let v1 : BitVec 32 := Scalar.subi v0 c1_i32
  let c0_i32 : BitVec 32 := 0#32
  let v2 : BitVec 32 := Scalar.maxsi v1 c0_i32
  let c256_i32 : BitVec 32 := 256#32
  let v3 : BitVec 32 := Scalar.muli v2 c256_i32
  let v97 : Index := Scalar.indexCast v3
  ![1, 0, v97.toNat]
def k6_off4 (i : grid6.Coords) : Fin 3 → Nat :=
  let c1_67 : Index := 1#32
  let c0_68 : Index := 0#32
  let arg1 : BitVec 32 := BitVec.ofNat 32 (i 1).val
  let c6_i32 : BitVec 32 := 6#32
  let v0 : BitVec 32 := Scalar.addi arg1 c6_i32
  let c0_i32_0 : BitVec 32 := 0#32
  let v4 : BitVec 1 := Scalar.cmpi .eq v0 c0_i32_0
  let c256_i32_1 : BitVec 32 := 256#32
  let c0_i32_2 : BitVec 32 := 0#32
  let v5 : BitVec 32 := Scalar.select v4 c256_i32_1 c0_i32_2
  let v100 : Index := Scalar.indexCast v5
  ![1, 0, v100.toNat]
def cc6_transform_0 (i : grid6.Coords) : Fin 3 → Nat :=
  let arg0 : BitVec 32 := BitVec.ofNat 32 (i 0).val
  let arg1 : BitVec 32 := BitVec.ofNat 32 (i 1).val
  let c6_i32 : BitVec 32 := 6#32
  let v0 : BitVec 32 := Scalar.addi arg1 c6_i32
  let c0_i32 : BitVec 32 := 0#32
  let c0_i32_0 : BitVec 32 := 0#32
  ![arg0.toNat, v0.toNat, c0_i32.toNat]

def cc6_transform_1 (i : grid6.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc6_transform_2 (i : grid6.Coords) : Fin 3 → Nat :=
  let arg0 : BitVec 32 := BitVec.ofNat 32 (i 0).val
  let arg1 : BitVec 32 := BitVec.ofNat 32 (i 1).val
  let c6_i32 : BitVec 32 := 6#32
  let v0 : BitVec 32 := Scalar.addi c6_i32 arg0
  let c0_i32 : BitVec 32 := 0#32
  let c0_i32_0 : BitVec 32 := 0#32
  let c0_i32_1 : BitVec 32 := 0#32
  ![v0.toNat, c0_i32.toNat, c0_i32_0.toNat]

def cc6_transform_3 (i : grid6.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc6_transform_4 (i : grid6.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc6_transform_5 (i : grid6.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc6_transform_6 (i : grid6.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc6_transform_7 (i : grid6.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc6_transform_8 (i : grid6.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc6_transform_9 (i : grid6.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage6_0 : Fin 2 → Memref sig .tc .vmem S2x256x64 .bf16 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true, true]

abbrev stage6_1 : Fin 2 → Memref sig .tc .vmem S2x2048x64 .bf16 := fun | 0 => Memref.whole cc6_stg1_0 | 1 => Memref.whole cc6_stg1_1 | ⟨_ + 2, h⟩ => absurd h (Nat.not_lt.2 (Nat.le_add_left _ _))
abbrev sem6_1 : Fin 2 → DmaSem sig := fun | 0 => cc6_sem1_0 | 1 => cc6_sem1_1 | ⟨_ + 2, h⟩ => absurd h (Nat.not_lt.2 (Nat.le_add_left _ _))
abbrev reads6_1 : Fin grid6.rank → Bool := ![true, false]

abbrev stage6_2 : Fin 2 → Memref sig .tc .vmem S2x2048x64 .bf16 := fun | 0 => Memref.whole cc6_stg2_0 | 1 => Memref.whole cc6_stg2_1 | ⟨_ + 2, h⟩ => absurd h (Nat.not_lt.2 (Nat.le_add_left _ _))
abbrev sem6_2 : Fin 2 → DmaSem sig := fun | 0 => cc6_sem2_0 | 1 => cc6_sem2_1 | ⟨_ + 2, h⟩ => absurd h (Nat.not_lt.2 (Nat.le_add_left _ _))
abbrev reads6_2 : Fin grid6.rank → Bool := ![true, false]

abbrev stage6_3 : Fin 2 → Memref sig .tc .vmem S2x256x768 .f32 := fun | 0 => Memref.whole cc6_stg3_0 | 1 => Memref.whole cc6_stg3_1 | ⟨_ + 2, h⟩ => absurd h (Nat.not_lt.2 (Nat.le_add_left _ _))
abbrev sem6_3 : Fin 2 → DmaSem sig := fun | 0 => cc6_sem3_0 | 1 => cc6_sem3_1 | ⟨_ + 2, h⟩ => absurd h (Nat.not_lt.2 (Nat.le_add_left _ _))
abbrev reads6_3 : Fin grid6.rank → Bool := ![true, false]

abbrev stage6_4 : Fin 2 → Memref sig .tc .vmem S2x64x64 .bf16 := fun | 0 => Memref.whole cc6_stg4_0 | 1 => Memref.whole cc6_stg4_1 | ⟨_ + 2, h⟩ => absurd h (Nat.not_lt.2 (Nat.le_add_left _ _))
abbrev sem6_4 : Fin 2 → DmaSem sig := fun | 0 => cc6_sem4_0 | 1 => cc6_sem4_1 | ⟨_ + 2, h⟩ => absurd h (Nat.not_lt.2 (Nat.le_add_left _ _))
abbrev reads6_4 : Fin grid6.rank → Bool := ![true, false]

abbrev stage6_5 : Fin 2 → Memref sig .tc .vmem S2x64x64 .bf16 := fun | 0 => Memref.whole cc6_stg5_0 | 1 => Memref.whole cc6_stg5_1 | ⟨_ + 2, h⟩ => absurd h (Nat.not_lt.2 (Nat.le_add_left _ _))
abbrev sem6_5 : Fin 2 → DmaSem sig := fun | 0 => cc6_sem5_0 | 1 => cc6_sem5_1 | ⟨_ + 2, h⟩ => absurd h (Nat.not_lt.2 (Nat.le_add_left _ _))
abbrev reads6_5 : Fin grid6.rank → Bool := ![true, false]

abbrev stage6_6 : Fin 2 → Memref sig .tc .vmem S2x1x128 .f32 := fun | 0 => Memref.whole cc6_stg6_0 | 1 => Memref.whole cc6_stg6_1 | ⟨_ + 2, h⟩ => absurd h (Nat.not_lt.2 (Nat.le_add_left _ _))
abbrev sem6_6 : Fin 2 → DmaSem sig := fun | 0 => cc6_sem6_0 | 1 => cc6_sem6_1 | ⟨_ + 2, h⟩ => absurd h (Nat.not_lt.2 (Nat.le_add_left _ _))
abbrev reads6_6 : Fin grid6.rank → Bool := ![true, false]

abbrev stage6_7 : Fin 2 → Memref sig .tc .vmem S2x1x128 .f32 := fun | 0 => Memref.whole cc6_stg7_0 | 1 => Memref.whole cc6_stg7_1 | ⟨_ + 2, h⟩ => absurd h (Nat.not_lt.2 (Nat.le_add_left _ _))
abbrev sem6_7 : Fin 2 → DmaSem sig := fun | 0 => cc6_sem7_0 | 1 => cc6_sem7_1 | ⟨_ + 2, h⟩ => absurd h (Nat.not_lt.2 (Nat.le_add_left _ _))
abbrev reads6_7 : Fin grid6.rank → Bool := ![true, false]

abbrev stage6_8 : Fin 2 → Memref sig .tc .vmem S2x1x128 .f32 := fun | 0 => Memref.whole cc6_stg8_0 | 1 => Memref.whole cc6_stg8_1 | ⟨_ + 2, h⟩ => absurd h (Nat.not_lt.2 (Nat.le_add_left _ _))
abbrev sem6_8 : Fin 2 → DmaSem sig := fun | 0 => cc6_sem8_0 | 1 => cc6_sem8_1 | ⟨_ + 2, h⟩ => absurd h (Nat.not_lt.2 (Nat.le_add_left _ _))
abbrev reads6_8 : Fin grid6.rank → Bool := ![true, false]

abbrev stage6_9 : Fin 2 → Memref sig .tc .vmem S2x256x64 .bf16 := fun | 0 => Memref.whole cc6_stg9_0 | 1 => Memref.whole cc6_stg9_1 | ⟨_ + 2, h⟩ => absurd h (Nat.not_lt.2 (Nat.le_add_left _ _))
abbrev sem6_9 : Fin 2 → DmaSem sig := fun | 0 => cc6_sem9_0 | 1 => cc6_sem9_1 | ⟨_ + 2, h⟩ => absurd h (Nat.not_lt.2 (Nat.le_add_left _ _))
abbrev reads6_9 : Fin grid6.rank → Bool := ![true, true]

abbrev grid7 : Pipeline.Grid := ⟨1, ![1], ![false]⟩

def cc7_transform_0 (i : grid7.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc7_transform_1 (i : grid7.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc7_transform_2 (i : grid7.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc7_transform_3 (i : grid7.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc7_transform_4 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_5 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_6 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage7_0 : Fin 1 → Memref sig .tc .vmem S12x512x64 .bf16 := fun | 0 => Memref.whole cc7_stg0_0 | ⟨_ + 1, h⟩ => absurd h (Nat.not_lt.2 (Nat.le_add_left _ _))
abbrev sem7_0 : Fin 1 → DmaSem sig := fun | 0 => cc7_sem0_0 | ⟨_ + 1, h⟩ => absurd h (Nat.not_lt.2 (Nat.le_add_left _ _))
abbrev reads7_0 : Fin grid7.rank → Bool := ![false]

abbrev stage7_1 : Fin 1 → Memref sig .tc .vmem S12x512x64 .bf16 := fun | 0 => Memref.whole cc7_stg1_0 | ⟨_ + 1, h⟩ => absurd h (Nat.not_lt.2 (Nat.le_add_left _ _))
abbrev sem7_1 : Fin 1 → DmaSem sig := fun | 0 => cc7_sem1_0 | ⟨_ + 1, h⟩ => absurd h (Nat.not_lt.2 (Nat.le_add_left _ _))
abbrev reads7_1 : Fin grid7.rank → Bool := ![false]

abbrev stage7_2 : Fin 1 → Memref sig .tc .vmem S12x512x64 .bf16 := fun | 0 => Memref.whole cc7_stg2_0 | ⟨_ + 1, h⟩ => absurd h (Nat.not_lt.2 (Nat.le_add_left _ _))
abbrev sem7_2 : Fin 1 → DmaSem sig := fun | 0 => cc7_sem2_0 | ⟨_ + 1, h⟩ => absurd h (Nat.not_lt.2 (Nat.le_add_left _ _))
abbrev reads7_2 : Fin grid7.rank → Bool := ![false]

abbrev stage7_3 : Fin 1 → Memref sig .tc .vmem S12x512x64 .bf16 := fun | 0 => Memref.whole cc7_stg3_0 | ⟨_ + 1, h⟩ => absurd h (Nat.not_lt.2 (Nat.le_add_left _ _))
abbrev sem7_3 : Fin 1 → DmaSem sig := fun | 0 => cc7_sem3_0 | ⟨_ + 1, h⟩ => absurd h (Nat.not_lt.2 (Nat.le_add_left _ _))
abbrev reads7_3 : Fin grid7.rank → Bool := ![false]

abbrev stage7_4 : Fin 1 → Memref sig .tc .vmem S768x768 .f32 := fun | 0 => Memref.whole cc7_stg4_0 | ⟨_ + 1, h⟩ => absurd h (Nat.not_lt.2 (Nat.le_add_left _ _))
abbrev sem7_4 : Fin 1 → DmaSem sig := fun | 0 => cc7_sem4_0 | ⟨_ + 1, h⟩ => absurd h (Nat.not_lt.2 (Nat.le_add_left _ _))
abbrev reads7_4 : Fin grid7.rank → Bool := ![false]

abbrev stage7_5 : Fin 1 → Memref sig .tc .vmem S1x768 .f32 := fun | 0 => Memref.whole cc7_stg5_0 | ⟨_ + 1, h⟩ => absurd h (Nat.not_lt.2 (Nat.le_add_left _ _))
abbrev sem7_5 : Fin 1 → DmaSem sig := fun | 0 => cc7_sem5_0 | ⟨_ + 1, h⟩ => absurd h (Nat.not_lt.2 (Nat.le_add_left _ _))
abbrev reads7_5 : Fin grid7.rank → Bool := ![false]

abbrev stage7_6 : Fin 1 → Memref sig .tc .vmem S2048x768 .f32 := fun | 0 => Memref.whole cc7_stg6_0 | ⟨_ + 1, h⟩ => absurd h (Nat.not_lt.2 (Nat.le_add_left _ _))
abbrev sem7_6 : Fin 1 → DmaSem sig := fun | 0 => cc7_sem6_0 | ⟨_ + 1, h⟩ => absurd h (Nat.not_lt.2 (Nat.le_add_left _ _))
abbrev reads7_6 : Fin grid7.rank → Bool := ![false]
-- ==== KernelIdeal.lean ====
variable {F : FTy → Type} [FloatOps F] [Named F]
def κ : String → Option EReal := fun
  | "log8_scale" => some ((16 * (Real.log 8)⁻¹ : ℝ) : EReal)
  | "mask" => some ⊥
  | _ => none
-- ==== ReferenceIdeal.lean ====
abbrev S1x2048x768 : Shape := ⟨3, ![1, 2048, 768]⟩
abbrev S1x12x32x64 : Shape := ⟨4, ![1, 12, 32, 64]⟩
abbrev S1x12x32 : Shape := ⟨3, ![1, 12, 32]⟩
abbrev S768x768 : Shape := ⟨2, ![768, 768]⟩
abbrev S768x1536 : Shape := ⟨2, ![768, 1536]⟩
abbrev S768 : Shape := ⟨1, ![768]⟩
abbrev S12x1x64 : Shape := ⟨3, ![12, 1, 64]⟩
abbrev S12x1x1 : Shape := ⟨3, ![12, 1, 1]⟩
abbrev S32x12 : Shape := ⟨2, ![32, 12]⟩
abbrev S1x2048x1536 : Shape := ⟨3, ![1, 2048, 1536]⟩
abbrev S1x2048x12x64 : Shape := ⟨4, ![1, 2048, 12, 64]⟩
abbrev S1x12x2048x64 : Shape := ⟨4, ![1, 12, 2048, 64]⟩
abbrev S1x12x2048x2048 : Shape := ⟨4, ![1, 12, 2048, 2048]⟩
abbrev S_ : Shape := ⟨0, ![]⟩
abbrev S2048 : Shape := ⟨1, ![2048]⟩
abbrev S1x2048 : Shape := ⟨2, ![1, 2048]⟩
abbrev S2048x1 : Shape := ⟨2, ![2048, 1]⟩
abbrev S2048x2048 : Shape := ⟨2, ![2048, 2048]⟩
abbrev S2048x2048x1 : Shape := ⟨3, ![2048, 2048, 1]⟩
abbrev S1 : Shape := ⟨1, ![1]⟩
abbrev S1x1x1 : Shape := ⟨3, ![1, 1, 1]⟩
abbrev S2048x2048x12 : Shape := ⟨3, ![2048, 2048, 12]⟩
abbrev S12x2048x2048 : Shape := ⟨3, ![12, 2048, 2048]⟩
abbrev S1x1x2048x2048 : Shape := ⟨4, ![1, 1, 2048, 2048]⟩
abbrev S1x12x2048 : Shape := ⟨3, ![1, 12, 2048]⟩
abbrev S1x12x2048x1 : Shape := ⟨4, ![1, 12, 2048, 1]⟩
abbrev S1x12x1x64 : Shape := ⟨4, ![1, 12, 1, 64]⟩
abbrev S1x12x33x64 : Shape := ⟨4, ![1, 12, 33, 64]⟩
abbrev S1x12x33 : Shape := ⟨3, ![1, 12, 33]⟩
abbrev S1x12x2048x33 : Shape := ⟨4, ![1, 12, 2048, 33]⟩
abbrev S1x12x1x33 : Shape := ⟨4, ![1, 12, 1, 33]⟩
abbrev S1x12x1x1 : Shape := ⟨4, ![1, 12, 1, 1]⟩
abbrev S1x1x768 : Shape := ⟨3, ![1, 1, 768]⟩

abbrev nBuf : Space → Nat
  | .hbm => 189
  | .vmem => 0
  | .smem => 0
  | _ => 0

abbrev hbmTy0_0 (i : Nat) : BufTy := match i % 128 with
  | 0 => ⟨S1x2048x768, .f32⟩
  | 1 => ⟨S1x12x32x64, .f32⟩
  | 2 => ⟨S1x12x32x64, .f32⟩
  | 3 => ⟨S1x12x32, .i1⟩
  | 4 => ⟨S768x768, .f32⟩
  | 5 => ⟨S768x1536, .f32⟩
  | 6 => ⟨S768x768, .f32⟩
  | 7 => ⟨S768, .f32⟩
  | 8 => ⟨S12x1x64, .f32⟩
  | 9 => ⟨S12x1x64, .f32⟩
  | 10 => ⟨S12x1x1, .f32⟩
  | 11 => ⟨S32x12, .f32⟩
  | 12 => ⟨S1x2048x768, .f32⟩
  | 13 => ⟨S1x2048x1536, .f32⟩
  | 14 => ⟨S1x2048x768, .f32⟩
  | 15 => ⟨S1x2048x768, .f32⟩
  | 16 => ⟨S1x2048x12x64, .f32⟩
  | 17 => ⟨S1x12x2048x64, .f32⟩
  | 18 => ⟨S1x2048x12x64, .f32⟩
  | 19 => ⟨S1x12x2048x64, .f32⟩
  | 20 => ⟨S1x2048x12x64, .f32⟩
  | 21 => ⟨S1x12x2048x64, .f32⟩
  | 22 => ⟨S1x12x2048x2048, .f32⟩
  | 23 => ⟨S_, .f32⟩
  | 24 => ⟨S1x12x2048x2048, .f32⟩
  | 25 => ⟨S1x12x2048x2048, .f32⟩
  | 26 => ⟨S2048, .i32⟩
  | 27 => ⟨S2048, .i32⟩
  | 28 => ⟨S1x2048, .i32⟩
  | 29 => ⟨S2048x1, .i32⟩
  | 30 => ⟨S2048x2048, .i32⟩
  | 31 => ⟨S2048x2048, .i32⟩
  | 32 => ⟨S2048x2048, .i32⟩
  | 33 => ⟨S2048x2048, .i32⟩
  | 34 => ⟨S_, .i32⟩
  | 35 => ⟨S2048x2048, .i32⟩
  | 36 => ⟨S2048x2048, .i32⟩
  | 37 => ⟨S_, .i32⟩
  | 38 => ⟨S2048x2048, .i32⟩
  | 39 => ⟨S2048x2048, .i1⟩
  | 40 => ⟨S_, .i32⟩
  | 41 => ⟨S2048x2048, .i32⟩
  | 42 => ⟨S2048x2048, .i32⟩
  | 43 => ⟨S2048x2048, .f32⟩
  | 44 => ⟨S_, .f32⟩
  | 45 => ⟨S2048x2048, .f32⟩
  | 46 => ⟨S2048x2048, .f32⟩
  | 47 => ⟨S2048x2048, .f32⟩
  | 48 => ⟨S_, .f32⟩
  | 49 => ⟨S_, .f32⟩
  | 50 => ⟨S2048x2048, .f32⟩
  | 51 => ⟨S2048x2048, .f32⟩
  | 52 => ⟨S_, .f32⟩
  | 53 => ⟨S2048x2048, .f32⟩
  | 54 => ⟨S2048x2048, .f32⟩
  | 55 => ⟨S2048x2048, .i32⟩
  | 56 => ⟨S_, .i32⟩
  | 57 => ⟨S2048x2048, .i32⟩
  | 58 => ⟨S2048x2048, .i32⟩
  | 59 => ⟨S_, .i32⟩
  | 60 => ⟨S2048x2048, .i32⟩
  | 61 => ⟨S2048x2048, .i32⟩
  | 62 => ⟨S2048x2048, .i32⟩
  | 63 => ⟨S_, .i32⟩
  | 64 => ⟨S2048x2048, .i32⟩
  | 65 => ⟨S2048x2048, .i1⟩
  | 66 => ⟨S_, .i32⟩
  | 67 => ⟨S2048x2048, .i32⟩
  | 68 => ⟨S2048x2048, .i32⟩
  | 69 => ⟨S2048x2048, .i32⟩
  | 70 => ⟨S2048x2048x1, .i32⟩
  | 71 => ⟨S1, .i32⟩
  | 72 => ⟨S_, .i32⟩
  | 73 => ⟨S2048x2048x1, .i32⟩
  | 74 => ⟨S2048x2048x1, .i1⟩
  | 75 => ⟨S1x1x1, .i32⟩
  | 76 => ⟨S2048x2048x1, .i32⟩
  | 77 => ⟨S2048x2048x1, .i1⟩
  | 78 => ⟨S2048x2048x1, .i1⟩
  | 79 => ⟨S_, .i1⟩
  | 80 => ⟨S2048x2048, .i1⟩
  | 81 => ⟨S2048x2048x12, .f32⟩
  | 82 => ⟨S2048x2048x12, .i1⟩
  | 83 => ⟨S_, .f32⟩
  | 84 => ⟨S2048x2048x12, .f32⟩
  | 85 => ⟨S2048x2048x12, .f32⟩
  | 86 => ⟨S12x2048x2048, .f32⟩
  | 87 => ⟨S1x12x2048x2048, .f32⟩
  | 88 => ⟨S_, .f32⟩
  | 89 => ⟨S1x12x2048x2048, .f32⟩
  | 90 => ⟨S1x12x2048x2048, .f32⟩
  | 91 => ⟨S1x12x2048x2048, .f32⟩
  | 92 => ⟨S_, .i1⟩
  | 93 => ⟨S2048x2048, .i1⟩
  | 94 => ⟨S2048x2048, .i32⟩
  | 95 => ⟨S_, .i32⟩
  | 96 => ⟨S2048x2048, .i32⟩
  | 97 => ⟨S2048x2048, .i32⟩
  | 98 => ⟨S2048x2048, .i32⟩
  | 99 => ⟨S2048x2048, .i1⟩
  | 100 => ⟨S_, .i1⟩
  | 101 => ⟨S2048x2048, .i1⟩
  | 102 => ⟨S2048x2048, .i1⟩
  | 103 => ⟨S1x1x2048x2048, .i1⟩
  | 104 => ⟨S_, .f32⟩
  | 105 => ⟨S_, .f32⟩
  | 106 => ⟨S1x12x2048x2048, .i1⟩
  | 107 => ⟨S1x12x2048x2048, .f32⟩
  | 108 => ⟨S1x12x2048x2048, .f32⟩
  | 109 => ⟨S_, .f32⟩
  | 110 => ⟨S1x12x2048, .f32⟩
  | 111 => ⟨S1x12x2048x1, .f32⟩
  | 112 => ⟨S1x12x2048x2048, .f32⟩
  | 113 => ⟨S1x12x2048x2048, .f32⟩
  | 114 => ⟨S_, .f32⟩
  | 115 => ⟨S1x12x2048, .f32⟩
  | 116 => ⟨S_, .f32⟩
  | 117 => ⟨S1x12x2048, .f32⟩
  | 118 => ⟨S1x12x2048, .f32⟩
  | 119 => ⟨S1x12x2048x1, .f32⟩
  | 120 => ⟨S1x12x2048x2048, .f32⟩
  | 121 => ⟨S1x12x2048x2048, .f32⟩
  | 122 => ⟨S1x12x2048x2048, .f32⟩
  | 123 => ⟨S_, .f32⟩
  | 124 => ⟨S1x12x2048, .f32⟩
  | 125 => ⟨S1x12x2048x1, .f32⟩
  | 126 => ⟨S1x12x2048x2048, .f32⟩
  | 127 => ⟨S1x12x2048x2048, .f32⟩
  | _ => ⟨S1x2048x768, .f32⟩

abbrev hbmTy0_1 (i : Nat) : BufTy := match i % 128 with
  | 0 => ⟨S1x12x2048x64, .f32⟩
  | 1 => ⟨S1x12x1x64, .f32⟩
  | 2 => ⟨S1x12x1x64, .f32⟩
  | 3 => ⟨S1x12x33x64, .f32⟩
  | 4 => ⟨S1x12x33x64, .f32⟩
  | 5 => ⟨S_, .i1⟩
  | 6 => ⟨S1x12x33, .i1⟩
  | 7 => ⟨S1x12x2048x33, .f32⟩
  | 8 => ⟨S_, .f32⟩
  | 9 => ⟨S1x12x2048x33, .f32⟩
  | 10 => ⟨S1x12x2048x33, .f32⟩
  | 11 => ⟨S_, .f32⟩
  | 12 => ⟨S1x12x2048, .f32⟩
  | 13 => ⟨S1x12x2048x1, .f32⟩
  | 14 => ⟨S1x12x2048x33, .f32⟩
  | 15 => ⟨S1x12x2048x33, .f32⟩
  | 16 => ⟨S1x12x1x33, .i1⟩
  | 17 => ⟨S1x12x1x33, .i1⟩
  | 18 => ⟨S_, .f32⟩
  | 19 => ⟨S_, .f32⟩
  | 20 => ⟨S1x12x2048x33, .i1⟩
  | 21 => ⟨S1x12x2048x33, .f32⟩
  | 22 => ⟨S1x12x2048x33, .f32⟩
  | 23 => ⟨S_, .f32⟩
  | 24 => ⟨S1x12x2048, .f32⟩
  | 25 => ⟨S_, .f32⟩
  | 26 => ⟨S1x12x2048, .f32⟩
  | 27 => ⟨S1x12x2048, .f32⟩
  | 28 => ⟨S1x12x2048x1, .f32⟩
  | 29 => ⟨S1x12x2048x33, .f32⟩
  | 30 => ⟨S1x12x2048x33, .f32⟩
  | 31 => ⟨S1x12x2048x33, .f32⟩
  | 32 => ⟨S_, .f32⟩
  | 33 => ⟨S1x12x2048, .f32⟩
  | 34 => ⟨S1x12x2048x1, .f32⟩
  | 35 => ⟨S1x12x2048x33, .f32⟩
  | 36 => ⟨S1x12x2048x33, .f32⟩
  | 37 => ⟨S1x12x2048x64, .f32⟩
  | 38 => ⟨S12x1x1, .f32⟩
  | 39 => ⟨S12x1x1, .f32⟩
  | 40 => ⟨S_, .f32⟩
  | 41 => ⟨S12x1x1, .f32⟩
  | 42 => ⟨S12x1x1, .f32⟩
  | 43 => ⟨S_, .f32⟩
  | 44 => ⟨S12x1x1, .f32⟩
  | 45 => ⟨S12x1x1, .f32⟩
  | 46 => ⟨S1x12x1x1, .f32⟩
  | 47 => ⟨S1x12x2048x64, .f32⟩
  | 48 => ⟨S1x12x2048x64, .f32⟩
  | 49 => ⟨S_, .f32⟩
  | 50 => ⟨S1x12x1x1, .f32⟩
  | 51 => ⟨S1x12x1x1, .f32⟩
  | 52 => ⟨S1x12x2048x64, .f32⟩
  | 53 => ⟨S1x12x2048x64, .f32⟩
  | 54 => ⟨S1x12x2048x64, .f32⟩
  | 55 => ⟨S1x2048x12x64, .f32⟩
  | 56 => ⟨S1x2048x768, .f32⟩
  | 57 => ⟨S1x2048x768, .f32⟩
  | 58 => ⟨S1x1x768, .f32⟩
  | 59 => ⟨S1x2048x768, .f32⟩
  | 60 => ⟨S1x2048x768, .f32⟩
  | _ => ⟨S1x2048x768, .f32⟩

abbrev hbmTy (i : Nat) : BufTy := match i / 128 with
  | 0 => hbmTy0_0 i
  | 1 => hbmTy0_1 i
  | _ => ⟨S1x2048x768, .f32⟩

abbrev bufTy : (tb : Table) → Fin (tcTables nBuf tb) → BufTy
  | .hbm, ⟨i, _⟩ => hbmTy i
  | _, _ => ⟨S1x2048x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_cst : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_c : Ref sig .tc := ⟨.hbm, 34, rfl⟩
abbrev main_v21 : Ref sig .tc := ⟨.hbm, 35, rfl⟩
abbrev main_v22 : Ref sig .tc := ⟨.hbm, 36, rfl⟩
abbrev main_c_0 : Ref sig .tc := ⟨.hbm, 37, rfl⟩
abbrev main_v23 : Ref sig .tc := ⟨.hbm, 38, rfl⟩
abbrev main_v24 : Ref sig .tc := ⟨.hbm, 39, rfl⟩
abbrev main_c_1 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_cst_2 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_cst_3 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_cst_4 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_c_5 : Ref sig .tc := ⟨.hbm, 56, rfl⟩
abbrev main_v37 : Ref sig .tc := ⟨.hbm, 57, rfl⟩
abbrev main_v38 : Ref sig .tc := ⟨.hbm, 58, rfl⟩
abbrev main_c_6 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_call1_c : Ref sig .tc := ⟨.hbm, 63, rfl⟩
abbrev main_call1_v0 : Ref sig .tc := ⟨.hbm, 64, rfl⟩
abbrev main_call1_v1 : Ref sig .tc := ⟨.hbm, 65, rfl⟩
abbrev main_call1_c_0 : Ref sig .tc := ⟨.hbm, 66, rfl⟩
abbrev main_call1_v2 : Ref sig .tc := ⟨.hbm, 67, rfl⟩
abbrev main_call1_v3 : Ref sig .tc := ⟨.hbm, 68, rfl⟩
abbrev main_call1_v4 : Ref sig .tc := ⟨.hbm, 69, rfl⟩
abbrev main_call1_v5 : Ref sig .tc := ⟨.hbm, 70, rfl⟩
abbrev main_call1_c_1 : Ref sig .tc := ⟨.hbm, 71, rfl⟩
abbrev main_call1_c_2 : Ref sig .tc := ⟨.hbm, 72, rfl⟩
abbrev main_call1_v6 : Ref sig .tc := ⟨.hbm, 73, rfl⟩
abbrev main_call1_v7 : Ref sig .tc := ⟨.hbm, 74, rfl⟩
abbrev main_call1_v8 : Ref sig .tc := ⟨.hbm, 75, rfl⟩
abbrev main_call1_v9 : Ref sig .tc := ⟨.hbm, 76, rfl⟩
abbrev main_call1_v10 : Ref sig .tc := ⟨.hbm, 77, rfl⟩
abbrev main_call1_v11 : Ref sig .tc := ⟨.hbm, 78, rfl⟩
abbrev main_call1_c_3 : Ref sig .tc := ⟨.hbm, 79, rfl⟩
abbrev main_call1_v12 : Ref sig .tc := ⟨.hbm, 80, rfl⟩
abbrev main_call1_v13 : Ref sig .tc := ⟨.hbm, 81, rfl⟩
abbrev main_call1_v14 : Ref sig .tc := ⟨.hbm, 82, rfl⟩
abbrev main_call1_cst : Ref sig .tc := ⟨.hbm, 83, rfl⟩
abbrev main_call1_v15 : Ref sig .tc := ⟨.hbm, 84, rfl⟩
abbrev main_v42 : Ref sig .tc := ⟨.hbm, 85, rfl⟩
abbrev main_v43 : Ref sig .tc := ⟨.hbm, 86, rfl⟩
abbrev main_v44 : Ref sig .tc := ⟨.hbm, 87, rfl⟩
abbrev main_cst_7 : Ref sig .tc := ⟨.hbm, 88, rfl⟩
abbrev main_v45 : Ref sig .tc := ⟨.hbm, 89, rfl⟩
abbrev main_v46 : Ref sig .tc := ⟨.hbm, 90, rfl⟩
abbrev main_v47 : Ref sig .tc := ⟨.hbm, 91, rfl⟩
abbrev main_c_8 : Ref sig .tc := ⟨.hbm, 92, rfl⟩
abbrev main_v48 : Ref sig .tc := ⟨.hbm, 93, rfl⟩
abbrev main_call2_v0 : Ref sig .tc := ⟨.hbm, 94, rfl⟩
abbrev main_call2_c : Ref sig .tc := ⟨.hbm, 95, rfl⟩
abbrev main_call2_v1 : Ref sig .tc := ⟨.hbm, 96, rfl⟩
abbrev main_call2_v2 : Ref sig .tc := ⟨.hbm, 97, rfl⟩
abbrev main_call2_v3 : Ref sig .tc := ⟨.hbm, 98, rfl⟩
abbrev main_call2_v4 : Ref sig .tc := ⟨.hbm, 99, rfl⟩
abbrev main_call2_c_0 : Ref sig .tc := ⟨.hbm, 100, rfl⟩
abbrev main_call2_v5 : Ref sig .tc := ⟨.hbm, 101, rfl⟩
abbrev main_v49 : Ref sig .tc := ⟨.hbm, 102, rfl⟩
abbrev main_v50 : Ref sig .tc := ⟨.hbm, 103, rfl⟩
abbrev main_cst_9 : Ref sig .tc := ⟨.hbm, 104, rfl⟩
abbrev main_call3_v0 : Ref sig .tc := ⟨.hbm, 105, rfl⟩
abbrev main_call3_v1 : Ref sig .tc := ⟨.hbm, 106, rfl⟩
abbrev main_call3_v2 : Ref sig .tc := ⟨.hbm, 107, rfl⟩
abbrev main_v51 : Ref sig .tc := ⟨.hbm, 108, rfl⟩
abbrev main_cst_10 : Ref sig .tc := ⟨.hbm, 109, rfl⟩
abbrev main_v52 : Ref sig .tc := ⟨.hbm, 110, rfl⟩
abbrev main_v53 : Ref sig .tc := ⟨.hbm, 111, rfl⟩
abbrev main_v54 : Ref sig .tc := ⟨.hbm, 112, rfl⟩
abbrev main_v55 : Ref sig .tc := ⟨.hbm, 113, rfl⟩
abbrev main_cst_11 : Ref sig .tc := ⟨.hbm, 114, rfl⟩
abbrev main_v56 : Ref sig .tc := ⟨.hbm, 115, rfl⟩
abbrev main_cst_12 : Ref sig .tc := ⟨.hbm, 116, rfl⟩
abbrev main_v57 : Ref sig .tc := ⟨.hbm, 117, rfl⟩
abbrev main_v58 : Ref sig .tc := ⟨.hbm, 118, rfl⟩
abbrev main_v59 : Ref sig .tc := ⟨.hbm, 119, rfl⟩
abbrev main_v60 : Ref sig .tc := ⟨.hbm, 120, rfl⟩
abbrev main_v61 : Ref sig .tc := ⟨.hbm, 121, rfl⟩
abbrev main_v62 : Ref sig .tc := ⟨.hbm, 122, rfl⟩
abbrev main_cst_13 : Ref sig .tc := ⟨.hbm, 123, rfl⟩
abbrev main_v63 : Ref sig .tc := ⟨.hbm, 124, rfl⟩
abbrev main_v64 : Ref sig .tc := ⟨.hbm, 125, rfl⟩
abbrev main_v65 : Ref sig .tc := ⟨.hbm, 126, rfl⟩
abbrev main_v66 : Ref sig .tc := ⟨.hbm, 127, rfl⟩
abbrev main_v67 : Ref sig .tc := ⟨.hbm, 128, rfl⟩
abbrev main_v68 : Ref sig .tc := ⟨.hbm, 129, rfl⟩
abbrev main_v69 : Ref sig .tc := ⟨.hbm, 130, rfl⟩
abbrev main_v70 : Ref sig .tc := ⟨.hbm, 131, rfl⟩
abbrev main_v71 : Ref sig .tc := ⟨.hbm, 132, rfl⟩
abbrev main_c_14 : Ref sig .tc := ⟨.hbm, 133, rfl⟩
abbrev main_v72 : Ref sig .tc := ⟨.hbm, 134, rfl⟩
abbrev main_v73 : Ref sig .tc := ⟨.hbm, 135, rfl⟩
abbrev main_cst_15 : Ref sig .tc := ⟨.hbm, 136, rfl⟩
abbrev main_v74 : Ref sig .tc := ⟨.hbm, 137, rfl⟩
abbrev main_v75 : Ref sig .tc := ⟨.hbm, 138, rfl⟩
abbrev main_cst_16 : Ref sig .tc := ⟨.hbm, 139, rfl⟩
abbrev main_v76 : Ref sig .tc := ⟨.hbm, 140, rfl⟩
abbrev main_v77 : Ref sig .tc := ⟨.hbm, 141, rfl⟩
abbrev main_v78 : Ref sig .tc := ⟨.hbm, 142, rfl⟩
abbrev main_v79 : Ref sig .tc := ⟨.hbm, 143, rfl⟩
abbrev main_v80 : Ref sig .tc := ⟨.hbm, 144, rfl⟩
abbrev main_v81 : Ref sig .tc := ⟨.hbm, 145, rfl⟩
abbrev main_cst_17 : Ref sig .tc := ⟨.hbm, 146, rfl⟩
abbrev main_call5_v0 : Ref sig .tc := ⟨.hbm, 147, rfl⟩
abbrev main_call5_v1 : Ref sig .tc := ⟨.hbm, 148, rfl⟩
abbrev main_call5_v2 : Ref sig .tc := ⟨.hbm, 149, rfl⟩
abbrev main_v82 : Ref sig .tc := ⟨.hbm, 150, rfl⟩
abbrev main_cst_18 : Ref sig .tc := ⟨.hbm, 151, rfl⟩
abbrev main_v83 : Ref sig .tc := ⟨.hbm, 152, rfl⟩
abbrev main_cst_19 : Ref sig .tc := ⟨.hbm, 153, rfl⟩
abbrev main_v84 : Ref sig .tc := ⟨.hbm, 154, rfl⟩
abbrev main_v85 : Ref sig .tc := ⟨.hbm, 155, rfl⟩
abbrev main_v86 : Ref sig .tc := ⟨.hbm, 156, rfl⟩
abbrev main_v87 : Ref sig .tc := ⟨.hbm, 157, rfl⟩
abbrev main_v88 : Ref sig .tc := ⟨.hbm, 158, rfl⟩
abbrev main_v89 : Ref sig .tc := ⟨.hbm, 159, rfl⟩
abbrev main_cst_20 : Ref sig .tc := ⟨.hbm, 160, rfl⟩
abbrev main_v90 : Ref sig .tc := ⟨.hbm, 161, rfl⟩
abbrev main_v91 : Ref sig .tc := ⟨.hbm, 162, rfl⟩
abbrev main_v92 : Ref sig .tc := ⟨.hbm, 163, rfl⟩
abbrev main_v93 : Ref sig .tc := ⟨.hbm, 164, rfl⟩
abbrev main_v94 : Ref sig .tc := ⟨.hbm, 165, rfl⟩
abbrev main_v95 : Ref sig .tc := ⟨.hbm, 166, rfl⟩
abbrev main_v96 : Ref sig .tc := ⟨.hbm, 167, rfl⟩
abbrev main_cst_21 : Ref sig .tc := ⟨.hbm, 168, rfl⟩
abbrev main_v97 : Ref sig .tc := ⟨.hbm, 169, rfl⟩
abbrev main_v98 : Ref sig .tc := ⟨.hbm, 170, rfl⟩
abbrev main_cst_22 : Ref sig .tc := ⟨.hbm, 171, rfl⟩
abbrev main_v99 : Ref sig .tc := ⟨.hbm, 172, rfl⟩
abbrev main_v100 : Ref sig .tc := ⟨.hbm, 173, rfl⟩
abbrev main_v101 : Ref sig .tc := ⟨.hbm, 174, rfl⟩
abbrev main_v102 : Ref sig .tc := ⟨.hbm, 175, rfl⟩
abbrev main_v103 : Ref sig .tc := ⟨.hbm, 176, rfl⟩
abbrev main_cst_23 : Ref sig .tc := ⟨.hbm, 177, rfl⟩
abbrev main_v104 : Ref sig .tc := ⟨.hbm, 178, rfl⟩
abbrev main_v105 : Ref sig .tc := ⟨.hbm, 179, rfl⟩
abbrev main_v106 : Ref sig .tc := ⟨.hbm, 180, rfl⟩
abbrev main_v107 : Ref sig .tc := ⟨.hbm, 181, rfl⟩
abbrev main_v108 : Ref sig .tc := ⟨.hbm, 182, rfl⟩
abbrev main_v109 : Ref sig .tc := ⟨.hbm, 183, rfl⟩
abbrev main_v110 : Ref sig .tc := ⟨.hbm, 184, rfl⟩
abbrev main_v111 : Ref sig .tc := ⟨.hbm, 185, rfl⟩
abbrev main_v112 : Ref sig .tc := ⟨.hbm, 186, rfl⟩
abbrev main_v113 : Ref sig .tc := ⟨.hbm, 187, rfl⟩
abbrev main_v114 : Ref sig .tc := ⟨.hbm, 188, rfl⟩

abbrev nD : Nat := 1
abbrev τ : Topo := Topo.v7x

variable {F : FTy → Type} [FloatOps F]
-- ==== Proof.KernelIdeal.Common.lean ====
module

public import proofs.«01_k».proof.Proof.Gen.KernelIdeal.Launch
public import proofs.«01_k».proof.Proof.Gen.KernelIdeal.Skeleton
public import proofs.«01_k».proof.Proof.Gen.KernelIdeal.Points
public import proofs.«01_k».proof.Proof.Gen.KernelIdeal.Regions
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.UnfoldOut
public import Idealize.ShloMosaic.Lib.WordCmp

@[expose] public section

set_option maxRecDepth 16384

noncomputable section

namespace Cert.KernelIdeal.Own

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-- A load whose box lies under the writes of a list reads the list's canonical contents at the box's indices, whatever
    the buffer held before. -/
theorem readAt_writes_of_sub {κ : Kind} {sp : Space} {s : Shape} {e : EltTy} (v : View sig κ sp s e)
    (f : v.ty.Contents (Elt F)) (L : List (View.Piece (Elt F) s e)) (B : LoadRect s)
    (h : ∀ j : B.shape.Idx, ∃ p ∈ L, B.idx j ∈ p.1.set) :
    v.readAt (Elt F) B (v.writes (Elt F) f L) = fun j => View.canon L (B.idx j) :=
  funext fun j => View.read_writes_apply_eq_canon v f (B.idx j) L (h j)

/-! ## What rides through every segment -/

/-- No prefetched table anywhere, so the trivial admissible contents. -/
abbrev admT : (p : Fin 8) → (pcfgs (F := F) p).Adm := fun p => (cfgs p).toPCfg_adm
/-- No semaphore is assigned a level. -/
abbrev noL : GSem nD τ sig → Finset Unit := fun _ => ∅
abbrev noLv : GSem nD τ sig → Unit → ℕ := fun _ _ => 0
/-- The generator register at some state, and the core owing nothing. -/
abbrev Rides (c : Dev nD) : sProp 𝕄 :=
  iprop((∃ r, prngReg c r) ∗ ∃ W, owes (c : Thread nD τ) (0 : CellTallies nD τ sig Unit) W)
/-- Every unscoped buffer at the contents `W`, and what rides along. -/
abbrev StateAt (W : Dev nD → Valuation τ sig (Elt F)) (c : Dev nD) : sProp 𝕄 :=
  iprop(StableHlo.held (c : Thread nD τ) (Pipeline.ucRefs τ sig) (W c) ∗ Rides c)

/-- The family of proof data the run is over. -/
abbrev Family := (p : Fin 8) → (c : Dev nD) → Dat τ (Elt F) Unit ℕ (UR sig nD τ) ℕ (Pipeline.pin (pcfgs (F := F)) admT p) c

set_option backward.isDefEq.respectTransparency.types false in
/-- ANY region of the program as a segment, from what its proof data says: the arrays at the entry contents `V`, the
    invariant the scoped buffers and the generator register, nothing owed, the shares dealt; and that the exit contents
    `V'` are the final arrays at the region's arrays and `V` elsewhere. -/
def regionSeg (pd : Family (F := F)) (p : Fin 8) (hl : Pipeline.LaunchFacts₀ (nD := nD) (τ := τ) cfgs p)
    (V V' : Dev nD → Valuation τ sig (Elt F))
    (hΦ : ∀ c k, (pd p c).Φ k = Pipeline.ΦA (cfgs p).spec c)
    (hO : ∀ c k, (pd p c).owed k = 0) (hrec : ∀ c x, x ∈ (pd p c).recorded 0)
    (hq : ∀ c w, (pd p c).q w = Pipeline.shareOf (cfgs p).spec w)
    (hA : ∀ c w, (pd p c).A w = V c (Proc.devRef .tc (Pipeline.arrRef (cfgs p).spec w)))
    (hF : ∀ c w, (pd p c).arrAt w (cfgs p).N = V' c (Proc.devRef .tc (Pipeline.arrRef (cfgs p).spec w)))
    (hrest : ∀ c (b : Ref sig .tc), b ∉ Finset.univ.image (Pipeline.arrRef (cfgs p).spec) →
      V' c (Proc.devRef .tc b) = V c (Proc.devRef .tc b))
    (hbody : ∀ c, BodyObligation (pd p c) (defs₀ (F := F)) Variants.none () Set.univ) :
    Pipeline.RegionSeg (pcfgs (F := F)) admT pd () defs₀ Variants.none noL noLv p where
  win := hl.win
  block_pos := hl.block_pos
  stage_whole := hl.stage_whole
  K := PEmpty
  osem k := k.elim
  ho := Pipeline.OwnSemFacts.none _
  hbody c := (hbody c).loose
  hwaits := Pipeline.hwaits_of_owed_zero _ _ _ _ noL noLv p fun c k => hO c k
  pre := StateAt V
  post := StateAt V'
  X c := iprop(∃ r, prngReg c r)
  Y c := iprop(∃ r, prngReg c r)
  Z c := Pipeline.unscopedRest (Ix := Unit) (Name := ℕ) (U := UR sig nD τ) (Lvl := ℕ) (cfgs p).spec c
    (fun b => V c (Proc.devRef .tc b))
  hentry c := by
    rw [Pipeline.ownSems0_none]
    have hsplit := Pipeline.arrays_of_unscopedBufs_shared (p := p) (pcfgs (F := F)) admT pd hl.win hl.sharedIn hl.arr_whole c
      (fun w _ => hq c w) (fun b => V c (Proc.devRef .tc b)) (hA c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      rw [hO c 0]
      icases HO with ⟨%W, HO⟩; iexists W; isplitr; · ipureintro; exact fun _ _ => Or.inl (hrec c _)
      iexact HO
    isplitl [Hp]; · iexact Hp
    iexact Hrest
  hin c := by
    rw [hΦ c 0]; unfold Pipeline.ΦA
    iintro ⟨Hp, -, Hr⟩
    isplitl [Hr]; · iexact Hr
    iexact Hp
  hout c := by
    rw [Pipeline.ownSems0_none, hΦ c (Fin.last _)]; unfold Pipeline.ΦA
    iintro ⟨Hr, Hp⟩
    isplitl [Hp]; · iexact Hp
    isplitr; · iempintro
    iexact Hr
  hexit c := by
    have hjoin := Pipeline.unscopedBufs_of_arrays_shared (p := p) (pcfgs (F := F)) admT (Ix := Unit) (Name := ℕ) (U := UR sig nD τ) (Lvl := ℕ)
      hl.win hl.sharedIn hl.arr_whole c pd (fun w _ => hq c w)
      (fun b => V c (Proc.devRef .tc b)) (fun b => V' c (Proc.devRef .tc b)) ((pd p c).arrAt · (cfgs p).N) (hF c) (hrest c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    rw [hO c (Fin.last _)]
    icases HO with ⟨%W, -, HO⟩; iexists W; iexact HO

end Cert.KernelIdeal.Own

end
-- ==== Proof.KernelIdeal.Region0.lean ====
module

public import proofs.«01_k».proof.Proof.KernelIdeal.Common

@[expose] public section

set_option maxRecDepth 16384

noncomputable section

namespace Cert.KernelIdeal.Own

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-! # Region 0: a projection, two heads of columns a grid point -/

abbrev rp0 (h : Fin 2) : Rect S2x2048x64 := Rect.unit (s := S2x2048x64) ![h.val, 0, 0] S1x2048x64.size (by fin_cases h <;> decide)
abbrev rx0 : Rect S2048x768 := Rect.unit (s := S2048x768) ![0, 0] S2048x768.size inb_S2048x768_S2048x768_0_0
abbrev rv0 : Rect S768x128 := Rect.unit (s := S768x128) ![0, 0] S768x128.size inb_S768x128_S768x128_0_0

/-- The output block: the two heads' planes. -/
def out0 (x0 : Vec F S2048x768 .f32) (x1 : Vec F S768x128 .f32) : Vec F S2x2048x64 .bf16 :=
  View.canon [⟨rp0 1, k0_pay3 (View.ld x0 rx0) (View.ld x1 rv0)⟩, ⟨rp0 0, k0_pay2 (View.ld x0 rx0) (View.ld x1 rv0)⟩]

/-- The two planes are the whole block. -/
theorem cover0 (p1 p0 : Vec F S1x2048x64 .bf16) (y : S2x2048x64.Idx) :
    ∃ pc ∈ ([⟨rp0 1, p1⟩, ⟨rp0 0, p0⟩] : List (View.Piece (Elt F) S2x2048x64 .bf16)), y ∈ pc.1.set :=
  View.cover_of_tiled [⟨rp0 1, p1⟩, ⟨rp0 0, p0⟩] S1x2048x64.size (by rfl) y

/-! ## The body's triple -/

set_option maxHeartbeats 2000000 in
/-- On whole staging buffers, the inputs' at their contents and the rest at anything, the body runs to the end: the
    inputs' buffers are as they were and the output's holds `out0` of them. -/
theorem sound_kernel0 (c : Dev nD) (E : Set ℕ) (i : grid0.Coords) (arg1 : Memref sig .tc .vmem S2048x768 .f32) (harg1 : arg1.IsWhole) (arg2 : Memref sig .tc .vmem S768x128 .f32) (harg2 : arg2.IsWhole) (arg3 : Memref sig .tc .vmem S2x2048x64 .bf16) (harg3 : arg3.IsWhole)
    (x0 : Vec F S2048x768 .f32) (x1 : Vec F S768x128 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out0 x0 x1)) -∗ K ⟨⟩))
      ⊢ wp frame (wpE (defs₀ (F := F)) Variants.none c none) E (cc0__proj_kernel i arg1 harg1 arg2 harg2 arg3 harg3) K := by
  simp only [cc0__proj_kernel_eq_skeleton]; unfold cc0__proj_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0 _ _)

/-! ## The pipeline's proof data -/

section Region
variable (V : Dev nD → Valuation τ sig (Elt F))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Proc.devRef .tc (Pipeline.arrRef spec0 w)))

/-- What the output's staging buffer holds after point `t`. -/
def oblk0 (c : Dev nD) (t : Fin cfg0.N) : Vec F S2x2048x64 .bf16 :=
  out0 (iblk0 V c 0 t) (iblk0 V c 1 t)

/-- The proof data of pipeline 0 on core `c`. -/
def dat0 (c : Dev nD) : Dat τ (Elt F) Unit ℕ (UR sig nD τ) ℕ cfg0 c where
  A w := V c (Proc.devRef .tc (Pipeline.arrRef spec0 w))
  after w t := match w with
    | ⟨0, _⟩ => iblk0 V c 0 t
    | ⟨1, _⟩ => iblk0 V c 1 t
    | ⟨2, _⟩ => oblk0 V c t
  Φ _ := Pipeline.ΦA spec0 c
  q w := Pipeline.shareOf spec0 w
  owed _ := 0

theorem A_eq0 (c : Dev nD) (w : Fin cfg0.W) : (dat0 V c).A w = V c (Proc.devRef .tc (Pipeline.arrRef spec0 w)) := by
  dsimp only [dat0]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = oblk0 V c t := by dsimp only [dat0]

/-! Each input's current staging buffer holds its block at every point, fetched there or not. -/
theorem before0_0 (c : Dev nD) (t : Fin cfg0.N) (d) : (dat0 V c).before 0 t d = iblk0 V c 0 t :=
  ((dat0 V c).before_in_eq_fetched 0 rfl (fun _ => rfl) (fun _ _ _ => rfl)
    (fun t => by rw [after0_0]; unfold Dat.blockOf iblk0; rw [A_eq0]; try rfl) t d).trans
    (by unfold Dat.fetched Dat.blockOf iblk0; rw [A_eq0]; try rfl)
theorem before0_1 (c : Dev nD) (t : Fin cfg0.N) (d) : (dat0 V c).before 1 t d = iblk0 V c 1 t :=
  ((dat0 V c).before_in_eq_fetched 1 rfl (fun _ => rfl) (fun _ _ _ => rfl)
    (fun t => by rw [after0_1]; unfold Dat.blockOf iblk0; rw [A_eq0]; try rfl) t d).trans
    (by unfold Dat.fetched Dat.blockOf iblk0; rw [A_eq0]; try rfl)

/-! ## The body obligation -/

/-- What the body is called with at point `t`, -/
def bodyPre0 (c : Dev nD) (t : Fin cfg0.N) : sProp 𝕄 :=
  iprop((dat0 V c).Φ t.castSucc ∗ (dat0 V c).owesAt () t.castSucc
    ∗ (∃ d, owns (c : Thread nD τ) (win0_0.stage (cfg0.slots t 0)) fullShare ((dat0 V c).before 0 t d))
    ∗ (∃ d, owns (c : Thread nD τ) (win0_1.stage (cfg0.slots t 1)) fullShare ((dat0 V c).before 1 t d))
    ∗ (∃ d, owns (c : Thread nD τ) (win0_2.stage (cfg0.slots t 2)) fullShare ((dat0 V c).before 2 t d)))
/-- and what it returns. -/
def bodyPost0 (c : Dev nD) (t : Fin cfg0.N) : sProp 𝕄 :=
  iprop((dat0 V c).Φ t.succ ∗ (dat0 V c).owesAt () t.succ
    ∗ owns (c : Thread nD τ) (win0_0.stage (cfg0.slots t 0)) fullShare ((dat0 V c).after 0 t)
    ∗ owns (c : Thread nD τ) (win0_1.stage (cfg0.slots t 1)) fullShare ((dat0 V c).after 1 t)
    ∗ owns (c : Thread nD τ) (win0_2.stage (cfg0.slots t 2)) fullShare ((dat0 V c).after 2 t))

set_option maxHeartbeats 1000000 in
/-- The body at any point. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  unfold oblk0
  iintro ⟨HΦ, Ho, ⟨%d0, H0⟩, ⟨%d1, H1⟩, ⟨%d2, H2⟩⟩
  iapply (sound_kernel0 c Set.univ (grid0.coords t) _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body table's row at point `t`'s slots is the body. -/
theorem defs₀_row0 (t : Fin cfg0.N) :
    defs₀ (F := F) .tc cfg0.body (cfg0.bodyArgs t (cfg0.slots t)) = bodyAt0 t := by
  unfold defs₀; rw [Defs.onTc_tc]

/-- The library's body obligation, at every point. -/
theorem body_obligation0 (c : Dev nD) : BodyObligation (dat0 (F := F) V c) (defs₀ (F := F)) Variants.none () Set.univ := fun t => by
  rw [bigSep_W0, bigSep_W0, defs₀_row0]
  exact triple_restated (sound_body0 V c t) rfl .rfl fun _ => .rfl

end Region

end Cert.KernelIdeal.Own

end
-- ==== Proof.KernelIdeal.Region1.lean ====
module

public import proofs.«01_k».proof.Proof.KernelIdeal.Common

@[expose] public section

set_option maxRecDepth 16384

noncomputable section

namespace Cert.KernelIdeal.Own

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-! # Region 1: a projection, two heads of columns a grid point -/

abbrev rp1 (h : Fin 2) : Rect S2x2048x64 := Rect.unit (s := S2x2048x64) ![h.val, 0, 0] S1x2048x64.size (by fin_cases h <;> decide)
abbrev rx1 : Rect S2048x768 := Rect.unit (s := S2048x768) ![0, 0] S2048x768.size inb_S2048x768_S2048x768_0_0
abbrev rv1 : Rect S768x128 := Rect.unit (s := S768x128) ![0, 0] S768x128.size inb_S768x128_S768x128_0_0

/-- The output block: the two heads' planes. -/
def out1 (x0 : Vec F S2048x768 .f32) (x1 : Vec F S768x128 .f32) : Vec F S2x2048x64 .bf16 :=
  View.canon [⟨rp1 1, k1_pay3 (View.ld x0 rx1) (View.ld x1 rv1)⟩, ⟨rp1 0, k1_pay2 (View.ld x0 rx1) (View.ld x1 rv1)⟩]

/-- The two planes are the whole block. -/
theorem cover1 (p1 p0 : Vec F S1x2048x64 .bf16) (y : S2x2048x64.Idx) :
    ∃ pc ∈ ([⟨rp1 1, p1⟩, ⟨rp1 0, p0⟩] : List (View.Piece (Elt F) S2x2048x64 .bf16)), y ∈ pc.1.set :=
  View.cover_of_tiled [⟨rp1 1, p1⟩, ⟨rp1 0, p0⟩] S1x2048x64.size (by rfl) y

/-! ## The body's triple -/

set_option maxHeartbeats 2000000 in
/-- On whole staging buffers, the inputs' at their contents and the rest at anything, the body runs to the end: the
    inputs' buffers are as they were and the output's holds `out1` of them. -/
theorem sound_kernel1 (c : Dev nD) (E : Set ℕ) (i : grid1.Coords) (arg1 : Memref sig .tc .vmem S2048x768 .f32) (harg1 : arg1.IsWhole) (arg2 : Memref sig .tc .vmem S768x128 .f32) (harg2 : arg2.IsWhole) (arg3 : Memref sig .tc .vmem S2x2048x64 .bf16) (harg3 : arg3.IsWhole)
    (x0 : Vec F S2048x768 .f32) (x1 : Vec F S768x128 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out1 x0 x1)) -∗ K ⟨⟩))
      ⊢ wp frame (wpE (defs₀ (F := F)) Variants.none c none) E (cc1__proj_kernel i arg1 harg1 arg2 harg2 arg3 harg3) K := by
  simp only [cc1__proj_kernel_eq_skeleton]; unfold cc1__proj_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover1 _ _)

/-! ## The pipeline's proof data -/

section Region
variable (V : Dev nD → Valuation τ sig (Elt F))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Proc.devRef .tc (Pipeline.arrRef spec1 w)))

/-- What the output's staging buffer holds after point `t`. -/
def oblk1 (c : Dev nD) (t : Fin cfg1.N) : Vec F S2x2048x64 .bf16 :=
  out1 (iblk1 V c 0 t) (iblk1 V c 1 t)

/-- The proof data of pipeline 1 on core `c`. -/
def dat1 (c : Dev nD) : Dat τ (Elt F) Unit ℕ (UR sig nD τ) ℕ cfg1 c where
  A w := V c (Proc.devRef .tc (Pipeline.arrRef spec1 w))
  after w t := match w with
    | ⟨0, _⟩ => iblk1 V c 0 t
    | ⟨1, _⟩ => iblk1 V c 1 t
    | ⟨2, _⟩ => oblk1 V c t
  Φ _ := Pipeline.ΦA spec1 c
  q w := Pipeline.shareOf spec1 w
  owed _ := 0

theorem A_eq1 (c : Dev nD) (w : Fin cfg1.W) : (dat1 V c).A w = V c (Proc.devRef .tc (Pipeline.arrRef spec1 w)) := by
  dsimp only [dat1]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = oblk1 V c t := by dsimp only [dat1]

/-! Each input's current staging buffer holds its block at every point, fetched there or not. -/
theorem before1_0 (c : Dev nD) (t : Fin cfg1.N) (d) : (dat1 V c).before 0 t d = iblk1 V c 0 t :=
  ((dat1 V c).before_in_eq_fetched 0 rfl (fun _ => rfl) (fun _ _ _ => rfl)
    (fun t => by rw [after1_0]; unfold Dat.blockOf iblk1; rw [A_eq1]; try rfl) t d).trans
    (by unfold Dat.fetched Dat.blockOf iblk1; rw [A_eq1]; try rfl)
theorem before1_1 (c : Dev nD) (t : Fin cfg1.N) (d) : (dat1 V c).before 1 t d = iblk1 V c 1 t :=
  ((dat1 V c).before_in_eq_fetched 1 rfl (fun _ => rfl) (fun _ _ _ => rfl)
    (fun t => by rw [after1_1]; unfold Dat.blockOf iblk1; rw [A_eq1]; try rfl) t d).trans
    (by unfold Dat.fetched Dat.blockOf iblk1; rw [A_eq1]; try rfl)

/-! ## The body obligation -/

/-- What the body is called with at point `t`, -/
def bodyPre1 (c : Dev nD) (t : Fin cfg1.N) : sProp 𝕄 :=
  iprop((dat1 V c).Φ t.castSucc ∗ (dat1 V c).owesAt () t.castSucc
    ∗ (∃ d, owns (c : Thread nD τ) (win1_0.stage (cfg1.slots t 0)) fullShare ((dat1 V c).before 0 t d))
    ∗ (∃ d, owns (c : Thread nD τ) (win1_1.stage (cfg1.slots t 1)) fullShare ((dat1 V c).before 1 t d))
    ∗ (∃ d, owns (c : Thread nD τ) (win1_2.stage (cfg1.slots t 2)) fullShare ((dat1 V c).before 2 t d)))
/-- and what it returns. -/
def bodyPost1 (c : Dev nD) (t : Fin cfg1.N) : sProp 𝕄 :=
  iprop((dat1 V c).Φ t.succ ∗ (dat1 V c).owesAt () t.succ
    ∗ owns (c : Thread nD τ) (win1_0.stage (cfg1.slots t 0)) fullShare ((dat1 V c).after 0 t)
    ∗ owns (c : Thread nD τ) (win1_1.stage (cfg1.slots t 1)) fullShare ((dat1 V c).after 1 t)
    ∗ owns (c : Thread nD τ) (win1_2.stage (cfg1.slots t 2)) fullShare ((dat1 V c).after 2 t))

set_option maxHeartbeats 1000000 in
/-- The body at any point. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).Φ t.succ = (dat1 V c).Φ t.castSucc from rfl,
    show (dat1 V c).owesAt () t.succ = (dat1 V c).owesAt () t.castSucc from rfl,
    after1_0, after1_1, after1_2]
  unfold oblk1
  iintro ⟨HΦ, Ho, ⟨%d0, H0⟩, ⟨%d1, H1⟩, ⟨%d2, H2⟩⟩
  iapply (sound_kernel1 c Set.univ (grid1.coords t) _ _ _ _ _ _ (iblk1 V c 0 t) (iblk1 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body table's row at point `t`'s slots is the body. -/
theorem defs₀_row1 (t : Fin cfg1.N) :
    defs₀ (F := F) .tc cfg1.body (cfg1.bodyArgs t (cfg1.slots t)) = bodyAt1 t := by
  unfold defs₀; rw [Defs.onTc_tc]

/-- The library's body obligation, at every point. -/
theorem body_obligation1 (c : Dev nD) : BodyObligation (dat1 (F := F) V c) (defs₀ (F := F)) Variants.none () Set.univ := fun t => by
  rw [bigSep_W1, bigSep_W1, defs₀_row1]
  exact triple_restated (sound_body1 V c t) rfl .rfl fun _ => .rfl

end Region

end Cert.KernelIdeal.Own

end
-- ==== Proof.KernelIdeal.Region2.lean ====
module

public import proofs.«01_k».proof.Proof.KernelIdeal.Common

@[expose] public section

set_option maxRecDepth 16384

noncomputable section

namespace Cert.KernelIdeal.Own

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-! # Region 2: the bias tile, one head a grid point -/

theorem te2_inb : ∀ k : Fin 32, ∀ a, (![0, 0, k.val] : Fin 3 → ℕ) a + S1x1x1.size a ≤ S1x1x128.size a := by decide +kernel

/-- Entry `k` of the head's row of the bias table. -/
def te2 (x0 : Vec F S1x1x128 .f32) (k : Fin 32) : Vec F S1x1x1 .f32 :=
  View.ld x0 (Rect.unit (s := S1x1x128) ![0, 0, k.val] S1x1x1.size (te2_inb k))

/-- The last entry, which every other is taken relative to. -/
def tl2 (x0 : Vec F S1x1x128 .f32) : F .f32 := k2_pay7 (te2 x0 31)

/-! The bias accumulated over the buckets, as the body reads them. -/
def acc2_3 (x0 : Vec F S1x1x128 .f32) : FVec F S128x384 .f32 := k2_pay10 (k2_pay6 (F := F)) (tl2 x0) (k2_pay8 (F := F)) (k2_pay9 (F := F)) (te2 x0 0) (te2 x0 1) (te2 x0 2) (te2 x0 3)
def acc2_7 (x0 : Vec F S1x1x128 .f32) : FVec F S128x384 .f32 := k2_pay13 (k2_pay6 (F := F)) (tl2 x0) (acc2_3 x0) (k2_pay11 (k2_pay6 (F := F))) (k2_pay12 (te2 x0 4)) (te2 x0 5) (te2 x0 6) (te2 x0 7)
def acc2_12 (x0 : Vec F S1x1x128 .f32) : FVec F S128x384 .f32 := k2_pay17 (k2_pay6 (F := F)) (tl2 x0) (acc2_7 x0) (k2_pay14 (k2_pay6 (F := F))) (k2_pay15 (tl2 x0) (te2 x0 8)) (k2_pay16 (F := F)) (te2 x0 9) (te2 x0 10) (te2 x0 11) (te2 x0 12)
def acc2_16 (x0 : Vec F S1x1x128 .f32) : FVec F S128x384 .f32 := k2_pay19 (k2_pay6 (F := F)) (tl2 x0) (acc2_12 x0) k2_pay18 (te2 x0 13) (te2 x0 14) (te2 x0 15) (te2 x0 16)
def acc2_20 (x0 : Vec F S1x1x128 .f32) : FVec F S128x384 .f32 := k2_pay21 (k2_pay6 (F := F)) (tl2 x0) (acc2_16 x0) (k2_pay20 (k2_pay6 (F := F))) (te2 x0 17) (te2 x0 18) (te2 x0 19) (te2 x0 20)
def acc2_25 (x0 : Vec F S1x1x128 .f32) : FVec F S128x384 .f32 := k2_pay24 (k2_pay6 (F := F)) (tl2 x0) (acc2_20 x0) (k2_pay22 (k2_pay6 (F := F))) (k2_pay23 (tl2 x0) (te2 x0 21)) (Scalar.ofBits .f32 0x00000000#32) (te2 x0 22) (te2 x0 23) (te2 x0 24) (te2 x0 25)
def acc2_29 (x0 : Vec F S1x1x128 .f32) : FVec F S128x384 .f32 := k2_pay25 (k2_pay6 (F := F)) (tl2 x0) (acc2_25 x0) (te2 x0 26) (te2 x0 27) (te2 x0 28) (te2 x0 29)

/-- The strip of 128 query rows against 384 relative columns, the same for both halves of the tile. -/
def strip2 (x0 : Vec F S1x1x128 .f32) : FVec F S1x128x384 .f32 :=
  k2_pay2 k2_pay5 (tl2 x0) (acc2_29 x0) (k2_pay26 (k2_pay6 (F := F))) (te2 x0 30)

abbrev rz2 : Rect S1x256x768 := Rect.unit (s := S1x256x768) ![0, 0, 0] S1x256x768.size inb_S1x256x768_S1x256x768_0_0_0
abbrev ru2 : Rect S1x256x768 := Rect.unit (s := S1x256x768) ![0, 0, 0] S1x128x384.size inb_S1x256x768_S1x128x384_0_0_0
abbrev rl2 : Rect S1x256x768 := Rect.unit (s := S1x256x768) ![0, 128, 128] S1x128x384.size inb_S1x256x768_S1x128x384_0_128_128

/-- The tile: the two strips over the causal mask. -/
def out2 (x0 : Vec F S1x1x128 .f32) : Vec F S1x256x768 .f32 :=
  View.canon [⟨rl2, strip2 x0⟩, ⟨ru2, strip2 x0⟩, ⟨rz2, k2_pay4 (F := F)⟩]

theorem mem_rz2 (y : S1x256x768.Idx) : y ∈ rz2.set := by
  refine Rect.mem_set_unit.mpr ?_
  have e : ∀ a, (![0, 0, 0] : Fin 3 → ℕ) a = 0 := by decide
  intro a
  have h := (y a).isLt
  exact ⟨(e a).le.trans (Nat.zero_le _), by rw [e a, Nat.zero_add]; exact h⟩

/-- The mask's store is the whole tile. -/
theorem cover2 (p2 p1 : Vec F S1x128x384 .f32) (p0 : Vec F S1x256x768 .f32) (y : S1x256x768.Idx) :
    ∃ pc ∈ ([⟨rl2, p2⟩, ⟨ru2, p1⟩, ⟨rz2, p0⟩] : List (View.Piece (Elt F) S1x256x768 .f32)), y ∈ pc.1.set :=
  ⟨⟨rz2, p0⟩, by simp, mem_rz2 y⟩

/-! ## The body's triple -/

set_option maxHeartbeats 2000000 in
/-- On whole staging buffers, the inputs' at their contents and the rest at anything, the body runs to the end: the
    inputs' buffers are as they were and the output's holds `out2` of them. -/
theorem sound_kernel2 (c : Dev nD) (E : Set ℕ) (i : grid2.Coords) (arg1 : Memref sig .tc .vmem S1x1x128 .f32) (harg1 : arg1.IsWhole) (arg2 : Memref sig .tc .vmem S1x256x768 .f32) (harg2 : arg2.IsWhole)
    (x0 : Vec F S1x1x128 .f32) (K : PUnit → sProp 𝕄) :
    iprop(owns (c : Thread nD τ) arg1 fullShare x0 ∗ (∃ d, owns (c : Thread nD τ) arg2 fullShare d)
        ∗ (iprop(owns (c : Thread nD τ) arg1 fullShare x0 ∗ owns (c : Thread nD τ) arg2 fullShare (out2 x0)) -∗ K ⟨⟩))
      ⊢ wp frame (wpE (defs₀ (F := F)) Variants.none c none) E (cc2__bias_kernel i arg1 harg1 arg2 harg2) K := by
  simp only [cc2__bias_kernel_eq_skeleton]; unfold cc2__bias_kernel_skel
  simp only [k2_part1_eq_skeleton, k2_part2_eq_skeleton, k2_part3_eq_skeleton, k2_part4_eq_skeleton, k2_part5_eq_skeleton, k2_part6_eq_skeleton, k2_part7_eq_skeleton, k2_part8_eq_skeleton]
  unfold owns
  iintro ⟨⟨%f0, %hf0, H0⟩, ⟨%d1, %f1, -, H1⟩, Hk⟩
  subst hf0
  sl_exec
  sl_step
  iapply Hk
  isplitl [H0]
  · iexists f0; isplitr; · ipureintro; rfl
    iexact H0
  iexists _; isplitr
  swap; · iexact H1
  ipureintro
  refine (View.read_writes_eq_canon _ _ _ (cover2 _ _ _)).trans ?_
  rfl

/-! ## The pipeline's proof data -/

section Region
variable (V : Dev nD → Valuation τ sig (Elt F))

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Proc.devRef .tc (Pipeline.arrRef spec2 w)))

/-- What the output's staging buffer holds after point `t`. -/
def oblk2 (c : Dev nD) (t : Fin cfg2.N) : Vec F S1x256x768 .f32 :=
  out2 (iblk2 V c 0 t)

/-- The proof data of pipeline 2 on core `c`. -/
def dat2 (c : Dev nD) : Dat τ (Elt F) Unit ℕ (UR sig nD τ) ℕ cfg2 c where
  A w := V c (Proc.devRef .tc (Pipeline.arrRef spec2 w))
  after w t := match w with
    | ⟨0, _⟩ => iblk2 V c 0 t
    | ⟨1, _⟩ => oblk2 V c t
  Φ _ := Pipeline.ΦA spec2 c
  q w := Pipeline.shareOf spec2 w
  owed _ := 0

theorem A_eq2 (c : Dev nD) (w : Fin cfg2.W) : (dat2 V c).A w = V c (Proc.devRef .tc (Pipeline.arrRef spec2 w)) := by
  dsimp only [dat2]
theorem after2_0 (c : Dev nD) (t : Fin cfg2.N) : (dat2 V c).after 0 t = iblk2 V c 0 t := by dsimp only [dat2]
theorem after2_1 (c : Dev nD) (t : Fin cfg2.N) : (dat2 V c).after 1 t = oblk2 V c t := by dsimp only [dat2]

/-! Each input's current staging buffer holds its block at every point, fetched there or not. -/
theorem before2_0 (c : Dev nD) (t : Fin cfg2.N) (d) : (dat2 V c).before 0 t d = iblk2 V c 0 t :=
  ((dat2 V c).before_in_eq_fetched 0 rfl (fun _ => rfl) (fun _ _ _ => rfl)
    (fun t => by rw [after2_0]; unfold Dat.blockOf iblk2; rw [A_eq2]; try rfl) t d).trans
    (by unfold Dat.fetched Dat.blockOf iblk2; rw [A_eq2]; try rfl)

/-! ## The body obligation -/

/-- What the body is called with at point `t`, -/
def bodyPre2 (c : Dev nD) (t : Fin cfg2.N) : sProp 𝕄 :=
  iprop((dat2 V c).Φ t.castSucc ∗ (dat2 V c).owesAt () t.castSucc
    ∗ (∃ d, owns (c : Thread nD τ) (win2_0.stage (cfg2.slots t 0)) fullShare ((dat2 V c).before 0 t d))
    ∗ (∃ d, owns (c : Thread nD τ) (win2_1.stage (cfg2.slots t 1)) fullShare ((dat2 V c).before 1 t d)))
/-- and what it returns. -/
def bodyPost2 (c : Dev nD) (t : Fin cfg2.N) : sProp 𝕄 :=
  iprop((dat2 V c).Φ t.succ ∗ (dat2 V c).owesAt () t.succ
    ∗ owns (c : Thread nD τ) (win2_0.stage (cfg2.slots t 0)) fullShare ((dat2 V c).after 0 t)
    ∗ owns (c : Thread nD τ) (win2_1.stage (cfg2.slots t 1)) fullShare ((dat2 V c).after 1 t))

set_option maxHeartbeats 1000000 in
/-- The body at any point. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0]
  rw [show (dat2 V c).Φ t.succ = (dat2 V c).Φ t.castSucc from rfl,
    show (dat2 V c).owesAt () t.succ = (dat2 V c).owesAt () t.castSucc from rfl,
    after2_0, after2_1]
  unfold oblk2
  iintro ⟨HΦ, Ho, ⟨%d0, H0⟩, ⟨%d1, H1⟩⟩
  iapply (sound_kernel2 c Set.univ (grid2.coords t) _ _ _ _ (iblk2 V c 0 t) _)
  isplitl [H0]; · iexact H0
  isplitl [H1]; · iexists _; iexact H1
  iintro ⟨H0, H1⟩
  isplitl [HΦ]; · iexact HΦ
  isplitl [Ho]; · iexact Ho
  isplitl [H0]; · iexact H0
  iexact H1

/-- The body table's row at point `t`'s slots is the body. -/
theorem defs₀_row2 (t : Fin cfg2.N) :
    defs₀ (F := F) .tc cfg2.body (cfg2.bodyArgs t (cfg2.slots t)) = bodyAt2 t := by
  unfold defs₀; rw [Defs.onTc_tc]

/-- The library's body obligation, at every point. -/
theorem body_obligation2 (c : Dev nD) : BodyObligation (dat2 (F := F) V c) (defs₀ (F := F)) Variants.none () Set.univ := fun t => by
  rw [bigSep_W2, bigSep_W2, defs₀_row2]
  exact triple_restated (sound_body2 V c t) rfl .rfl fun _ => .rfl

end Region

end Cert.KernelIdeal.Own

end
-- ==== Proof.KernelIdeal.Region3.lean ====
module

public import proofs.«01_k».proof.Proof.KernelIdeal.Common

@[expose] public section

set_option maxRecDepth 16384

noncomputable section

namespace Cert.KernelIdeal.Own

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-! # Region 3: the attention over 512 keys, two heads and 256 query rows a grid point -/

/-! ## What the body leaves -/

/-! Both bias windows of this span start at its first column: the offsets in closed form. -/
theorem k3_off1_eq : ∀ i : grid3.Coords, k3_off1 i = ![0, 0, 0] := by decide +kernel
theorem k3_off3_eq : ∀ i : grid3.Coords, k3_off3 i = ![1, 0, 0] := by decide +kernel
instance (i : grid3.Coords) : ClosedOff (k3_off1 i) := ⟨![0, 0, 0], k3_off1_eq i⟩
instance (i : grid3.Coords) : ClosedOff (k3_off3 i) := ⟨![1, 0, 0], k3_off3_eq i⟩

abbrev rq3 (h : Fin 2) : Rect S2x256x64 := Rect.unit (s := S2x256x64) ![h.val, 0, 0] S1x256x64.size (by fin_cases h <;> decide)
abbrev rk3 (h : Fin 2) : Rect S2x512x64 := Rect.unit (s := S2x512x64) ![h.val, 0, 0] S1x512x64.size (by fin_cases h <;> decide)
abbrev rm3 (h : Fin 2) : Rect S2x64x64 := Rect.unit (s := S2x64x64) ![h.val, 0, 0] S1x64x64.size (by fin_cases h <;> decide)
abbrev ra3 (h : Fin 2) : Rect S2x1x128 := Rect.unit (s := S2x1x128) ![h.val, 0, 0] S1x1x64.size (by fin_cases h <;> decide)
abbrev rg3 (h : Fin 2) : Rect S2x1x128 := Rect.unit (s := S2x1x128) ![h.val, 0, 0] S1x1x1.size (by fin_cases h <;> decide)
/-- The scratch's plane of head `h`, its last 256 columns, and the window of 512 columns the bias tile is added to. -/
abbrev rs3 (h : Fin 2) : Rect S2x256x512 := Rect.unit (s := S2x256x512) ![h.val, 0, 0] S1x256x512.size (by fin_cases h <;> decide)
abbrev rt3 (h : Fin 2) : Rect S2x256x512 := Rect.unit (s := S2x256x512) ![h.val, 0, 256] S1x256x256.size (by fin_cases h <;> decide)
abbrev rw3_0 (i : grid3.Coords) : Rect S2x256x512 := Rect.unit (s := S2x256x512) (k3_off1 i) S1x256x512.size (k3_off1_inb i)
abbrev rw3_1 (i : grid3.Coords) : Rect S2x256x512 := Rect.unit (s := S2x256x512) (k3_off3 i) S1x256x512.size (k3_off3_inb i)
/-- The bias tile's window. -/
abbrev rb3_0 (i : grid3.Coords) : Rect S2x256x768 := Rect.unit (s := S2x256x768) (k3_off2 i) S1x256x512.size (k3_off2_inb i)
abbrev rb3_1 (i : grid3.Coords) : Rect S2x256x768 := Rect.unit (s := S2x256x768) (k3_off4 i) S1x256x512.size (k3_off4_inb i)

/-- Head `h`'s scores before the bias: queries against keys. -/
def qk3 (h : Fin 2) (x0 : Vec F S2x256x64 .bf16) (x1 : Vec F S2x512x64 .bf16) : FVec F S1x256x512 .f32 :=
  k3_pay4 (View.ld x0 (rq3 h)) (View.ld x1 (rk3 h))

/-- The write of head `h`'s bare scores. -/
def wp3 (h : Fin 2) (x0 : Vec F S2x256x64 .bf16) (x1 : Vec F S2x512x64 .bf16) : List (View.Piece (Elt F) S2x256x512 .f32) :=
  [⟨rs3 h, qk3 h x0 x1⟩]

/-- Head 0's writes to the scratch before the last: the biased window over the bare scores. -/
def ws3_0 (i : grid3.Coords) (x0 : Vec F S2x256x64 .bf16) (x1 : Vec F S2x512x64 .bf16) (x3 : Vec F S2x256x768 .f32) :
    List (View.Piece (Elt F) S2x256x512 .f32) :=
  ⟨rw3_0 i, k3_pay5 (View.ld (View.canon (wp3 0 x0 x1)) (rw3_0 i)) (View.ld x3 (rb3_0 i))⟩ :: wp3 0 x0 x1
def ws3_1 (i : grid3.Coords) (x0 : Vec F S2x256x64 .bf16) (x1 : Vec F S2x512x64 .bf16) (x3 : Vec F S2x256x768 .f32) :
    List (View.Piece (Elt F) S2x256x512 .f32) :=
  ⟨rw3_1 i, k3_pay5 (View.ld (View.canon (wp3 1 x0 x1)) (rw3_1 i)) (View.ld x3 (rb3_1 i))⟩ :: wp3 1 x0 x1

/-- Head 0's scores as the softmax reads them: at an even query block the last 256 columns are masked. -/
def sc3_0 (i : grid3.Coords) (x0 : Vec F S2x256x64 .bf16) (x1 : Vec F S2x512x64 .bf16) (x3 : Vec F S2x256x768 .f32) : Vec F S1x256x512 .f32 :=
  if (i 1).val = 0 then View.ld (View.canon (⟨rt3 0, k3_pay6⟩ :: ws3_0 i x0 x1 x3)) (rs3 0)
  else View.ld (View.canon (ws3_0 i x0 x1 x3)) (rs3 0)
def sc3_1 (i : grid3.Coords) (x0 : Vec F S2x256x64 .bf16) (x1 : Vec F S2x512x64 .bf16) (x3 : Vec F S2x256x768 .f32) : Vec F S1x256x512 .f32 :=
  if (i 1).val = 0 then View.ld (View.canon (⟨rt3 1, k3_pay6⟩ :: ws3_1 i x0 x1 x3)) (rs3 1)
  else View.ld (View.canon (ws3_1 i x0 x1 x3)) (rs3 1)

/-- A head's output from its scores: the softmax over the keys, the softmax over the memory, mixed by the gate. -/
def hd3 (h : Fin 2) (sc : Vec F S1x256x512 .f32) (x0 : Vec F S2x256x64 .bf16) (x2 : Vec F S2x512x64 .bf16)
    (x4 x5 : Vec F S2x64x64 .bf16) (x7 x8 : Vec F S2x1x128 .f32) : FVec F S1x256x64 .bf16 :=
  k3_pay10 (k3_pay7 (k3_pay3 (View.ld x2 (rk3 h))) sc) (k3_pay8 (View.ld x5 (rm3 h)))
    (k3_pay9 (k3_pay2 (View.ld x0 (rq3 h))) (View.ld x4 (rm3 h))) (View.ld x7 (ra3 h)) (View.ld x8 (rg3 h))

/-- The output block: both heads' planes. -/
def out3 (i : grid3.Coords) (x0 : Vec F S2x256x64 .bf16) (x1 x2 : Vec F S2x512x64 .bf16) (x3 : Vec F S2x256x768 .f32)
    (x4 x5 : Vec F S2x64x64 .bf16) (x6 x7 x8 : Vec F S2x1x128 .f32) : Vec F S2x256x64 .bf16 :=
  View.canon [⟨rq3 1, hd3 1 (sc3_1 i x0 x1 x3) x0 x2 x4 x5 x7 x8⟩, ⟨rq3 0, hd3 0 (sc3_0 i x0 x1 x3) x0 x2 x4 x5 x7 x8⟩]

/-- Both planes together are the whole block. -/
theorem cover3 (p1 p0 : Vec F S1x256x64 .bf16) (y : S2x256x64.Idx) :
    ∃ pc ∈ ([⟨rq3 1, p1⟩, ⟨rq3 0, p0⟩] : List (View.Piece (Elt F) S2x256x64 .bf16)), y ∈ pc.1.set :=
  View.cover_of_tiled [⟨rq3 1, p1⟩, ⟨rq3 0, p0⟩] S1x256x64.size (by rfl) y

/-- A head's plane of the scratch is the indices with the head first. -/
theorem mem_rs3 (h : Fin 2) (y : S2x256x512.Idx) (e : (y 0).val = h.val) : y ∈ (rs3 h).set := by
  refine Rect.mem_set_unit.mpr ?_
  intro a
  match a with
  | ⟨0, _⟩ => exact ⟨e.ge, show (y 0).val < h.val + 1 by omega⟩
  | ⟨1, _⟩ => exact ⟨Nat.zero_le _, show (y 1).val < 0 + 256 by have := (y 1).isLt; simpa using this⟩
  | ⟨2, _⟩ => exact ⟨Nat.zero_le _, show (y 2).val < 0 + 512 by have := (y 2).isLt; simpa using this⟩

/-- What a load of a head's plane reads lies in that plane. -/
theorem pl_sub3 (h : Fin 2) (j : (rs3 h).shape.Idx) : (rs3 h).toLoadRect.idx j ∈ (rs3 h).set :=
  (rs3 h).toLoadRect.idx_mem j

/-- The biased window of a head lies in that head's plane. -/
theorem win_sub3_0 (i : grid3.Coords) (j : (rw3_0 i).shape.Idx) : (rw3_0 i).toLoadRect.idx j ∈ (rs3 0).set :=
  mem_rs3 0 _ (by
    have hj : (j 0).val < 1 := (j 0).isLt
    show k3_off1 i 0 + 1 * (j 0).val = 0
    have := congrFun (k3_off1_eq i) 0
    rw [this]; show 0 + 1 * (j 0).val = 0; omega)
theorem win_sub3_1 (i : grid3.Coords) (j : (rw3_1 i).shape.Idx) : (rw3_1 i).toLoadRect.idx j ∈ (rs3 1).set :=
  mem_rs3 1 _ (by
    have hj : (j 0).val < 1 := (j 0).isLt
    show k3_off3 i 0 + 1 * (j 0).val = 1
    have := congrFun (k3_off3_eq i) 0
    rw [this]; show 1 + 1 * (j 0).val = 1; omega)

/-- The bare scores are among a head's writes. -/
theorem mem_ws3_0 (i : grid3.Coords) (x0 : Vec F S2x256x64 .bf16) (x1 : Vec F S2x512x64 .bf16) (x3 : Vec F S2x256x768 .f32) :
    (⟨rs3 0, qk3 0 x0 x1⟩ : View.Piece (Elt F) S2x256x512 .f32) ∈ ws3_0 i x0 x1 x3 :=
  List.mem_cons_of_mem _ (List.mem_singleton_self _)
theorem mem_ws3_1 (i : grid3.Coords) (x0 : Vec F S2x256x64 .bf16) (x1 : Vec F S2x512x64 .bf16) (x3 : Vec F S2x256x768 .f32) :
    (⟨rs3 1, qk3 1 x0 x1⟩ : View.Piece (Elt F) S2x256x512 .f32) ∈ ws3_1 i x0 x1 x3 :=
  List.mem_cons_of_mem _ (List.mem_singleton_self _)

/-! ## The body's triple -/

set_option maxHeartbeats 2000000 in
/-- On whole staging buffers, the inputs' at their contents and the rest at anything, the body runs to the end: the
    inputs' buffers are as they were and the output's holds `out3` of them. -/
theorem sound_kernel3 (c : Dev nD) (E : Set ℕ) (i : grid3.Coords) (arg2 : Memref sig .tc .vmem S2x256x64 .bf16) (harg2 : arg2.IsWhole) (arg3 : Memref sig .tc .vmem S2x512x64 .bf16) (harg3 : arg3.IsWhole) (arg4 : Memref sig .tc .vmem S2x512x64 .bf16) (harg4 : arg4.IsWhole) (arg5 : Memref sig .tc .vmem S2x256x768 .f32) (harg5 : arg5.IsWhole) (arg6 : Memref sig .tc .vmem S2x64x64 .bf16) (harg6 : arg6.IsWhole) (arg7 : Memref sig .tc .vmem S2x64x64 .bf16) (harg7 : arg7.IsWhole) (arg8 : Memref sig .tc .vmem S2x1x128 .f32) (harg8 : arg8.IsWhole) (arg9 : Memref sig .tc .vmem S2x1x128 .f32) (harg9 : arg9.IsWhole) (arg10 : Memref sig .tc .vmem S2x1x128 .f32) (harg10 : arg10.IsWhole) (arg11 : Memref sig .tc .vmem S2x256x64 .bf16) (harg11 : arg11.IsWhole) (arg12 : Memref sig .tc .vmem S2x256x512 .f32) (harg12 : arg12.IsWhole)
    (x0 : Vec F S2x256x64 .bf16) (x1 : Vec F S2x512x64 .bf16) (x2 : Vec F S2x512x64 .bf16) (x3 : Vec F S2x256x768 .f32) (x4 : Vec F S2x64x64 .bf16) (x5 : Vec F S2x64x64 .bf16) (x6 : Vec F S2x1x128 .f32) (x7 : Vec F S2x1x128 .f32) (x8 : Vec F S2x1x128 .f32) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ (∃ d, owns (c : Thread nD τ) arg11 fullShare d) ∗ (∃ d, owns (c : Thread nD τ) arg12 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare (out3 i x0 x1 x2 x3 x4 x5 x6 x7 x8) ∗ (∃ d, owns (c : Thread nD τ) arg12 fullShare d)) -∗ K ⟨⟩))
      ⊢ wp frame (wpE (defs₀ (F := F)) Variants.none c none) E (cc3__attn_kernel i arg2 harg2 arg3 harg3 arg4 harg4 arg5 harg5 arg6 harg6 arg7 harg7 arg8 harg8 arg9 harg9 arg10 harg10 arg11 harg11 arg12 harg12) K := by
  simp only [cc3__attn_kernel_eq_skeleton]; unfold cc3__attn_kernel_skel
  simp only [k3_part1_eq_skeleton, k3_part2_eq_skeleton, k3_part3_eq_skeleton, k3_part4_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%ds0, %fs0, -, HS0⟩, Hk⟩
  subst hf0 hf1 hf2 hf3 hf4 hf5 hf6 hf7 hf8
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  swap
  · iexists _; iexists _; isplitr; swap; · iexact HS0
    ipureintro; rfl
  iexists _; isplitr
  swap; · iexact H9
  ipureintro
  refine (View.read_writes_eq_canon _ _ _ (cover3 _ _)).trans ?_
  have hev : Iff (Cert.KernelIdeal.Own.sound_kernel3.sl.v39 i = 1#1) ((i 1).val = 0) :=
    (show ∀ i : grid3.Coords, Iff (Cert.KernelIdeal.Own.sound_kernel3.sl.v39 i = 1#1) ((i 1).val = 0) from by decide +kernel) i
  have h0 : Cert.KernelIdeal.Own.sound_kernel3.sl.v40 c i arg2 arg3 arg5 arg12 f0 f1 f3 fs0
      = sc3_0 i (View.read (Elt F) arg2.view f0) (View.read (Elt F) arg3.view f1) (View.read (Elt F) arg5.view f3) := by
    have hL : Cert.KernelIdeal.Own.sound_kernel3.sl.HS0_2 c i arg2 arg3 arg5 arg12 f0 f1 f3 = ws3_0 i (View.read (Elt F) arg2.view f0) (View.read (Elt F) arg3.view f1) (View.read (Elt F) arg5.view f3) := by
      unfold Cert.KernelIdeal.Own.sound_kernel3.sl.HS0_2 Cert.KernelIdeal.Own.sound_kernel3.sl.v17; rw [View.readCov_eq_canon']; rfl
    unfold Cert.KernelIdeal.Own.sound_kernel3.sl.v40 sc3_0
    rw [hL]
    by_cases he : (i 1).val = 0
    · rw [dif_pos (hev.mpr he), if_pos he]
      exact readAt_writes_of_sub _ _ _ _ fun j => ⟨_, List.mem_cons_of_mem _ (mem_ws3_0 i _ _ _), pl_sub3 0 j⟩
    · rw [dif_neg fun h => he (hev.mp h), if_neg he]
      exact readAt_writes_of_sub _ _ _ _ fun j => ⟨_, mem_ws3_0 i _ _ _, pl_sub3 0 j⟩
  have h1 : Cert.KernelIdeal.Own.sound_kernel3.sl.v121 c i arg2 arg3 arg5 arg12 f0 f1 f3 fs0
      = sc3_1 i (View.read (Elt F) arg2.view f0) (View.read (Elt F) arg3.view f1) (View.read (Elt F) arg5.view f3) := by
    have hL : Cert.KernelIdeal.Own.sound_kernel3.sl.HS0_2_1 c i arg2 arg3 arg5 arg12 f0 f1 f3 = ws3_1 i (View.read (Elt F) arg2.view f0) (View.read (Elt F) arg3.view f1) (View.read (Elt F) arg5.view f3) := by
      unfold Cert.KernelIdeal.Own.sound_kernel3.sl.HS0_2_1 Cert.KernelIdeal.Own.sound_kernel3.sl.v98; rw [View.readCov_eq_canon']; rfl
    unfold Cert.KernelIdeal.Own.sound_kernel3.sl.v121 sc3_1
    rw [hL]
    by_cases he : (i 1).val = 0
    · rw [dif_pos (hev.mpr he), if_pos he]
      exact readAt_writes_of_sub _ _ _ _ fun j => ⟨_, List.mem_cons_of_mem _ (mem_ws3_1 i _ _ _), pl_sub3 1 j⟩
    · rw [dif_neg fun h => he (hev.mp h), if_neg he]
      exact readAt_writes_of_sub _ _ _ _ fun j => ⟨_, mem_ws3_1 i _ _ _, pl_sub3 1 j⟩
  unfold out3
  rw [← h0, ← h1]
  rfl

/-! ## The pipeline's proof data -/

section Region
variable (V : Dev nD → Valuation τ sig (Elt F))

/-- Window `w`'s block at point `t`, read off its array as the region finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Proc.devRef .tc (Pipeline.arrRef spec3 w)))

/-- What the output's staging buffer holds after point `t`. -/
def oblk3 (c : Dev nD) (t : Fin cfg3.N) : Vec F S2x256x64 .bf16 :=
  out3 (grid3.coords t) (iblk3 V c 0 t) (iblk3 V c 1 t) (iblk3 V c 2 t) (iblk3 V c 3 t) (iblk3 V c 4 t) (iblk3 V c 5 t) (iblk3 V c 6 t) (iblk3 V c 7 t) (iblk3 V c 8 t)

/-- The proof data of pipeline 3 on core `c`. -/
def dat3 (c : Dev nD) : Dat τ (Elt F) Unit ℕ (UR sig nD τ) ℕ cfg3 c where
  A w := V c (Proc.devRef .tc (Pipeline.arrRef spec3 w))
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => iblk3 V c 4 t
    | ⟨5, _⟩ => iblk3 V c 5 t
    | ⟨6, _⟩ => iblk3 V c 6 t
    | ⟨7, _⟩ => iblk3 V c 7 t
    | ⟨8, _⟩ => iblk3 V c 8 t
    | ⟨9, _⟩ => oblk3 V c t
  Φ _ := Pipeline.ΦA spec3 c
  q w := Pipeline.shareOf spec3 w
  owed _ := 0

theorem A_eq3 (c : Dev nD) (w : Fin cfg3.W) : (dat3 V c).A w = V c (Proc.devRef .tc (Pipeline.arrRef spec3 w)) := by
  dsimp only [dat3]
theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = iblk3 V c 3 t := by dsimp only [dat3]
theorem after3_4 (c : Dev nD) (t : Fin cfg3.N) : (dat3 V c).after 4 t = iblk3 V c 4 t := by dsimp only [dat3]
theorem after3_5 (c : Dev nD) (t : Fin cfg3.N) : (dat3 V c).after 5 t = iblk3 V c 5 t := by dsimp only [dat3]
theorem after3_6 (c : Dev nD) (t : Fin cfg3.N) : (dat3 V c).after 6 t = iblk3 V c 6 t := by dsimp only [dat3]
theorem after3_7 (c : Dev nD) (t : Fin cfg3.N) : (dat3 V c).after 7 t = iblk3 V c 7 t := by dsimp only [dat3]
theorem after3_8 (c : Dev nD) (t : Fin cfg3.N) : (dat3 V c).after 8 t = iblk3 V c 8 t := by dsimp only [dat3]
theorem after3_9 (c : Dev nD) (t : Fin cfg3.N) : (dat3 V c).after 9 t = oblk3 V c t := by dsimp only [dat3]

/-! Each input's current staging buffer holds its block at every point, fetched there or not. -/
theorem before3_0 (c : Dev nD) (t : Fin cfg3.N) (d) : (dat3 V c).before 0 t d = iblk3 V c 0 t :=
  ((dat3 V c).before_in_eq_fetched 0 rfl (fun _ => rfl) (fun _ _ _ => rfl)
    (fun t => by rw [after3_0]; unfold Dat.blockOf iblk3; rw [A_eq3]; try rfl) t d).trans
    (by unfold Dat.fetched Dat.blockOf iblk3; rw [A_eq3]; try rfl)
theorem before3_1 (c : Dev nD) (t : Fin cfg3.N) (d) : (dat3 V c).before 1 t d = iblk3 V c 1 t :=
  ((dat3 V c).before_in_eq_fetched 1 rfl (fun _ => rfl) (fun _ _ _ => rfl)
    (fun t => by rw [after3_1]; unfold Dat.blockOf iblk3; rw [A_eq3]; try rfl) t d).trans
    (by unfold Dat.fetched Dat.blockOf iblk3; rw [A_eq3]; try rfl)
theorem before3_2 (c : Dev nD) (t : Fin cfg3.N) (d) : (dat3 V c).before 2 t d = iblk3 V c 2 t :=
  ((dat3 V c).before_in_eq_fetched 2 rfl (fun _ => rfl) (fun _ _ _ => rfl)
    (fun t => by rw [after3_2]; unfold Dat.blockOf iblk3; rw [A_eq3]; try rfl) t d).trans
    (by unfold Dat.fetched Dat.blockOf iblk3; rw [A_eq3]; try rfl)
theorem before3_3 (c : Dev nD) (t : Fin cfg3.N) (d) : (dat3 V c).before 3 t d = iblk3 V c 3 t :=
  ((dat3 V c).before_in_eq_fetched 3 rfl (fun _ => rfl) (fun _ _ _ => rfl)
    (fun t => by rw [after3_3]; unfold Dat.blockOf iblk3; rw [A_eq3]; try rfl) t d).trans
    (by unfold Dat.fetched Dat.blockOf iblk3; rw [A_eq3]; try rfl)
theorem before3_4 (c : Dev nD) (t : Fin cfg3.N) (d) : (dat3 V c).before 4 t d = iblk3 V c 4 t :=
  ((dat3 V c).before_in_eq_fetched 4 rfl (fun _ => rfl) (fun _ _ _ => rfl)
    (fun t => by rw [after3_4]; unfold Dat.blockOf iblk3; rw [A_eq3]; try rfl) t d).trans
    (by unfold Dat.fetched Dat.blockOf iblk3; rw [A_eq3]; try rfl)
theorem before3_5 (c : Dev nD) (t : Fin cfg3.N) (d) : (dat3 V c).before 5 t d = iblk3 V c 5 t :=
  ((dat3 V c).before_in_eq_fetched 5 rfl (fun _ => rfl) (fun _ _ _ => rfl)
    (fun t => by rw [after3_5]; unfold Dat.blockOf iblk3; rw [A_eq3]; try rfl) t d).trans
    (by unfold Dat.fetched Dat.blockOf iblk3; rw [A_eq3]; try rfl)
theorem before3_6 (c : Dev nD) (t : Fin cfg3.N) (d) : (dat3 V c).before 6 t d = iblk3 V c 6 t :=
  ((dat3 V c).before_in_eq_fetched 6 rfl (fun _ => rfl) (fun _ _ _ => rfl)
    (fun t => by rw [after3_6]; unfold Dat.blockOf iblk3; rw [A_eq3]; try rfl) t d).trans
    (by unfold Dat.fetched Dat.blockOf iblk3; rw [A_eq3]; try rfl)
theorem before3_7 (c : Dev nD) (t : Fin cfg3.N) (d) : (dat3 V c).before 7 t d = iblk3 V c 7 t :=
  ((dat3 V c).before_in_eq_fetched 7 rfl (fun _ => rfl) (fun _ _ _ => rfl)
    (fun t => by rw [after3_7]; unfold Dat.blockOf iblk3; rw [A_eq3]; try rfl) t d).trans
    (by unfold Dat.fetched Dat.blockOf iblk3; rw [A_eq3]; try rfl)
theorem before3_8 (c : Dev nD) (t : Fin cfg3.N) (d) : (dat3 V c).before 8 t d = iblk3 V c 8 t :=
  ((dat3 V c).before_in_eq_fetched 8 rfl (fun _ => rfl) (fun _ _ _ => rfl)
    (fun t => by rw [after3_8]; unfold Dat.blockOf iblk3; rw [A_eq3]; try rfl) t d).trans
    (by unfold Dat.fetched Dat.blockOf iblk3; rw [A_eq3]; try rfl)

/-! ## The body obligation -/

/-- What the body is called with at point `t`, -/
def bodyPre3 (c : Dev nD) (t : Fin cfg3.N) : sProp 𝕄 :=
  iprop((dat3 V c).Φ t.castSucc ∗ (dat3 V c).owesAt () t.castSucc
    ∗ (∃ d, owns (c : Thread nD τ) (win3_0.stage (cfg3.slots t 0)) fullShare ((dat3 V c).before 0 t d))
    ∗ (∃ d, owns (c : Thread nD τ) (win3_1.stage (cfg3.slots t 1)) fullShare ((dat3 V c).before 1 t d))
    ∗ (∃ d, owns (c : Thread nD τ) (win3_2.stage (cfg3.slots t 2)) fullShare ((dat3 V c).before 2 t d))
    ∗ (∃ d, owns (c : Thread nD τ) (win3_3.stage (cfg3.slots t 3)) fullShare ((dat3 V c).before 3 t d))
    ∗ (∃ d, owns (c : Thread nD τ) (win3_4.stage (cfg3.slots t 4)) fullShare ((dat3 V c).before 4 t d))
    ∗ (∃ d, owns (c : Thread nD τ) (win3_5.stage (cfg3.slots t 5)) fullShare ((dat3 V c).before 5 t d))
    ∗ (∃ d, owns (c : Thread nD τ) (win3_6.stage (cfg3.slots t 6)) fullShare ((dat3 V c).before 6 t d))
    ∗ (∃ d, owns (c : Thread nD τ) (win3_7.stage (cfg3.slots t 7)) fullShare ((dat3 V c).before 7 t d))
    ∗ (∃ d, owns (c : Thread nD τ) (win3_8.stage (cfg3.slots t 8)) fullShare ((dat3 V c).before 8 t d))
    ∗ (∃ d, owns (c : Thread nD τ) (win3_9.stage (cfg3.slots t 9)) fullShare ((dat3 V c).before 9 t d)))
/-- and what it returns. -/
def bodyPost3 (c : Dev nD) (t : Fin cfg3.N) : sProp 𝕄 :=
  iprop((dat3 V c).Φ t.succ ∗ (dat3 V c).owesAt () t.succ
    ∗ owns (c : Thread nD τ) (win3_0.stage (cfg3.slots t 0)) fullShare ((dat3 V c).after 0 t)
    ∗ owns (c : Thread nD τ) (win3_1.stage (cfg3.slots t 1)) fullShare ((dat3 V c).after 1 t)
    ∗ owns (c : Thread nD τ) (win3_2.stage (cfg3.slots t 2)) fullShare ((dat3 V c).after 2 t)
    ∗ owns (c : Thread nD τ) (win3_3.stage (cfg3.slots t 3)) fullShare ((dat3 V c).after 3 t)
    ∗ owns (c : Thread nD τ) (win3_4.stage (cfg3.slots t 4)) fullShare ((dat3 V c).after 4 t)
    ∗ owns (c : Thread nD τ) (win3_5.stage (cfg3.slots t 5)) fullShare ((dat3 V c).after 5 t)
    ∗ owns (c : Thread nD τ) (win3_6.stage (cfg3.slots t 6)) fullShare ((dat3 V c).after 6 t)
    ∗ owns (c : Thread nD τ) (win3_7.stage (cfg3.slots t 7)) fullShare ((dat3 V c).after 7 t)
    ∗ owns (c : Thread nD τ) (win3_8.stage (cfg3.slots t 8)) fullShare ((dat3 V c).after 8 t)
    ∗ owns (c : Thread nD τ) (win3_9.stage (cfg3.slots t 9)) fullShare ((dat3 V c).after 9 t))

/-- The invariant with the scratch buffer taken out of it. -/
theorem PhiA3_eq (c : Dev nD) :
    (Pipeline.ΦA spec3 c : sProp 𝕄)
      = iprop(iprop((∃ d, owns (c : Thread nD τ) (Memref.whole cc3_scratch0 : Memref sig .tc .vmem S2x256x512 .f32) fullShare d)
          ∗ Pipeline.scopedRestBut spec3 c [cc3_scratch0]) ∗ (∃ r, prngReg c r)) := by
  unfold Pipeline.ΦA; rw [scopedRest3_split]; simp only [owns_whole]; try rfl

set_option maxHeartbeats 1000000 in
/-- The body at any point. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2, before3_3, before3_4, before3_5, before3_6, before3_7, before3_8]
  rw [show (dat3 V c).Φ t.succ = (dat3 V c).Φ t.castSucc from rfl,
    show (dat3 V c).owesAt () t.succ = (dat3 V c).owesAt () t.castSucc from rfl,
    after3_0, after3_1, after3_2, after3_3, after3_4, after3_5, after3_6, after3_7, after3_8, after3_9]
  rw [show (dat3 V c).Φ t.castSucc = Pipeline.ΦA spec3 c from rfl, PhiA3_eq]
  unfold oblk3
  iintro ⟨⟨⟨HS0, HR1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (sound_kernel3 c Set.univ (grid3.coords t) _ _ _ _ _ _ _ _ _ _ _ _ _ _ _ _ _ _ _ _ _ _ (iblk3 V c 0 t) (iblk3 V c 1 t) (iblk3 V c 2 t) (iblk3 V c 3 t) (iblk3 V c 4 t) (iblk3 V c 5 t) (iblk3 V c 6 t) (iblk3 V c 7 t) (iblk3 V c 8 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  isplitl [HS0]; · iexact HS0
  iintro ⟨H0, H1, H2, H3, H4, H5, H6, H7, H8, H9, HS0⟩
  isplitl [HS0 HR1 Hg]
  · isplitl [HS0 HR1]
    · isplitl [HS0]; · iexact HS0
      iexact HR1
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

/-- The body table's row at point `t`'s slots is the body. -/
theorem defs₀_row3 (t : Fin cfg3.N) :
    defs₀ (F := F) .tc cfg3.body (cfg3.bodyArgs t (cfg3.slots t)) = bodyAt3 t := by
  unfold defs₀; rw [Defs.onTc_tc]

/-- The library's body obligation, at every point. -/
theorem body_obligation3 (c : Dev nD) : BodyObligation (dat3 (F := F) V c) (defs₀ (F := F)) Variants.none () Set.univ := fun t => by
  rw [bigSep_W3, bigSep_W3, defs₀_row3]
  exact triple_restated (sound_body3 V c t) rfl .rfl fun _ => .rfl

end Region

end Cert.KernelIdeal.Own

end
-- ==== Proof.KernelIdeal.Region4.lean ====
module

public import proofs.«01_k».proof.Proof.KernelIdeal.Common

@[expose] public section

set_option maxRecDepth 16384

noncomputable section

namespace Cert.KernelIdeal.Own

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-! # Region 4: the attention over 1024 keys, two heads and 256 query rows a grid point -/

/-! ## What the body leaves -/

abbrev rq4 (h : Fin 2) : Rect S2x256x64 := Rect.unit (s := S2x256x64) ![h.val, 0, 0] S1x256x64.size (by fin_cases h <;> decide)
abbrev rk4 (h : Fin 2) : Rect S2x1024x64 := Rect.unit (s := S2x1024x64) ![h.val, 0, 0] S1x1024x64.size (by fin_cases h <;> decide)
abbrev rm4 (h : Fin 2) : Rect S2x64x64 := Rect.unit (s := S2x64x64) ![h.val, 0, 0] S1x64x64.size (by fin_cases h <;> decide)
abbrev ra4 (h : Fin 2) : Rect S2x1x128 := Rect.unit (s := S2x1x128) ![h.val, 0, 0] S1x1x64.size (by fin_cases h <;> decide)
abbrev rg4 (h : Fin 2) : Rect S2x1x128 := Rect.unit (s := S2x1x128) ![h.val, 0, 0] S1x1x1.size (by fin_cases h <;> decide)
/-- The scratch's plane of head `h`, its last 256 columns, and the window of 512 columns the bias tile is added to. -/
abbrev rs4 (h : Fin 2) : Rect S2x256x1024 := Rect.unit (s := S2x256x1024) ![h.val, 0, 0] S1x256x1024.size (by fin_cases h <;> decide)
abbrev rt4 (h : Fin 2) : Rect S2x256x1024 := Rect.unit (s := S2x256x1024) ![h.val, 0, 768] S1x256x256.size (by fin_cases h <;> decide)
abbrev rw4_0 (i : grid4.Coords) : Rect S2x256x1024 := Rect.unit (s := S2x256x1024) (k4_off1 i) S1x256x512.size (k4_off1_inb i)
abbrev rw4_1 (i : grid4.Coords) : Rect S2x256x1024 := Rect.unit (s := S2x256x1024) (k4_off3 i) S1x256x512.size (k4_off3_inb i)
/-- The bias tile's window. -/
abbrev rb4_0 (i : grid4.Coords) : Rect S2x256x768 := Rect.unit (s := S2x256x768) (k4_off2 i) S1x256x512.size (k4_off2_inb i)
abbrev rb4_1 (i : grid4.Coords) : Rect S2x256x768 := Rect.unit (s := S2x256x768) (k4_off4 i) S1x256x512.size (k4_off4_inb i)

/-- Head `h`'s scores before the bias: queries against keys. -/
def qk4 (h : Fin 2) (x0 : Vec F S2x256x64 .bf16) (x1 : Vec F S2x1024x64 .bf16) : FVec F S1x256x1024 .f32 :=
  k4_pay4 (View.ld x0 (rq4 h)) (View.ld x1 (rk4 h))

/-- The write of head `h`'s bare scores. -/
def wp4 (h : Fin 2) (x0 : Vec F S2x256x64 .bf16) (x1 : Vec F S2x1024x64 .bf16) : List (View.Piece (Elt F) S2x256x1024 .f32) :=
  [⟨rs4 h, qk4 h x0 x1⟩]

/-- Head 0's writes to the scratch before the last: the biased window over the bare scores. -/
def ws4_0 (i : grid4.Coords) (x0 : Vec F S2x256x64 .bf16) (x1 : Vec F S2x1024x64 .bf16) (x3 : Vec F S2x256x768 .f32) :
    List (View.Piece (Elt F) S2x256x1024 .f32) :=
  ⟨rw4_0 i, k4_pay5 (View.ld (View.canon (wp4 0 x0 x1)) (rw4_0 i)) (View.ld x3 (rb4_0 i))⟩ :: wp4 0 x0 x1
def ws4_1 (i : grid4.Coords) (x0 : Vec F S2x256x64 .bf16) (x1 : Vec F S2x1024x64 .bf16) (x3 : Vec F S2x256x768 .f32) :
    List (View.Piece (Elt F) S2x256x1024 .f32) :=
  ⟨rw4_1 i, k4_pay5 (View.ld (View.canon (wp4 1 x0 x1)) (rw4_1 i)) (View.ld x3 (rb4_1 i))⟩ :: wp4 1 x0 x1

/-- Head 0's scores as the softmax reads them: at an even query block the last 256 columns are masked. -/
def sc4_0 (i : grid4.Coords) (x0 : Vec F S2x256x64 .bf16) (x1 : Vec F S2x1024x64 .bf16) (x3 : Vec F S2x256x768 .f32) : Vec F S1x256x1024 .f32 :=
  if (i 1).val = 0 then View.ld (View.canon (⟨rt4 0, k4_pay6⟩ :: ws4_0 i x0 x1 x3)) (rs4 0)
  else View.ld (View.canon (ws4_0 i x0 x1 x3)) (rs4 0)
def sc4_1 (i : grid4.Coords) (x0 : Vec F S2x256x64 .bf16) (x1 : Vec F S2x1024x64 .bf16) (x3 : Vec F S2x256x768 .f32) : Vec F S1x256x1024 .f32 :=
  if (i 1).val = 0 then View.ld (View.canon (⟨rt4 1, k4_pay6⟩ :: ws4_1 i x0 x1 x3)) (rs4 1)
  else View.ld (View.canon (ws4_1 i x0 x1 x3)) (rs4 1)

/-- A head's output from its scores: the softmax over the keys, the softmax over the memory, mixed by the gate. -/
def hd4 (h : Fin 2) (sc : Vec F S1x256x1024 .f32) (x0 : Vec F S2x256x64 .bf16) (x2 : Vec F S2x1024x64 .bf16)
    (x4 x5 : Vec F S2x64x64 .bf16) (x7 x8 : Vec F S2x1x128 .f32) : FVec F S1x256x64 .bf16 :=
  k4_pay10 (k4_pay7 (k4_pay3 (View.ld x2 (rk4 h))) sc) (k4_pay8 (View.ld x5 (rm4 h)))
    (k4_pay9 (k4_pay2 (View.ld x0 (rq4 h))) (View.ld x4 (rm4 h))) (View.ld x7 (ra4 h)) (View.ld x8 (rg4 h))

/-- The output block: both heads' planes. -/
def out4 (i : grid4.Coords) (x0 : Vec F S2x256x64 .bf16) (x1 x2 : Vec F S2x1024x64 .bf16) (x3 : Vec F S2x256x768 .f32)
    (x4 x5 : Vec F S2x64x64 .bf16) (x6 x7 x8 : Vec F S2x1x128 .f32) : Vec F S2x256x64 .bf16 :=
  View.canon [⟨rq4 1, hd4 1 (sc4_1 i x0 x1 x3) x0 x2 x4 x5 x7 x8⟩, ⟨rq4 0, hd4 0 (sc4_0 i x0 x1 x3) x0 x2 x4 x5 x7 x8⟩]

/-- Both planes together are the whole block. -/
theorem cover4 (p1 p0 : Vec F S1x256x64 .bf16) (y : S2x256x64.Idx) :
    ∃ pc ∈ ([⟨rq4 1, p1⟩, ⟨rq4 0, p0⟩] : List (View.Piece (Elt F) S2x256x64 .bf16)), y ∈ pc.1.set :=
  View.cover_of_tiled [⟨rq4 1, p1⟩, ⟨rq4 0, p0⟩] S1x256x64.size (by rfl) y

/-- A head's plane of the scratch is the indices with the head first. -/
theorem mem_rs4 (h : Fin 2) (y : S2x256x1024.Idx) (e : (y 0).val = h.val) : y ∈ (rs4 h).set := by
  refine Rect.mem_set_unit.mpr ?_
  intro a
  match a with
  | ⟨0, _⟩ => exact ⟨e.ge, show (y 0).val < h.val + 1 by omega⟩
  | ⟨1, _⟩ => exact ⟨Nat.zero_le _, show (y 1).val < 0 + 256 by have := (y 1).isLt; simpa using this⟩
  | ⟨2, _⟩ => exact ⟨Nat.zero_le _, show (y 2).val < 0 + 1024 by have := (y 2).isLt; simpa using this⟩

/-- What a load of a head's plane reads lies in that plane. -/
theorem pl_sub4 (h : Fin 2) (j : (rs4 h).shape.Idx) : (rs4 h).toLoadRect.idx j ∈ (rs4 h).set :=
  (rs4 h).toLoadRect.idx_mem j

/-- The biased window of a head lies in that head's plane. -/
theorem win_sub4_0 (i : grid4.Coords) (j : (rw4_0 i).shape.Idx) : (rw4_0 i).toLoadRect.idx j ∈ (rs4 0).set :=
  mem_rs4 0 _ (by
    have hj : (j 0).val < 1 := (j 0).isLt
    show k4_off1 i 0 + 1 * (j 0).val = 0
    have := congrFun (k4_off1_eq i) 0
    rw [this]; show 0 + 1 * (j 0).val = 0; omega)
theorem win_sub4_1 (i : grid4.Coords) (j : (rw4_1 i).shape.Idx) : (rw4_1 i).toLoadRect.idx j ∈ (rs4 1).set :=
  mem_rs4 1 _ (by
    have hj : (j 0).val < 1 := (j 0).isLt
    show k4_off3 i 0 + 1 * (j 0).val = 1
    have := congrFun (k4_off3_eq i) 0
    rw [this]; show 1 + 1 * (j 0).val = 1; omega)

/-- The bare scores are among a head's writes. -/
theorem mem_ws4_0 (i : grid4.Coords) (x0 : Vec F S2x256x64 .bf16) (x1 : Vec F S2x1024x64 .bf16) (x3 : Vec F S2x256x768 .f32) :
    (⟨rs4 0, qk4 0 x0 x1⟩ : View.Piece (Elt F) S2x256x1024 .f32) ∈ ws4_0 i x0 x1 x3 :=
  List.mem_cons_of_mem _ (List.mem_singleton_self _)
theorem mem_ws4_1 (i : grid4.Coords) (x0 : Vec F S2x256x64 .bf16) (x1 : Vec F S2x1024x64 .bf16) (x3 : Vec F S2x256x768 .f32) :
    (⟨rs4 1, qk4 1 x0 x1⟩ : View.Piece (Elt F) S2x256x1024 .f32) ∈ ws4_1 i x0 x1 x3 :=
  List.mem_cons_of_mem _ (List.mem_singleton_self _)

/-! ## The body's triple -/

set_option maxHeartbeats 2000000 in
/-- On whole staging buffers, the inputs' at their contents and the rest at anything, the body runs to the end: the
    inputs' buffers are as they were and the output's holds `out4` of them. -/
theorem sound_kernel4 (c : Dev nD) (E : Set ℕ) (i : grid4.Coords) (arg2 : Memref sig .tc .vmem S2x256x64 .bf16) (harg2 : arg2.IsWhole) (arg3 : Memref sig .tc .vmem S2x1024x64 .bf16) (harg3 : arg3.IsWhole) (arg4 : Memref sig .tc .vmem S2x1024x64 .bf16) (harg4 : arg4.IsWhole) (arg5 : Memref sig .tc .vmem S2x256x768 .f32) (harg5 : arg5.IsWhole) (arg6 : Memref sig .tc .vmem S2x64x64 .bf16) (harg6 : arg6.IsWhole) (arg7 : Memref sig .tc .vmem S2x64x64 .bf16) (harg7 : arg7.IsWhole) (arg8 : Memref sig .tc .vmem S2x1x128 .f32) (harg8 : arg8.IsWhole) (arg9 : Memref sig .tc .vmem S2x1x128 .f32) (harg9 : arg9.IsWhole) (arg10 : Memref sig .tc .vmem S2x1x128 .f32) (harg10 : arg10.IsWhole) (arg11 : Memref sig .tc .vmem S2x256x64 .bf16) (harg11 : arg11.IsWhole) (arg12 : Memref sig .tc .vmem S2x256x1024 .f32) (harg12 : arg12.IsWhole)
    (x0 : Vec F S2x256x64 .bf16) (x1 : Vec F S2x1024x64 .bf16) (x2 : Vec F S2x1024x64 .bf16) (x3 : Vec F S2x256x768 .f32) (x4 : Vec F S2x64x64 .bf16) (x5 : Vec F S2x64x64 .bf16) (x6 : Vec F S2x1x128 .f32) (x7 : Vec F S2x1x128 .f32) (x8 : Vec F S2x1x128 .f32) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ (∃ d, owns (c : Thread nD τ) arg11 fullShare d) ∗ (∃ d, owns (c : Thread nD τ) arg12 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare (out4 i x0 x1 x2 x3 x4 x5 x6 x7 x8) ∗ (∃ d, owns (c : Thread nD τ) arg12 fullShare d)) -∗ K ⟨⟩))
      ⊢ wp frame (wpE (defs₀ (F := F)) Variants.none c none) E (cc4__attn_kernel i arg2 harg2 arg3 harg3 arg4 harg4 arg5 harg5 arg6 harg6 arg7 harg7 arg8 harg8 arg9 harg9 arg10 harg10 arg11 harg11 arg12 harg12) K := by
  simp only [cc4__attn_kernel_eq_skeleton]; unfold cc4__attn_kernel_skel
  simp only [k4_part1_eq_skeleton, k4_part2_eq_skeleton, k4_part3_eq_skeleton, k4_part4_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%ds0, %fs0, -, HS0⟩, Hk⟩
  subst hf0 hf1 hf2 hf3 hf4 hf5 hf6 hf7 hf8
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  swap
  · iexists _; iexists _; isplitr; swap; · iexact HS0
    ipureintro; rfl
  iexists _; isplitr
  swap; · iexact H9
  ipureintro
  refine (View.read_writes_eq_canon _ _ _ (cover4 _ _)).trans ?_
  have hev : Iff (Cert.KernelIdeal.Own.sound_kernel4.sl.v39 i = 1#1) ((i 1).val = 0) :=
    (show ∀ i : grid4.Coords, Iff (Cert.KernelIdeal.Own.sound_kernel4.sl.v39 i = 1#1) ((i 1).val = 0) from by decide +kernel) i
  have h0 : Cert.KernelIdeal.Own.sound_kernel4.sl.v40 c i arg2 arg3 arg5 arg12 f0 f1 f3 fs0
      = sc4_0 i (View.read (Elt F) arg2.view f0) (View.read (Elt F) arg3.view f1) (View.read (Elt F) arg5.view f3) := by
    have hw : ∀ f, arg12.view.readAt (Elt F) (rw4_0 i).toLoadRect (arg12.view.writes (Elt F) f (Cert.KernelIdeal.Own.sound_kernel4.sl.HS0_1 c arg2 arg3 f0 f1))
        = View.ld (View.canon (wp4 0 (View.read (Elt F) arg2.view f0) (View.read (Elt F) arg3.view f1))) (rw4_0 i) :=
      fun f => readAt_writes_of_sub _ f (wp4 0 (View.read (Elt F) arg2.view f0) (View.read (Elt F) arg3.view f1)) _ fun j => ⟨_, List.mem_singleton_self _, win_sub4_0 i j⟩
    have hL : Cert.KernelIdeal.Own.sound_kernel4.sl.HS0_2 c i arg2 arg3 arg5 arg12 f0 f1 f3 fs0 = ws4_0 i (View.read (Elt F) arg2.view f0) (View.read (Elt F) arg3.view f1) (View.read (Elt F) arg5.view f3) := by
      unfold ws4_0; rw [← hw fs0]; rfl
    unfold Cert.KernelIdeal.Own.sound_kernel4.sl.v40 sc4_0
    rw [hL]
    by_cases he : (i 1).val = 0
    · rw [dif_pos (hev.mpr he), if_pos he]
      exact readAt_writes_of_sub _ _ _ _ fun j => ⟨_, List.mem_cons_of_mem _ (mem_ws4_0 i _ _ _), pl_sub4 0 j⟩
    · rw [dif_neg fun h => he (hev.mp h), if_neg he]
      exact readAt_writes_of_sub _ _ _ _ fun j => ⟨_, mem_ws4_0 i _ _ _, pl_sub4 0 j⟩
  have h1 : Cert.KernelIdeal.Own.sound_kernel4.sl.v121 c i arg2 arg3 arg5 arg12 f0 f1 f3 fs0
      = sc4_1 i (View.read (Elt F) arg2.view f0) (View.read (Elt F) arg3.view f1) (View.read (Elt F) arg5.view f3) := by
    have hw : ∀ f, arg12.view.readAt (Elt F) (rw4_1 i).toLoadRect (arg12.view.writes (Elt F) f (Cert.KernelIdeal.Own.sound_kernel4.sl.HS0_1_1 c arg2 arg3 f0 f1))
        = View.ld (View.canon (wp4 1 (View.read (Elt F) arg2.view f0) (View.read (Elt F) arg3.view f1))) (rw4_1 i) :=
      fun f => readAt_writes_of_sub _ f (wp4 1 (View.read (Elt F) arg2.view f0) (View.read (Elt F) arg3.view f1)) _ fun j => ⟨_, List.mem_singleton_self _, win_sub4_1 i j⟩
    have hL : Cert.KernelIdeal.Own.sound_kernel4.sl.HS0_2_1 c i arg2 arg3 arg5 arg12 f0 f1 f3 fs0 = ws4_1 i (View.read (Elt F) arg2.view f0) (View.read (Elt F) arg3.view f1) (View.read (Elt F) arg5.view f3) := by
      unfold ws4_1; rw [← hw (if hc : Cert.KernelIdeal.Own.sound_kernel4.sl.v39 i = 1#1 then arg12.view.writes (Elt F) fs0 (⟨rt4 0, k4_pay6⟩ :: Cert.KernelIdeal.Own.sound_kernel4.sl.HS0_2 c i arg2 arg3 arg5 arg12 f0 f1 f3 fs0) else arg12.view.writes (Elt F) fs0 (Cert.KernelIdeal.Own.sound_kernel4.sl.HS0_2 c i arg2 arg3 arg5 arg12 f0 f1 f3 fs0))]; rfl
    unfold Cert.KernelIdeal.Own.sound_kernel4.sl.v121 sc4_1
    rw [hL]
    by_cases he : (i 1).val = 0
    · rw [dif_pos (hev.mpr he), if_pos he]
      exact readAt_writes_of_sub _ _ _ _ fun j => ⟨_, List.mem_cons_of_mem _ (mem_ws4_1 i _ _ _), pl_sub4 1 j⟩
    · rw [dif_neg fun h => he (hev.mp h), if_neg he]
      exact readAt_writes_of_sub _ _ _ _ fun j => ⟨_, mem_ws4_1 i _ _ _, pl_sub4 1 j⟩
  unfold out4
  rw [← h0, ← h1]
  rfl

/-! ## The pipeline's proof data -/

section Region
variable (V : Dev nD → Valuation τ sig (Elt F))

/-- Window `w`'s block at point `t`, read off its array as the region finds it. -/
def iblk4 (c : Dev nD) (w : Fin cfg4.W) (t : Fin cfg4.N) : ((cfg4.win w).xblock (cfg4.grid.coords t)).Idx → Elt F (cfg4.win w).elt :=
  ((cfg4.win w).blk t).view.read (Elt F) (V c (Proc.devRef .tc (Pipeline.arrRef spec4 w)))

/-- What the output's staging buffer holds after point `t`. -/
def oblk4 (c : Dev nD) (t : Fin cfg4.N) : Vec F S2x256x64 .bf16 :=
  out4 (grid4.coords t) (iblk4 V c 0 t) (iblk4 V c 1 t) (iblk4 V c 2 t) (iblk4 V c 3 t) (iblk4 V c 4 t) (iblk4 V c 5 t) (iblk4 V c 6 t) (iblk4 V c 7 t) (iblk4 V c 8 t)

/-- The proof data of pipeline 4 on core `c`. -/
def dat4 (c : Dev nD) : Dat τ (Elt F) Unit ℕ (UR sig nD τ) ℕ cfg4 c where
  A w := V c (Proc.devRef .tc (Pipeline.arrRef spec4 w))
  after w t := match w with
    | ⟨0, _⟩ => iblk4 V c 0 t
    | ⟨1, _⟩ => iblk4 V c 1 t
    | ⟨2, _⟩ => iblk4 V c 2 t
    | ⟨3, _⟩ => iblk4 V c 3 t
    | ⟨4, _⟩ => iblk4 V c 4 t
    | ⟨5, _⟩ => iblk4 V c 5 t
    | ⟨6, _⟩ => iblk4 V c 6 t
    | ⟨7, _⟩ => iblk4 V c 7 t
    | ⟨8, _⟩ => iblk4 V c 8 t
    | ⟨9, _⟩ => oblk4 V c t
  Φ _ := Pipeline.ΦA spec4 c
  q w := Pipeline.shareOf spec4 w
  owed _ := 0

theorem A_eq4 (c : Dev nD) (w : Fin cfg4.W) : (dat4 V c).A w = V c (Proc.devRef .tc (Pipeline.arrRef spec4 w)) := by
  dsimp only [dat4]
theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = iblk4 V c 2 t := by dsimp only [dat4]
theorem after4_3 (c : Dev nD) (t : Fin cfg4.N) : (dat4 V c).after 3 t = iblk4 V c 3 t := by dsimp only [dat4]
theorem after4_4 (c : Dev nD) (t : Fin cfg4.N) : (dat4 V c).after 4 t = iblk4 V c 4 t := by dsimp only [dat4]
theorem after4_5 (c : Dev nD) (t : Fin cfg4.N) : (dat4 V c).after 5 t = iblk4 V c 5 t := by dsimp only [dat4]
theorem after4_6 (c : Dev nD) (t : Fin cfg4.N) : (dat4 V c).after 6 t = iblk4 V c 6 t := by dsimp only [dat4]
theorem after4_7 (c : Dev nD) (t : Fin cfg4.N) : (dat4 V c).after 7 t = iblk4 V c 7 t := by dsimp only [dat4]
theorem after4_8 (c : Dev nD) (t : Fin cfg4.N) : (dat4 V c).after 8 t = iblk4 V c 8 t := by dsimp only [dat4]
theorem after4_9 (c : Dev nD) (t : Fin cfg4.N) : (dat4 V c).after 9 t = oblk4 V c t := by dsimp only [dat4]

/-! Each input's current staging buffer holds its block at every point, fetched there or not. -/
theorem before4_0 (c : Dev nD) (t : Fin cfg4.N) (d) : (dat4 V c).before 0 t d = iblk4 V c 0 t :=
  ((dat4 V c).before_in_eq_fetched 0 rfl (fun _ => rfl) (fun _ _ _ => rfl)
    (fun t => by rw [after4_0]; unfold Dat.blockOf iblk4; rw [A_eq4]; try rfl) t d).trans
    (by unfold Dat.fetched Dat.blockOf iblk4; rw [A_eq4]; try rfl)
theorem before4_1 (c : Dev nD) (t : Fin cfg4.N) (d) : (dat4 V c).before 1 t d = iblk4 V c 1 t :=
  ((dat4 V c).before_in_eq_fetched 1 rfl (fun _ => rfl) (fun _ _ _ => rfl)
    (fun t => by rw [after4_1]; unfold Dat.blockOf iblk4; rw [A_eq4]; try rfl) t d).trans
    (by unfold Dat.fetched Dat.blockOf iblk4; rw [A_eq4]; try rfl)
theorem before4_2 (c : Dev nD) (t : Fin cfg4.N) (d) : (dat4 V c).before 2 t d = iblk4 V c 2 t :=
  ((dat4 V c).before_in_eq_fetched 2 rfl (fun _ => rfl) (fun _ _ _ => rfl)
    (fun t => by rw [after4_2]; unfold Dat.blockOf iblk4; rw [A_eq4]; try rfl) t d).trans
    (by unfold Dat.fetched Dat.blockOf iblk4; rw [A_eq4]; try rfl)
theorem before4_3 (c : Dev nD) (t : Fin cfg4.N) (d) : (dat4 V c).before 3 t d = iblk4 V c 3 t :=
  ((dat4 V c).before_in_eq_fetched 3 rfl (fun _ => rfl) (fun _ _ _ => rfl)
    (fun t => by rw [after4_3]; unfold Dat.blockOf iblk4; rw [A_eq4]; try rfl) t d).trans
    (by unfold Dat.fetched Dat.blockOf iblk4; rw [A_eq4]; try rfl)
theorem before4_4 (c : Dev nD) (t : Fin cfg4.N) (d) : (dat4 V c).before 4 t d = iblk4 V c 4 t :=
  ((dat4 V c).before_in_eq_fetched 4 rfl (fun _ => rfl) (fun _ _ _ => rfl)
    (fun t => by rw [after4_4]; unfold Dat.blockOf iblk4; rw [A_eq4]; try rfl) t d).trans
    (by unfold Dat.fetched Dat.blockOf iblk4; rw [A_eq4]; try rfl)
theorem before4_5 (c : Dev nD) (t : Fin cfg4.N) (d) : (dat4 V c).before 5 t d = iblk4 V c 5 t :=
  ((dat4 V c).before_in_eq_fetched 5 rfl (fun _ => rfl) (fun _ _ _ => rfl)
    (fun t => by rw [after4_5]; unfold Dat.blockOf iblk4; rw [A_eq4]; try rfl) t d).trans
    (by unfold Dat.fetched Dat.blockOf iblk4; rw [A_eq4]; try rfl)
theorem before4_6 (c : Dev nD) (t : Fin cfg4.N) (d) : (dat4 V c).before 6 t d = iblk4 V c 6 t :=
  ((dat4 V c).before_in_eq_fetched 6 rfl (fun _ => rfl) (fun _ _ _ => rfl)
    (fun t => by rw [after4_6]; unfold Dat.blockOf iblk4; rw [A_eq4]; try rfl) t d).trans
    (by unfold Dat.fetched Dat.blockOf iblk4; rw [A_eq4]; try rfl)
theorem before4_7 (c : Dev nD) (t : Fin cfg4.N) (d) : (dat4 V c).before 7 t d = iblk4 V c 7 t :=
  ((dat4 V c).before_in_eq_fetched 7 rfl (fun _ => rfl) (fun _ _ _ => rfl)
    (fun t => by rw [after4_7]; unfold Dat.blockOf iblk4; rw [A_eq4]; try rfl) t d).trans
    (by unfold Dat.fetched Dat.blockOf iblk4; rw [A_eq4]; try rfl)
theorem before4_8 (c : Dev nD) (t : Fin cfg4.N) (d) : (dat4 V c).before 8 t d = iblk4 V c 8 t :=
  ((dat4 V c).before_in_eq_fetched 8 rfl (fun _ => rfl) (fun _ _ _ => rfl)
    (fun t => by rw [after4_8]; unfold Dat.blockOf iblk4; rw [A_eq4]; try rfl) t d).trans
    (by unfold Dat.fetched Dat.blockOf iblk4; rw [A_eq4]; try rfl)

/-! ## The body obligation -/

/-- What the body is called with at point `t`, -/
def bodyPre4 (c : Dev nD) (t : Fin cfg4.N) : sProp 𝕄 :=
  iprop((dat4 V c).Φ t.castSucc ∗ (dat4 V c).owesAt () t.castSucc
    ∗ (∃ d, owns (c : Thread nD τ) (win4_0.stage (cfg4.slots t 0)) fullShare ((dat4 V c).before 0 t d))
    ∗ (∃ d, owns (c : Thread nD τ) (win4_1.stage (cfg4.slots t 1)) fullShare ((dat4 V c).before 1 t d))
    ∗ (∃ d, owns (c : Thread nD τ) (win4_2.stage (cfg4.slots t 2)) fullShare ((dat4 V c).before 2 t d))
    ∗ (∃ d, owns (c : Thread nD τ) (win4_3.stage (cfg4.slots t 3)) fullShare ((dat4 V c).before 3 t d))
    ∗ (∃ d, owns (c : Thread nD τ) (win4_4.stage (cfg4.slots t 4)) fullShare ((dat4 V c).before 4 t d))
    ∗ (∃ d, owns (c : Thread nD τ) (win4_5.stage (cfg4.slots t 5)) fullShare ((dat4 V c).before 5 t d))
    ∗ (∃ d, owns (c : Thread nD τ) (win4_6.stage (cfg4.slots t 6)) fullShare ((dat4 V c).before 6 t d))
    ∗ (∃ d, owns (c : Thread nD τ) (win4_7.stage (cfg4.slots t 7)) fullShare ((dat4 V c).before 7 t d))
    ∗ (∃ d, owns (c : Thread nD τ) (win4_8.stage (cfg4.slots t 8)) fullShare ((dat4 V c).before 8 t d))
    ∗ (∃ d, owns (c : Thread nD τ) (win4_9.stage (cfg4.slots t 9)) fullShare ((dat4 V c).before 9 t d)))
/-- and what it returns. -/
def bodyPost4 (c : Dev nD) (t : Fin cfg4.N) : sProp 𝕄 :=
  iprop((dat4 V c).Φ t.succ ∗ (dat4 V c).owesAt () t.succ
    ∗ owns (c : Thread nD τ) (win4_0.stage (cfg4.slots t 0)) fullShare ((dat4 V c).after 0 t)
    ∗ owns (c : Thread nD τ) (win4_1.stage (cfg4.slots t 1)) fullShare ((dat4 V c).after 1 t)
    ∗ owns (c : Thread nD τ) (win4_2.stage (cfg4.slots t 2)) fullShare ((dat4 V c).after 2 t)
    ∗ owns (c : Thread nD τ) (win4_3.stage (cfg4.slots t 3)) fullShare ((dat4 V c).after 3 t)
    ∗ owns (c : Thread nD τ) (win4_4.stage (cfg4.slots t 4)) fullShare ((dat4 V c).after 4 t)
    ∗ owns (c : Thread nD τ) (win4_5.stage (cfg4.slots t 5)) fullShare ((dat4 V c).after 5 t)
    ∗ owns (c : Thread nD τ) (win4_6.stage (cfg4.slots t 6)) fullShare ((dat4 V c).after 6 t)
    ∗ owns (c : Thread nD τ) (win4_7.stage (cfg4.slots t 7)) fullShare ((dat4 V c).after 7 t)
    ∗ owns (c : Thread nD τ) (win4_8.stage (cfg4.slots t 8)) fullShare ((dat4 V c).after 8 t)
    ∗ owns (c : Thread nD τ) (win4_9.stage (cfg4.slots t 9)) fullShare ((dat4 V c).after 9 t))

/-- The invariant with the scratch buffer taken out of it. -/
theorem PhiA4_eq (c : Dev nD) :
    (Pipeline.ΦA spec4 c : sProp 𝕄)
      = iprop(iprop((∃ d, owns (c : Thread nD τ) (Memref.whole cc4_scratch0 : Memref sig .tc .vmem S2x256x1024 .f32) fullShare d)
          ∗ Pipeline.scopedRestBut spec4 c [cc4_scratch0]) ∗ (∃ r, prngReg c r)) := by
  unfold Pipeline.ΦA; rw [scopedRest4_split]; simp only [owns_whole]; try rfl

set_option maxHeartbeats 1000000 in
/-- The body at any point. -/
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1, before4_2, before4_3, before4_4, before4_5, before4_6, before4_7, before4_8]
  rw [show (dat4 V c).Φ t.succ = (dat4 V c).Φ t.castSucc from rfl,
    show (dat4 V c).owesAt () t.succ = (dat4 V c).owesAt () t.castSucc from rfl,
    after4_0, after4_1, after4_2, after4_3, after4_4, after4_5, after4_6, after4_7, after4_8, after4_9]
  rw [show (dat4 V c).Φ t.castSucc = Pipeline.ΦA spec4 c from rfl, PhiA4_eq]
  unfold oblk4
  iintro ⟨⟨⟨HS0, HR1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (sound_kernel4 c Set.univ (grid4.coords t) _ _ _ _ _ _ _ _ _ _ _ _ _ _ _ _ _ _ _ _ _ _ (iblk4 V c 0 t) (iblk4 V c 1 t) (iblk4 V c 2 t) (iblk4 V c 3 t) (iblk4 V c 4 t) (iblk4 V c 5 t) (iblk4 V c 6 t) (iblk4 V c 7 t) (iblk4 V c 8 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  isplitl [HS0]; · iexact HS0
  iintro ⟨H0, H1, H2, H3, H4, H5, H6, H7, H8, H9, HS0⟩
  isplitl [HS0 HR1 Hg]
  · isplitl [HS0 HR1]
    · isplitl [HS0]; · iexact HS0
      iexact HR1
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

/-- The body table's row at point `t`'s slots is the body. -/
theorem defs₀_row4 (t : Fin cfg4.N) :
    defs₀ (F := F) .tc cfg4.body (cfg4.bodyArgs t (cfg4.slots t)) = bodyAt4 t := by
  unfold defs₀; rw [Defs.onTc_tc]

/-- The library's body obligation, at every point. -/
theorem body_obligation4 (c : Dev nD) : BodyObligation (dat4 (F := F) V c) (defs₀ (F := F)) Variants.none () Set.univ := fun t => by
  rw [bigSep_W4, bigSep_W4, defs₀_row4]
  exact triple_restated (sound_body4 V c t) rfl .rfl fun _ => .rfl

end Region

end Cert.KernelIdeal.Own

end
-- ==== Proof.KernelIdeal.Region5.lean ====
module

public import proofs.«01_k».proof.Proof.KernelIdeal.Common

@[expose] public section

set_option maxRecDepth 16384

noncomputable section

namespace Cert.KernelIdeal.Own

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-! # Region 5: the attention over 1536 keys, two heads and 256 query rows a grid point -/

/-! ## What the body leaves -/

abbrev rq5 (h : Fin 2) : Rect S2x256x64 := Rect.unit (s := S2x256x64) ![h.val, 0, 0] S1x256x64.size (by fin_cases h <;> decide)
abbrev rk5 (h : Fin 2) : Rect S2x1536x64 := Rect.unit (s := S2x1536x64) ![h.val, 0, 0] S1x1536x64.size (by fin_cases h <;> decide)
abbrev rm5 (h : Fin 2) : Rect S2x64x64 := Rect.unit (s := S2x64x64) ![h.val, 0, 0] S1x64x64.size (by fin_cases h <;> decide)
abbrev ra5 (h : Fin 2) : Rect S2x1x128 := Rect.unit (s := S2x1x128) ![h.val, 0, 0] S1x1x64.size (by fin_cases h <;> decide)
abbrev rg5 (h : Fin 2) : Rect S2x1x128 := Rect.unit (s := S2x1x128) ![h.val, 0, 0] S1x1x1.size (by fin_cases h <;> decide)
/-- The scratch's plane of head `h`, its last 256 columns, and the window of 512 columns the bias tile is added to. -/
abbrev rs5 (h : Fin 2) : Rect S2x256x1536 := Rect.unit (s := S2x256x1536) ![h.val, 0, 0] S1x256x1536.size (by fin_cases h <;> decide)
abbrev rt5 (h : Fin 2) : Rect S2x256x1536 := Rect.unit (s := S2x256x1536) ![h.val, 0, 1280] S1x256x256.size (by fin_cases h <;> decide)
abbrev rw5_0 (i : grid5.Coords) : Rect S2x256x1536 := Rect.unit (s := S2x256x1536) (k5_off1 i) S1x256x512.size (k5_off1_inb i)
abbrev rw5_1 (i : grid5.Coords) : Rect S2x256x1536 := Rect.unit (s := S2x256x1536) (k5_off3 i) S1x256x512.size (k5_off3_inb i)
/-- The bias tile's window. -/
abbrev rb5_0 (i : grid5.Coords) : Rect S2x256x768 := Rect.unit (s := S2x256x768) (k5_off2 i) S1x256x512.size (k5_off2_inb i)
abbrev rb5_1 (i : grid5.Coords) : Rect S2x256x768 := Rect.unit (s := S2x256x768) (k5_off4 i) S1x256x512.size (k5_off4_inb i)

/-- Head `h`'s scores before the bias: queries against keys. -/
def qk5 (h : Fin 2) (x0 : Vec F S2x256x64 .bf16) (x1 : Vec F S2x1536x64 .bf16) : FVec F S1x256x1536 .f32 :=
  k5_pay4 (View.ld x0 (rq5 h)) (View.ld x1 (rk5 h))

/-- The write of head `h`'s bare scores. -/
def wp5 (h : Fin 2) (x0 : Vec F S2x256x64 .bf16) (x1 : Vec F S2x1536x64 .bf16) : List (View.Piece (Elt F) S2x256x1536 .f32) :=
  [⟨rs5 h, qk5 h x0 x1⟩]

/-- Head 0's writes to the scratch before the last: the biased window over the bare scores. -/
def ws5_0 (i : grid5.Coords) (x0 : Vec F S2x256x64 .bf16) (x1 : Vec F S2x1536x64 .bf16) (x3 : Vec F S2x256x768 .f32) :
    List (View.Piece (Elt F) S2x256x1536 .f32) :=
  ⟨rw5_0 i, k5_pay5 (View.ld (View.canon (wp5 0 x0 x1)) (rw5_0 i)) (View.ld x3 (rb5_0 i))⟩ :: wp5 0 x0 x1
def ws5_1 (i : grid5.Coords) (x0 : Vec F S2x256x64 .bf16) (x1 : Vec F S2x1536x64 .bf16) (x3 : Vec F S2x256x768 .f32) :
    List (View.Piece (Elt F) S2x256x1536 .f32) :=
  ⟨rw5_1 i, k5_pay5 (View.ld (View.canon (wp5 1 x0 x1)) (rw5_1 i)) (View.ld x3 (rb5_1 i))⟩ :: wp5 1 x0 x1

/-- Head 0's scores as the softmax reads them: at an even query block the last 256 columns are masked. -/
def sc5_0 (i : grid5.Coords) (x0 : Vec F S2x256x64 .bf16) (x1 : Vec F S2x1536x64 .bf16) (x3 : Vec F S2x256x768 .f32) : Vec F S1x256x1536 .f32 :=
  if (i 1).val = 0 then View.ld (View.canon (⟨rt5 0, k5_pay6⟩ :: ws5_0 i x0 x1 x3)) (rs5 0)
  else View.ld (View.canon (ws5_0 i x0 x1 x3)) (rs5 0)
def sc5_1 (i : grid5.Coords) (x0 : Vec F S2x256x64 .bf16) (x1 : Vec F S2x1536x64 .bf16) (x3 : Vec F S2x256x768 .f32) : Vec F S1x256x1536 .f32 :=
  if (i 1).val = 0 then View.ld (View.canon (⟨rt5 1, k5_pay6⟩ :: ws5_1 i x0 x1 x3)) (rs5 1)
  else View.ld (View.canon (ws5_1 i x0 x1 x3)) (rs5 1)

/-- A head's output from its scores: the softmax over the keys, the softmax over the memory, mixed by the gate. -/
def hd5 (h : Fin 2) (sc : Vec F S1x256x1536 .f32) (x0 : Vec F S2x256x64 .bf16) (x2 : Vec F S2x1536x64 .bf16)
    (x4 x5 : Vec F S2x64x64 .bf16) (x7 x8 : Vec F S2x1x128 .f32) : FVec F S1x256x64 .bf16 :=
  k5_pay10 (k5_pay7 (k5_pay3 (View.ld x2 (rk5 h))) sc) (k5_pay8 (View.ld x5 (rm5 h)))
    (k5_pay9 (k5_pay2 (View.ld x0 (rq5 h))) (View.ld x4 (rm5 h))) (View.ld x7 (ra5 h)) (View.ld x8 (rg5 h))

/-- The output block: both heads' planes. -/
def out5 (i : grid5.Coords) (x0 : Vec F S2x256x64 .bf16) (x1 x2 : Vec F S2x1536x64 .bf16) (x3 : Vec F S2x256x768 .f32)
    (x4 x5 : Vec F S2x64x64 .bf16) (x6 x7 x8 : Vec F S2x1x128 .f32) : Vec F S2x256x64 .bf16 :=
  View.canon [⟨rq5 1, hd5 1 (sc5_1 i x0 x1 x3) x0 x2 x4 x5 x7 x8⟩, ⟨rq5 0, hd5 0 (sc5_0 i x0 x1 x3) x0 x2 x4 x5 x7 x8⟩]

/-- Both planes together are the whole block. -/
theorem cover5 (p1 p0 : Vec F S1x256x64 .bf16) (y : S2x256x64.Idx) :
    ∃ pc ∈ ([⟨rq5 1, p1⟩, ⟨rq5 0, p0⟩] : List (View.Piece (Elt F) S2x256x64 .bf16)), y ∈ pc.1.set :=
  View.cover_of_tiled [⟨rq5 1, p1⟩, ⟨rq5 0, p0⟩] S1x256x64.size (by rfl) y

/-- A head's plane of the scratch is the indices with the head first. -/
theorem mem_rs5 (h : Fin 2) (y : S2x256x1536.Idx) (e : (y 0).val = h.val) : y ∈ (rs5 h).set := by
  refine Rect.mem_set_unit.mpr ?_
  intro a
  match a with
  | ⟨0, _⟩ => exact ⟨e.ge, show (y 0).val < h.val + 1 by omega⟩
  | ⟨1, _⟩ => exact ⟨Nat.zero_le _, show (y 1).val < 0 + 256 by have := (y 1).isLt; simpa using this⟩
  | ⟨2, _⟩ => exact ⟨Nat.zero_le _, show (y 2).val < 0 + 1536 by have := (y 2).isLt; simpa using this⟩

/-- What a load of a head's plane reads lies in that plane. -/
theorem pl_sub5 (h : Fin 2) (j : (rs5 h).shape.Idx) : (rs5 h).toLoadRect.idx j ∈ (rs5 h).set :=
  (rs5 h).toLoadRect.idx_mem j

/-- The biased window of a head lies in that head's plane. -/
theorem win_sub5_0 (i : grid5.Coords) (j : (rw5_0 i).shape.Idx) : (rw5_0 i).toLoadRect.idx j ∈ (rs5 0).set :=
  mem_rs5 0 _ (by
    have hj : (j 0).val < 1 := (j 0).isLt
    show k5_off1 i 0 + 1 * (j 0).val = 0
    have := congrFun (k5_off1_eq i) 0
    rw [this]; show 0 + 1 * (j 0).val = 0; omega)
theorem win_sub5_1 (i : grid5.Coords) (j : (rw5_1 i).shape.Idx) : (rw5_1 i).toLoadRect.idx j ∈ (rs5 1).set :=
  mem_rs5 1 _ (by
    have hj : (j 0).val < 1 := (j 0).isLt
    show k5_off3 i 0 + 1 * (j 0).val = 1
    have := congrFun (k5_off3_eq i) 0
    rw [this]; show 1 + 1 * (j 0).val = 1; omega)

/-- The bare scores are among a head's writes. -/
theorem mem_ws5_0 (i : grid5.Coords) (x0 : Vec F S2x256x64 .bf16) (x1 : Vec F S2x1536x64 .bf16) (x3 : Vec F S2x256x768 .f32) :
    (⟨rs5 0, qk5 0 x0 x1⟩ : View.Piece (Elt F) S2x256x1536 .f32) ∈ ws5_0 i x0 x1 x3 :=
  List.mem_cons_of_mem _ (List.mem_singleton_self _)
theorem mem_ws5_1 (i : grid5.Coords) (x0 : Vec F S2x256x64 .bf16) (x1 : Vec F S2x1536x64 .bf16) (x3 : Vec F S2x256x768 .f32) :
    (⟨rs5 1, qk5 1 x0 x1⟩ : View.Piece (Elt F) S2x256x1536 .f32) ∈ ws5_1 i x0 x1 x3 :=
  List.mem_cons_of_mem _ (List.mem_singleton_self _)

/-! ## The body's triple -/

set_option maxHeartbeats 2000000 in
/-- On whole staging buffers, the inputs' at their contents and the rest at anything, the body runs to the end: the
    inputs' buffers are as they were and the output's holds `out5` of them. -/
theorem sound_kernel5 (c : Dev nD) (E : Set ℕ) (i : grid5.Coords) (arg2 : Memref sig .tc .vmem S2x256x64 .bf16) (harg2 : arg2.IsWhole) (arg3 : Memref sig .tc .vmem S2x1536x64 .bf16) (harg3 : arg3.IsWhole) (arg4 : Memref sig .tc .vmem S2x1536x64 .bf16) (harg4 : arg4.IsWhole) (arg5 : Memref sig .tc .vmem S2x256x768 .f32) (harg5 : arg5.IsWhole) (arg6 : Memref sig .tc .vmem S2x64x64 .bf16) (harg6 : arg6.IsWhole) (arg7 : Memref sig .tc .vmem S2x64x64 .bf16) (harg7 : arg7.IsWhole) (arg8 : Memref sig .tc .vmem S2x1x128 .f32) (harg8 : arg8.IsWhole) (arg9 : Memref sig .tc .vmem S2x1x128 .f32) (harg9 : arg9.IsWhole) (arg10 : Memref sig .tc .vmem S2x1x128 .f32) (harg10 : arg10.IsWhole) (arg11 : Memref sig .tc .vmem S2x256x64 .bf16) (harg11 : arg11.IsWhole) (arg12 : Memref sig .tc .vmem S2x256x1536 .f32) (harg12 : arg12.IsWhole)
    (x0 : Vec F S2x256x64 .bf16) (x1 : Vec F S2x1536x64 .bf16) (x2 : Vec F S2x1536x64 .bf16) (x3 : Vec F S2x256x768 .f32) (x4 : Vec F S2x64x64 .bf16) (x5 : Vec F S2x64x64 .bf16) (x6 : Vec F S2x1x128 .f32) (x7 : Vec F S2x1x128 .f32) (x8 : Vec F S2x1x128 .f32) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ (∃ d, owns (c : Thread nD τ) arg11 fullShare d) ∗ (∃ d, owns (c : Thread nD τ) arg12 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare (out5 i x0 x1 x2 x3 x4 x5 x6 x7 x8) ∗ (∃ d, owns (c : Thread nD τ) arg12 fullShare d)) -∗ K ⟨⟩))
      ⊢ wp frame (wpE (defs₀ (F := F)) Variants.none c none) E (cc5__attn_kernel i arg2 harg2 arg3 harg3 arg4 harg4 arg5 harg5 arg6 harg6 arg7 harg7 arg8 harg8 arg9 harg9 arg10 harg10 arg11 harg11 arg12 harg12) K := by
  simp only [cc5__attn_kernel_eq_skeleton]; unfold cc5__attn_kernel_skel
  simp only [k5_part1_eq_skeleton, k5_part2_eq_skeleton, k5_part3_eq_skeleton, k5_part4_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%ds0, %fs0, -, HS0⟩, Hk⟩
  subst hf0 hf1 hf2 hf3 hf4 hf5 hf6 hf7 hf8
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  swap
  · iexists _; iexists _; isplitr; swap; · iexact HS0
    ipureintro; rfl
  iexists _; isplitr
  swap; · iexact H9
  ipureintro
  refine (View.read_writes_eq_canon _ _ _ (cover5 _ _)).trans ?_
  have hev : Iff (Cert.KernelIdeal.Own.sound_kernel5.sl.v39 i = 1#1) ((i 1).val = 0) :=
    (show ∀ i : grid5.Coords, Iff (Cert.KernelIdeal.Own.sound_kernel5.sl.v39 i = 1#1) ((i 1).val = 0) from by decide +kernel) i
  have h0 : Cert.KernelIdeal.Own.sound_kernel5.sl.v40 c i arg2 arg3 arg5 arg12 f0 f1 f3 fs0
      = sc5_0 i (View.read (Elt F) arg2.view f0) (View.read (Elt F) arg3.view f1) (View.read (Elt F) arg5.view f3) := by
    have hw : ∀ f, arg12.view.readAt (Elt F) (rw5_0 i).toLoadRect (arg12.view.writes (Elt F) f (Cert.KernelIdeal.Own.sound_kernel5.sl.HS0_1 c arg2 arg3 f0 f1))
        = View.ld (View.canon (wp5 0 (View.read (Elt F) arg2.view f0) (View.read (Elt F) arg3.view f1))) (rw5_0 i) :=
      fun f => readAt_writes_of_sub _ f (wp5 0 (View.read (Elt F) arg2.view f0) (View.read (Elt F) arg3.view f1)) _ fun j => ⟨_, List.mem_singleton_self _, win_sub5_0 i j⟩
    have hL : Cert.KernelIdeal.Own.sound_kernel5.sl.HS0_2 c i arg2 arg3 arg5 arg12 f0 f1 f3 fs0 = ws5_0 i (View.read (Elt F) arg2.view f0) (View.read (Elt F) arg3.view f1) (View.read (Elt F) arg5.view f3) := by
      unfold ws5_0; rw [← hw fs0]; rfl
    unfold Cert.KernelIdeal.Own.sound_kernel5.sl.v40 sc5_0
    rw [hL]
    by_cases he : (i 1).val = 0
    · rw [dif_pos (hev.mpr he), if_pos he]
      exact readAt_writes_of_sub _ _ _ _ fun j => ⟨_, List.mem_cons_of_mem _ (mem_ws5_0 i _ _ _), pl_sub5 0 j⟩
    · rw [dif_neg fun h => he (hev.mp h), if_neg he]
      exact readAt_writes_of_sub _ _ _ _ fun j => ⟨_, mem_ws5_0 i _ _ _, pl_sub5 0 j⟩
  have h1 : Cert.KernelIdeal.Own.sound_kernel5.sl.v121 c i arg2 arg3 arg5 arg12 f0 f1 f3 fs0
      = sc5_1 i (View.read (Elt F) arg2.view f0) (View.read (Elt F) arg3.view f1) (View.read (Elt F) arg5.view f3) := by
    have hw : ∀ f, arg12.view.readAt (Elt F) (rw5_1 i).toLoadRect (arg12.view.writes (Elt F) f (Cert.KernelIdeal.Own.sound_kernel5.sl.HS0_1_1 c arg2 arg3 f0 f1))
        = View.ld (View.canon (wp5 1 (View.read (Elt F) arg2.view f0) (View.read (Elt F) arg3.view f1))) (rw5_1 i) :=
      fun f => readAt_writes_of_sub _ f (wp5 1 (View.read (Elt F) arg2.view f0) (View.read (Elt F) arg3.view f1)) _ fun j => ⟨_, List.mem_singleton_self _, win_sub5_1 i j⟩
    have hL : Cert.KernelIdeal.Own.sound_kernel5.sl.HS0_2_1 c i arg2 arg3 arg5 arg12 f0 f1 f3 fs0 = ws5_1 i (View.read (Elt F) arg2.view f0) (View.read (Elt F) arg3.view f1) (View.read (Elt F) arg5.view f3) := by
      unfold ws5_1; rw [← hw (if hc : Cert.KernelIdeal.Own.sound_kernel5.sl.v39 i = 1#1 then arg12.view.writes (Elt F) fs0 (⟨rt5 0, k5_pay6⟩ :: Cert.KernelIdeal.Own.sound_kernel5.sl.HS0_2 c i arg2 arg3 arg5 arg12 f0 f1 f3 fs0) else arg12.view.writes (Elt F) fs0 (Cert.KernelIdeal.Own.sound_kernel5.sl.HS0_2 c i arg2 arg3 arg5 arg12 f0 f1 f3 fs0))]; rfl
    unfold Cert.KernelIdeal.Own.sound_kernel5.sl.v121 sc5_1
    rw [hL]
    by_cases he : (i 1).val = 0
    · rw [dif_pos (hev.mpr he), if_pos he]
      exact readAt_writes_of_sub _ _ _ _ fun j => ⟨_, List.mem_cons_of_mem _ (mem_ws5_1 i _ _ _), pl_sub5 1 j⟩
    · rw [dif_neg fun h => he (hev.mp h), if_neg he]
      exact readAt_writes_of_sub _ _ _ _ fun j => ⟨_, mem_ws5_1 i _ _ _, pl_sub5 1 j⟩
  unfold out5
  rw [← h0, ← h1]
  rfl

/-! ## The pipeline's proof data -/

section Region
variable (V : Dev nD → Valuation τ sig (Elt F))

/-- Window `w`'s block at point `t`, read off its array as the region finds it. -/
def iblk5 (c : Dev nD) (w : Fin cfg5.W) (t : Fin cfg5.N) : ((cfg5.win w).xblock (cfg5.grid.coords t)).Idx → Elt F (cfg5.win w).elt :=
  ((cfg5.win w).blk t).view.read (Elt F) (V c (Proc.devRef .tc (Pipeline.arrRef spec5 w)))

/-- No transfer of window 1 is cut: every block the grid reaches ends inside the array. -/
theorem clip5_1 : ∀ (i : grid5.Coords) a, (cfg5.win 1).clip i a = none := by decide +kernel
theorem moved5_1 (i : grid5.Coords) (j : (cfg5.win 1).block.Idx) : (cfg5.win 1).moved i j = true := by
  refine ((cfg5.win 1).moved_iff i j).mpr fun a => ?_
  unfold Pipeline.Window.xsize
  rw [clip5_1 i a]
  exact (j a).isLt
/-- A fetch of window 1 fills its whole buffer, whatever it held. -/
theorem fill5_1 (i : grid5.Coords) (d d' : (cfg5.win 1).block.Idx → Elt F (cfg5.win 1).elt) (g) :
    (cfg5.win 1).fill i d g = (cfg5.win 1).fill i d' g := by
  funext j; unfold Pipeline.Window.fill; rw [dif_pos (moved5_1 i j), dif_pos (moved5_1 i j)]
/-- Window 1's block at point `t`, at the block's own shape. -/
noncomputable def full5_1 (c : Dev nD) (t : Fin cfg5.N) : Vec F S2x1536x64 .bf16 :=
  (cfg5.win 1).fill (cfg5.grid.coords t) (fun _ => (Elt.inhabited F _).default) (iblk5 V c 1 t)

/-- No transfer of window 2 is cut: every block the grid reaches ends inside the array. -/
theorem clip5_2 : ∀ (i : grid5.Coords) a, (cfg5.win 2).clip i a = none := by decide +kernel
theorem moved5_2 (i : grid5.Coords) (j : (cfg5.win 2).block.Idx) : (cfg5.win 2).moved i j = true := by
  refine ((cfg5.win 2).moved_iff i j).mpr fun a => ?_
  unfold Pipeline.Window.xsize
  rw [clip5_2 i a]
  exact (j a).isLt
/-- A fetch of window 2 fills its whole buffer, whatever it held. -/
theorem fill5_2 (i : grid5.Coords) (d d' : (cfg5.win 2).block.Idx → Elt F (cfg5.win 2).elt) (g) :
    (cfg5.win 2).fill i d g = (cfg5.win 2).fill i d' g := by
  funext j; unfold Pipeline.Window.fill; rw [dif_pos (moved5_2 i j), dif_pos (moved5_2 i j)]
/-- Window 2's block at point `t`, at the block's own shape. -/
noncomputable def full5_2 (c : Dev nD) (t : Fin cfg5.N) : Vec F S2x1536x64 .bf16 :=
  (cfg5.win 2).fill (cfg5.grid.coords t) (fun _ => (Elt.inhabited F _).default) (iblk5 V c 2 t)

/-- What the output's staging buffer holds after point `t`. -/
noncomputable def oblk5 (c : Dev nD) (t : Fin cfg5.N) : Vec F S2x256x64 .bf16 :=
  out5 (grid5.coords t) (iblk5 V c 0 t) (full5_1 V c t) (full5_2 V c t) (iblk5 V c 3 t) (iblk5 V c 4 t) (iblk5 V c 5 t) (iblk5 V c 6 t) (iblk5 V c 7 t) (iblk5 V c 8 t)

/-- The proof data of pipeline 5 on core `c`. -/
noncomputable def dat5 (c : Dev nD) : Dat τ (Elt F) Unit ℕ (UR sig nD τ) ℕ cfg5 c where
  A w := V c (Proc.devRef .tc (Pipeline.arrRef spec5 w))
  after w t := match w with
    | ⟨0, _⟩ => iblk5 V c 0 t
    | ⟨1, _⟩ => full5_1 V c t
    | ⟨2, _⟩ => full5_2 V c t
    | ⟨3, _⟩ => iblk5 V c 3 t
    | ⟨4, _⟩ => iblk5 V c 4 t
    | ⟨5, _⟩ => iblk5 V c 5 t
    | ⟨6, _⟩ => iblk5 V c 6 t
    | ⟨7, _⟩ => iblk5 V c 7 t
    | ⟨8, _⟩ => iblk5 V c 8 t
    | ⟨9, _⟩ => oblk5 V c t
  Φ _ := Pipeline.ΦA spec5 c
  q w := Pipeline.shareOf spec5 w
  owed _ := 0

theorem A_eq5 (c : Dev nD) (w : Fin cfg5.W) : (dat5 V c).A w = V c (Proc.devRef .tc (Pipeline.arrRef spec5 w)) := by
  dsimp only [dat5]
theorem after5_0 (c : Dev nD) (t : Fin cfg5.N) : (dat5 V c).after 0 t = iblk5 V c 0 t := by dsimp only [dat5]
theorem after5_1 (c : Dev nD) (t : Fin cfg5.N) : (dat5 V c).after 1 t = full5_1 V c t := by dsimp only [dat5]
theorem after5_2 (c : Dev nD) (t : Fin cfg5.N) : (dat5 V c).after 2 t = full5_2 V c t := by dsimp only [dat5]
theorem after5_3 (c : Dev nD) (t : Fin cfg5.N) : (dat5 V c).after 3 t = iblk5 V c 3 t := by dsimp only [dat5]
theorem after5_4 (c : Dev nD) (t : Fin cfg5.N) : (dat5 V c).after 4 t = iblk5 V c 4 t := by dsimp only [dat5]
theorem after5_5 (c : Dev nD) (t : Fin cfg5.N) : (dat5 V c).after 5 t = iblk5 V c 5 t := by dsimp only [dat5]
theorem after5_6 (c : Dev nD) (t : Fin cfg5.N) : (dat5 V c).after 6 t = iblk5 V c 6 t := by dsimp only [dat5]
theorem after5_7 (c : Dev nD) (t : Fin cfg5.N) : (dat5 V c).after 7 t = iblk5 V c 7 t := by dsimp only [dat5]
theorem after5_8 (c : Dev nD) (t : Fin cfg5.N) : (dat5 V c).after 8 t = iblk5 V c 8 t := by dsimp only [dat5]
theorem after5_9 (c : Dev nD) (t : Fin cfg5.N) : (dat5 V c).after 9 t = oblk5 V c t := by dsimp only [dat5]

/-! Each input's current staging buffer holds its block at every point, fetched there or not. -/
theorem before5_0 (c : Dev nD) (t : Fin cfg5.N) (d) : (dat5 V c).before 0 t d = iblk5 V c 0 t :=
  ((dat5 V c).before_in_eq_fetched 0 rfl (fun _ => rfl) (fun _ _ _ => rfl)
    (fun t => by rw [after5_0]; unfold Dat.blockOf iblk5; rw [A_eq5]; try rfl) t d).trans
    (by unfold Dat.fetched Dat.blockOf iblk5; rw [A_eq5]; try rfl)
theorem before5_1 (c : Dev nD) (t : Fin cfg5.N) (d) : (dat5 V c).before 1 t d = full5_1 V c t :=
  ((dat5 V c).before_in_eq_fetched 1 rfl (fun _ => rfl)
    (fun t t' _ => funext fun a => (clip5_1 _ a).trans (clip5_1 _ a).symm)
    (fun t => by rw [after5_1]; unfold full5_1; rw [Pipeline.Window.cut_fill]; unfold Dat.blockOf iblk5; rw [A_eq5]; try rfl) t d).trans
    (by unfold Dat.fetched full5_1; rw [fill5_1 _ d (fun _ => (Elt.inhabited F _).default)]; unfold Dat.blockOf iblk5; rw [A_eq5]; try rfl)
theorem before5_2 (c : Dev nD) (t : Fin cfg5.N) (d) : (dat5 V c).before 2 t d = full5_2 V c t :=
  ((dat5 V c).before_in_eq_fetched 2 rfl (fun _ => rfl)
    (fun t t' _ => funext fun a => (clip5_2 _ a).trans (clip5_2 _ a).symm)
    (fun t => by rw [after5_2]; unfold full5_2; rw [Pipeline.Window.cut_fill]; unfold Dat.blockOf iblk5; rw [A_eq5]; try rfl) t d).trans
    (by unfold Dat.fetched full5_2; rw [fill5_2 _ d (fun _ => (Elt.inhabited F _).default)]; unfold Dat.blockOf iblk5; rw [A_eq5]; try rfl)
theorem before5_3 (c : Dev nD) (t : Fin cfg5.N) (d) : (dat5 V c).before 3 t d = iblk5 V c 3 t :=
  ((dat5 V c).before_in_eq_fetched 3 rfl (fun _ => rfl) (fun _ _ _ => rfl)
    (fun t => by rw [after5_3]; unfold Dat.blockOf iblk5; rw [A_eq5]; try rfl) t d).trans
    (by unfold Dat.fetched Dat.blockOf iblk5; rw [A_eq5]; try rfl)
theorem before5_4 (c : Dev nD) (t : Fin cfg5.N) (d) : (dat5 V c).before 4 t d = iblk5 V c 4 t :=
  ((dat5 V c).before_in_eq_fetched 4 rfl (fun _ => rfl) (fun _ _ _ => rfl)
    (fun t => by rw [after5_4]; unfold Dat.blockOf iblk5; rw [A_eq5]; try rfl) t d).trans
    (by unfold Dat.fetched Dat.blockOf iblk5; rw [A_eq5]; try rfl)
theorem before5_5 (c : Dev nD) (t : Fin cfg5.N) (d) : (dat5 V c).before 5 t d = iblk5 V c 5 t :=
  ((dat5 V c).before_in_eq_fetched 5 rfl (fun _ => rfl) (fun _ _ _ => rfl)
    (fun t => by rw [after5_5]; unfold Dat.blockOf iblk5; rw [A_eq5]; try rfl) t d).trans
    (by unfold Dat.fetched Dat.blockOf iblk5; rw [A_eq5]; try rfl)
theorem before5_6 (c : Dev nD) (t : Fin cfg5.N) (d) : (dat5 V c).before 6 t d = iblk5 V c 6 t :=
  ((dat5 V c).before_in_eq_fetched 6 rfl (fun _ => rfl) (fun _ _ _ => rfl)
    (fun t => by rw [after5_6]; unfold Dat.blockOf iblk5; rw [A_eq5]; try rfl) t d).trans
    (by unfold Dat.fetched Dat.blockOf iblk5; rw [A_eq5]; try rfl)
theorem before5_7 (c : Dev nD) (t : Fin cfg5.N) (d) : (dat5 V c).before 7 t d = iblk5 V c 7 t :=
  ((dat5 V c).before_in_eq_fetched 7 rfl (fun _ => rfl) (fun _ _ _ => rfl)
    (fun t => by rw [after5_7]; unfold Dat.blockOf iblk5; rw [A_eq5]; try rfl) t d).trans
    (by unfold Dat.fetched Dat.blockOf iblk5; rw [A_eq5]; try rfl)
theorem before5_8 (c : Dev nD) (t : Fin cfg5.N) (d) : (dat5 V c).before 8 t d = iblk5 V c 8 t :=
  ((dat5 V c).before_in_eq_fetched 8 rfl (fun _ => rfl) (fun _ _ _ => rfl)
    (fun t => by rw [after5_8]; unfold Dat.blockOf iblk5; rw [A_eq5]; try rfl) t d).trans
    (by unfold Dat.fetched Dat.blockOf iblk5; rw [A_eq5]; try rfl)

/-! ## The body obligation -/

/-- What the body is called with at point `t`, -/
def bodyPre5 (c : Dev nD) (t : Fin cfg5.N) : sProp 𝕄 :=
  iprop((dat5 V c).Φ t.castSucc ∗ (dat5 V c).owesAt () t.castSucc
    ∗ (∃ d, owns (c : Thread nD τ) (win5_0.stage (cfg5.slots t 0)) fullShare ((dat5 V c).before 0 t d))
    ∗ (∃ d, owns (c : Thread nD τ) (win5_1.stage (cfg5.slots t 1)) fullShare ((dat5 V c).before 1 t d))
    ∗ (∃ d, owns (c : Thread nD τ) (win5_2.stage (cfg5.slots t 2)) fullShare ((dat5 V c).before 2 t d))
    ∗ (∃ d, owns (c : Thread nD τ) (win5_3.stage (cfg5.slots t 3)) fullShare ((dat5 V c).before 3 t d))
    ∗ (∃ d, owns (c : Thread nD τ) (win5_4.stage (cfg5.slots t 4)) fullShare ((dat5 V c).before 4 t d))
    ∗ (∃ d, owns (c : Thread nD τ) (win5_5.stage (cfg5.slots t 5)) fullShare ((dat5 V c).before 5 t d))
    ∗ (∃ d, owns (c : Thread nD τ) (win5_6.stage (cfg5.slots t 6)) fullShare ((dat5 V c).before 6 t d))
    ∗ (∃ d, owns (c : Thread nD τ) (win5_7.stage (cfg5.slots t 7)) fullShare ((dat5 V c).before 7 t d))
    ∗ (∃ d, owns (c : Thread nD τ) (win5_8.stage (cfg5.slots t 8)) fullShare ((dat5 V c).before 8 t d))
    ∗ (∃ d, owns (c : Thread nD τ) (win5_9.stage (cfg5.slots t 9)) fullShare ((dat5 V c).before 9 t d)))
/-- and what it returns. -/
def bodyPost5 (c : Dev nD) (t : Fin cfg5.N) : sProp 𝕄 :=
  iprop((dat5 V c).Φ t.succ ∗ (dat5 V c).owesAt () t.succ
    ∗ owns (c : Thread nD τ) (win5_0.stage (cfg5.slots t 0)) fullShare ((dat5 V c).after 0 t)
    ∗ owns (c : Thread nD τ) (win5_1.stage (cfg5.slots t 1)) fullShare ((dat5 V c).after 1 t)
    ∗ owns (c : Thread nD τ) (win5_2.stage (cfg5.slots t 2)) fullShare ((dat5 V c).after 2 t)
    ∗ owns (c : Thread nD τ) (win5_3.stage (cfg5.slots t 3)) fullShare ((dat5 V c).after 3 t)
    ∗ owns (c : Thread nD τ) (win5_4.stage (cfg5.slots t 4)) fullShare ((dat5 V c).after 4 t)
    ∗ owns (c : Thread nD τ) (win5_5.stage (cfg5.slots t 5)) fullShare ((dat5 V c).after 5 t)
    ∗ owns (c : Thread nD τ) (win5_6.stage (cfg5.slots t 6)) fullShare ((dat5 V c).after 6 t)
    ∗ owns (c : Thread nD τ) (win5_7.stage (cfg5.slots t 7)) fullShare ((dat5 V c).after 7 t)
    ∗ owns (c : Thread nD τ) (win5_8.stage (cfg5.slots t 8)) fullShare ((dat5 V c).after 8 t)
    ∗ owns (c : Thread nD τ) (win5_9.stage (cfg5.slots t 9)) fullShare ((dat5 V c).after 9 t))

/-- The invariant with the scratch buffer taken out of it. -/
theorem PhiA5_eq (c : Dev nD) :
    (Pipeline.ΦA spec5 c : sProp 𝕄)
      = iprop(iprop((∃ d, owns (c : Thread nD τ) (Memref.whole cc5_scratch0 : Memref sig .tc .vmem S2x256x1536 .f32) fullShare d)
          ∗ Pipeline.scopedRestBut spec5 c [cc5_scratch0]) ∗ (∃ r, prngReg c r)) := by
  unfold Pipeline.ΦA; rw [scopedRest5_split]; simp only [owns_whole]; try rfl

set_option maxHeartbeats 1000000 in
/-- The body at any point. -/
theorem sound_body5 (c : Dev nD) (t : Fin cfg5.N) :
    bodyPre5 V c t ⊢ wp frame (wpE (defs₀ (F := F)) Variants.none c none) Set.univ (bodyAt5 t) (fun _ => bodyPost5 V c t) := by
  unfold bodyPre5 bodyPost5 bodyAt5
  simp only [before5_0, before5_1, before5_2, before5_3, before5_4, before5_5, before5_6, before5_7, before5_8]
  rw [show (dat5 V c).Φ t.succ = (dat5 V c).Φ t.castSucc from rfl,
    show (dat5 V c).owesAt () t.succ = (dat5 V c).owesAt () t.castSucc from rfl,
    after5_0, after5_1, after5_2, after5_3, after5_4, after5_5, after5_6, after5_7, after5_8, after5_9]
  rw [show (dat5 V c).Φ t.castSucc = Pipeline.ΦA spec5 c from rfl, PhiA5_eq]
  unfold oblk5
  iintro ⟨⟨⟨HS0, HR1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (sound_kernel5 c Set.univ (grid5.coords t) _ _ _ _ _ _ _ _ _ _ _ _ _ _ _ _ _ _ _ _ _ _ (iblk5 V c 0 t) (full5_1 V c t) (full5_2 V c t) (iblk5 V c 3 t) (iblk5 V c 4 t) (iblk5 V c 5 t) (iblk5 V c 6 t) (iblk5 V c 7 t) (iblk5 V c 8 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  isplitl [HS0]; · iexact HS0
  iintro ⟨H0, H1, H2, H3, H4, H5, H6, H7, H8, H9, HS0⟩
  isplitl [HS0 HR1 Hg]
  · isplitl [HS0 HR1]
    · isplitl [HS0]; · iexact HS0
      iexact HR1
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

/-- The body table's row at point `t`'s slots is the body. -/
theorem defs₀_row5 (t : Fin cfg5.N) :
    defs₀ (F := F) .tc cfg5.body (cfg5.bodyArgs t (cfg5.slots t)) = bodyAt5 t := by
  unfold defs₀; rw [Defs.onTc_tc]

/-- The library's body obligation, at every point. -/
theorem body_obligation5 (c : Dev nD) : BodyObligation (dat5 (F := F) V c) (defs₀ (F := F)) Variants.none () Set.univ := fun t => by
  rw [bigSep_W5, bigSep_W5, defs₀_row5]
  exact triple_restated (sound_body5 V c t) rfl .rfl fun _ => .rfl

end Region

end Cert.KernelIdeal.Own

end
-- ==== Proof.KernelIdeal.Region6.lean ====
module

public import proofs.«01_k».proof.Proof.KernelIdeal.Common

@[expose] public section

set_option maxRecDepth 16384

noncomputable section

namespace Cert.KernelIdeal.Own

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-! # Region 6: the attention over 2048 keys, two heads and 256 query rows a grid point -/

/-! ## What the body leaves -/

abbrev rq6 (h : Fin 2) : Rect S2x256x64 := Rect.unit (s := S2x256x64) ![h.val, 0, 0] S1x256x64.size (by fin_cases h <;> decide)
abbrev rk6 (h : Fin 2) : Rect S2x2048x64 := Rect.unit (s := S2x2048x64) ![h.val, 0, 0] S1x2048x64.size (by fin_cases h <;> decide)
abbrev rm6 (h : Fin 2) : Rect S2x64x64 := Rect.unit (s := S2x64x64) ![h.val, 0, 0] S1x64x64.size (by fin_cases h <;> decide)
abbrev ra6 (h : Fin 2) : Rect S2x1x128 := Rect.unit (s := S2x1x128) ![h.val, 0, 0] S1x1x64.size (by fin_cases h <;> decide)
abbrev rg6 (h : Fin 2) : Rect S2x1x128 := Rect.unit (s := S2x1x128) ![h.val, 0, 0] S1x1x1.size (by fin_cases h <;> decide)
/-- The scratch's plane of head `h`, its last 256 columns, and the window of 512 columns the bias tile is added to. -/
abbrev rs6 (h : Fin 2) : Rect S2x256x2048 := Rect.unit (s := S2x256x2048) ![h.val, 0, 0] S1x256x2048.size (by fin_cases h <;> decide)
abbrev rt6 (h : Fin 2) : Rect S2x256x2048 := Rect.unit (s := S2x256x2048) ![h.val, 0, 1792] S1x256x256.size (by fin_cases h <;> decide)
abbrev rw6_0 (i : grid6.Coords) : Rect S2x256x2048 := Rect.unit (s := S2x256x2048) (k6_off1 i) S1x256x512.size (k6_off1_inb i)
abbrev rw6_1 (i : grid6.Coords) : Rect S2x256x2048 := Rect.unit (s := S2x256x2048) (k6_off3 i) S1x256x512.size (k6_off3_inb i)
/-- The bias tile's window. -/
abbrev rb6_0 (i : grid6.Coords) : Rect S2x256x768 := Rect.unit (s := S2x256x768) (k6_off2 i) S1x256x512.size (k6_off2_inb i)
abbrev rb6_1 (i : grid6.Coords) : Rect S2x256x768 := Rect.unit (s := S2x256x768) (k6_off4 i) S1x256x512.size (k6_off4_inb i)

/-- Head `h`'s scores before the bias: queries against keys. -/
def qk6 (h : Fin 2) (x0 : Vec F S2x256x64 .bf16) (x1 : Vec F S2x2048x64 .bf16) : FVec F S1x256x2048 .f32 :=
  k6_pay4 (View.ld x0 (rq6 h)) (View.ld x1 (rk6 h))

/-- The write of head `h`'s bare scores. -/
def wp6 (h : Fin 2) (x0 : Vec F S2x256x64 .bf16) (x1 : Vec F S2x2048x64 .bf16) : List (View.Piece (Elt F) S2x256x2048 .f32) :=
  [⟨rs6 h, qk6 h x0 x1⟩]

/-- Head 0's writes to the scratch before the last: the biased window over the bare scores. -/
def ws6_0 (i : grid6.Coords) (x0 : Vec F S2x256x64 .bf16) (x1 : Vec F S2x2048x64 .bf16) (x3 : Vec F S2x256x768 .f32) :
    List (View.Piece (Elt F) S2x256x2048 .f32) :=
  ⟨rw6_0 i, k6_pay5 (View.ld (View.canon (wp6 0 x0 x1)) (rw6_0 i)) (View.ld x3 (rb6_0 i))⟩ :: wp6 0 x0 x1
def ws6_1 (i : grid6.Coords) (x0 : Vec F S2x256x64 .bf16) (x1 : Vec F S2x2048x64 .bf16) (x3 : Vec F S2x256x768 .f32) :
    List (View.Piece (Elt F) S2x256x2048 .f32) :=
  ⟨rw6_1 i, k6_pay5 (View.ld (View.canon (wp6 1 x0 x1)) (rw6_1 i)) (View.ld x3 (rb6_1 i))⟩ :: wp6 1 x0 x1

/-- Head 0's scores as the softmax reads them: at an even query block the last 256 columns are masked. -/
def sc6_0 (i : grid6.Coords) (x0 : Vec F S2x256x64 .bf16) (x1 : Vec F S2x2048x64 .bf16) (x3 : Vec F S2x256x768 .f32) : Vec F S1x256x2048 .f32 :=
  if (i 1).val = 0 then View.ld (View.canon (⟨rt6 0, k6_pay6⟩ :: ws6_0 i x0 x1 x3)) (rs6 0)
  else View.ld (View.canon (ws6_0 i x0 x1 x3)) (rs6 0)
def sc6_1 (i : grid6.Coords) (x0 : Vec F S2x256x64 .bf16) (x1 : Vec F S2x2048x64 .bf16) (x3 : Vec F S2x256x768 .f32) : Vec F S1x256x2048 .f32 :=
  if (i 1).val = 0 then View.ld (View.canon (⟨rt6 1, k6_pay6⟩ :: ws6_1 i x0 x1 x3)) (rs6 1)
  else View.ld (View.canon (ws6_1 i x0 x1 x3)) (rs6 1)

/-- A head's output from its scores: the softmax over the keys, the softmax over the memory, mixed by the gate. -/
def hd6 (h : Fin 2) (sc : Vec F S1x256x2048 .f32) (x0 : Vec F S2x256x64 .bf16) (x2 : Vec F S2x2048x64 .bf16)
    (x4 x5 : Vec F S2x64x64 .bf16) (x7 x8 : Vec F S2x1x128 .f32) : FVec F S1x256x64 .bf16 :=
  k6_pay10 (k6_pay7 (k6_pay3 (View.ld x2 (rk6 h))) sc) (k6_pay8 (View.ld x5 (rm6 h)))
    (k6_pay9 (k6_pay2 (View.ld x0 (rq6 h))) (View.ld x4 (rm6 h))) (View.ld x7 (ra6 h)) (View.ld x8 (rg6 h))

/-- The output block: both heads' planes. -/
def out6 (i : grid6.Coords) (x0 : Vec F S2x256x64 .bf16) (x1 x2 : Vec F S2x2048x64 .bf16) (x3 : Vec F S2x256x768 .f32)
    (x4 x5 : Vec F S2x64x64 .bf16) (x6 x7 x8 : Vec F S2x1x128 .f32) : Vec F S2x256x64 .bf16 :=
  View.canon [⟨rq6 1, hd6 1 (sc6_1 i x0 x1 x3) x0 x2 x4 x5 x7 x8⟩, ⟨rq6 0, hd6 0 (sc6_0 i x0 x1 x3) x0 x2 x4 x5 x7 x8⟩]

/-- Both planes together are the whole block. -/
theorem cover6 (p1 p0 : Vec F S1x256x64 .bf16) (y : S2x256x64.Idx) :
    ∃ pc ∈ ([⟨rq6 1, p1⟩, ⟨rq6 0, p0⟩] : List (View.Piece (Elt F) S2x256x64 .bf16)), y ∈ pc.1.set :=
  View.cover_of_tiled [⟨rq6 1, p1⟩, ⟨rq6 0, p0⟩] S1x256x64.size (by rfl) y

/-- A head's plane of the scratch is the indices with the head first. -/
theorem mem_rs6 (h : Fin 2) (y : S2x256x2048.Idx) (e : (y 0).val = h.val) : y ∈ (rs6 h).set := by
  refine Rect.mem_set_unit.mpr ?_
  intro a
  match a with
  | ⟨0, _⟩ => exact ⟨e.ge, show (y 0).val < h.val + 1 by omega⟩
  | ⟨1, _⟩ => exact ⟨Nat.zero_le _, show (y 1).val < 0 + 256 by have := (y 1).isLt; simpa using this⟩
  | ⟨2, _⟩ => exact ⟨Nat.zero_le _, show (y 2).val < 0 + 2048 by have := (y 2).isLt; simpa using this⟩

/-- What a load of a head's plane reads lies in that plane. -/
theorem pl_sub6 (h : Fin 2) (j : (rs6 h).shape.Idx) : (rs6 h).toLoadRect.idx j ∈ (rs6 h).set :=
  (rs6 h).toLoadRect.idx_mem j

/-- The biased window of a head lies in that head's plane. -/
theorem win_sub6_0 (i : grid6.Coords) (j : (rw6_0 i).shape.Idx) : (rw6_0 i).toLoadRect.idx j ∈ (rs6 0).set :=
  mem_rs6 0 _ (by
    have hj : (j 0).val < 1 := (j 0).isLt
    show k6_off1 i 0 + 1 * (j 0).val = 0
    have := congrFun (k6_off1_eq i) 0
    rw [this]; show 0 + 1 * (j 0).val = 0; omega)
theorem win_sub6_1 (i : grid6.Coords) (j : (rw6_1 i).shape.Idx) : (rw6_1 i).toLoadRect.idx j ∈ (rs6 1).set :=
  mem_rs6 1 _ (by
    have hj : (j 0).val < 1 := (j 0).isLt
    show k6_off3 i 0 + 1 * (j 0).val = 1
    have := congrFun (k6_off3_eq i) 0
    rw [this]; show 1 + 1 * (j 0).val = 1; omega)

/-- The bare scores are among a head's writes. -/
theorem mem_ws6_0 (i : grid6.Coords) (x0 : Vec F S2x256x64 .bf16) (x1 : Vec F S2x2048x64 .bf16) (x3 : Vec F S2x256x768 .f32) :
    (⟨rs6 0, qk6 0 x0 x1⟩ : View.Piece (Elt F) S2x256x2048 .f32) ∈ ws6_0 i x0 x1 x3 :=
  List.mem_cons_of_mem _ (List.mem_singleton_self _)
theorem mem_ws6_1 (i : grid6.Coords) (x0 : Vec F S2x256x64 .bf16) (x1 : Vec F S2x2048x64 .bf16) (x3 : Vec F S2x256x768 .f32) :
    (⟨rs6 1, qk6 1 x0 x1⟩ : View.Piece (Elt F) S2x256x2048 .f32) ∈ ws6_1 i x0 x1 x3 :=
  List.mem_cons_of_mem _ (List.mem_singleton_self _)

/-! ## The body's triple -/

set_option maxHeartbeats 2000000 in
/-- On whole staging buffers, the inputs' at their contents and the rest at anything, the body runs to the end: the
    inputs' buffers are as they were and the output's holds `out6` of them. -/
theorem sound_kernel6 (c : Dev nD) (E : Set ℕ) (i : grid6.Coords) (arg2 : Memref sig .tc .vmem S2x256x64 .bf16) (harg2 : arg2.IsWhole) (arg3 : Memref sig .tc .vmem S2x2048x64 .bf16) (harg3 : arg3.IsWhole) (arg4 : Memref sig .tc .vmem S2x2048x64 .bf16) (harg4 : arg4.IsWhole) (arg5 : Memref sig .tc .vmem S2x256x768 .f32) (harg5 : arg5.IsWhole) (arg6 : Memref sig .tc .vmem S2x64x64 .bf16) (harg6 : arg6.IsWhole) (arg7 : Memref sig .tc .vmem S2x64x64 .bf16) (harg7 : arg7.IsWhole) (arg8 : Memref sig .tc .vmem S2x1x128 .f32) (harg8 : arg8.IsWhole) (arg9 : Memref sig .tc .vmem S2x1x128 .f32) (harg9 : arg9.IsWhole) (arg10 : Memref sig .tc .vmem S2x1x128 .f32) (harg10 : arg10.IsWhole) (arg11 : Memref sig .tc .vmem S2x256x64 .bf16) (harg11 : arg11.IsWhole) (arg12 : Memref sig .tc .vmem S2x256x2048 .f32) (harg12 : arg12.IsWhole)
    (x0 : Vec F S2x256x64 .bf16) (x1 : Vec F S2x2048x64 .bf16) (x2 : Vec F S2x2048x64 .bf16) (x3 : Vec F S2x256x768 .f32) (x4 : Vec F S2x64x64 .bf16) (x5 : Vec F S2x64x64 .bf16) (x6 : Vec F S2x1x128 .f32) (x7 : Vec F S2x1x128 .f32) (x8 : Vec F S2x1x128 .f32) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ (∃ d, owns (c : Thread nD τ) arg11 fullShare d) ∗ (∃ d, owns (c : Thread nD τ) arg12 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare (out6 i x0 x1 x2 x3 x4 x5 x6 x7 x8) ∗ (∃ d, owns (c : Thread nD τ) arg12 fullShare d)) -∗ K ⟨⟩))
      ⊢ wp frame (wpE (defs₀ (F := F)) Variants.none c none) E (cc6__attn_kernel i arg2 harg2 arg3 harg3 arg4 harg4 arg5 harg5 arg6 harg6 arg7 harg7 arg8 harg8 arg9 harg9 arg10 harg10 arg11 harg11 arg12 harg12) K := by
  simp only [cc6__attn_kernel_eq_skeleton]; unfold cc6__attn_kernel_skel
  simp only [k6_part1_eq_skeleton, k6_part2_eq_skeleton, k6_part3_eq_skeleton, k6_part4_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%ds0, %fs0, -, HS0⟩, Hk⟩
  subst hf0 hf1 hf2 hf3 hf4 hf5 hf6 hf7 hf8
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  swap
  · iexists _; iexists _; isplitr; swap; · iexact HS0
    ipureintro; rfl
  iexists _; isplitr
  swap; · iexact H9
  ipureintro
  refine (View.read_writes_eq_canon _ _ _ (cover6 _ _)).trans ?_
  have hev : Iff (Cert.KernelIdeal.Own.sound_kernel6.sl.v39 i = 1#1) ((i 1).val = 0) :=
    (show ∀ i : grid6.Coords, Iff (Cert.KernelIdeal.Own.sound_kernel6.sl.v39 i = 1#1) ((i 1).val = 0) from by decide +kernel) i
  have h0 : Cert.KernelIdeal.Own.sound_kernel6.sl.v40 c i arg2 arg3 arg5 arg12 f0 f1 f3 fs0
      = sc6_0 i (View.read (Elt F) arg2.view f0) (View.read (Elt F) arg3.view f1) (View.read (Elt F) arg5.view f3) := by
    have hw : ∀ f, arg12.view.readAt (Elt F) (rw6_0 i).toLoadRect (arg12.view.writes (Elt F) f (Cert.KernelIdeal.Own.sound_kernel6.sl.HS0_1 c arg2 arg3 f0 f1))
        = View.ld (View.canon (wp6 0 (View.read (Elt F) arg2.view f0) (View.read (Elt F) arg3.view f1))) (rw6_0 i) :=
      fun f => readAt_writes_of_sub _ f (wp6 0 (View.read (Elt F) arg2.view f0) (View.read (Elt F) arg3.view f1)) _ fun j => ⟨_, List.mem_singleton_self _, win_sub6_0 i j⟩
    have hL : Cert.KernelIdeal.Own.sound_kernel6.sl.HS0_2 c i arg2 arg3 arg5 arg12 f0 f1 f3 fs0 = ws6_0 i (View.read (Elt F) arg2.view f0) (View.read (Elt F) arg3.view f1) (View.read (Elt F) arg5.view f3) := by
      unfold ws6_0; rw [← hw fs0]; rfl
    unfold Cert.KernelIdeal.Own.sound_kernel6.sl.v40 sc6_0
    rw [hL]
    by_cases he : (i 1).val = 0
    · rw [dif_pos (hev.mpr he), if_pos he]
      exact readAt_writes_of_sub _ _ _ _ fun j => ⟨_, List.mem_cons_of_mem _ (mem_ws6_0 i _ _ _), pl_sub6 0 j⟩
    · rw [dif_neg fun h => he (hev.mp h), if_neg he]
      exact readAt_writes_of_sub _ _ _ _ fun j => ⟨_, mem_ws6_0 i _ _ _, pl_sub6 0 j⟩
  have h1 : Cert.KernelIdeal.Own.sound_kernel6.sl.v121 c i arg2 arg3 arg5 arg12 f0 f1 f3 fs0
      = sc6_1 i (View.read (Elt F) arg2.view f0) (View.read (Elt F) arg3.view f1) (View.read (Elt F) arg5.view f3) := by
    have hw : ∀ f, arg12.view.readAt (Elt F) (rw6_1 i).toLoadRect (arg12.view.writes (Elt F) f (Cert.KernelIdeal.Own.sound_kernel6.sl.HS0_1_1 c arg2 arg3 f0 f1))
        = View.ld (View.canon (wp6 1 (View.read (Elt F) arg2.view f0) (View.read (Elt F) arg3.view f1))) (rw6_1 i) :=
      fun f => readAt_writes_of_sub _ f (wp6 1 (View.read (Elt F) arg2.view f0) (View.read (Elt F) arg3.view f1)) _ fun j => ⟨_, List.mem_singleton_self _, win_sub6_1 i j⟩
    have hL : Cert.KernelIdeal.Own.sound_kernel6.sl.HS0_2_1 c i arg2 arg3 arg5 arg12 f0 f1 f3 fs0 = ws6_1 i (View.read (Elt F) arg2.view f0) (View.read (Elt F) arg3.view f1) (View.read (Elt F) arg5.view f3) := by
      unfold ws6_1; rw [← hw (if hc : Cert.KernelIdeal.Own.sound_kernel6.sl.v39 i = 1#1 then arg12.view.writes (Elt F) fs0 (⟨rt6 0, k6_pay6⟩ :: Cert.KernelIdeal.Own.sound_kernel6.sl.HS0_2 c i arg2 arg3 arg5 arg12 f0 f1 f3 fs0) else arg12.view.writes (Elt F) fs0 (Cert.KernelIdeal.Own.sound_kernel6.sl.HS0_2 c i arg2 arg3 arg5 arg12 f0 f1 f3 fs0))]; rfl
    unfold Cert.KernelIdeal.Own.sound_kernel6.sl.v121 sc6_1
    rw [hL]
    by_cases he : (i 1).val = 0
    · rw [dif_pos (hev.mpr he), if_pos he]
      exact readAt_writes_of_sub _ _ _ _ fun j => ⟨_, List.mem_cons_of_mem _ (mem_ws6_1 i _ _ _), pl_sub6 1 j⟩
    · rw [dif_neg fun h => he (hev.mp h), if_neg he]
      exact readAt_writes_of_sub _ _ _ _ fun j => ⟨_, mem_ws6_1 i _ _ _, pl_sub6 1 j⟩
  unfold out6
  rw [← h0, ← h1]
  rfl

/-! ## The pipeline's proof data -/

section Region
variable (V : Dev nD → Valuation τ sig (Elt F))

/-- Window `w`'s block at point `t`, read off its array as the region finds it. -/
def iblk6 (c : Dev nD) (w : Fin cfg6.W) (t : Fin cfg6.N) : ((cfg6.win w).xblock (cfg6.grid.coords t)).Idx → Elt F (cfg6.win w).elt :=
  ((cfg6.win w).blk t).view.read (Elt F) (V c (Proc.devRef .tc (Pipeline.arrRef spec6 w)))

/-- What the output's staging buffer holds after point `t`. -/
def oblk6 (c : Dev nD) (t : Fin cfg6.N) : Vec F S2x256x64 .bf16 :=
  out6 (grid6.coords t) (iblk6 V c 0 t) (iblk6 V c 1 t) (iblk6 V c 2 t) (iblk6 V c 3 t) (iblk6 V c 4 t) (iblk6 V c 5 t) (iblk6 V c 6 t) (iblk6 V c 7 t) (iblk6 V c 8 t)

/-- The proof data of pipeline 6 on core `c`. -/
def dat6 (c : Dev nD) : Dat τ (Elt F) Unit ℕ (UR sig nD τ) ℕ cfg6 c where
  A w := V c (Proc.devRef .tc (Pipeline.arrRef spec6 w))
  after w t := match w with
    | ⟨0, _⟩ => iblk6 V c 0 t
    | ⟨1, _⟩ => iblk6 V c 1 t
    | ⟨2, _⟩ => iblk6 V c 2 t
    | ⟨3, _⟩ => iblk6 V c 3 t
    | ⟨4, _⟩ => iblk6 V c 4 t
    | ⟨5, _⟩ => iblk6 V c 5 t
    | ⟨6, _⟩ => iblk6 V c 6 t
    | ⟨7, _⟩ => iblk6 V c 7 t
    | ⟨8, _⟩ => iblk6 V c 8 t
    | ⟨9, _⟩ => oblk6 V c t
  Φ _ := Pipeline.ΦA spec6 c
  q w := Pipeline.shareOf spec6 w
  owed _ := 0

theorem A_eq6 (c : Dev nD) (w : Fin cfg6.W) : (dat6 V c).A w = V c (Proc.devRef .tc (Pipeline.arrRef spec6 w)) := by
  dsimp only [dat6]
theorem after6_0 (c : Dev nD) (t : Fin cfg6.N) : (dat6 V c).after 0 t = iblk6 V c 0 t := by dsimp only [dat6]
theorem after6_1 (c : Dev nD) (t : Fin cfg6.N) : (dat6 V c).after 1 t = iblk6 V c 1 t := by dsimp only [dat6]
theorem after6_2 (c : Dev nD) (t : Fin cfg6.N) : (dat6 V c).after 2 t = iblk6 V c 2 t := by dsimp only [dat6]
theorem after6_3 (c : Dev nD) (t : Fin cfg6.N) : (dat6 V c).after 3 t = iblk6 V c 3 t := by dsimp only [dat6]
theorem after6_4 (c : Dev nD) (t : Fin cfg6.N) : (dat6 V c).after 4 t = iblk6 V c 4 t := by dsimp only [dat6]
theorem after6_5 (c : Dev nD) (t : Fin cfg6.N) : (dat6 V c).after 5 t = iblk6 V c 5 t := by dsimp only [dat6]
theorem after6_6 (c : Dev nD) (t : Fin cfg6.N) : (dat6 V c).after 6 t = iblk6 V c 6 t := by dsimp only [dat6]
theorem after6_7 (c : Dev nD) (t : Fin cfg6.N) : (dat6 V c).after 7 t = iblk6 V c 7 t := by dsimp only [dat6]
theorem after6_8 (c : Dev nD) (t : Fin cfg6.N) : (dat6 V c).after 8 t = iblk6 V c 8 t := by dsimp only [dat6]
theorem after6_9 (c : Dev nD) (t : Fin cfg6.N) : (dat6 V c).after 9 t = oblk6 V c t := by dsimp only [dat6]

/-! Each input's current staging buffer holds its block at every point, fetched there or not. -/
theorem before6_0 (c : Dev nD) (t : Fin cfg6.N) (d) : (dat6 V c).before 0 t d = iblk6 V c 0 t :=
  ((dat6 V c).before_in_eq_fetched 0 rfl (fun _ => rfl) (fun _ _ _ => rfl)
    (fun t => by rw [after6_0]; unfold Dat.blockOf iblk6; rw [A_eq6]; try rfl) t d).trans
    (by unfold Dat.fetched Dat.blockOf iblk6; rw [A_eq6]; try rfl)
theorem before6_1 (c : Dev nD) (t : Fin cfg6.N) (d) : (dat6 V c).before 1 t d = iblk6 V c 1 t :=
  ((dat6 V c).before_in_eq_fetched 1 rfl (fun _ => rfl) (fun _ _ _ => rfl)
    (fun t => by rw [after6_1]; unfold Dat.blockOf iblk6; rw [A_eq6]; try rfl) t d).trans
    (by unfold Dat.fetched Dat.blockOf iblk6; rw [A_eq6]; try rfl)
theorem before6_2 (c : Dev nD) (t : Fin cfg6.N) (d) : (dat6 V c).before 2 t d = iblk6 V c 2 t :=
  ((dat6 V c).before_in_eq_fetched 2 rfl (fun _ => rfl) (fun _ _ _ => rfl)
    (fun t => by rw [after6_2]; unfold Dat.blockOf iblk6; rw [A_eq6]; try rfl) t d).trans
    (by unfold Dat.fetched Dat.blockOf iblk6; rw [A_eq6]; try rfl)
theorem before6_3 (c : Dev nD) (t : Fin cfg6.N) (d) : (dat6 V c).before 3 t d = iblk6 V c 3 t :=
  ((dat6 V c).before_in_eq_fetched 3 rfl (fun _ => rfl) (fun _ _ _ => rfl)
    (fun t => by rw [after6_3]; unfold Dat.blockOf iblk6; rw [A_eq6]; try rfl) t d).trans
    (by unfold Dat.fetched Dat.blockOf iblk6; rw [A_eq6]; try rfl)
theorem before6_4 (c : Dev nD) (t : Fin cfg6.N) (d) : (dat6 V c).before 4 t d = iblk6 V c 4 t :=
  ((dat6 V c).before_in_eq_fetched 4 rfl (fun _ => rfl) (fun _ _ _ => rfl)
    (fun t => by rw [after6_4]; unfold Dat.blockOf iblk6; rw [A_eq6]; try rfl) t d).trans
    (by unfold Dat.fetched Dat.blockOf iblk6; rw [A_eq6]; try rfl)
theorem before6_5 (c : Dev nD) (t : Fin cfg6.N) (d) : (dat6 V c).before 5 t d = iblk6 V c 5 t :=
  ((dat6 V c).before_in_eq_fetched 5 rfl (fun _ => rfl) (fun _ _ _ => rfl)
    (fun t => by rw [after6_5]; unfold Dat.blockOf iblk6; rw [A_eq6]; try rfl) t d).trans
    (by unfold Dat.fetched Dat.blockOf iblk6; rw [A_eq6]; try rfl)
theorem before6_6 (c : Dev nD) (t : Fin cfg6.N) (d) : (dat6 V c).before 6 t d = iblk6 V c 6 t :=
  ((dat6 V c).before_in_eq_fetched 6 rfl (fun _ => rfl) (fun _ _ _ => rfl)
    (fun t => by rw [after6_6]; unfold Dat.blockOf iblk6; rw [A_eq6]; try rfl) t d).trans
    (by unfold Dat.fetched Dat.blockOf iblk6; rw [A_eq6]; try rfl)
theorem before6_7 (c : Dev nD) (t : Fin cfg6.N) (d) : (dat6 V c).before 7 t d = iblk6 V c 7 t :=
  ((dat6 V c).before_in_eq_fetched 7 rfl (fun _ => rfl) (fun _ _ _ => rfl)
    (fun t => by rw [after6_7]; unfold Dat.blockOf iblk6; rw [A_eq6]; try rfl) t d).trans
    (by unfold Dat.fetched Dat.blockOf iblk6; rw [A_eq6]; try rfl)
theorem before6_8 (c : Dev nD) (t : Fin cfg6.N) (d) : (dat6 V c).before 8 t d = iblk6 V c 8 t :=
  ((dat6 V c).before_in_eq_fetched 8 rfl (fun _ => rfl) (fun _ _ _ => rfl)
    (fun t => by rw [after6_8]; unfold Dat.blockOf iblk6; rw [A_eq6]; try rfl) t d).trans
    (by unfold Dat.fetched Dat.blockOf iblk6; rw [A_eq6]; try rfl)

/-! ## The body obligation -/

/-- What the body is called with at point `t`, -/
def bodyPre6 (c : Dev nD) (t : Fin cfg6.N) : sProp 𝕄 :=
  iprop((dat6 V c).Φ t.castSucc ∗ (dat6 V c).owesAt () t.castSucc
    ∗ (∃ d, owns (c : Thread nD τ) (win6_0.stage (cfg6.slots t 0)) fullShare ((dat6 V c).before 0 t d))
    ∗ (∃ d, owns (c : Thread nD τ) (win6_1.stage (cfg6.slots t 1)) fullShare ((dat6 V c).before 1 t d))
    ∗ (∃ d, owns (c : Thread nD τ) (win6_2.stage (cfg6.slots t 2)) fullShare ((dat6 V c).before 2 t d))
    ∗ (∃ d, owns (c : Thread nD τ) (win6_3.stage (cfg6.slots t 3)) fullShare ((dat6 V c).before 3 t d))
    ∗ (∃ d, owns (c : Thread nD τ) (win6_4.stage (cfg6.slots t 4)) fullShare ((dat6 V c).before 4 t d))
    ∗ (∃ d, owns (c : Thread nD τ) (win6_5.stage (cfg6.slots t 5)) fullShare ((dat6 V c).before 5 t d))
    ∗ (∃ d, owns (c : Thread nD τ) (win6_6.stage (cfg6.slots t 6)) fullShare ((dat6 V c).before 6 t d))
    ∗ (∃ d, owns (c : Thread nD τ) (win6_7.stage (cfg6.slots t 7)) fullShare ((dat6 V c).before 7 t d))
    ∗ (∃ d, owns (c : Thread nD τ) (win6_8.stage (cfg6.slots t 8)) fullShare ((dat6 V c).before 8 t d))
    ∗ (∃ d, owns (c : Thread nD τ) (win6_9.stage (cfg6.slots t 9)) fullShare ((dat6 V c).before 9 t d)))
/-- and what it returns. -/
def bodyPost6 (c : Dev nD) (t : Fin cfg6.N) : sProp 𝕄 :=
  iprop((dat6 V c).Φ t.succ ∗ (dat6 V c).owesAt () t.succ
    ∗ owns (c : Thread nD τ) (win6_0.stage (cfg6.slots t 0)) fullShare ((dat6 V c).after 0 t)
    ∗ owns (c : Thread nD τ) (win6_1.stage (cfg6.slots t 1)) fullShare ((dat6 V c).after 1 t)
    ∗ owns (c : Thread nD τ) (win6_2.stage (cfg6.slots t 2)) fullShare ((dat6 V c).after 2 t)
    ∗ owns (c : Thread nD τ) (win6_3.stage (cfg6.slots t 3)) fullShare ((dat6 V c).after 3 t)
    ∗ owns (c : Thread nD τ) (win6_4.stage (cfg6.slots t 4)) fullShare ((dat6 V c).after 4 t)
    ∗ owns (c : Thread nD τ) (win6_5.stage (cfg6.slots t 5)) fullShare ((dat6 V c).after 5 t)
    ∗ owns (c : Thread nD τ) (win6_6.stage (cfg6.slots t 6)) fullShare ((dat6 V c).after 6 t)
    ∗ owns (c : Thread nD τ) (win6_7.stage (cfg6.slots t 7)) fullShare ((dat6 V c).after 7 t)
    ∗ owns (c : Thread nD τ) (win6_8.stage (cfg6.slots t 8)) fullShare ((dat6 V c).after 8 t)
    ∗ owns (c : Thread nD τ) (win6_9.stage (cfg6.slots t 9)) fullShare ((dat6 V c).after 9 t))

/-- The invariant with the scratch buffer taken out of it. -/
theorem PhiA6_eq (c : Dev nD) :
    (Pipeline.ΦA spec6 c : sProp 𝕄)
      = iprop(iprop((∃ d, owns (c : Thread nD τ) (Memref.whole cc6_scratch0 : Memref sig .tc .vmem S2x256x2048 .f32) fullShare d)
          ∗ Pipeline.scopedRestBut spec6 c [cc6_scratch0]) ∗ (∃ r, prngReg c r)) := by
  unfold Pipeline.ΦA; rw [scopedRest6_split]; simp only [owns_whole]; try rfl

set_option maxHeartbeats 1000000 in
/-- The body at any point. -/
theorem sound_body6 (c : Dev nD) (t : Fin cfg6.N) :
    bodyPre6 V c t ⊢ wp frame (wpE (defs₀ (F := F)) Variants.none c none) Set.univ (bodyAt6 t) (fun _ => bodyPost6 V c t) := by
  unfold bodyPre6 bodyPost6 bodyAt6
  simp only [before6_0, before6_1, before6_2, before6_3, before6_4, before6_5, before6_6, before6_7, before6_8]
  rw [show (dat6 V c).Φ t.succ = (dat6 V c).Φ t.castSucc from rfl,
    show (dat6 V c).owesAt () t.succ = (dat6 V c).owesAt () t.castSucc from rfl,
    after6_0, after6_1, after6_2, after6_3, after6_4, after6_5, after6_6, after6_7, after6_8, after6_9]
  rw [show (dat6 V c).Φ t.castSucc = Pipeline.ΦA spec6 c from rfl, PhiA6_eq]
  unfold oblk6
  iintro ⟨⟨⟨HS0, HR1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (sound_kernel6 c Set.univ (grid6.coords t) _ _ _ _ _ _ _ _ _ _ _ _ _ _ _ _ _ _ _ _ _ _ (iblk6 V c 0 t) (iblk6 V c 1 t) (iblk6 V c 2 t) (iblk6 V c 3 t) (iblk6 V c 4 t) (iblk6 V c 5 t) (iblk6 V c 6 t) (iblk6 V c 7 t) (iblk6 V c 8 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  isplitl [HS0]; · iexact HS0
  iintro ⟨H0, H1, H2, H3, H4, H5, H6, H7, H8, H9, HS0⟩
  isplitl [HS0 HR1 Hg]
  · isplitl [HS0 HR1]
    · isplitl [HS0]; · iexact HS0
      iexact HR1
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

/-- The body table's row at point `t`'s slots is the body. -/
theorem defs₀_row6 (t : Fin cfg6.N) :
    defs₀ (F := F) .tc cfg6.body (cfg6.bodyArgs t (cfg6.slots t)) = bodyAt6 t := by
  unfold defs₀; rw [Defs.onTc_tc]

/-- The library's body obligation, at every point. -/
theorem body_obligation6 (c : Dev nD) : BodyObligation (dat6 (F := F) V c) (defs₀ (F := F)) Variants.none () Set.univ := fun t => by
  rw [bigSep_W6, bigSep_W6, defs₀_row6]
  exact triple_restated (sound_body6 V c t) rfl .rfl fun _ => .rfl

end Region

end Cert.KernelIdeal.Own

end
-- ==== Proof.KernelIdeal.Region7.lean ====
module

public import proofs.«01_k».proof.Proof.KernelIdeal.Common

@[expose] public section

set_option maxRecDepth 16384

noncomputable section

namespace Cert.KernelIdeal.Own

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-! # Region 7: the output projection, the four query chunks' heads put side by side -/

abbrev rh7 (h : Fin 12) : Rect S12x512x64 := Rect.unit (s := S12x512x64) ![h.val, 0, 0] S1x512x64.size (by fin_cases h <;> decide)
abbrev rw7 : Rect S768x768 := Rect.unit (s := S768x768) ![0, 0] S768x768.size inb_S768x768_S768x768_0_0
abbrev rb7 : Rect S1x768 := Rect.unit (s := S1x768) ![0, 0] S1x768.size inb_S1x768_S1x768_0_0

/-- A chunk of 512 rows: the heads' columns side by side, times the matrix, plus the offset. -/
def rows7 (x : Vec F S12x512x64 .bf16) (w : Vec F S768x768 .f32) (b : Vec F S1x768 .f32) : FVec F S512x768 .f32 :=
  k7_pay13 (k7_pay1 (View.ld w rw7)) (k7_pay2 (View.ld x (rh7 0))) (k7_pay3 (View.ld x (rh7 1))) (k7_pay4 (View.ld x (rh7 2)))
    (k7_pay5 (View.ld x (rh7 3))) (k7_pay6 (View.ld x (rh7 4))) (k7_pay7 (View.ld x (rh7 5))) (k7_pay8 (View.ld x (rh7 6)))
    (k7_pay9 (View.ld x (rh7 7))) (k7_pay10 (View.ld x (rh7 8))) (k7_pay11 (View.ld x (rh7 9))) (k7_pay12 (View.ld x (rh7 10)))
    (View.ld x (rh7 11)) (View.ld b rb7)

abbrev rr7_0 : Rect S2048x768 := Rect.unit (s := S2048x768) ![0, 0] S512x768.size inb_S2048x768_S512x768_0_0
abbrev rr7_1 : Rect S2048x768 := Rect.unit (s := S2048x768) ![512, 0] S512x768.size inb_S2048x768_S512x768_512_0
abbrev rr7_2 : Rect S2048x768 := Rect.unit (s := S2048x768) ![1024, 0] S512x768.size inb_S2048x768_S512x768_1024_0
abbrev rr7_3 : Rect S2048x768 := Rect.unit (s := S2048x768) ![1536, 0] S512x768.size inb_S2048x768_S512x768_1536_0

/-- The whole output: the four chunks one under the other. -/
def out7 (x0 x1 x2 x3 : Vec F S12x512x64 .bf16) (x4 : Vec F S768x768 .f32) (x5 : Vec F S1x768 .f32) : Vec F S2048x768 .f32 :=
  View.canon [⟨rr7_3, rows7 x3 x4 x5⟩, ⟨rr7_2, rows7 x2 x4 x5⟩, ⟨rr7_1, rows7 x1 x4 x5⟩, ⟨rr7_0, rows7 x0 x4 x5⟩]

/-- The four chunks are the whole output. -/
theorem cover7 (p3 p2 p1 p0 : Vec F S512x768 .f32) (y : S2048x768.Idx) :
    ∃ pc ∈ ([⟨rr7_3, p3⟩, ⟨rr7_2, p2⟩, ⟨rr7_1, p1⟩, ⟨rr7_0, p0⟩] : List (View.Piece (Elt F) S2048x768 .f32)), y ∈ pc.1.set :=
  View.cover_of_tiled [⟨rr7_3, p3⟩, ⟨rr7_2, p2⟩, ⟨rr7_1, p1⟩, ⟨rr7_0, p0⟩] S512x768.size (by rfl) y

/-! ## The body's triple -/

set_option maxHeartbeats 2000000 in
/-- On whole staging buffers, the inputs' at their contents and the rest at anything, the body runs to the end: the
    inputs' buffers are as they were and the output's holds `out7` of them. -/
theorem sound_kernel7 (c : Dev nD) (E : Set ℕ) (i : grid7.Coords) (arg1 : Memref sig .tc .vmem S12x512x64 .bf16) (harg1 : arg1.IsWhole) (arg2 : Memref sig .tc .vmem S12x512x64 .bf16) (harg2 : arg2.IsWhole) (arg3 : Memref sig .tc .vmem S12x512x64 .bf16) (harg3 : arg3.IsWhole) (arg4 : Memref sig .tc .vmem S12x512x64 .bf16) (harg4 : arg4.IsWhole) (arg5 : Memref sig .tc .vmem S768x768 .f32) (harg5 : arg5.IsWhole) (arg6 : Memref sig .tc .vmem S1x768 .f32) (harg6 : arg6.IsWhole) (arg7 : Memref sig .tc .vmem S2048x768 .f32) (harg7 : arg7.IsWhole)
    (x0 : Vec F S12x512x64 .bf16) (x1 : Vec F S12x512x64 .bf16) (x2 : Vec F S12x512x64 .bf16) (x3 : Vec F S12x512x64 .bf16) (x4 : Vec F S768x768 .f32) (x5 : Vec F S1x768 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare (out7 x0 x1 x2 x3 x4 x5)) -∗ K ⟨⟩))
      ⊢ wp frame (wpE (defs₀ (F := F)) Variants.none c none) E (cc7__out_kernel i arg1 harg1 arg2 harg2 arg3 harg3 arg4 harg4 arg5 harg5 arg6 harg6 arg7 harg7) K := by
  simp only [cc7__out_kernel_eq_skeleton]; unfold cc7__out_kernel_skel
  simp only [k7_part5_eq_skeleton, k7_part1_eq_skeleton, k7_part2_eq_skeleton, k7_part3_eq_skeleton, k7_part4_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  refine (View.read_writes_eq_canon _ _ _ (cover7 _ _ _ _)).trans ?_
  rfl

/-! ## The pipeline's proof data -/

section Region
variable (V : Dev nD → Valuation τ sig (Elt F))

/-- Window `w`'s block at point `t`, read off its array as the region finds it. -/
def iblk7 (c : Dev nD) (w : Fin cfg7.W) (t : Fin cfg7.N) : ((cfg7.win w).xblock (cfg7.grid.coords t)).Idx → Elt F (cfg7.win w).elt :=
  ((cfg7.win w).blk t).view.read (Elt F) (V c (Proc.devRef .tc (Pipeline.arrRef spec7 w)))

/-- What the output's staging buffer holds after point `t`. -/
def oblk7 (c : Dev nD) (t : Fin cfg7.N) : Vec F S2048x768 .f32 :=
  out7 (iblk7 V c 0 t) (iblk7 V c 1 t) (iblk7 V c 2 t) (iblk7 V c 3 t) (iblk7 V c 4 t) (iblk7 V c 5 t)

/-- The proof data of pipeline 7 on core `c`. -/
def dat7 (c : Dev nD) : Dat τ (Elt F) Unit ℕ (UR sig nD τ) ℕ cfg7 c where
  A w := V c (Proc.devRef .tc (Pipeline.arrRef spec7 w))
  after w t := match w with
    | ⟨0, _⟩ => iblk7 V c 0 t
    | ⟨1, _⟩ => iblk7 V c 1 t
    | ⟨2, _⟩ => iblk7 V c 2 t
    | ⟨3, _⟩ => iblk7 V c 3 t
    | ⟨4, _⟩ => iblk7 V c 4 t
    | ⟨5, _⟩ => iblk7 V c 5 t
    | ⟨6, _⟩ => oblk7 V c t
  Φ _ := Pipeline.ΦA spec7 c
  q w := Pipeline.shareOf spec7 w
  owed _ := 0

theorem A_eq7 (c : Dev nD) (w : Fin cfg7.W) : (dat7 V c).A w = V c (Proc.devRef .tc (Pipeline.arrRef spec7 w)) := by
  dsimp only [dat7]
theorem after7_0 (c : Dev nD) (t : Fin cfg7.N) : (dat7 V c).after 0 t = iblk7 V c 0 t := by dsimp only [dat7]
theorem after7_1 (c : Dev nD) (t : Fin cfg7.N) : (dat7 V c).after 1 t = iblk7 V c 1 t := by dsimp only [dat7]
theorem after7_2 (c : Dev nD) (t : Fin cfg7.N) : (dat7 V c).after 2 t = iblk7 V c 2 t := by dsimp only [dat7]
theorem after7_3 (c : Dev nD) (t : Fin cfg7.N) : (dat7 V c).after 3 t = iblk7 V c 3 t := by dsimp only [dat7]
theorem after7_4 (c : Dev nD) (t : Fin cfg7.N) : (dat7 V c).after 4 t = iblk7 V c 4 t := by dsimp only [dat7]
theorem after7_5 (c : Dev nD) (t : Fin cfg7.N) : (dat7 V c).after 5 t = iblk7 V c 5 t := by dsimp only [dat7]
theorem after7_6 (c : Dev nD) (t : Fin cfg7.N) : (dat7 V c).after 6 t = oblk7 V c t := by dsimp only [dat7]

/-! Each input's current staging buffer holds its block at every point, fetched there or not. -/
theorem before7_0 (c : Dev nD) (t : Fin cfg7.N) (d) : (dat7 V c).before 0 t d = iblk7 V c 0 t :=
  ((dat7 V c).before_in_eq_fetched 0 rfl (fun _ => rfl) (fun _ _ _ => rfl)
    (fun t => by rw [after7_0]; unfold Dat.blockOf iblk7; rw [A_eq7]; try rfl) t d).trans
    (by unfold Dat.fetched Dat.blockOf iblk7; rw [A_eq7]; try rfl)
theorem before7_1 (c : Dev nD) (t : Fin cfg7.N) (d) : (dat7 V c).before 1 t d = iblk7 V c 1 t :=
  ((dat7 V c).before_in_eq_fetched 1 rfl (fun _ => rfl) (fun _ _ _ => rfl)
    (fun t => by rw [after7_1]; unfold Dat.blockOf iblk7; rw [A_eq7]; try rfl) t d).trans
    (by unfold Dat.fetched Dat.blockOf iblk7; rw [A_eq7]; try rfl)
theorem before7_2 (c : Dev nD) (t : Fin cfg7.N) (d) : (dat7 V c).before 2 t d = iblk7 V c 2 t :=
  ((dat7 V c).before_in_eq_fetched 2 rfl (fun _ => rfl) (fun _ _ _ => rfl)
    (fun t => by rw [after7_2]; unfold Dat.blockOf iblk7; rw [A_eq7]; try rfl) t d).trans
    (by unfold Dat.fetched Dat.blockOf iblk7; rw [A_eq7]; try rfl)
theorem before7_3 (c : Dev nD) (t : Fin cfg7.N) (d) : (dat7 V c).before 3 t d = iblk7 V c 3 t :=
  ((dat7 V c).before_in_eq_fetched 3 rfl (fun _ => rfl) (fun _ _ _ => rfl)
    (fun t => by rw [after7_3]; unfold Dat.blockOf iblk7; rw [A_eq7]; try rfl) t d).trans
    (by unfold Dat.fetched Dat.blockOf iblk7; rw [A_eq7]; try rfl)
theorem before7_4 (c : Dev nD) (t : Fin cfg7.N) (d) : (dat7 V c).before 4 t d = iblk7 V c 4 t :=
  ((dat7 V c).before_in_eq_fetched 4 rfl (fun _ => rfl) (fun _ _ _ => rfl)
    (fun t => by rw [after7_4]; unfold Dat.blockOf iblk7; rw [A_eq7]; try rfl) t d).trans
    (by unfold Dat.fetched Dat.blockOf iblk7; rw [A_eq7]; try rfl)
theorem before7_5 (c : Dev nD) (t : Fin cfg7.N) (d) : (dat7 V c).before 5 t d = iblk7 V c 5 t :=
  ((dat7 V c).before_in_eq_fetched 5 rfl (fun _ => rfl) (fun _ _ _ => rfl)
    (fun t => by rw [after7_5]; unfold Dat.blockOf iblk7; rw [A_eq7]; try rfl) t d).trans
    (by unfold Dat.fetched Dat.blockOf iblk7; rw [A_eq7]; try rfl)

/-! ## The body obligation -/

/-- What the body is called with at point `t`, -/
def bodyPre7 (c : Dev nD) (t : Fin cfg7.N) : sProp 𝕄 :=
  iprop((dat7 V c).Φ t.castSucc ∗ (dat7 V c).owesAt () t.castSucc
    ∗ (∃ d, owns (c : Thread nD τ) (win7_0.stage (cfg7.slots t 0)) fullShare ((dat7 V c).before 0 t d))
    ∗ (∃ d, owns (c : Thread nD τ) (win7_1.stage (cfg7.slots t 1)) fullShare ((dat7 V c).before 1 t d))
    ∗ (∃ d, owns (c : Thread nD τ) (win7_2.stage (cfg7.slots t 2)) fullShare ((dat7 V c).before 2 t d))
    ∗ (∃ d, owns (c : Thread nD τ) (win7_3.stage (cfg7.slots t 3)) fullShare ((dat7 V c).before 3 t d))
    ∗ (∃ d, owns (c : Thread nD τ) (win7_4.stage (cfg7.slots t 4)) fullShare ((dat7 V c).before 4 t d))
    ∗ (∃ d, owns (c : Thread nD τ) (win7_5.stage (cfg7.slots t 5)) fullShare ((dat7 V c).before 5 t d))
    ∗ (∃ d, owns (c : Thread nD τ) (win7_6.stage (cfg7.slots t 6)) fullShare ((dat7 V c).before 6 t d)))
/-- and what it returns. -/
def bodyPost7 (c : Dev nD) (t : Fin cfg7.N) : sProp 𝕄 :=
  iprop((dat7 V c).Φ t.succ ∗ (dat7 V c).owesAt () t.succ
    ∗ owns (c : Thread nD τ) (win7_0.stage (cfg7.slots t 0)) fullShare ((dat7 V c).after 0 t)
    ∗ owns (c : Thread nD τ) (win7_1.stage (cfg7.slots t 1)) fullShare ((dat7 V c).after 1 t)
    ∗ owns (c : Thread nD τ) (win7_2.stage (cfg7.slots t 2)) fullShare ((dat7 V c).after 2 t)
    ∗ owns (c : Thread nD τ) (win7_3.stage (cfg7.slots t 3)) fullShare ((dat7 V c).after 3 t)
    ∗ owns (c : Thread nD τ) (win7_4.stage (cfg7.slots t 4)) fullShare ((dat7 V c).after 4 t)
    ∗ owns (c : Thread nD τ) (win7_5.stage (cfg7.slots t 5)) fullShare ((dat7 V c).after 5 t)
    ∗ owns (c : Thread nD τ) (win7_6.stage (cfg7.slots t 6)) fullShare ((dat7 V c).after 6 t))

set_option maxHeartbeats 1000000 in
/-- The body at any point. -/
theorem sound_body7 (c : Dev nD) (t : Fin cfg7.N) :
    bodyPre7 V c t ⊢ wp frame (wpE (defs₀ (F := F)) Variants.none c none) Set.univ (bodyAt7 t) (fun _ => bodyPost7 V c t) := by
  unfold bodyPre7 bodyPost7 bodyAt7
  simp only [before7_0, before7_1, before7_2, before7_3, before7_4, before7_5]
  rw [show (dat7 V c).Φ t.succ = (dat7 V c).Φ t.castSucc from rfl,
    show (dat7 V c).owesAt () t.succ = (dat7 V c).owesAt () t.castSucc from rfl,
    after7_0, after7_1, after7_2, after7_3, after7_4, after7_5, after7_6]
  unfold oblk7
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel7 c Set.univ (grid7.coords t) _ _ _ _ _ _ _ _ _ _ _ _ _ _ (iblk7 V c 0 t) (iblk7 V c 1 t) (iblk7 V c 2 t) (iblk7 V c 3 t) (iblk7 V c 4 t) (iblk7 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The body table's row at point `t`'s slots is the body. -/
theorem defs₀_row7 (t : Fin cfg7.N) :
    defs₀ (F := F) .tc cfg7.body (cfg7.bodyArgs t (cfg7.slots t)) = bodyAt7 t := by
  unfold defs₀; rw [Defs.onTc_tc]

/-- The library's body obligation, at every point. -/
theorem body_obligation7 (c : Dev nD) : BodyObligation (dat7 (F := F) V c) (defs₀ (F := F)) Variants.none () Set.univ := fun t => by
  rw [bigSep_W7, bigSep_W7, defs₀_row7]
  exact triple_restated (sound_body7 V c t) rfl .rfl fun _ => .rfl

end Region

end Cert.KernelIdeal.Own

end
-- ==== Proof.KernelIdeal.Fold.lean ====
module

public import proofs.«01_k».proof.Proof.KernelIdeal.Region0
public import proofs.«01_k».proof.Proof.KernelIdeal.Region1
public import proofs.«01_k».proof.Proof.KernelIdeal.Region2
public import proofs.«01_k».proof.Proof.KernelIdeal.Region3
public import proofs.«01_k».proof.Proof.KernelIdeal.Region4
public import proofs.«01_k».proof.Proof.KernelIdeal.Region5
public import proofs.«01_k».proof.Proof.KernelIdeal.Region6
public import proofs.«01_k».proof.Proof.KernelIdeal.Region7

@[expose] public section

set_option maxRecDepth 16384

noncomputable section

namespace Cert.KernelIdeal.Own

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ)

/-! ## The buffers between the items of the program: what each region leaves in its output, what each host stretch computes -/

/-- After region 0: its output `main_v1` as its write-backs leave it, every other buffer as before. -/
def W2 (c : Dev nD) : Valuation τ sig (Elt F) :=
  Function.update (V1 m c) main_v1 ((dat0 (V1 m) c).arrAt 2 cfg0.N)
/-- After region 1: its output `main_v2` as its write-backs leave it, every other buffer as before. -/
def W3 (c : Dev nD) : Valuation τ sig (Elt F) :=
  Function.update (W2 m c) main_v2 ((dat1 (W2 m) c).arrAt 2 cfg1.N)
/-- After the host stretch `hostOps2`. -/
abbrev W4 (c : Dev nD) : Valuation τ sig (Elt F) := StableHlo.after hostOps2 (W3 m c)
/-- After the host stretch `hostOps2_1`. -/
abbrev W5 (c : Dev nD) : Valuation τ sig (Elt F) := StableHlo.after hostOps2_1 (W4 m c)
/-- After the host stretch `hostOps2_2`. -/
abbrev W6 (c : Dev nD) : Valuation τ sig (Elt F) := StableHlo.after hostOps2_2 (W5 m c)
/-- After the host stretch `hostOps2_3`. -/
abbrev W7 (c : Dev nD) : Valuation τ sig (Elt F) := StableHlo.after hostOps2_3 (W6 m c)
/-- After the host stretch `hostOps2_4`. -/
abbrev W8 (c : Dev nD) : Valuation τ sig (Elt F) := StableHlo.after hostOps2_4 (W7 m c)
/-- After the host stretch `hostOps2_5`. -/
abbrev W9 (c : Dev nD) : Valuation τ sig (Elt F) := StableHlo.after hostOps2_5 (W8 m c)
/-- After the host stretch `hostOps2_6`. -/
abbrev W10 (c : Dev nD) : Valuation τ sig (Elt F) := StableHlo.after hostOps2_6 (W9 m c)
/-- After the host stretch `hostOps2_7`. -/
abbrev W11 (c : Dev nD) : Valuation τ sig (Elt F) := StableHlo.after hostOps2_7 (W10 m c)
/-- After the host stretch `hostOps2_8`. -/
abbrev W12 (c : Dev nD) : Valuation τ sig (Elt F) := StableHlo.after hostOps2_8 (W11 m c)
/-- After region 2: its output `main_v24` as its write-backs leave it, every other buffer as before. -/
def W13 (c : Dev nD) : Valuation τ sig (Elt F) :=
  Function.update (W12 m c) main_v24 ((dat2 (W12 m) c).arrAt 1 cfg2.N)
/-- After region 3: its output `main_v25` as its write-backs leave it, every other buffer as before. -/
def W14 (c : Dev nD) : Valuation τ sig (Elt F) :=
  Function.update (W13 m c) main_v25 ((dat3 (W13 m) c).arrAt 9 cfg3.N)
/-- After region 4: its output `main_v26` as its write-backs leave it, every other buffer as before. -/
def W15 (c : Dev nD) : Valuation τ sig (Elt F) :=
  Function.update (W14 m c) main_v26 ((dat4 (W14 m) c).arrAt 9 cfg4.N)
/-- After region 5: its output `main_v27` as its write-backs leave it, every other buffer as before. -/
def W16 (c : Dev nD) : Valuation τ sig (Elt F) :=
  Function.update (W15 m c) main_v27 ((dat5 (W15 m) c).arrAt 9 cfg5.N)
/-- After region 6: its output `main_v28` as its write-backs leave it, every other buffer as before. -/
def W17 (c : Dev nD) : Valuation τ sig (Elt F) :=
  Function.update (W16 m c) main_v28 ((dat6 (W16 m) c).arrAt 9 cfg6.N)
/-- After the host stretch `hostOps7`. -/
abbrev W18 (c : Dev nD) : Valuation τ sig (Elt F) := StableHlo.after hostOps7 (W17 m c)
/-- After region 7: its output `main_v30` as its write-backs leave it, every other buffer as before. -/
def W19 (c : Dev nD) : Valuation τ sig (Elt F) :=
  Function.update (W18 m c) main_v30 ((dat7 (W18 m) c).arrAt 6 cfg7.N)
/-- After the host stretch `hostOps8`. -/
abbrev W20 (c : Dev nD) : Valuation τ sig (Elt F) := StableHlo.after hostOps8 (W19 m c)
theorem W2_of (c : Dev nD) (r : Ref sig .tc) (h : r ≠ main_v1) : W2 m c (Proc.devRef .tc r) = V1 m c (Proc.devRef .tc r) := by
  unfold W2; exact Function.update_of_ne (fun e => h (Proc.devRef_injective .tc e)) _ _
theorem W2_out (c : Dev nD) : W2 m c (Proc.devRef .tc main_v1) = (dat0 (V1 m) c).arrAt 2 cfg0.N := by
  unfold W2; exact Function.update_self (Proc.devRef .tc main_v1 : DevRef τ sig) _ _
theorem W3_of (c : Dev nD) (r : Ref sig .tc) (h : r ≠ main_v2) : W3 m c (Proc.devRef .tc r) = W2 m c (Proc.devRef .tc r) := by
  unfold W3; exact Function.update_of_ne (fun e => h (Proc.devRef_injective .tc e)) _ _
theorem W3_out (c : Dev nD) : W3 m c (Proc.devRef .tc main_v2) = (dat1 (W2 m) c).arrAt 2 cfg1.N := by
  unfold W3; exact Function.update_self (Proc.devRef .tc main_v2 : DevRef τ sig) _ _
theorem W4_of (c : Dev nD) (r : Ref sig .tc) (h : r ∉ hostOps2_W) : W4 m c (Proc.devRef .tc r) = W3 m c (Proc.devRef .tc r) :=
  StableHlo.after_of_writes_sub hostOps2 _ hostOps2_writes h
theorem W5_of (c : Dev nD) (r : Ref sig .tc) (h : r ∉ hostOps2_1_W) : W5 m c (Proc.devRef .tc r) = W4 m c (Proc.devRef .tc r) :=
  StableHlo.after_of_writes_sub hostOps2_1 _ hostOps2_1_writes h
theorem W6_of (c : Dev nD) (r : Ref sig .tc) (h : r ∉ hostOps2_2_W) : W6 m c (Proc.devRef .tc r) = W5 m c (Proc.devRef .tc r) :=
  StableHlo.after_of_writes_sub hostOps2_2 _ hostOps2_2_writes h
theorem W7_of (c : Dev nD) (r : Ref sig .tc) (h : r ∉ hostOps2_3_W) : W7 m c (Proc.devRef .tc r) = W6 m c (Proc.devRef .tc r) :=
  StableHlo.after_of_writes_sub hostOps2_3 _ hostOps2_3_writes h
theorem W8_of (c : Dev nD) (r : Ref sig .tc) (h : r ∉ hostOps2_4_W) : W8 m c (Proc.devRef .tc r) = W7 m c (Proc.devRef .tc r) :=
  StableHlo.after_of_writes_sub hostOps2_4 _ hostOps2_4_writes h
theorem W9_of (c : Dev nD) (r : Ref sig .tc) (h : r ∉ hostOps2_5_W) : W9 m c (Proc.devRef .tc r) = W8 m c (Proc.devRef .tc r) :=
  StableHlo.after_of_writes_sub hostOps2_5 _ hostOps2_5_writes h
theorem W10_of (c : Dev nD) (r : Ref sig .tc) (h : r ∉ hostOps2_6_W) : W10 m c (Proc.devRef .tc r) = W9 m c (Proc.devRef .tc r) :=
  StableHlo.after_of_writes_sub hostOps2_6 _ hostOps2_6_writes h
theorem W11_of (c : Dev nD) (r : Ref sig .tc) (h : r ∉ hostOps2_7_W) : W11 m c (Proc.devRef .tc r) = W10 m c (Proc.devRef .tc r) :=
  StableHlo.after_of_writes_sub hostOps2_7 _ hostOps2_7_writes h
theorem W12_of (c : Dev nD) (r : Ref sig .tc) (h : r ∉ hostOps2_8_W) : W12 m c (Proc.devRef .tc r) = W11 m c (Proc.devRef .tc r) :=
  StableHlo.after_of_writes_sub hostOps2_8 _ hostOps2_8_writes h
theorem W13_of (c : Dev nD) (r : Ref sig .tc) (h : r ≠ main_v24) : W13 m c (Proc.devRef .tc r) = W12 m c (Proc.devRef .tc r) := by
  unfold W13; exact Function.update_of_ne (fun e => h (Proc.devRef_injective .tc e)) _ _
theorem W13_out (c : Dev nD) : W13 m c (Proc.devRef .tc main_v24) = (dat2 (W12 m) c).arrAt 1 cfg2.N := by
  unfold W13; exact Function.update_self (Proc.devRef .tc main_v24 : DevRef τ sig) _ _
theorem W14_of (c : Dev nD) (r : Ref sig .tc) (h : r ≠ main_v25) : W14 m c (Proc.devRef .tc r) = W13 m c (Proc.devRef .tc r) := by
  unfold W14; exact Function.update_of_ne (fun e => h (Proc.devRef_injective .tc e)) _ _
theorem W14_out (c : Dev nD) : W14 m c (Proc.devRef .tc main_v25) = (dat3 (W13 m) c).arrAt 9 cfg3.N := by
  unfold W14; exact Function.update_self (Proc.devRef .tc main_v25 : DevRef τ sig) _ _
theorem W15_of (c : Dev nD) (r : Ref sig .tc) (h : r ≠ main_v26) : W15 m c (Proc.devRef .tc r) = W14 m c (Proc.devRef .tc r) := by
  unfold W15; exact Function.update_of_ne (fun e => h (Proc.devRef_injective .tc e)) _ _
theorem W15_out (c : Dev nD) : W15 m c (Proc.devRef .tc main_v26) = (dat4 (W14 m) c).arrAt 9 cfg4.N := by
  unfold W15; exact Function.update_self (Proc.devRef .tc main_v26 : DevRef τ sig) _ _
theorem W16_of (c : Dev nD) (r : Ref sig .tc) (h : r ≠ main_v27) : W16 m c (Proc.devRef .tc r) = W15 m c (Proc.devRef .tc r) := by
  unfold W16; exact Function.update_of_ne (fun e => h (Proc.devRef_injective .tc e)) _ _
theorem W16_out (c : Dev nD) : W16 m c (Proc.devRef .tc main_v27) = (dat5 (W15 m) c).arrAt 9 cfg5.N := by
  unfold W16; exact Function.update_self (Proc.devRef .tc main_v27 : DevRef τ sig) _ _
theorem W17_of (c : Dev nD) (r : Ref sig .tc) (h : r ≠ main_v28) : W17 m c (Proc.devRef .tc r) = W16 m c (Proc.devRef .tc r) := by
  unfold W17; exact Function.update_of_ne (fun e => h (Proc.devRef_injective .tc e)) _ _
theorem W17_out (c : Dev nD) : W17 m c (Proc.devRef .tc main_v28) = (dat6 (W16 m) c).arrAt 9 cfg6.N := by
  unfold W17; exact Function.update_self (Proc.devRef .tc main_v28 : DevRef τ sig) _ _
theorem W18_of (c : Dev nD) (r : Ref sig .tc) (h : r ∉ hostOps7_W) : W18 m c (Proc.devRef .tc r) = W17 m c (Proc.devRef .tc r) :=
  StableHlo.after_of_writes_sub hostOps7 _ hostOps7_writes h
theorem W19_of (c : Dev nD) (r : Ref sig .tc) (h : r ≠ main_v30) : W19 m c (Proc.devRef .tc r) = W18 m c (Proc.devRef .tc r) := by
  unfold W19; exact Function.update_of_ne (fun e => h (Proc.devRef_injective .tc e)) _ _
theorem W19_out (c : Dev nD) : W19 m c (Proc.devRef .tc main_v30) = (dat7 (W18 m) c).arrAt 6 cfg7.N := by
  unfold W19; exact Function.update_self (Proc.devRef .tc main_v30 : DevRef τ sig) _ _
theorem W20_of (c : Dev nD) (r : Ref sig .tc) (h : r ∉ hostOps8_W) : W20 m c (Proc.devRef .tc r) = W19 m c (Proc.devRef .tc r) :=
  StableHlo.after_of_writes_sub hostOps8 _ hostOps8_writes h

/-- The regions' outputs. -/
abbrev regionOuts : List (Ref sig .tc) := [main_v1, main_v2, main_v24, main_v25, main_v26, main_v27, main_v28, main_v30]
/-- A buffer no item writes ends as launched. -/
theorem W20_of_unwritten (c : Dev nD) (r : Ref sig .tc)
    (h : r ∉ regionOuts ++ hostOps0_W ++ hostOps2_W ++ hostOps2_1_W ++ hostOps2_2_W ++ hostOps2_3_W ++ hostOps2_4_W ++ hostOps2_5_W
      ++ hostOps2_6_W ++ hostOps2_7_W ++ hostOps2_8_W ++ hostOps7_W ++ hostOps8_W) :
    W20 m c (Proc.devRef .tc r) = m ((c : Thread nD τ).loc r) := by
  have ho : ∀ x ∈ regionOuts, r ≠ x := fun x hx e => h (by subst e; simp only [List.mem_append]; tauto)
  simp only [List.mem_append, not_or] at h
  obtain ⟨⟨⟨⟨⟨⟨⟨⟨⟨⟨⟨⟨h0, h1⟩, h2⟩, h3⟩, h4⟩, h5⟩, h6⟩, h7⟩, h8⟩, h9⟩, h10⟩, h11⟩, h12⟩ := h
  rw [W20_of m c r h12, W19_of m c r (ho _ (by decide)), W18_of m c r h11, W17_of m c r (ho _ (by decide)), W16_of m c r (ho _ (by decide)),
    W15_of m c r (ho _ (by decide)), W14_of m c r (ho _ (by decide)), W13_of m c r (ho _ (by decide)), W12_of m c r h10, W11_of m c r h9,
    W10_of m c r h8, W9_of m c r h7, W8_of m c r h6, W7_of m c r h5, W6_of m c r h4, W5_of m c r h3, W4_of m c r h2,
    W3_of m c r (ho _ (by decide)), W2_of m c r (ho _ (by decide)), V1_of m c r h1]

end Cert.KernelIdeal.Own

end
-- ==== Proof.KernelIdeal.Run.lean ====
module

public import proofs.«01_k».proof.Proof.KernelIdeal.Fold

@[expose] public section

set_option maxRecDepth 16384

noncomputable section

namespace Cert.KernelIdeal.Own

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ)

/-! ## The regions as segments -/

set_option backward.isDefEq.respectTransparency.types false in
/-- The proof data of the eight regions, each at the contents it is entered with. -/
def pdAll : Family (F := F)
  | ⟨0, _⟩ => fun c => dat0 (V1 m) c
  | ⟨1, _⟩ => fun c => dat1 (W2 m) c
  | ⟨2, _⟩ => fun c => dat2 (W12 m) c
  | ⟨3, _⟩ => fun c => dat3 (W13 m) c
  | ⟨4, _⟩ => fun c => dat4 (W14 m) c
  | ⟨5, _⟩ => fun c => dat5 (W15 m) c
  | ⟨6, _⟩ => fun c => dat6 (W16 m) c
  | ⟨7, _⟩ => fun c => dat7 (W18 m) c

/-- Region 0's exit contents at each of its arrays are what the pipeline leaves there: the inputs as entered, the output
    its write-backs. -/
theorem exit0 (c : Dev nD) (w : Fin cfg0.W) :
    (dat0 (V1 m) c).arrAt w cfg0.N = W2 m c (Proc.devRef .tc (Pipeline.arrRef spec0 w)) := by
  unfold W2
  by_cases h : w = 2
  · subst h; exact (Function.update_self (Proc.devRef .tc main_v1 : DevRef τ sig) ((dat0 (V1 m) c).arrAt 2 cfg0.N) (V1 m c)).symm
  · rw [Function.update_of_ne ((show ∀ w : Fin cfg0.W, w ≠ 2 → (Proc.devRef .tc (Pipeline.arrRef spec0 w) : DevRef τ sig) ≠ Proc.devRef .tc main_v1 from by decide) w h)]
    exact ((dat0 (V1 m) c).arrAt_in w ((show ∀ w : Fin cfg0.W, w ≠ 2 → (cfg0.win w).isOut = false from by decide) w h) _).trans (A_eq0 (V1 m) c w)
theorem rest0 (c : Dev nD) (b : Ref sig .tc) (hb : b ∉ Finset.univ.image (Pipeline.arrRef spec0)) :
    W2 m c (Proc.devRef .tc b) = V1 m c (Proc.devRef .tc b) := by
  unfold W2
  exact Function.update_of_ne (fun h => hb (Finset.mem_image.mpr ⟨2, Finset.mem_univ _, (Proc.devRef_injective .tc h).symm⟩)) _ _
set_option backward.isDefEq.respectTransparency.types false in
/-- Region 0 as a segment of the run. -/
def rseg0 : Pipeline.RegionSeg (pcfgs (F := F)) admT (pdAll m) () defs₀ Variants.none noL noLv 0 :=
  regionSeg (pdAll m) 0 launch0.to₀ (V1 m) (W2 m) (fun _ _ => rfl) (fun _ _ => rfl) (fun _ _ => trivial) (fun _ _ => rfl)
    (fun c w => A_eq0 (V1 m) c w) (fun c w => exit0 m c w) (fun c b hb => rest0 m c b hb) (fun c => body_obligation0 (V1 m) c)

/-- Region 1's exit contents at each of its arrays are what the pipeline leaves there: the inputs as entered, the output
    its write-backs. -/
theorem exit1 (c : Dev nD) (w : Fin cfg1.W) :
    (dat1 (W2 m) c).arrAt w cfg1.N = W3 m c (Proc.devRef .tc (Pipeline.arrRef spec1 w)) := by
  unfold W3
  by_cases h : w = 2
  · subst h; exact (Function.update_self (Proc.devRef .tc main_v2 : DevRef τ sig) ((dat1 (W2 m) c).arrAt 2 cfg1.N) (W2 m c)).symm
  · rw [Function.update_of_ne ((show ∀ w : Fin cfg1.W, w ≠ 2 → (Proc.devRef .tc (Pipeline.arrRef spec1 w) : DevRef τ sig) ≠ Proc.devRef .tc main_v2 from by decide) w h)]
    exact ((dat1 (W2 m) c).arrAt_in w ((show ∀ w : Fin cfg1.W, w ≠ 2 → (cfg1.win w).isOut = false from by decide) w h) _).trans (A_eq1 (W2 m) c w)
theorem rest1 (c : Dev nD) (b : Ref sig .tc) (hb : b ∉ Finset.univ.image (Pipeline.arrRef spec1)) :
    W3 m c (Proc.devRef .tc b) = W2 m c (Proc.devRef .tc b) := by
  unfold W3
  exact Function.update_of_ne (fun h => hb (Finset.mem_image.mpr ⟨2, Finset.mem_univ _, (Proc.devRef_injective .tc h).symm⟩)) _ _
set_option backward.isDefEq.respectTransparency.types false in
/-- Region 1 as a segment of the run. -/
def rseg1 : Pipeline.RegionSeg (pcfgs (F := F)) admT (pdAll m) () defs₀ Variants.none noL noLv 1 :=
  regionSeg (pdAll m) 1 launch1.to₀ (W2 m) (W3 m) (fun _ _ => rfl) (fun _ _ => rfl) (fun _ _ => trivial) (fun _ _ => rfl)
    (fun c w => A_eq1 (W2 m) c w) (fun c w => exit1 m c w) (fun c b hb => rest1 m c b hb) (fun c => body_obligation1 (W2 m) c)

/-- Region 2's exit contents at each of its arrays are what the pipeline leaves there: the inputs as entered, the output
    its write-backs. -/
theorem exit2 (c : Dev nD) (w : Fin cfg2.W) :
    (dat2 (W12 m) c).arrAt w cfg2.N = W13 m c (Proc.devRef .tc (Pipeline.arrRef spec2 w)) := by
  unfold W13
  by_cases h : w = 1
  · subst h; exact (Function.update_self (Proc.devRef .tc main_v24 : DevRef τ sig) ((dat2 (W12 m) c).arrAt 1 cfg2.N) (W12 m c)).symm
  · rw [Function.update_of_ne ((show ∀ w : Fin cfg2.W, w ≠ 1 → (Proc.devRef .tc (Pipeline.arrRef spec2 w) : DevRef τ sig) ≠ Proc.devRef .tc main_v24 from by decide) w h)]
    exact ((dat2 (W12 m) c).arrAt_in w ((show ∀ w : Fin cfg2.W, w ≠ 1 → (cfg2.win w).isOut = false from by decide) w h) _).trans (A_eq2 (W12 m) c w)
theorem rest2 (c : Dev nD) (b : Ref sig .tc) (hb : b ∉ Finset.univ.image (Pipeline.arrRef spec2)) :
    W13 m c (Proc.devRef .tc b) = W12 m c (Proc.devRef .tc b) := by
  unfold W13
  exact Function.update_of_ne (fun h => hb (Finset.mem_image.mpr ⟨1, Finset.mem_univ _, (Proc.devRef_injective .tc h).symm⟩)) _ _
set_option backward.isDefEq.respectTransparency.types false in
/-- Region 2 as a segment of the run. -/
def rseg2 : Pipeline.RegionSeg (pcfgs (F := F)) admT (pdAll m) () defs₀ Variants.none noL noLv 2 :=
  regionSeg (pdAll m) 2 launch2.to₀ (W12 m) (W13 m) (fun _ _ => rfl) (fun _ _ => rfl) (fun _ _ => trivial) (fun _ _ => rfl)
    (fun c w => A_eq2 (W12 m) c w) (fun c w => exit2 m c w) (fun c b hb => rest2 m c b hb) (fun c => body_obligation2 (W12 m) c)

/-- Region 3's exit contents at each of its arrays are what the pipeline leaves there: the inputs as entered, the output
    its write-backs. -/
theorem exit3 (c : Dev nD) (w : Fin cfg3.W) :
    (dat3 (W13 m) c).arrAt w cfg3.N = W14 m c (Proc.devRef .tc (Pipeline.arrRef spec3 w)) := by
  unfold W14
  by_cases h : w = 9
  · subst h; exact (Function.update_self (Proc.devRef .tc main_v25 : DevRef τ sig) ((dat3 (W13 m) c).arrAt 9 cfg3.N) (W13 m c)).symm
  · rw [Function.update_of_ne ((show ∀ w : Fin cfg3.W, w ≠ 9 → (Proc.devRef .tc (Pipeline.arrRef spec3 w) : DevRef τ sig) ≠ Proc.devRef .tc main_v25 from by decide) w h)]
    exact ((dat3 (W13 m) c).arrAt_in w ((show ∀ w : Fin cfg3.W, w ≠ 9 → (cfg3.win w).isOut = false from by decide) w h) _).trans (A_eq3 (W13 m) c w)
theorem rest3 (c : Dev nD) (b : Ref sig .tc) (hb : b ∉ Finset.univ.image (Pipeline.arrRef spec3)) :
    W14 m c (Proc.devRef .tc b) = W13 m c (Proc.devRef .tc b) := by
  unfold W14
  exact Function.update_of_ne (fun h => hb (Finset.mem_image.mpr ⟨9, Finset.mem_univ _, (Proc.devRef_injective .tc h).symm⟩)) _ _
set_option backward.isDefEq.respectTransparency.types false in
/-- Region 3 as a segment of the run. -/
def rseg3 : Pipeline.RegionSeg (pcfgs (F := F)) admT (pdAll m) () defs₀ Variants.none noL noLv 3 :=
  regionSeg (pdAll m) 3 launch₀3 (W13 m) (W14 m) (fun _ _ => rfl) (fun _ _ => rfl) (fun _ _ => trivial) (fun _ _ => rfl)
    (fun c w => A_eq3 (W13 m) c w) (fun c w => exit3 m c w) (fun c b hb => rest3 m c b hb) (fun c => body_obligation3 (W13 m) c)

/-- Region 4's exit contents at each of its arrays are what the pipeline leaves there: the inputs as entered, the output
    its write-backs. -/
theorem exit4 (c : Dev nD) (w : Fin cfg4.W) :
    (dat4 (W14 m) c).arrAt w cfg4.N = W15 m c (Proc.devRef .tc (Pipeline.arrRef spec4 w)) := by
  unfold W15
  by_cases h : w = 9
  · subst h; exact (Function.update_self (Proc.devRef .tc main_v26 : DevRef τ sig) ((dat4 (W14 m) c).arrAt 9 cfg4.N) (W14 m c)).symm
  · rw [Function.update_of_ne ((show ∀ w : Fin cfg4.W, w ≠ 9 → (Proc.devRef .tc (Pipeline.arrRef spec4 w) : DevRef τ sig) ≠ Proc.devRef .tc main_v26 from by decide) w h)]
    exact ((dat4 (W14 m) c).arrAt_in w ((show ∀ w : Fin cfg4.W, w ≠ 9 → (cfg4.win w).isOut = false from by decide) w h) _).trans (A_eq4 (W14 m) c w)
theorem rest4 (c : Dev nD) (b : Ref sig .tc) (hb : b ∉ Finset.univ.image (Pipeline.arrRef spec4)) :
    W15 m c (Proc.devRef .tc b) = W14 m c (Proc.devRef .tc b) := by
  unfold W15
  exact Function.update_of_ne (fun h => hb (Finset.mem_image.mpr ⟨9, Finset.mem_univ _, (Proc.devRef_injective .tc h).symm⟩)) _ _
set_option backward.isDefEq.respectTransparency.types false in
/-- Region 4 as a segment of the run. -/
def rseg4 : Pipeline.RegionSeg (pcfgs (F := F)) admT (pdAll m) () defs₀ Variants.none noL noLv 4 :=
  regionSeg (pdAll m) 4 launch₀4 (W14 m) (W15 m) (fun _ _ => rfl) (fun _ _ => rfl) (fun _ _ => trivial) (fun _ _ => rfl)
    (fun c w => A_eq4 (W14 m) c w) (fun c w => exit4 m c w) (fun c b hb => rest4 m c b hb) (fun c => body_obligation4 (W14 m) c)

/-- Region 5's exit contents at each of its arrays are what the pipeline leaves there: the inputs as entered, the output
    its write-backs. -/
theorem exit5 (c : Dev nD) (w : Fin cfg5.W) :
    (dat5 (W15 m) c).arrAt w cfg5.N = W16 m c (Proc.devRef .tc (Pipeline.arrRef spec5 w)) := by
  unfold W16
  by_cases h : w = 9
  · subst h; exact (Function.update_self (Proc.devRef .tc main_v27 : DevRef τ sig) ((dat5 (W15 m) c).arrAt 9 cfg5.N) (W15 m c)).symm
  · rw [Function.update_of_ne ((show ∀ w : Fin cfg5.W, w ≠ 9 → (Proc.devRef .tc (Pipeline.arrRef spec5 w) : DevRef τ sig) ≠ Proc.devRef .tc main_v27 from by decide) w h)]
    exact ((dat5 (W15 m) c).arrAt_in w ((show ∀ w : Fin cfg5.W, w ≠ 9 → (cfg5.win w).isOut = false from by decide) w h) _).trans (A_eq5 (W15 m) c w)
theorem rest5 (c : Dev nD) (b : Ref sig .tc) (hb : b ∉ Finset.univ.image (Pipeline.arrRef spec5)) :
    W16 m c (Proc.devRef .tc b) = W15 m c (Proc.devRef .tc b) := by
  unfold W16
  exact Function.update_of_ne (fun h => hb (Finset.mem_image.mpr ⟨9, Finset.mem_univ _, (Proc.devRef_injective .tc h).symm⟩)) _ _
set_option backward.isDefEq.respectTransparency.types false in
/-- Region 5 as a segment of the run. -/
def rseg5 : Pipeline.RegionSeg (pcfgs (F := F)) admT (pdAll m) () defs₀ Variants.none noL noLv 5 :=
  regionSeg (pdAll m) 5 launch₀5 (W15 m) (W16 m) (fun _ _ => rfl) (fun _ _ => rfl) (fun _ _ => trivial) (fun _ _ => rfl)
    (fun c w => A_eq5 (W15 m) c w) (fun c w => exit5 m c w) (fun c b hb => rest5 m c b hb) (fun c => body_obligation5 (W15 m) c)

/-- Region 6's exit contents at each of its arrays are what the pipeline leaves there: the inputs as entered, the output
    its write-backs. -/
theorem exit6 (c : Dev nD) (w : Fin cfg6.W) :
    (dat6 (W16 m) c).arrAt w cfg6.N = W17 m c (Proc.devRef .tc (Pipeline.arrRef spec6 w)) := by
  unfold W17
  by_cases h : w = 9
  · subst h; exact (Function.update_self (Proc.devRef .tc main_v28 : DevRef τ sig) ((dat6 (W16 m) c).arrAt 9 cfg6.N) (W16 m c)).symm
  · rw [Function.update_of_ne ((show ∀ w : Fin cfg6.W, w ≠ 9 → (Proc.devRef .tc (Pipeline.arrRef spec6 w) : DevRef τ sig) ≠ Proc.devRef .tc main_v28 from by decide) w h)]
    exact ((dat6 (W16 m) c).arrAt_in w ((show ∀ w : Fin cfg6.W, w ≠ 9 → (cfg6.win w).isOut = false from by decide) w h) _).trans (A_eq6 (W16 m) c w)
theorem rest6 (c : Dev nD) (b : Ref sig .tc) (hb : b ∉ Finset.univ.image (Pipeline.arrRef spec6)) :
    W17 m c (Proc.devRef .tc b) = W16 m c (Proc.devRef .tc b) := by
  unfold W17
  exact Function.update_of_ne (fun h => hb (Finset.mem_image.mpr ⟨9, Finset.mem_univ _, (Proc.devRef_injective .tc h).symm⟩)) _ _
set_option backward.isDefEq.respectTransparency.types false in
/-- Region 6 as a segment of the run. -/
def rseg6 : Pipeline.RegionSeg (pcfgs (F := F)) admT (pdAll m) () defs₀ Variants.none noL noLv 6 :=
  regionSeg (pdAll m) 6 launch₀6 (W16 m) (W17 m) (fun _ _ => rfl) (fun _ _ => rfl) (fun _ _ => trivial) (fun _ _ => rfl)
    (fun c w => A_eq6 (W16 m) c w) (fun c w => exit6 m c w) (fun c b hb => rest6 m c b hb) (fun c => body_obligation6 (W16 m) c)

/-- Region 7's exit contents at each of its arrays are what the pipeline leaves there: the inputs as entered, the output
    its write-backs. -/
theorem exit7 (c : Dev nD) (w : Fin cfg7.W) :
    (dat7 (W18 m) c).arrAt w cfg7.N = W19 m c (Proc.devRef .tc (Pipeline.arrRef spec7 w)) := by
  unfold W19
  by_cases h : w = 6
  · subst h; exact (Function.update_self (Proc.devRef .tc main_v30 : DevRef τ sig) ((dat7 (W18 m) c).arrAt 6 cfg7.N) (W18 m c)).symm
  · rw [Function.update_of_ne ((show ∀ w : Fin cfg7.W, w ≠ 6 → (Proc.devRef .tc (Pipeline.arrRef spec7 w) : DevRef τ sig) ≠ Proc.devRef .tc main_v30 from by decide) w h)]
    exact ((dat7 (W18 m) c).arrAt_in w ((show ∀ w : Fin cfg7.W, w ≠ 6 → (cfg7.win w).isOut = false from by decide) w h) _).trans (A_eq7 (W18 m) c w)
theorem rest7 (c : Dev nD) (b : Ref sig .tc) (hb : b ∉ Finset.univ.image (Pipeline.arrRef spec7)) :
    W19 m c (Proc.devRef .tc b) = W18 m c (Proc.devRef .tc b) := by
  unfold W19
  exact Function.update_of_ne (fun h => hb (Finset.mem_image.mpr ⟨6, Finset.mem_univ _, (Proc.devRef_injective .tc h).symm⟩)) _ _
set_option backward.isDefEq.respectTransparency.types false in
/-- Region 7 as a segment of the run. -/
def rseg7 : Pipeline.RegionSeg (pcfgs (F := F)) admT (pdAll m) () defs₀ Variants.none noL noLv 7 :=
  regionSeg (pdAll m) 7 launch7.to₀ (W18 m) (W19 m) (fun _ _ => rfl) (fun _ _ => rfl) (fun _ _ => trivial) (fun _ _ => rfl)
    (fun c w => A_eq7 (W18 m) c w) (fun c w => exit7 m c w) (fun c b hb => rest7 m c b hb) (fun c => body_obligation7 (W18 m) c)

/-- A host stretch as a segment: from the contents `W` to what its operations compute from them. -/
abbrev hostSeg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ Variants.none noL noLv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W Rides

/-- The program's items, in order. -/
abbrev items : List (Pipeline.Seg (pcfgs (F := F)) admT (pdAll m) () defs₀ Variants.none noL noLv) :=
  [ .host (hostSeg hostOps0 hostOps0_sub hostOps0_fresh (V0 m)),
    .region (rseg0 m),
    .region (rseg1 m),
    .host (hostSeg hostOps2 hostOps2_sub hostOps2_fresh (W3 m)),
    .host (hostSeg hostOps2_1 hostOps2_1_sub hostOps2_1_fresh (W4 m)),
    .host (hostSeg hostOps2_2 hostOps2_2_sub hostOps2_2_fresh (W5 m)),
    .host (hostSeg hostOps2_3 hostOps2_3_sub hostOps2_3_fresh (W6 m)),
    .host (hostSeg hostOps2_4 hostOps2_4_sub hostOps2_4_fresh (W7 m)),
    .host (hostSeg hostOps2_5 hostOps2_5_sub hostOps2_5_fresh (W8 m)),
    .host (hostSeg hostOps2_6 hostOps2_6_sub hostOps2_6_fresh (W9 m)),
    .host (hostSeg hostOps2_7 hostOps2_7_sub hostOps2_7_fresh (W10 m)),
    .host (hostSeg hostOps2_8 hostOps2_8_sub hostOps2_8_fresh (W11 m)),
    .region (rseg2 m),
    .region (rseg3 m),
    .region (rseg4 m),
    .region (rseg5 m),
    .region (rseg6 m),
    .host (hostSeg hostOps7 hostOps7_sub hostOps7_fresh (W17 m)),
    .region (rseg7 m),
    .host (hostSeg hostOps8 hostOps8_sub hostOps8_fresh (W19 m)) ]

/-- The program is the run of its items. -/
theorem main_items (c : Dev nD) : main (F := F) c = Pipeline.Seg.run (items m) := (main_chain c).trans (by chain_rfl)

/-- An unscoped buffer is among those held between the items. -/
theorem mem_held (b : Ref sig .tc) (h : ¬ (Proc.devRef .tc b : DevRef τ sig).isScoped) : Proc.devRef .tc b ∈ Pipeline.ucRefs τ sig :=
  Finset.mem_filter.mpr ⟨StableHlo.devRef_mem_tcRefs b, h⟩

set_option backward.isDefEq.respectTransparency.types false in
/-- THE RUN: from any memory with every counter at zero, every execution ends with each unscoped buffer at its contents
    after the last item, and every counter at zero. -/
theorem run_all (ρ : Dev nD → PrngReg) : θ_run (defs (F := F)) (onTc (τ := τ) (main (F := F))) ⟨m, fun _ => 0, ρ⟩ (fun r =>
    (∀ (c : Dev nD) (b : Ref sig .tc), ¬ (Proc.devRef .tc b : DevRef τ sig).isScoped →
      r.2.mem ((c.tc : Thread nD τ).loc b) = W20 m c (Proc.devRef .tc b)) ∧ r.2.sem = fun _ => 0) :=
  Pipeline.θ_run_regions_kit_sems (pcfgs (F := F)) admT (pdAll m) () cellOf_inj emb₁ defs₀ Variants.none noL noLv m ρ main (items m)
    (fun c Q => by rw [main_items m c])
    (by simp only [items, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := StateAt (V0 m))
    (Tₙ := fun c => iprop(StableHlo.held (c : Thread nD τ) (Pipeline.ucRefs τ sig) (W20 m c) ∗ ∃ r, prngReg c r))
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hostSeg, Pipeline.HostSeg.ofOps]
      iintro ⟨Hh, Hp, HO⟩
      isplitl [Hh Hp]
      · isplitl [Hh]; · iexact Hh
        iexact Hp
      iexact HO⟩)
    (hinit := by
      refine Pipeline.initEach noL noLv fun c => ?_
      rw [show unscopedBufs c (fun b => m ((c : Thread nD τ).loc b)) = StableHlo.held (c : Thread nD τ) (Pipeline.ucRefs τ sig) (V0 m c)
        from Pipeline.unscopedBufs_held c (V0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W20 m c b)
    (hfin := fun c s' => by
      iintro ⟨⟨Hh, -⟩, HSI⟩
      unfold StableHlo.held
      imodintro
      iapply (pointsTo_read_all (Pipeline.ucRefs τ sig) (fun b => (((c : Thread nD τ)).1, b)) (W20 m c) s')
      isplitl [Hh] <;> iassumption)
    (hQ := fun s h hz => ⟨fun c b hb => h c _ (mem_held b hb), funext fun g => hz g (.inr (regions_no_unscoped g.2))⟩)

/-- The frame: every execution ends, with each argument as launched and every counter at zero. -/
theorem frame_run (ρ : Dev nD → PrngReg) : θ_run (defs (F := F)) (onTc (τ := τ) (main (F := F))) ⟨m, fun _ => 0, ρ⟩ (fun r =>
    (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11))
      ∧ r.2.sem = fun _ => 0) :=
  (θ_run defs _ _).mono (fun r h => ⟨fun c =>
      ⟨(h.1 c main_arg0 (by decide)).trans (W20_of_unwritten m c main_arg0 (by decide)),
       (h.1 c main_arg1 (by decide)).trans (W20_of_unwritten m c main_arg1 (by decide)),
       (h.1 c main_arg2 (by decide)).trans (W20_of_unwritten m c main_arg2 (by decide)),
       (h.1 c main_arg3 (by decide)).trans (W20_of_unwritten m c main_arg3 (by decide)),
       (h.1 c main_arg4 (by decide)).trans (W20_of_unwritten m c main_arg4 (by decide)),
       (h.1 c main_arg5 (by decide)).trans (W20_of_unwritten m c main_arg5 (by decide)),
       (h.1 c main_arg6 (by decide)).trans (W20_of_unwritten m c main_arg6 (by decide)),
       (h.1 c main_arg7 (by decide)).trans (W20_of_unwritten m c main_arg7 (by decide)),
       (h.1 c main_arg8 (by decide)).trans (W20_of_unwritten m c main_arg8 (by decide)),
       (h.1 c main_arg9 (by decide)).trans (W20_of_unwritten m c main_arg9 (by decide)),
       (h.1 c main_arg10 (by decide)).trans (W20_of_unwritten m c main_arg10 (by decide)),
       (h.1 c main_arg11 (by decide)).trans (W20_of_unwritten m c main_arg11 (by decide))⟩, h.2⟩) (run_all m ρ)

/-- The frame with the result: `main_v31` ends at its contents after the last item. -/
theorem value_run (ρ : Dev nD → PrngReg) : θ_run (defs (F := F)) (onTc (τ := τ) (main (F := F))) ⟨m, fun _ => 0, ρ⟩ (fun r =>
    ∀ c : Dev nD, r.2.mem ((c.tc : Thread nD τ).loc main_v31) = W20 m c (Proc.devRef .tc main_v31)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  (θ_run defs _ _).mono (fun r h c =>
      ⟨h.1 c main_v31 (by decide),
       (h.1 c main_arg0 (by decide)).trans (W20_of_unwritten m c main_arg0 (by decide)),
       (h.1 c main_arg1 (by decide)).trans (W20_of_unwritten m c main_arg1 (by decide)),
       (h.1 c main_arg2 (by decide)).trans (W20_of_unwritten m c main_arg2 (by decide)),
       (h.1 c main_arg3 (by decide)).trans (W20_of_unwritten m c main_arg3 (by decide)),
       (h.1 c main_arg4 (by decide)).trans (W20_of_unwritten m c main_arg4 (by decide)),
       (h.1 c main_arg5 (by decide)).trans (W20_of_unwritten m c main_arg5 (by decide)),
       (h.1 c main_arg6 (by decide)).trans (W20_of_unwritten m c main_arg6 (by decide)),
       (h.1 c main_arg7 (by decide)).trans (W20_of_unwritten m c main_arg7 (by decide)),
       (h.1 c main_arg8 (by decide)).trans (W20_of_unwritten m c main_arg8 (by decide)),
       (h.1 c main_arg9 (by decide)).trans (W20_of_unwritten m c main_arg9 (by decide)),
       (h.1 c main_arg10 (by decide)).trans (W20_of_unwritten m c main_arg10 (by decide)),
       (h.1 c main_arg11 (by decide)).trans (W20_of_unwritten m c main_arg11 (by decide))⟩) (run_all m ρ)

end Cert.KernelIdeal.Own

end
-- ==== Proof.Claims.Frames.lean ====
/- The frame claims of the three programs and the named constants' ledger.
   The two kernel programs' frames are the runs of Kernel/Run.lean and KernelIdeal/Run.lean; the reference is host
   operations alone, so its frame is the second half of its generated run, and it has no semaphore to leave set. -/
module

public import proofs.«01_k».proof.Defs
public import proofs.«01_k».proof.Proof.Kernel.Run
public import proofs.«01_k».proof.Proof.KernelIdeal.Run
public import proofs.«01_k».proof.Proof.Gen.ReferenceIdeal.Run

@[expose] public section

noncomputable section

namespace Cert.Proof.FrameClaims

open Idealize.ShloMosaic Idealize.SL.Sem

/-- The kernel as given leaves its arguments unchanged and every counter at zero. -/
theorem frame_p : Cert.quiescent_Kernel := fun m ρ _ => Cert.Kernel.Own.frame_run m ρ

/-- So does the idealized kernel. -/
theorem frame_pi : Cert.quiescent_KernelIdeal := fun m ρ _ => Cert.KernelIdeal.Own.frame_run m ρ

/-- So does the idealized reference. -/
theorem frame_ri : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- The two named constants stand in the certificate's table with the values the ledger gives them. -/
theorem preserves : Cert.preserves_Kernel_KernelIdeal :=
  ⟨IdealRules.named_const.statement Cert.KernelIdeal.κ "mask" .f32 0xFE967699#32 ⊥ rfl,
    IdealRules.named_const.statement Cert.KernelIdeal.κ "log8_scale" .f32 0x40F6384F#32
      ((16 * (Real.log 8)⁻¹ : ℝ) : EReal) rfl⟩

end Cert.Proof.FrameClaims

end
-- ==== Proof.Value.Math.lean ====
/- Softmaxes over the extended reals as weighted averages, and the constants both programs use. -/
module

public import proofs.«01_k».proof.Proof.KernelIdeal.Common
public import Idealize.ShloMosaic.Lib.Pointwise

@[expose] public section

set_option maxRecDepth 16384

noncomputable section

namespace Cert.KernelIdeal.Val

open Cert.KernelIdeal Cert.KernelIdeal.Gen Cert.KernelIdeal.Own
open Idealize.ShloMosaic Idealize.ShloMosaic.TcCoe Idealize.SL.Sem
open Idealize.ShloMosaic.Pipeline (Dat)

/-! ## Constants -/

theorem bits_ninf : Ideal.ofBits .f32 0xFF800000#32 = ⊥ := by simp [Ideal.ofBits, Ideal.ieee]
theorem bits_eighth : Ideal.ofBits .f32 0x3E000000#32 = (((1 : ℝ) / 8 : ℝ) : EReal) := by
  simp [Ideal.ofBits, Ideal.ieee]; norm_cast; norm_num
theorem bits_eight : Ideal.ofBits .f32 0x41000000#32 = ((8 : ℝ) : EReal) := by
  simp [Ideal.ofBits, Ideal.ieee]; norm_cast; norm_num
theorem bits_sixteen : Ideal.ofBits .f32 0x41800000#32 = ((16 : ℝ) : EReal) := by
  simp [Ideal.ofBits, Ideal.ieee]; norm_cast; norm_num
theorem bits_sixteenth : Ideal.ofBits .f32 0x3D800000#32 = (((1 : ℝ) / 16 : ℝ) : EReal) := by
  simp [Ideal.ofBits, Ideal.ieee]; norm_cast; norm_num

/-! ## Real values among the extended ones -/

/-- An extended real that is a real. -/
def IsReal (e : EReal) : Prop := ∃ r : ℝ, e = r

theorem isReal_coe (r : ℝ) : IsReal (r : EReal) := ⟨r, rfl⟩
theorem isReal_zero : IsReal 0 := ⟨0, rfl⟩
theorem IsReal.add {x y : EReal} : IsReal x → IsReal y → IsReal (x + y)
  | ⟨a, ha⟩, ⟨b, hb⟩ => ⟨a + b, by rw [ha, hb, EReal.coe_add]⟩
theorem IsReal.sub {x y : EReal} : IsReal x → IsReal y → IsReal (x - y)
  | ⟨a, ha⟩, ⟨b, hb⟩ => ⟨a - b, by rw [ha, hb, EReal.coe_sub]⟩
theorem IsReal.mul {x y : EReal} : IsReal x → IsReal y → IsReal (x * y)
  | ⟨a, ha⟩, ⟨b, hb⟩ => ⟨a * b, by rw [ha, hb, EReal.coe_mul]⟩
theorem IsReal.coe_toReal {x : EReal} : IsReal x → ((x.toReal : ℝ) : EReal) = x
  | ⟨a, ha⟩ => by rw [ha, EReal.toReal_coe]
theorem isReal_sum {ι : Type} (s : Finset ι) (f : ι → EReal) (h : ∀ i ∈ s, IsReal (f i)) : IsReal (∑ i ∈ s, f i) := by
  classical
  induction s using Finset.induction_on with
  | empty => exact isReal_zero
  | insert i s hi ih =>
    rw [Finset.sum_insert hi]
    exact (h i (Finset.mem_insert_self i s)).add (ih fun j hj => h j (Finset.mem_insert_of_mem hj))

/-- A maximum of reals and minus infinities, one of them real, is real. -/
theorem isReal_fold_max {ι : Type} (s : Finset ι) (f : ι → EReal) (hf : ∀ i ∈ s, f i = ⊥ ∨ IsReal (f i))
    (i0 : ι) (hi0 : i0 ∈ s) (h0 : IsReal (f i0)) : IsReal (s.fold max ⊥ f) := by
  classical
  have hall : s.fold max ⊥ f = ⊥ ∨ IsReal (s.fold max ⊥ f) := by
    clear hi0 h0
    induction s using Finset.induction_on with
    | empty => exact Or.inl rfl
    | insert i s hi ih =>
      rw [Finset.fold_insert hi]
      rcases max_choice (f i) (s.fold max ⊥ f) with e | e
      · rw [e]; exact hf i (Finset.mem_insert_self i s)
      · rw [e]; exact ih fun j hj => hf j (Finset.mem_insert_of_mem hj)
  rcases hall with e | e
  · have hle : f i0 ≤ s.fold max ⊥ f := (Finset.le_fold_max _).mpr (Or.inr ⟨i0, hi0, le_rfl⟩)
    rw [e] at hle
    obtain ⟨r, hr⟩ := h0
    rw [hr, le_bot_iff] at hle
    exact absurd hle (EReal.coe_ne_bot r)
  · exact e

/-- A nonnegative real distributes over a sum of extended reals. -/
theorem coe_mul_sum {ι : Type} (s : Finset ι) (f : ι → EReal) (r : ℝ) (hr : 0 ≤ r) :
    (r : EReal) * ∑ i ∈ s, f i = ∑ i ∈ s, (r : EReal) * f i := by
  classical
  induction s using Finset.induction_on with
  | empty => simp
  | insert i s hi ih =>
    rw [Finset.sum_insert hi, Finset.sum_insert hi,
      EReal.left_distrib_of_nonneg_of_ne_top (EReal.coe_nonneg.mpr hr) (EReal.coe_ne_top r), ih]

theorem coe_sum {ι : Type} (s : Finset ι) (f : ι → ℝ) : ∑ i ∈ s, ((f i : ℝ) : EReal) = ((∑ i ∈ s, f i : ℝ) : EReal) := by
  classical
  induction s using Finset.induction_on with
  | empty => simp
  | insert i s hi ih => rw [Finset.sum_insert hi, Finset.sum_insert hi, ih, EReal.coe_add]

theorem exp_sub_coe (a m : ℝ) : Ideal.exp ((a : EReal) - (m : EReal)) = ((Real.exp (a - m) : ℝ) : EReal) := by
  rw [← EReal.coe_sub]; rfl
theorem exp_bot_sub (m : ℝ) : Ideal.exp ((⊥ : EReal) - (m : EReal)) = 0 := by
  rw [EReal.bot_sub]; rfl

/-! ## Weighted averages -/

/-- The average of `V` over `S` with the softmax weights of `a`. -/
def wavg (S : Finset ℕ) (a : ℕ → ℝ) (V : ℕ → EReal) : EReal :=
  ∑ j ∈ S, ((Real.exp (a j) / ∑ i ∈ S, Real.exp (a i) : ℝ) : EReal) * V j

/-- A sum over `N` entries of which only those in `S` count. -/
theorem sum_fin_mem {N : ℕ} (S : Finset ℕ) (hS : ∀ n ∈ S, n < N) (f : Fin N → EReal) (F : ℕ → EReal)
    (hf : ∀ j : Fin N, f j = if j.val ∈ S then F j.val else 0) : ∑ j, f j = ∑ n ∈ S, F n := by
  have e : ∑ j, f j = ∑ n ∈ Finset.range N, if n ∈ S then F n else 0 := by
    rw [Finset.sum_range]; exact Finset.sum_congr rfl fun j _ => hf j
  rw [e, Finset.sum_ite_mem]
  refine Finset.sum_congr (Finset.inter_eq_right.mpr fun n hn => Finset.mem_range.mpr (hS n hn)) fun _ _ => rfl

section
variable {N : ℕ} (S : Finset ℕ) (hS : ∀ n ∈ S, n < N) (ne : S.Nonempty) (a : ℕ → ℝ) (c : ℝ) (V : ℕ → EReal)
  (p v : Fin N → EReal) (hp : ∀ j : Fin N, p j = if j.val ∈ S then ((Real.exp (a j.val + c) : ℝ) : EReal) else 0)
  (hv : ∀ j : Fin N, j.val ∈ S → v j = V j.val)
include hS ne hp hv

theorem sum_weights : ∑ j, p j = ((Real.exp c * ∑ n ∈ S, Real.exp (a n) : ℝ) : EReal) := by
  rw [sum_fin_mem S hS p (fun n => ((Real.exp (a n + c) : ℝ) : EReal)) hp, coe_sum, Finset.mul_sum]
  exact congrArg _ (Finset.sum_congr rfl fun n _ => by rw [Real.exp_add, mul_comm])

omit hS hp hv in
theorem weights_pos : 0 < Real.exp c * ∑ n ∈ S, Real.exp (a n) :=
  mul_pos (Real.exp_pos c) (Finset.sum_pos (fun n _ => Real.exp_pos _) ne)

/-- Weighted values over the weights' sum. -/
theorem div_sum_eq : Ideal.div (∑ j, p j * v j) (∑ j, p j) = wavg S a V := by
  have hz := weights_pos (S := S) ne a c
  rw [sum_weights S hS ne a c V p v hp hv]
  have hnz : ((Real.exp c * ∑ n ∈ S, Real.exp (a n) : ℝ) : EReal) ≠ 0 := by
    exact_mod_cast hz.ne'
  unfold Ideal.div
  rw [if_neg hnz, sum_fin_mem S hS (fun j => p j * v j) (fun n => ((Real.exp (a n + c) : ℝ) : EReal) * V n)
    (fun j => by
      by_cases hj : j.val ∈ S
      · rw [if_pos hj]; show p j * v j = _; rw [hp, if_pos hj, hv j hj]
      · rw [if_neg hj]; show p j * v j = _; rw [hp, if_neg hj, zero_mul])]
  rw [mul_comm, ← EReal.coe_inv, coe_mul_sum _ _ _ (inv_nonneg.mpr hz.le)]
  refine Finset.sum_congr rfl fun n hn => ?_
  rw [← mul_assoc, ← EReal.coe_mul]
  congr 2
  have h1 := Real.exp_pos c
  have h2 := Finset.sum_pos (fun n (_ : n ∈ S) => Real.exp_pos (a n)) ne
  rw [Real.exp_add]
  field_simp

/-- Each weight over the weights' sum, times its value. -/
theorem sum_div_eq : ∑ j, Ideal.div (p j) (∑ i, p i) * v j = wavg S a V := by
  have hz := weights_pos (S := S) ne a c
  have hnz : ((Real.exp c * ∑ n ∈ S, Real.exp (a n) : ℝ) : EReal) ≠ 0 := by
    exact_mod_cast hz.ne'
  rw [sum_weights S hS ne a c V p v hp hv]
  refine sum_fin_mem S hS _ (fun n => ((Real.exp (a n) / ∑ i ∈ S, Real.exp (a i) : ℝ) : EReal) * V n) fun j => ?_
  unfold Ideal.div
  rw [if_neg hnz]
  by_cases hj : j.val ∈ S
  · rw [if_pos hj, hp, if_pos hj, hv j hj, ← EReal.coe_inv, ← EReal.coe_mul]
    congr 2
    have h1 := Real.exp_pos c
    have h2 := Finset.sum_pos (fun n (_ : n ∈ S) => Real.exp_pos (a n)) ne
    rw [Real.exp_add]
    field_simp
  · rw [if_neg hj, hp, if_neg hj, zero_mul, zero_mul]

end

section
variable {N : ℕ} (S : Finset ℕ) (hS : ∀ n ∈ S, n < N) (ne : S.Nonempty) (a : ℕ → ℝ) (V : ℕ → EReal) (s k v : Fin N → EReal)

/-- Scores that are real on `S` and minus infinity off it have a real maximum. -/
theorem isReal_max (hS : ∀ n ∈ S, n < N) (ne : S.Nonempty) (c : ℝ)
    (hs : ∀ j : Fin N, s j = if j.val ∈ S then ((a j.val + c : ℝ) : EReal) else ⊥) :
    IsReal (Finset.univ.fold max ⊥ s) := by
  obtain ⟨n, hn⟩ := ne
  refine isReal_fold_max _ _ (fun j _ => ?_) ⟨n, hS n hn⟩ (Finset.mem_univ _) ?_
  · rw [hs]; by_cases hj : j.val ∈ S
    · exact Or.inr (by rw [if_pos hj]; exact isReal_coe _)
    · exact Or.inl (if_neg hj)
  · rw [hs, if_pos hn]; exact isReal_coe _

/-- Such scores less a real are again such scores. -/
theorem shift_scores (c m : ℝ) (hs : ∀ j : Fin N, s j = if j.val ∈ S then ((a j.val + c : ℝ) : EReal) else ⊥) :
    ∀ j : Fin N, s j - (m : EReal) = if j.val ∈ S then ((a j.val + (c - m) : ℝ) : EReal) else ⊥ := fun j => by
  rw [hs]
  by_cases hj : j.val ∈ S
  · rw [if_pos hj, if_pos hj, ← EReal.coe_sub]; congr 1; ring
  · rw [if_neg hj, if_neg hj, EReal.bot_sub]

/-- Their exponentials after a real shift. -/
theorem exp_scores (c m : ℝ) (hs : ∀ j : Fin N, s j = if j.val ∈ S then ((a j.val + c : ℝ) : EReal) else ⊥) :
    ∀ j : Fin N, Ideal.exp (s j - (m : EReal)) = if j.val ∈ S then ((Real.exp (a j.val + (c - m)) : ℝ) : EReal) else 0 := fun j => by
  rw [hs]
  by_cases hj : j.val ∈ S
  · rw [if_pos hj, if_pos hj, exp_sub_coe, add_sub_assoc]
  · rw [if_neg hj, if_neg hj, exp_bot_sub]

/-- A softmax of `s` over `N` entries, weighted by `k` after the shift, applied to `v`. -/
def smx {N : ℕ} (s k v : Fin N → EReal) : EReal :=
  Ideal.div (∑ j, Ideal.exp (s j - Finset.univ.fold max ⊥ s) * k j * v j)
    (∑ j, Ideal.exp (s j - Finset.univ.fold max ⊥ s) * k j)

/-- A plain softmax of `s`, applied to `v`. -/
def smx1 {N : ℕ} (s v : Fin N → EReal) : EReal :=
  Ideal.div (∑ j, Ideal.exp (s j - Finset.univ.fold max ⊥ s) * v j)
    (∑ j, Ideal.exp (s j - Finset.univ.fold max ⊥ s))

/-- A softmax normalised entry by entry, of scores `t`, applied to `v`. -/
def smx2 {N : ℕ} (t v : Fin N → EReal) : EReal :=
  ∑ j, Ideal.div (Ideal.exp (t j - max ⊥ (Finset.univ.fold max ⊥ t)))
    (∑ i, Ideal.exp (t i - max ⊥ (Finset.univ.fold max ⊥ t))) * v j

theorem smx1_eq (hS : ∀ n ∈ S, n < N) (ne : S.Nonempty) (c : ℝ)
    (hs : ∀ j : Fin N, s j = if j.val ∈ S then ((a j.val + c : ℝ) : EReal) else ⊥)
    (hv : ∀ j : Fin N, j.val ∈ S → v j = V j.val) : smx1 s v = wavg S a V := by
  obtain ⟨m, hm⟩ := isReal_max S a s hS ne c hs
  unfold smx1
  rw [hm]
  exact div_sum_eq S hS ne a (c - m) V (fun j => Ideal.exp (s j - (m : EReal))) v (exp_scores S a s c m hs) hv

theorem smx2_eq (hS : ∀ n ∈ S, n < N) (ne : S.Nonempty) (c : ℝ)
    (hs : ∀ j : Fin N, s j = if j.val ∈ S then ((a j.val + c : ℝ) : EReal) else ⊥)
    (hv : ∀ j : Fin N, j.val ∈ S → v j = V j.val) : smx2 s v = wavg S a V := by
  obtain ⟨m, hm⟩ := isReal_max S a s hS ne c hs
  unfold smx2
  rw [hm, max_eq_right bot_le]
  exact sum_div_eq S hS ne a (c - m) V (fun j => Ideal.exp (s j - (m : EReal))) v (exp_scores S a s c m hs) hv

theorem smx_eq (hS : ∀ n ∈ S, n < N) (ne : S.Nonempty) (hr : ∀ j : Fin N, IsReal (s j))
    (hs : ∀ j : Fin N, j.val ∈ S → s j = ((a j.val : ℝ) : EReal)) (hk : ∀ j : Fin N, k j = if j.val ∈ S then 1 else 0)
    (hv : ∀ j : Fin N, j.val ∈ S → v j = V j.val) : smx s k v = wavg S a V := by
  have hM : IsReal (Finset.univ.fold max ⊥ s) := by
    obtain ⟨n, hn⟩ := ne
    exact isReal_fold_max _ _ (fun j _ => Or.inr (hr j)) ⟨n, hS n hn⟩ (Finset.mem_univ _) (hr _)
  obtain ⟨m, hm⟩ := hM
  unfold smx
  rw [hm]
  refine div_sum_eq S hS ne a (-m) V (fun j => Ideal.exp (s j - (m : EReal)) * k j) v (fun j => ?_) hv
  by_cases hj : j.val ∈ S
  · rw [if_pos hj, hk, if_pos hj, mul_one, hs j hj, exp_sub_coe, sub_eq_add_neg]
  · rw [if_neg hj, hk, if_neg hj, mul_zero]

end

/-- The mixture of the two softmaxes by the gate. -/
def rowOut {N M : ℕ} (s v : Fin N → EReal) (sm mk vm : Fin M → EReal) (g : EReal) : EReal :=
  smx1 s v * Ideal.logistic g + smx sm mk vm * (1 - Ideal.logistic g)

end Cert.KernelIdeal.Val
-- ==== Proof.Value.Host.lean ====
/- What the host stretches leave in the buffers the launches read. -/
module

public import proofs.«01_k».proof.Proof.KernelIdeal.Fold
public import proofs.«01_k».proof.Proof.Value.Math
public import Idealize.ShloMosaic.Lib.Pointwise

@[expose] public section

set_option maxRecDepth 16384

noncomputable section

namespace Cert.KernelIdeal.Val

open Cert.KernelIdeal Cert.KernelIdeal.Gen Cert.KernelIdeal.Own
open Idealize.ShloMosaic Idealize.ShloMosaic.TcCoe Idealize.SL.Sem
open Idealize.ShloMosaic.Pipeline (Dat)

section
variable (V : Valuation τ sig (Elt Ideal))

/-! ## Each stretch's result, as a term of what it reads -/

theorem h0_v0 : StableHlo.after hostOps0 V (Proc.devRef .tc main_v0) = shapeCast _ (V (Proc.devRef .tc main_arg0)) shapeCasts_S1x2048x768_S2048x768 := by
  after_results_simp <;> rfl
theorem h2_v4 : StableHlo.after hostOps2 V (Proc.devRef .tc main_v4)
    = concatenate S12x33x64 1 [⟨S12x1x64, V (Proc.devRef .tc main_arg8)⟩, ⟨S12x32x64, shapeCast _ (V (Proc.devRef .tc main_arg1)) shapeCasts_S1x12x32x64_S12x32x64⟩]
        concatenates_S12x1x64_S12x32x64_S12x33x64_d1 := by
  after_results_simp <;> rfl
theorem h2_v6 : StableHlo.after hostOps2 V (Proc.devRef .tc main_v6)
    = concatenate S12x33x64 1 [⟨S12x1x64, V (Proc.devRef .tc main_arg9)⟩, ⟨S12x32x64, shapeCast _ (V (Proc.devRef .tc main_arg2)) shapeCasts_S1x12x32x64_S12x32x64⟩]
        concatenates_S12x1x64_S12x32x64_S12x33x64_d1 := by
  after_results_simp <;> rfl
theorem h2_c : StableHlo.after hostOps2 V (Proc.devRef .tc main_c) = constantI S_ 32 0#32 := by
  after_results_simp <;> rfl
theorem h21_v7 : StableHlo.after hostOps2_1 V (Proc.devRef .tc main_v7)
    = pad S12x64x64 ![0, 0, 0] ![0, 31, 0] ![0, 0, 0] (V (Proc.devRef .tc main_v4)) (sitofp (F := Ideal) .f32 (V (Proc.devRef .tc main_c)))
        pads_S12x33x64_S12x64x64_000_0310_000 h_S_ := by
  after_results_simp <;> rfl
theorem h22_v8 : StableHlo.after hostOps2_2 V (Proc.devRef .tc main_v8) = truncf (F := Ideal) (φ := .f32) .bf16 (V (Proc.devRef .tc main_v7)) bitsLt_bf16_f32 := by
  after_results_simp <;> rfl
theorem h22_c0 : StableHlo.after hostOps2_2 V (Proc.devRef .tc main_c_0) = constantI S_ 32 0#32 := by
  after_results_simp <;> rfl
theorem h23_v9 : StableHlo.after hostOps2_3 V (Proc.devRef .tc main_v9)
    = pad S12x64x64 ![0, 0, 0] ![0, 31, 0] ![0, 0, 0] (V (Proc.devRef .tc main_v6)) (sitofp (F := Ideal) .f32 (V (Proc.devRef .tc main_c_0)))
        pads_S12x33x64_S12x64x64_000_0310_000 h_S_ := by
  after_results_simp <;> rfl
theorem h24_v10 : StableHlo.after hostOps2_4 V (Proc.devRef .tc main_v10) = truncf (F := Ideal) (φ := .f32) .bf16 (V (Proc.devRef .tc main_v9)) bitsLt_bf16_f32 := by
  after_results_simp <;> rfl
theorem h24_v15 : StableHlo.after hostOps2_4 V (Proc.devRef .tc main_v15)
    = concatenate S12x64 1 [⟨S12x1, broadcastInDim S12x1 ![] bcast_S_S12x1 (constant (F := Ideal) S_ .f32 0x3F800000#32)⟩,
        ⟨S12x32, uitofp (F := Ideal) .f32 (shapeCast S12x32 (V (Proc.devRef .tc main_arg3)) shapeCasts_S1x12x32_S12x32)⟩,
        ⟨S12x31, broadcastInDim S12x31 ![] bcast_S_S12x31 (constant (F := Ideal) S_ .f32 0x00000000#32)⟩] concatenates_S12x1_S12x32_S12x31_S12x64_d1 := by
  after_results_simp <;> rfl
theorem h24_c2 : StableHlo.after hostOps2_4 V (Proc.devRef .tc main_c_2) = constantI S_ 32 0#32 := by
  after_results_simp <;> rfl
theorem h25_v16 : StableHlo.after hostOps2_5 V (Proc.devRef .tc main_v16)
    = pad S12x128 ![0, 0] ![0, 64] ![0, 0] (V (Proc.devRef .tc main_v15)) (sitofp (F := Ideal) .f32 (V (Proc.devRef .tc main_c_2)))
        pads_S12x64_S12x128_000_0640 h_S_ := by
  after_results_simp <;> rfl
theorem h26_v17 : StableHlo.after hostOps2_6 V (Proc.devRef .tc main_v17) = shapeCast _ (V (Proc.devRef .tc main_v16)) shapeCasts_S12x128_S12x1x128 := by
  after_results_simp <;> rfl
theorem h26_v20 : StableHlo.after hostOps2_6 V (Proc.devRef .tc main_v20)
    = mulf (F := Ideal) (φ := .f32) (transpose S12x32 [1, 0] (V (Proc.devRef .tc main_arg11)) transposes_S32x12_S12x32_1_0)
        (broadcastInDim S12x32 ![] bcast_S_S12x32 (constant (F := Ideal) S_ .f32 0x41000000#32)) := by
  after_results_simp <;> rfl
theorem h26_c4 : StableHlo.after hostOps2_6 V (Proc.devRef .tc main_c_4) = constantI S_ 32 0#32 := by
  after_results_simp <;> rfl
theorem h27_v21 : StableHlo.after hostOps2_7 V (Proc.devRef .tc main_v21)
    = pad S12x128 ![0, 0] ![0, 96] ![0, 0] (V (Proc.devRef .tc main_v20)) (sitofp (F := Ideal) .f32 (V (Proc.devRef .tc main_c_4)))
        pads_S12x32_S12x128_000_0960 h_S_ := by
  after_results_simp <;> rfl
theorem h28_v22 : StableHlo.after hostOps2_8 V (Proc.devRef .tc main_v22) = shapeCast _ (V (Proc.devRef .tc main_v21)) shapeCasts_S12x128_S12x1x128 := by
  after_results_simp <;> rfl
theorem h28_v23 : StableHlo.after hostOps2_8 V (Proc.devRef .tc main_v23)
    = broadcastInDim S12x1x128 ![0, 1, 2] bcast_S12x1x1_S12x1x128_0_1_2 (V (Proc.devRef .tc main_arg10)) := by
  after_results_simp <;> rfl
theorem h7_v29 : StableHlo.after hostOps7 V (Proc.devRef .tc main_v29) = shapeCast _ (V (Proc.devRef .tc main_arg7)) shapeCasts_S768_S1x768 := by
  after_results_simp <;> rfl
theorem h8_v31 : StableHlo.after hostOps8 V (Proc.devRef .tc main_v31) = shapeCast _ (V (Proc.devRef .tc main_v30)) shapeCasts_S2048x768_S1x2048x768 := by
  after_results_simp <;> rfl

end

/-! ## The terms, entry by entry -/

theorem sitofp_zero : FloatOps.sitofp (F := Ideal) (w := 32) .f32 0#32 = (0 : EReal) := by
  show (((0#32 : BitVec 32).toInt : ℝ) : EReal) = 0
  simp

/-- The null row, the memory rows, and the zero padding. -/
def memAt (a : FVec Ideal S12x1x64 .f32) (b : FVec Ideal S1x12x32x64 .f32) (h : Fin 12) (t : Fin 64) (d : Fin 64) : EReal :=
  if t.val < 1 then a (ix3 h 0 d) else if ht : t.val < 33 then b (ix4 0 h (n2 := 32) ⟨t.val - 1, by omega⟩ d) else 0

theorem pad_mem_at (a : FVec Ideal S12x1x64 .f32) (b : FVec Ideal S1x12x32x64 .f32) (h : Fin 12) (t : Fin 64) (d : Fin 64) :
    truncf (F := Ideal) (φ := .f32) .bf16 (pad S12x64x64 ![0, 0, 0] ![0, 31, 0] ![0, 0, 0]
      (concatenate S12x33x64 1 [⟨S12x1x64, a⟩, ⟨S12x32x64, shapeCast _ b shapeCasts_S1x12x32x64_S12x32x64⟩] concatenates_S12x1x64_S12x32x64_S12x33x64_d1)
      (sitofp (F := Ideal) .f32 (constantI S_ 32 0#32)) pads_S12x33x64_S12x64x64_000_0310_000 h_S_) bitsLt_bf16_f32 (ix3 h t d)
      = memAt a b h t d := by
  unfold memAt
  pointwise
  by_cases h1 : t.val < 1
  · rw [if_pos h1, dif_pos (by omega), dif_pos h1]
    exact congrArg a (congrArg (fun s => ix3 h s d) (Subsingleton.elim _ _))
  · rw [if_neg h1]
    by_cases h2 : t.val < 33
    · rw [dif_pos h2, dif_pos h2, dif_neg h1]
    · rw [dif_neg h2, dif_neg h2, sitofp_zero]

/-- The mask's row: the null slot admitted, the memory slots by the mask, the padding not. -/
def maskAt (b : IVec S1x12x32 1) (h : Fin 12) (t : ℕ) : EReal :=
  if t < 1 then 1 else if ht : t < 33 then (((b (ix3 0 h (n2 := 32) ⟨t - 1, by omega⟩)).toNat : ℝ) : EReal) else 0

theorem pad_mask_at (b : IVec S1x12x32 1) (h : Fin 12) (t : Fin 128) :
    shapeCast S12x1x128 (pad S12x128 ![0, 0] ![0, 64] ![0, 0]
      (concatenate S12x64 1 [⟨S12x1, broadcastInDim S12x1 ![] bcast_S_S12x1 (constant (F := Ideal) S_ .f32 0x3F800000#32)⟩,
        ⟨S12x32, uitofp (F := Ideal) .f32 (shapeCast S12x32 b shapeCasts_S1x12x32_S12x32)⟩,
        ⟨S12x31, broadcastInDim S12x31 ![] bcast_S_S12x31 (constant (F := Ideal) S_ .f32 0x00000000#32)⟩] concatenates_S12x1_S12x32_S12x31_S12x64_d1)
      (sitofp (F := Ideal) .f32 (constantI S_ 32 0#32)) pads_S12x64_S12x128_000_0640 h_S_) shapeCasts_S12x128_S12x1x128 (ix3 h 0 t)
      = maskAt b h t.val := by
  unfold maskAt
  pointwise
  by_cases h1 : t.val < 1
  · rw [if_pos h1, dif_pos (by omega), dif_pos h1]
  · rw [if_neg h1]
    by_cases h2 : t.val < 33
    · rw [dif_pos h2, dif_pos (by omega), dif_neg h1, dif_pos (by omega)]; rfl
    · rw [dif_neg h2]
      by_cases h3 : t.val < 64
      · rw [dif_pos h3, dif_neg h1, dif_neg (by omega)]
      · rw [dif_neg h3, sitofp_zero]

theorem pad_tab_at (b : FVec Ideal S32x12 .f32) (h : Fin 12) (t : Fin 128) :
    shapeCast S12x1x128 (pad S12x128 ![0, 0] ![0, 96] ![0, 0]
      (mulf (F := Ideal) (φ := .f32) (transpose S12x32 [1, 0] b transposes_S32x12_S12x32_1_0)
        (broadcastInDim S12x32 ![] bcast_S_S12x32 (constant (F := Ideal) S_ .f32 0x41000000#32)))
      (sitofp (F := Ideal) .f32 (constantI S_ 32 0#32)) pads_S12x32_S12x128_000_0960 h_S_) shapeCasts_S12x128_S12x1x128 (ix3 h 0 t)
      = if ht : t.val < 32 then b (ix2 (n0 := 32) ⟨t.val, ht⟩ h) * Ideal.ofBits .f32 0x41000000#32 else 0 := by
  pointwise
  rw [sitofp_zero]

end Cert.KernelIdeal.Val
-- ==== Proof.Value.Proj.lean ====
/- The two projections' arrays after their launches, entry by entry. -/
module

public import proofs.«01_k».proof.Proof.KernelIdeal.Region0
public import proofs.«01_k».proof.Proof.KernelIdeal.Region1
public import Idealize.ShloMosaic.Lib.Pointwise
public import Idealize.ShloMosaic.Lib.Pipeline.ValueKit

@[expose] public section

set_option maxRecDepth 16384

noncomputable section

namespace Cert.KernelIdeal.Val

open Cert.KernelIdeal Cert.KernelIdeal.Gen Cert.KernelIdeal.Own
open Idealize.ShloMosaic Idealize.ShloMosaic.TcCoe Idealize.SL.Sem
open Idealize.ShloMosaic.Pipeline (Dat)

/-- Column `d` of head `h` among twelve heads of 64. -/
def col12 (h : Fin 12) (d : Fin 64) : Fin 768 := ⟨h.val * 64 + d.val, by omega⟩

/-- Column `d` of head `h` among twenty-four heads of 64. -/
def col24 (h : Fin 24) (d : Fin 64) : Fin 1536 := ⟨h.val * 64 + d.val, by omega⟩

/-- A projection by heads of 64 columns, scaled. -/
def projQ (X : FVec Ideal S2048x768 .f32) (Wt : FVec Ideal S768x768 .f32) : FVec Ideal S12x2048x64 .bf16 := fun y =>
  (∑ e : Fin 768, X (ix2 (y 1) e) * Wt (ix2 e (col12 (y 0) (y 2)))) * Ideal.ofBits .f32 0x3E000000#32

/-- A projection by heads of 64 columns. -/
def projKV (X : FVec Ideal S2048x768 .f32) (Wt : FVec Ideal S768x1536 .f32) : FVec Ideal S24x2048x64 .bf16 := fun y =>
  ∑ e : Fin 768, X (ix2 (y 1) e) * Wt (ix2 e (col24 (y 0) (y 2)))

theorem idx0 : ∀ t : Fin cfg0.N, win0_0.index t = ![0, 0] ∧ win0_1.index t = ![0, t.val] ∧ win0_2.index t = ![t.val, 0, 0] :=
  (by decide +kernel : ∀ t : Fin grid0.N, _)

theorem idx1 : ∀ t : Fin cfg1.N, win1_0.index t = ![0, 0] ∧ win1_1.index t = ![0, t.val] ∧ win1_2.index t = ![t.val, 0, 0] :=
  (by decide +kernel : ∀ t : Fin grid1.N, _)

variable (V : Dev nD → Valuation τ sig (Elt Ideal))

/-- The query projection's array. -/
theorem final0 (c : Dev nD) : (dat0 V c).arrAt 2 cfg0.N
    = projQ (V c (Proc.devRef .tc main_v0)) (V c (Proc.devRef .tc main_arg4)) := by
  refine (dat0 V c).arrAt_eq_of_covers 2 _ (by decide +kernel) fun t _ y => ?_
  blk_simp
  rw [after0_2]; unfold oblk0 out0
  canon_tiles x h
  all_goals pointwise [k0_pay2, k0_pay3, k0_pay1, projQ, col12]
  all_goals blk_point [iblk0, idx0 t]

/-- The key and value projections' array. -/
theorem final1 (c : Dev nD) : (dat1 V c).arrAt 2 cfg1.N
    = projKV (V c (Proc.devRef .tc main_v0)) (V c (Proc.devRef .tc main_arg5)) := by
  refine (dat1 V c).arrAt_eq_of_covers 2 _ (by decide +kernel) fun t _ y => ?_
  blk_simp
  rw [after1_2]; unfold oblk1 out1
  canon_tiles x h
  all_goals pointwise [k1_pay2, k1_pay3, k1_pay1, projKV, col24]
  all_goals blk_point [iblk1, idx1 t]

end Cert.KernelIdeal.Val

end
-- ==== Proof.Value.Chain.lean ====
/- What the attention launches read, in terms of the arguments. -/
module

public import proofs.«01_k».proof.Proof.Value.Host
public import proofs.«01_k».proof.Proof.Value.Proj
public import Idealize.ShloMosaic.Lib.Tactic.CleanTypes

@[expose] public section

set_option maxRecDepth 16384

noncomputable section

namespace Cert.KernelIdeal.Val

open Cert.KernelIdeal Cert.KernelIdeal.Gen Cert.KernelIdeal.Own
open Idealize.ShloMosaic Idealize.ShloMosaic.TcCoe Idealize.SL.Sem
open Idealize.ShloMosaic.Pipeline (Dat)

variable (m : (ℓ : Loc nD τ sig) → Buf (Elt Ideal) ℓ) (c : Dev nD)

/-! ## The arguments are never written -/

def argRefs : List (Ref sig .tc) :=
  [main_arg0, main_arg1, main_arg2, main_arg3, main_arg4, main_arg5, main_arg6, main_arg7, main_arg8, main_arg9, main_arg10, main_arg11]

section
variable (r : Ref sig .tc) (h : r ∈ argRefs)
include h

theorem V1_arg : V1 m c (Proc.devRef .tc r) = m (c, Proc.devRef .tc r) :=
  StableHlo.after_of_writes_sub hostOps0 _ hostOps0_writes ((by decide : ∀ r ∈ argRefs, r ∉ hostOps0_W) r h)
theorem W2_arg : W2 m c (Proc.devRef .tc r) = m (c, Proc.devRef .tc r) :=
  (W2_of m c r ((by decide : ∀ r ∈ argRefs, r ≠ main_v1) r h)).trans (V1_arg m c r h)
theorem W3_arg : W3 m c (Proc.devRef .tc r) = m (c, Proc.devRef .tc r) :=
  (W3_of m c r ((by decide : ∀ r ∈ argRefs, r ≠ main_v2) r h)).trans (W2_arg m c r h)
theorem W7_arg : W7 m c (Proc.devRef .tc r) = m (c, Proc.devRef .tc r) :=
  (W7_of m c r ((by decide : ∀ r ∈ argRefs, r ∉ hostOps2_3_W) r h)).trans
    ((W6_of m c r ((by decide : ∀ r ∈ argRefs, r ∉ hostOps2_2_W) r h)).trans
      ((W5_of m c r ((by decide : ∀ r ∈ argRefs, r ∉ hostOps2_1_W) r h)).trans
        ((W4_of m c r ((by decide : ∀ r ∈ argRefs, r ∉ hostOps2_W) r h)).trans (W3_arg m c r h))))
theorem W9_arg : W9 m c (Proc.devRef .tc r) = m (c, Proc.devRef .tc r) :=
  (W9_of m c r ((by decide : ∀ r ∈ argRefs, r ∉ hostOps2_5_W) r h)).trans
    ((W8_of m c r ((by decide : ∀ r ∈ argRefs, r ∉ hostOps2_4_W) r h)).trans (W7_arg m c r h))
theorem W11_arg : W11 m c (Proc.devRef .tc r) = m (c, Proc.devRef .tc r) :=
  (W11_of m c r ((by decide : ∀ r ∈ argRefs, r ∉ hostOps2_7_W) r h)).trans
    ((W10_of m c r ((by decide : ∀ r ∈ argRefs, r ∉ hostOps2_6_W) r h)).trans (W9_arg m c r h))
theorem W17_arg : W17 m c (Proc.devRef .tc r) = m (c, Proc.devRef .tc r) :=
  (W17_of m c r ((by decide : ∀ r ∈ argRefs, r ≠ main_v28) r h)).trans
    ((W16_of m c r ((by decide : ∀ r ∈ argRefs, r ≠ main_v27) r h)).trans
      ((W15_of m c r ((by decide : ∀ r ∈ argRefs, r ≠ main_v26) r h)).trans
        ((W14_of m c r ((by decide : ∀ r ∈ argRefs, r ≠ main_v25) r h)).trans
          ((W13_of m c r ((by decide : ∀ r ∈ argRefs, r ≠ main_v24) r h)).trans
            ((W12_of m c r ((by decide : ∀ r ∈ argRefs, r ∉ hostOps2_8_W) r h)).trans (W11_arg m c r h))))))
theorem W18_arg : W18 m c (Proc.devRef .tc r) = m (c, Proc.devRef .tc r) :=
  (W18_of m c r ((by decide : ∀ r ∈ argRefs, r ∉ hostOps7_W) r h)).trans (W17_arg m c r h)

end

/-! ## What the attention launches read, as the state before them holds it -/

theorem W12_of6 (r : Ref sig .tc) (h7 : r ∉ hostOps2_3_W) (h8 : r ∉ hostOps2_4_W) (h9 : r ∉ hostOps2_5_W) (h10 : r ∉ hostOps2_6_W)
    (h11 : r ∉ hostOps2_7_W) (h12 : r ∉ hostOps2_8_W) : W12 m c (Proc.devRef .tc r) = W6 m c (Proc.devRef .tc r) :=
  (W12_of m c r h12).trans ((W11_of m c r h11).trans ((W10_of m c r h10).trans ((W9_of m c r h9).trans ((W8_of m c r h8).trans (W7_of m c r h7)))))

theorem W12_v1 : W12 m c (Proc.devRef .tc main_v1) = projQ (shapeCast _ (m (c, Proc.devRef .tc main_arg0)) shapeCasts_S1x2048x768_S2048x768)
    (m (c, Proc.devRef .tc main_arg4)) := by
  rw [W12_of6 m c main_v1 (by decide) (by decide) (by decide) (by decide) (by decide) (by decide), W6_of m c main_v1 (by decide),
    W5_of m c main_v1 (by decide), W4_of m c main_v1 (by decide), W3_of m c main_v1 (by decide), W2_out, final0,
    V1_arg m c main_arg4 (by decide)]
  exact congrArg (projQ · _) (h0_v0 (V0 m c))

theorem W12_v2 : W12 m c (Proc.devRef .tc main_v2) = projKV (shapeCast _ (m (c, Proc.devRef .tc main_arg0)) shapeCasts_S1x2048x768_S2048x768)
    (m (c, Proc.devRef .tc main_arg5)) := by
  rw [W12_of6 m c main_v2 (by decide) (by decide) (by decide) (by decide) (by decide) (by decide), W6_of m c main_v2 (by decide),
    W5_of m c main_v2 (by decide), W4_of m c main_v2 (by decide), W3_out, final1,
    W2_arg m c main_arg5 (by decide), W2_of m c main_v0 (by decide)]
  exact congrArg (projKV · _) (h0_v0 (V0 m c))

/-- The padded memory rows. -/
def memArr (a : FVec Ideal S12x1x64 .f32) (b : FVec Ideal S1x12x32x64 .f32) : FVec Ideal S12x64x64 .bf16 := fun y => memAt a b (y 0) (y 1) (y 2)

theorem memArr_eq (a : FVec Ideal S12x1x64 .f32) (b : FVec Ideal S1x12x32x64 .f32) :
    truncf (F := Ideal) (φ := .f32) .bf16 (pad S12x64x64 ![0, 0, 0] ![0, 31, 0] ![0, 0, 0]
      (concatenate S12x33x64 1 [⟨S12x1x64, a⟩, ⟨S12x32x64, shapeCast _ b shapeCasts_S1x12x32x64_S12x32x64⟩] concatenates_S12x1x64_S12x32x64_S12x33x64_d1)
      (sitofp (F := Ideal) .f32 (constantI S_ 32 0#32)) pads_S12x33x64_S12x64x64_000_0310_000 h_S_) bitsLt_bf16_f32 = memArr a b := by
  funext y
  idx_vars y
  exact pad_mem_at a b _ _ _

theorem W12_v8 : W12 m c (Proc.devRef .tc main_v8) = memArr (m (c, Proc.devRef .tc main_arg8)) (m (c, Proc.devRef .tc main_arg1)) := by
  have e6 : W6 m c (Proc.devRef .tc main_v8) = _ := h22_v8 (W5 m c)
  have e5 : W5 m c (Proc.devRef .tc main_v7) = _ := h21_v7 (W4 m c)
  have e4 : W4 m c (Proc.devRef .tc main_v4) = _ := h2_v4 (W3 m c)
  have ec : W4 m c (Proc.devRef .tc main_c) = _ := h2_c (W3 m c)
  rw [W12_of6 m c main_v8 (by decide) (by decide) (by decide) (by decide) (by decide) (by decide)]
  refine e6.trans ?_
  rw [e5, e4, ec, W3_arg m c main_arg8 (by decide), W3_arg m c main_arg1 (by decide)]
  exact memArr_eq _ _

theorem W12_v10 : W12 m c (Proc.devRef .tc main_v10) = memArr (m (c, Proc.devRef .tc main_arg9)) (m (c, Proc.devRef .tc main_arg2)) := by
  have e8 : W8 m c (Proc.devRef .tc main_v10) = _ := h24_v10 (W7 m c)
  have e7 : W7 m c (Proc.devRef .tc main_v9) = _ := h23_v9 (W6 m c)
  have e6 : W6 m c (Proc.devRef .tc main_c_0) = _ := h22_c0 (W5 m c)
  have e4 : W4 m c (Proc.devRef .tc main_v6) = _ := h2_v6 (W3 m c)
  rw [W12_of m c main_v10 (by decide), W11_of m c main_v10 (by decide), W10_of m c main_v10 (by decide), W9_of m c main_v10 (by decide)]
  refine e8.trans ?_
  rw [e7, e6, W6_of m c main_v6 (by decide), W5_of m c main_v6 (by decide), e4, W3_arg m c main_arg9 (by decide), W3_arg m c main_arg2 (by decide)]
  exact memArr_eq _ _

theorem W12_v17 (h : Fin 12) (t : Fin 128) : W12 m c (Proc.devRef .tc main_v17) (ix3 h 0 t) = maskAt (m (c, Proc.devRef .tc main_arg3)) h t.val := by
  have e10 : W10 m c (Proc.devRef .tc main_v17) = _ := h26_v17 (W9 m c)
  have e9 : W9 m c (Proc.devRef .tc main_v16) = _ := h25_v16 (W8 m c)
  have e8 : W8 m c (Proc.devRef .tc main_v15) = _ := h24_v15 (W7 m c)
  have ec : W8 m c (Proc.devRef .tc main_c_2) = _ := h24_c2 (W7 m c)
  rw [W12_of m c main_v17 (by decide), W11_of m c main_v17 (by decide)]
  refine (congrFun e10 _).trans ?_
  rw [e9, e8, ec, W7_arg m c main_arg3 (by decide)]
  exact pad_mask_at _ _ _

/-- The table's entry for a bucket, scaled, zero beyond the table. -/
def tabAt (b : FVec Ideal S32x12 .f32) (h : Fin 12) (n : ℕ) : EReal :=
  if hn : n < 32 then b (ix2 (n0 := 32) ⟨n, hn⟩ h) * ((8 : ℝ) : EReal) else 0

theorem W12_v22 (h : Fin 12) (t : Fin 128) : W12 m c (Proc.devRef .tc main_v22) (ix3 h 0 t) = tabAt (m (c, Proc.devRef .tc main_arg11)) h t.val := by
  have e12 : W12 m c (Proc.devRef .tc main_v22) = _ := h28_v22 (W11 m c)
  have e11 : W11 m c (Proc.devRef .tc main_v21) = _ := h27_v21 (W10 m c)
  have e10 : W10 m c (Proc.devRef .tc main_v20) = _ := h26_v20 (W9 m c)
  have ec : W10 m c (Proc.devRef .tc main_c_4) = _ := h26_c4 (W9 m c)
  refine (congrFun e12 _).trans ?_
  rw [e11, e10, ec, W9_arg m c main_arg11 (by decide)]
  refine (pad_tab_at _ h t).trans ?_
  rw [bits_eight]
  rfl

theorem bcast_gate (g : FVec Ideal S12x1x1 .f32) (h : Fin 12) :
    broadcastInDim S12x1x128 ![0, 1, 2] bcast_S12x1x1_S12x1x128_0_1_2 g (ix3 h 0 0) = g (ix3 h 0 0) := by
  pointwise

theorem W12_v23 (h : Fin 12) : W12 m c (Proc.devRef .tc main_v23) (ix3 h 0 0) = m (c, Proc.devRef .tc main_arg10) (ix3 (n0 := 12) (n1 := 1) (n2 := 1) h 0 0) := by
  have e12 : W12 m c (Proc.devRef .tc main_v23) = _ := h28_v23 (W11 m c)
  refine (congrFun e12 _).trans ?_
  rw [W11_arg m c main_arg10 (by decide)]
  exact bcast_gate _ h

end Cert.KernelIdeal.Val
-- ==== Proof.Value.Bucket.lean ====
/- The bucket of a distance: the integer word both programs compute, as a natural number. -/
module

public import proofs.«01_k».proof.Proof.Value.Math
public import Idealize.ShloMosaic.Lib.WordCmp

@[expose] public section

set_option maxRecDepth 16384

noncomputable section

namespace Cert.KernelIdeal.Val

open Cert.KernelIdeal Cert.KernelIdeal.Gen Cert.KernelIdeal.Own
open Idealize.ShloMosaic Idealize.ShloMosaic.TcCoe Idealize.SL.Sem
open Idealize.ShloMosaic.Pipeline (Dat)

theorem toInt_ofNat_small (n : ℕ) (h : n < 2 ^ 31) : (BitVec.ofNat 32 n).toInt = n := by
  rw [BitVec.toInt_eq_toNat_of_lt (by rw [BitVec.toNat_ofNat, Nat.mod_eq_of_lt (by omega)]; omega), BitVec.toNat_ofNat,
    Nat.mod_eq_of_lt (by omega)]

theorem slt_ofNat_small (a b : ℕ) (ha : a < 2 ^ 31) (hb : b < 2 ^ 31) :
    (BitVec.ofNat 32 a).slt (BitVec.ofNat 32 b) = decide (a < b) := by
  rw [BitVec.slt_eq_decide, toInt_ofNat_small a ha, toInt_ofNat_small b hb]
  simp

theorem maxsi_ofNat_small (a b : ℕ) (ha : a < 2 ^ 31) (hb : b < 2 ^ 31) :
    IntOp.maxsi (BitVec.ofNat 32 a) (BitVec.ofNat 32 b) = BitVec.ofNat 32 (max a b) := by
  unfold IntOp.maxsi
  rw [slt_ofNat_small b a hb ha]
  by_cases h : b < a
  · rw [if_pos (decide_eq_true h), max_eq_left h.le]
  · rw [if_neg (by simpa using h), max_eq_right (not_lt.mp h)]

theorem minsi_ofNat_small (a b : ℕ) (ha : a < 2 ^ 31) (hb : b < 2 ^ 31) :
    IntOp.minsi (BitVec.ofNat 32 a) (BitVec.ofNat 32 b) = BitVec.ofNat 32 (min a b) := by
  unfold IntOp.minsi
  rw [slt_ofNat_small a b ha hb]
  by_cases h : a < b
  · rw [if_pos (decide_eq_true h), min_eq_left h.le]
  · rw [if_neg (by simpa using h), min_eq_right (not_lt.mp h)]

theorem select_slt_ofNat {α : Type} (a b : ℕ) (ha : a < 2 ^ 31) (hb : b < 2 ^ 31) (x y : α) :
    Scalar.select (IntOp.cmpi .slt (BitVec.ofNat 32 a) (BitVec.ofNat 32 b)) x y = if a < b then x else y := by
  rw [WordCmp.cmpi_slt_ofNat (w := 32) ha hb]
  unfold Scalar.select
  by_cases h : a < b <;> simp [h]

/-- The scale sixteen over the logarithm of eight. -/
def lscale : ℝ := 16 * (Real.log 8)⁻¹

/-- The bucket of a distance, as the bias tile's kernel computes it from a signed word. -/
def bktW (w : BitVec 32) : BitVec 32 :=
  Scalar.select (IntOp.cmpi .slt (IntOp.maxsi w 0#32) 16#32) (IntOp.maxsi w 0#32)
    (IntOp.minsi (IntOp.addi 16#32 (Ideal.fptosi 32
      (Ideal.log ((((IntOp.maxsi (IntOp.maxsi w 0#32) 1#32).toInt : ℝ) : EReal) * Ideal.ofBits .f32 0x3D800000#32) * (lscale : EReal)))) 31#32)

/-- The bucket of a distance, as the reference computes it. -/
def bktR (w : BitVec 32) : BitVec 32 :=
  Scalar.select (IntOp.cmpi .slt w 16#32) w
    (IntOp.minsi (IntOp.addi 16#32 (Ideal.fptosi 32
      (Ideal.div (Ideal.log (Ideal.div (((IntOp.maxsi w 1#32).toInt : ℝ) : EReal) (Ideal.ofBits .f32 0x41800000#32)))
        (Ideal.log (Ideal.ofBits .f32 0x41000000#32)) * Ideal.ofBits .f32 0x41800000#32))) 31#32)

/-- The bucket of a distance. -/
def bkt (n : ℕ) : ℕ := if n < 16 then n else min (16 + ⌊Real.log (n * (1 / 16)) * lscale⌋₊) 31

theorem bkt_le (n : ℕ) : bkt n ≤ 31 := by
  unfold bkt; split
  · omega
  · exact min_le_right _ _

theorem log_eight_ge : (7 / 8 : ℝ) ≤ Real.log 8 := by
  have := Real.one_sub_inv_le_log_of_pos (show (0 : ℝ) < 8 by norm_num)
  norm_num at this ⊢
  linarith

theorem lscale_pos : 0 < lscale := mul_pos (by norm_num) (inv_pos.mpr (by linarith [log_eight_ge]))
theorem lscale_le : lscale ≤ 20 := by
  have h : (Real.log 8)⁻¹ ≤ (7 / 8 : ℝ)⁻¹ := inv_anti₀ (by norm_num) log_eight_ge
  unfold lscale
  norm_num at h ⊢
  linarith

theorem bkt_far (n : ℕ) (h : 128 ≤ n) : bkt n = 31 := by
  unfold bkt
  rw [if_neg (by omega)]
  refine min_eq_right ?_
  have hn : (8 : ℝ) ≤ n * (1 / 16) := by
    have : (128 : ℝ) ≤ n := by exact_mod_cast h
    linarith
  have h1 : Real.log 8 ≤ Real.log (n * (1 / 16)) := Real.log_le_log (by norm_num) hn
  have h2 : (16 : ℝ) ≤ Real.log (n * (1 / 16)) * lscale := by
    have h3 : Real.log 8 * lscale = 16 := by
      have := log_eight_ge
      unfold lscale; field_simp
    calc (16 : ℝ) = Real.log 8 * lscale := h3.symm
      _ ≤ _ := mul_le_mul_of_nonneg_right h1 lscale_pos.le
  have h4 : 16 ≤ ⌊Real.log (n * (1 / 16)) * lscale⌋₊ := Nat.le_floor (by exact_mod_cast h2)
  omega

theorem fptosi_small (y : ℝ) (h0 : 0 ≤ y) (h1 : y < 5000) : Ideal.fptosi 32 (y : EReal) = BitVec.ofNat 32 ⌊y⌋₊ := by
  unfold Ideal.fptosi
  rw [Ideal.toIntClamped_coe, if_pos h0, ← Int.natCast_floor_eq_floor h0]
  have hf : ⌊y⌋₊ < 5000 := (Nat.floor_lt h0).mpr (by exact_mod_cast h1)
  rw [min_eq_right (by omega), max_eq_right (by omega), BitVec.ofInt_natCast]

theorem log_range (n : ℕ) (h16 : 16 ≤ n) (hn : n < 2048) :
    0 ≤ Real.log (n * (1 / 16)) * lscale ∧ Real.log (n * (1 / 16)) * lscale < 5000 := by
  have a1 : (16 : ℝ) ≤ n := by exact_mod_cast h16
  have a2 : (n : ℝ) ≤ 2048 := by exact_mod_cast hn.le
  have h0 : 0 ≤ Real.log (n * (1 / 16)) := Real.log_nonneg (by linarith)
  have h1 : Real.log (n * (1 / 16)) ≤ n * (1 / 16) - 1 := Real.log_le_sub_one_of_pos (by linarith)
  have h2 := lscale_pos
  have h3 := lscale_le
  refine ⟨mul_nonneg h0 h2.le, ?_⟩
  have h4 : Real.log (n * (1 / 16)) * lscale ≤ 127 * 20 := mul_le_mul (by linarith) h3 h2.le (by norm_num)
  linarith

theorem log_coe_pos (x : ℝ) (h : 0 < x) : Ideal.log (x : EReal) = ((Real.log x : ℝ) : EReal) := by
  show (if x ≤ 0 then (⊥ : EReal) else (Real.log x : EReal)) = _
  rw [if_neg (not_le.mpr h)]

/-- What both words' last step is, given the scaled logarithm. -/
theorem bkt_word (n : ℕ) (hn : n < 2048) (y : EReal) (hy : 16 ≤ n → y = ((Real.log (n * (1 / 16)) * lscale : ℝ) : EReal)) :
    Scalar.select (IntOp.cmpi .slt (BitVec.ofNat 32 n) 16#32) (BitVec.ofNat 32 n)
      (IntOp.minsi (IntOp.addi 16#32 (Ideal.fptosi 32 y)) 31#32) = BitVec.ofNat 32 (bkt n) := by
  rw [select_slt_ofNat n 16 (by omega) (by omega)]
  unfold bkt
  by_cases h : n < 16
  · rw [if_pos h, if_pos h]
  · rw [if_neg h, if_neg h, hy (by omega)]
    obtain ⟨h0, h1⟩ := log_range n (by omega) hn
    rw [fptosi_small _ h0 h1]
    have hf : ⌊Real.log (n * (1 / 16)) * lscale⌋₊ < 5000 := (Nat.floor_lt h0).mpr (by exact_mod_cast h1)
    unfold IntOp.addi
    rw [← BitVec.ofNat_add, minsi_ofNat_small _ _ (by omega) (by omega)]

theorem bktW_ofNat (n : ℕ) (hn : n < 2048) : bktW (BitVec.ofNat 32 n) = BitVec.ofNat 32 (bkt n) := by
  unfold bktW
  rw [maxsi_ofNat_small n 0 (by omega) (by omega), Nat.max_zero, maxsi_ofNat_small n 1 (by omega) (by omega),
    toInt_ofNat_small _ (by omega)]
  refine bkt_word n hn _ fun h => ?_
  have a1 : (16 : ℝ) ≤ n := by exact_mod_cast h
  rw [max_eq_left (by omega), bits_sixteenth, Int.cast_natCast, ← EReal.coe_mul, log_coe_pos _ (by linarith), ← EReal.coe_mul]

theorem bktR_ofNat (n : ℕ) (hn : n < 2048) : bktR (BitVec.ofNat 32 n) = BitVec.ofNat 32 (bkt n) := by
  unfold bktR
  rw [maxsi_ofNat_small n 1 (by omega) (by omega), toInt_ofNat_small _ (by omega)]
  refine bkt_word n hn _ fun h => ?_
  have a1 : (16 : ℝ) ≤ n := by exact_mod_cast h
  have a2 := log_eight_ge
  rw [max_eq_left (by omega), bits_sixteen, bits_eight, Int.cast_natCast, Ideal.div_coe (by norm_num), ← EReal.coe_mul,
    log_coe_pos _ (by linarith), log_coe_pos _ (by norm_num), Ideal.div_coe (by linarith), ← EReal.coe_mul, ← EReal.coe_mul]
  congr 1
  unfold lscale
  rw [one_div (Real.log 8)]
  ring

end Cert.KernelIdeal.Val
-- ==== Proof.Value.Mid.lean ====
/- The result both programs compute, from the arguments, and the two ways of forming its softmaxes. -/
module

public import proofs.«01_k».proof.Proof.Value.Math
public import proofs.«01_k».proof.Proof.Value.Bucket
public import proofs.«01_k».proof.Proof.Value.Proj

@[expose] public section

set_option maxRecDepth 16384

noncomputable section

namespace Cert.KernelIdeal.Val

open Cert.KernelIdeal Cert.KernelIdeal.Gen Cert.KernelIdeal.Own
open Idealize.ShloMosaic Idealize.ShloMosaic.TcCoe Idealize.SL.Sem
open Idealize.ShloMosaic.Pipeline (Dat)

/-- The twelve arguments, read by their coordinates. -/
structure Args where
  X : Fin 2048 → Fin 768 → EReal
  km : Fin 12 → Fin 32 → Fin 64 → EReal
  vm : Fin 12 → Fin 32 → Fin 64 → EReal
  mask : Fin 12 → Fin 32 → BitVec 1
  Wq : Fin 768 → Fin 768 → EReal
  Wkv : Fin 768 → Fin 1536 → EReal
  Wo : Fin 768 → Fin 768 → EReal
  bo : Fin 768 → EReal
  nk : Fin 12 → Fin 64 → EReal
  nv : Fin 12 → Fin 64 → EReal
  g : Fin 12 → EReal
  T : Fin 32 → Fin 12 → EReal

namespace Args

variable (D : Args)

/-- What the scores are made of is finite. -/
structure Finite : Prop where
  X : ∀ i e, IsReal (D.X i e)
  km : ∀ h t e, IsReal (D.km h t e)
  Wq : ∀ i e, IsReal (D.Wq i e)
  Wk : ∀ (i : Fin 768) (e : Fin 1536), e.val < 768 → IsReal (D.Wkv i e)
  nk : ∀ h e, IsReal (D.nk h e)
  T : ∀ t h, IsReal (D.T t h)

/-- The query of row `i`, head `h`. -/
def q (h : Fin 12) (i : Fin 2048) (e : Fin 64) : EReal := ∑ a : Fin 768, D.X i a * D.Wq a (col12 h e)

/-- The key of row `j`, head `h`. -/
def k (h : Fin 12) (j : Fin 2048) (e : Fin 64) : EReal := ∑ a : Fin 768, D.X j a * D.Wkv a (col24 ⟨h.val, by omega⟩ e)

/-- The value of row `j`, head `h`. -/
def v (h : Fin 12) (j : Fin 2048) (e : Fin 64) : EReal := ∑ a : Fin 768, D.X j a * D.Wkv a (col24 ⟨h.val + 12, by omega⟩ e)

/-- The table's entry for a bucket, scaled. -/
def tab (h : Fin 12) (n : ℕ) : EReal := if hn : n < 32 then D.T ⟨n, hn⟩ h * ((8 : ℝ) : EReal) else 0

/-- The bias of a distance, relative to the last bucket's. -/
def bias (h : Fin 12) (n : ℕ) : EReal := D.tab h (bkt n) - D.tab h 31

/-- The score of query row `i` against key row `n`, relative to the last bucket's bias. -/
def loc (h : Fin 12) (i : Fin 2048) (n : ℕ) : EReal :=
  if hn : n < 2048 then (∑ e : Fin 64, D.q h i e * D.k h ⟨n, hn⟩ e) * ((1 / 8 : ℝ) : EReal) + D.bias h (i.val - n) else 0

/-- The values by row number. -/
def val (h : Fin 12) (d : Fin 64) (n : ℕ) : EReal := if hn : n < 2048 then D.v h ⟨n, hn⟩ d else 0

/-- The memory keys with the null key first. -/
def memK (h : Fin 12) (t : ℕ) (e : Fin 64) : EReal := if t < 1 then D.nk h e else if ht : t < 33 then D.km h ⟨t - 1, by omega⟩ e else 0

/-- The memory values with the null value first. -/
def memV (h : Fin 12) (d : Fin 64) (t : ℕ) : EReal := if t < 1 then D.nv h d else if ht : t < 33 then D.vm h ⟨t - 1, by omega⟩ d else 0

/-- The memory slots that take part: the null slot and those the mask admits. -/
def slots (h : Fin 12) : Finset ℕ := (Finset.range 33).filter fun t => t < 1 ∨ ∃ ht : t - 1 < 32, D.mask h ⟨t - 1, ht⟩ = 1#1

/-- The score of query row `i` against memory slot `t`. -/
def mem (h : Fin 12) (i : Fin 2048) (t : ℕ) : EReal := (∑ e : Fin 64, D.q h i e * D.memK h t e) * ((1 / 8 : ℝ) : EReal)

/-- One head's output: the causal attention and the memory attention, mixed by the gate. -/
def head (h : Fin 12) (i : Fin 2048) (d : Fin 64) : EReal :=
  wavg (Finset.range (i.val + 1)) (fun n => (D.loc h i n).toReal) (D.val h d) * Ideal.logistic (D.g h)
    + wavg (D.slots h) (fun t => (D.mem h i t).toReal) (D.memV h d) * (1 - Ideal.logistic (D.g h))

/-- The result. -/
def out (i : Fin 2048) (j : Fin 768) : EReal :=
  (∑ h : Fin 12, ∑ d : Fin 64, D.head h i d * D.Wo (col12 h d) j) + D.bo j

variable {D} (hD : D.Finite)
include hD

theorem Finite.q_real (h : Fin 12) (i : Fin 2048) (e : Fin 64) : IsReal (D.q h i e) :=
  isReal_sum _ _ fun a _ => (hD.X i a).mul (hD.Wq a _)
theorem Finite.k_real (h : Fin 12) (i : Fin 2048) (e : Fin 64) : IsReal (D.k h i e) :=
  isReal_sum _ _ fun a _ => (hD.X i a).mul (hD.Wk a _ (by show h.val * 64 + e.val < 768; omega))
theorem Finite.tab_real (h : Fin 12) (n : ℕ) : IsReal (D.tab h n) := by
  unfold tab; split
  · exact (hD.T _ _).mul (isReal_coe _)
  · exact isReal_zero
theorem Finite.bias_real (h : Fin 12) (n : ℕ) : IsReal (D.bias h n) := (hD.tab_real h _).sub (hD.tab_real h _)
theorem Finite.loc_real (h : Fin 12) (i : Fin 2048) (n : ℕ) : IsReal (D.loc h i n) := by
  unfold loc; split
  · exact ((isReal_sum _ _ fun e _ => (hD.q_real h i e).mul (hD.k_real h _ e)).mul (isReal_coe _)).add (hD.bias_real h _)
  · exact isReal_zero
theorem Finite.memK_real (h : Fin 12) (t : ℕ) (e : Fin 64) : IsReal (D.memK h t e) := by
  unfold memK; split
  · exact hD.nk h e
  · split
    · exact hD.km h _ e
    · exact isReal_zero
theorem Finite.mem_real (h : Fin 12) (i : Fin 2048) (t : ℕ) : IsReal (D.mem h i t) :=
  (isReal_sum _ _ fun e _ => (hD.q_real h i e).mul (hD.memK_real h t e)).mul (isReal_coe _)

omit hD in
theorem slots_lt (h : Fin 12) (n : ℕ) (hn : n ∈ D.slots h) : n < 33 := Finset.mem_range.mp (Finset.mem_filter.mp hn).1
omit hD in
theorem slots_ne (h : Fin 12) : (D.slots h).Nonempty :=
  ⟨0, Finset.mem_filter.mpr ⟨Finset.mem_range.mpr (by omega), Or.inl (by omega)⟩⟩
omit hD in
theorem rows_ne (i : Fin 2048) : (Finset.range (i.val + 1)).Nonempty := ⟨0, Finset.mem_range.mpr (by omega)⟩

/-- The causal softmax over the first `N` keys, as the attention launches form it. -/
theorem Finite.kernel_loc (h : Fin 12) (i : Fin 2048) (d : Fin 64) (N : ℕ) (hi : i.val < N) (s v : Fin N → EReal)
    (hs : ∀ j : Fin N, s j = if j.val ≤ i.val then D.loc h i j.val else ⊥) (hv : ∀ j : Fin N, v j = D.val h d j.val) :
    smx1 s v = wavg (Finset.range (i.val + 1)) (fun n => (D.loc h i n).toReal) (D.val h d) := by
  refine smx1_eq _ _ _ _ _ (fun n hn => ?_) (rows_ne i) 0 (fun j => ?_) fun j _ => hv j
  · have := Finset.mem_range.mp hn; omega
  · rw [hs, add_zero, (hD.loc_real h i j.val).coe_toReal]
    by_cases hj : j.val ≤ i.val
    · rw [if_pos hj, if_pos (Finset.mem_range.mpr (by omega))]
    · rw [if_neg hj, if_neg (fun c => hj (by have := Finset.mem_range.mp c; omega))]

/-- The causal softmax as the reference forms it: the scores carry the last bucket's bias and have their maximum taken off first. -/
theorem Finite.ref_loc (h : Fin 12) (i : Fin 2048) (d : Fin 64) (s t v : Fin 2048 → EReal)
    (hs : ∀ j : Fin 2048, s j = if j.val ≤ i.val then
      D.tab h (bkt (i.val - j.val)) + (∑ e : Fin 64, D.q h i e * D.k h j e) * ((1 / 8 : ℝ) : EReal) else ⊥)
    (ht : ∀ j, t j = s j - Finset.univ.fold max ⊥ s) (hv : ∀ j, v j = D.v h j d) :
    smx2 t v = wavg (Finset.range (i.val + 1)) (fun n => (D.loc h i n).toReal) (D.val h d) := by
  obtain ⟨c, hc⟩ := hD.tab_real h 31
  have hS : ∀ n ∈ Finset.range (i.val + 1), n < 2048 := fun n hn => by have := Finset.mem_range.mp hn; omega
  have hs' : ∀ j : Fin 2048, s j = if j.val ∈ Finset.range (i.val + 1) then (((D.loc h i j.val).toReal + c : ℝ) : EReal) else ⊥ := fun j => by
    rw [hs]
    by_cases hj : j.val ≤ i.val
    · rw [if_pos hj, if_pos (Finset.mem_range.mpr (by omega)), EReal.coe_add, (hD.loc_real h i j.val).coe_toReal, ← hc]
      unfold loc bias
      rw [dif_pos j.isLt]
      obtain ⟨x, hx⟩ : IsReal ((∑ e : Fin 64, D.q h i e * D.k h j e) * ((1 / 8 : ℝ) : EReal)) :=
        (isReal_sum _ _ fun e _ => (hD.q_real h i e).mul (hD.k_real h _ e)).mul (isReal_coe _)
      obtain ⟨y, hy⟩ := hD.tab_real h (bkt (i.val - j.val))
      rw [show (⟨j.val, j.isLt⟩ : Fin 2048) = j from rfl, hx, hy, hc]
      norm_cast
      ring
    · rw [if_neg hj, if_neg (fun c => hj (by have := Finset.mem_range.mp c; omega))]
  obtain ⟨m, hm⟩ := isReal_max _ (fun n => (D.loc h i n).toReal) s hS (rows_ne i) c hs'
  refine smx2_eq _ _ _ _ _ hS (rows_ne i) (c - m) (fun j => ?_) fun j _ => ?_
  · rw [ht, hm]; exact shift_scores _ (fun n => (D.loc h i n).toReal) s c m hs' j
  · rw [hv]; unfold val; rw [dif_pos j.isLt]

/-- The memory softmax as the attention launches form it: 64 slots, the excluded ones weighted zero. -/
theorem Finite.kernel_mem (h : Fin 12) (i : Fin 2048) (d : Fin 64) (s k v : Fin 64 → EReal) (hs : ∀ t : Fin 64, s t = D.mem h i t.val)
    (hk : ∀ t : Fin 64, k t = if t.val ∈ D.slots h then 1 else 0) (hv : ∀ t : Fin 64, v t = D.memV h d t.val) :
    smx s k v = wavg (D.slots h) (fun t => (D.mem h i t).toReal) (D.memV h d) :=
  smx_eq _ _ _ _ _ _ (fun n hn => by have := slots_lt h n hn; omega) (slots_ne h) (fun t => by rw [hs]; exact hD.mem_real h i _)
    (fun t _ => by rw [hs, (hD.mem_real h i _).coe_toReal]) hk fun t _ => hv t

/-- The memory softmax as the reference forms it: the maximum taken off first, then the excluded slots masked. -/
theorem Finite.ref_mem (h : Fin 12) (i : Fin 2048) (d : Fin 64) (s t v : Fin 33 → EReal) (hs : ∀ j : Fin 33, s j = D.mem h i j.val)
    (ht : ∀ j : Fin 33, t j = if j.val ∈ D.slots h then s j - Finset.univ.fold max ⊥ s else ⊥) (hv : ∀ j : Fin 33, v j = D.memV h d j.val) :
    smx2 t v = wavg (D.slots h) (fun t => (D.mem h i t).toReal) (D.memV h d) := by
  obtain ⟨m, hm⟩ : IsReal (Finset.univ.fold max ⊥ s) :=
    isReal_fold_max _ _ (fun j _ => Or.inr (by rw [hs]; exact hD.mem_real h i _)) 0 (Finset.mem_univ _) (by rw [hs]; exact hD.mem_real h i _)
  refine smx2_eq _ _ _ _ _ (slots_lt h) (slots_ne h) (-m) (fun j => ?_) fun j _ => hv j
  rw [ht, hm, hs]
  by_cases hj : j.val ∈ D.slots h
  · rw [if_pos hj, if_pos hj, EReal.coe_add, (hD.mem_real h i _).coe_toReal, EReal.coe_neg, sub_eq_add_neg]
  · rw [if_neg hj, if_neg hj]

end Args

end Cert.KernelIdeal.Val
-- ==== Proof.Value.BiasTile.lean ====
/- The bias tile, entry by entry: the table at the bucket of the distance, relative to the last entry, under the causal mask. -/
module

public import proofs.«01_k».proof.Proof.KernelIdeal.Region2
public import proofs.«01_k».proof.Proof.Value.Bucket
public import Idealize.ShloMosaic.Lib.Pointwise
public import Idealize.ShloMosaic.Lib.Pipeline.ValueKit

@[expose] public section

set_option maxRecDepth 16384

noncomputable section

namespace Cert.KernelIdeal.Val

open Cert.KernelIdeal Cert.KernelIdeal.Gen Cert.KernelIdeal.Own
open Idealize.ShloMosaic Idealize.ShloMosaic.TcCoe Idealize.SL.Sem
open Idealize.ShloMosaic.Pipeline (Dat)

/-- Entry `k` of a head's row of the bias table. -/
def tabRow (x0 : FVec Ideal S1x1x128 .f32) (k : ℕ) : EReal := if h : k < 128 then x0 (ix3 0 0 ⟨k, h⟩) else 0

theorem te2_at (x0 : FVec Ideal S1x1x128 .f32) (k : Fin 32) : te2 (F := Ideal) x0 k (ix3 0 0 0) = tabRow x0 k.val := by
  have hk : k.val < 128 := by omega
  unfold te2 tabRow
  rw [dif_pos hk]
  refine View.ld_unit_apply_of (Val := Elt Ideal) (e := .f32) x0 _ _ (te2_inb k) (ix3 0 0 0) (ix3 0 0 ⟨k.val, hk⟩) fun a => ?_
  match a with
  | ⟨0, _⟩ => rfl
  | ⟨1, _⟩ => rfl
  | ⟨2, _⟩ => rfl

theorem pay7_at (e : FVec Ideal S1x1x1 .f32) : k2_pay7 (F := Ideal) e = e (ix3 0 0 0) := by
  pointwise [k2_pay7]

theorem tl2_at (x0 : FVec Ideal S1x1x128 .f32) : tl2 (F := Ideal) x0 = tabRow x0 31 := by
  unfold tl2
  exact (pay7_at _).trans (te2_at x0 31)

/-- One bucket's part of the bias. -/
def tstep (w : BitVec 32) (l : EReal) (k : ℕ) (e : EReal) : EReal := Scalar.select (IntOp.cmpi .eq w (BitVec.ofNat 32 k)) (e - l) 0

section
variable (b : IVec S128x384 32) (l : EReal) (z : FVec Ideal S128x384 .f32) (r : Fin 128) (c : Fin 384) (e0 e1 e2 e3 e4 : FVec Ideal S1x1x1 .f32)

theorem pay10_at (m : IVec S128x384 1) : k2_pay10 (F := Ideal) b l z m e0 e1 e2 e3 (ix2 r c)
    = z (ix2 r c) + Scalar.select (m (ix2 r c)) (e0 (ix3 0 0 0) - l) 0 + tstep (b (ix2 r c)) l 1 (e1 (ix3 0 0 0))
      + tstep (b (ix2 r c)) l 2 (e2 (ix3 0 0 0)) + tstep (b (ix2 r c)) l 3 (e3 (ix3 0 0 0)) := by
  unfold tstep
  pointwise [k2_pay10]

theorem pay13_at (m : IVec S128x384 1) (f : FVec Ideal S1x1x1 .f32) : k2_pay13 (F := Ideal) b l z m (k2_pay12 f) e1 e2 e3 (ix2 r c)
    = z (ix2 r c) + Scalar.select (m (ix2 r c)) (f (ix3 0 0 0) - l) 0 + tstep (b (ix2 r c)) l 5 (e1 (ix3 0 0 0))
      + tstep (b (ix2 r c)) l 6 (e2 (ix3 0 0 0)) + tstep (b (ix2 r c)) l 7 (e3 (ix3 0 0 0)) := by
  unfold tstep
  pointwise [k2_pay13, k2_pay12]

theorem pay17_at (m : IVec S128x384 1) : k2_pay17 (F := Ideal) b l z m (k2_pay15 l e0) k2_pay16 e1 e2 e3 e4 (ix2 r c)
    = z (ix2 r c) + Scalar.select (m (ix2 r c)) (e0 (ix3 0 0 0) - l) 0 + tstep (b (ix2 r c)) l 9 (e1 (ix3 0 0 0))
      + tstep (b (ix2 r c)) l 10 (e2 (ix3 0 0 0)) + tstep (b (ix2 r c)) l 11 (e3 (ix3 0 0 0)) + tstep (b (ix2 r c)) l 12 (e4 (ix3 0 0 0)) := by
  unfold tstep
  pointwise [k2_pay17, k2_pay15, k2_pay16]

theorem pay19_at : k2_pay19 (F := Ideal) b l z k2_pay18 e0 e1 e2 e3 (ix2 r c)
    = z (ix2 r c) + tstep (b (ix2 r c)) l 13 (e0 (ix3 0 0 0)) + tstep (b (ix2 r c)) l 14 (e1 (ix3 0 0 0))
      + tstep (b (ix2 r c)) l 15 (e2 (ix3 0 0 0)) + tstep (b (ix2 r c)) l 16 (e3 (ix3 0 0 0)) := by
  unfold tstep
  pointwise [k2_pay19, k2_pay18]

theorem pay21_at (m : IVec S128x384 1) : k2_pay21 (F := Ideal) b l z m e0 e1 e2 e3 (ix2 r c)
    = z (ix2 r c) + Scalar.select (m (ix2 r c)) (e0 (ix3 0 0 0) - l) 0 + tstep (b (ix2 r c)) l 18 (e1 (ix3 0 0 0))
      + tstep (b (ix2 r c)) l 19 (e2 (ix3 0 0 0)) + tstep (b (ix2 r c)) l 20 (e3 (ix3 0 0 0)) := by
  unfold tstep
  pointwise [k2_pay21]

theorem pay24_at (m : IVec S128x384 1) : k2_pay24 (F := Ideal) b l z m (k2_pay23 l e0) (Scalar.ofBits .f32 0x00000000#32) e1 e2 e3 e4 (ix2 r c)
    = z (ix2 r c) + Scalar.select (m (ix2 r c)) (e0 (ix3 0 0 0) - l) 0 + tstep (b (ix2 r c)) l 22 (e1 (ix3 0 0 0))
      + tstep (b (ix2 r c)) l 23 (e2 (ix3 0 0 0)) + tstep (b (ix2 r c)) l 24 (e3 (ix3 0 0 0)) + tstep (b (ix2 r c)) l 25 (e4 (ix3 0 0 0)) := by
  unfold tstep
  pointwise [k2_pay24, k2_pay23]

theorem pay25_at : k2_pay25 (F := Ideal) b l z e0 e1 e2 e3 (ix2 r c)
    = z (ix2 r c) + tstep (b (ix2 r c)) l 26 (e0 (ix3 0 0 0)) + tstep (b (ix2 r c)) l 27 (e1 (ix3 0 0 0))
      + tstep (b (ix2 r c)) l 28 (e2 (ix3 0 0 0)) + tstep (b (ix2 r c)) l 29 (e3 (ix3 0 0 0)) := by
  unfold tstep
  pointwise [k2_pay25]

theorem masks2_at : k2_pay9 (F := Ideal) (ix2 r c) = IntOp.cmpi .eq (k2_pay6 (F := Ideal) (ix2 r c)) 0#32
    ∧ k2_pay11 b (ix2 r c) = IntOp.cmpi .eq (b (ix2 r c)) 4#32 ∧ k2_pay14 b (ix2 r c) = IntOp.cmpi .eq (b (ix2 r c)) 8#32
    ∧ k2_pay20 b (ix2 r c) = IntOp.cmpi .eq (b (ix2 r c)) 17#32 ∧ k2_pay22 b (ix2 r c) = IntOp.cmpi .eq (b (ix2 r c)) 21#32
    ∧ k2_pay26 b (ix2 r c) = IntOp.cmpi .eq (b (ix2 r c)) 30#32 ∧ k2_pay8 (F := Ideal) (ix2 r c) = 0 := by
  refine ⟨?_, ?_, ?_, ?_, ?_, ?_, ?_⟩
  · pointwise [k2_pay9]
  · pointwise [k2_pay11]
  · pointwise [k2_pay14]
  · pointwise [k2_pay20]
  · pointwise [k2_pay22]
  · pointwise [k2_pay26]
  · pointwise [k2_pay8]

theorem pay2_at (v : IVec S128x384 32) (m : IVec S128x384 1) : k2_pay2 (F := Ideal) v l z m e0 (ix3 0 r c)
    = Scalar.select (IntOp.cmpi .sge (v (ix2 r c)) 0#32) (z (ix2 r c) + Scalar.select (m (ix2 r c)) (e0 (ix3 0 0 0) - l) 0) ⊥ := by
  pointwise [k2_pay2, k2_pay1]
  rfl

theorem pay5_at : k2_pay5 (ix2 r c) = IntOp.subi (IntOp.addi 256#32 (BitVec.ofNat 32 r.val)) (BitVec.ofNat 32 c.val) := by
  pointwise [k2_pay5]

theorem pay6_at : k2_pay6 (F := Ideal) (ix2 r c) = bktW (k2_pay5 (ix2 r c)) := by
  pointwise [k2_pay6]
  rfl

end

theorem pay4_at (r : Fin 256) (c : Fin 768) : k2_pay4 (F := Ideal) (ix3 0 r c)
    = Scalar.select (IntOp.cmpi .sgt (BitVec.ofNat 32 c.val) (IntOp.addi 256#32 (BitVec.ofNat 32 r.val))) ⊥ 0 := by
  pointwise [k2_pay4]
  rfl

/-- The strip before its mask, at a row and a column: a sum over the buckets. -/
theorem strip2_at (x0 : FVec Ideal S1x1x128 .f32) (r : Fin 128) (c : Fin 384) : strip2 (F := Ideal) x0 (ix3 0 r c)
    = Scalar.select (IntOp.cmpi .sge (k2_pay5 (ix2 r c)) 0#32)
        (∑ k ∈ Finset.range 31, tstep (bktW (k2_pay5 (ix2 r c))) (tabRow x0 31) k (tabRow x0 k)) ⊥ := by
  obtain ⟨m0, m4, m8, m17, m21, m30, z0⟩ := masks2_at (k2_pay6 (F := Ideal)) r c
  unfold strip2
  rw [pay2_at, m30]
  refine congrArg (fun s => Scalar.select _ s ⊥) ?_
  unfold acc2_29; rw [pay25_at]
  unfold acc2_25; rw [pay24_at, m21]
  unfold acc2_20; rw [pay21_at, m17]
  unfold acc2_16; rw [pay19_at]
  unfold acc2_12; rw [tl2_at, pay17_at, m8]
  unfold acc2_7; rw [tl2_at, pay13_at, m4]
  unfold acc2_3; rw [tl2_at, pay10_at, m0, z0, pay6_at]
  simp only [te2_at]
  simp only [Finset.sum_range_succ, Finset.sum_range_zero]
  rfl

/-- The sum over the buckets is the table's entry at the bucket, relative to the last. -/
theorem ladder (T : ℕ → EReal) (hT : IsReal (T 31)) (b : ℕ) (hb : b ≤ 31) :
    ∑ k ∈ Finset.range 31, tstep (BitVec.ofNat 32 b) (T 31) k (T k) = T b - T 31 := by
  have hs : ∀ k ∈ Finset.range 31, tstep (BitVec.ofNat 32 b) (T 31) k (T k) = if k = b then T b - T 31 else 0 := by
    intro k hk
    have hk' : k < 31 := Finset.mem_range.mp hk
    unfold tstep Scalar.select
    by_cases h : k = b
    · subst h; simp [IntOp.cmpi]
    · rw [if_neg h, if_neg]
      have : BitVec.ofNat 32 b ≠ BitVec.ofNat 32 k := fun e => by
        have := congrArg BitVec.toNat e
        simp only [BitVec.toNat_ofNat] at this
        omega
      simp [IntOp.cmpi, beq_eq_false_iff_ne.mpr this]
  rw [Finset.sum_congr rfl hs, Finset.sum_ite_eq' (Finset.range 31) b]
  by_cases h : b < 31
  · rw [if_pos (Finset.mem_range.mpr h)]
  · rw [if_neg (by simpa using h)]
    obtain rfl : b = 31 := by omega
    obtain ⟨x, hx⟩ := hT
    rw [hx, ← EReal.coe_sub, sub_self, EReal.coe_zero]

/-- The bias by distance of a row of the table. -/
def biasBy (T : ℕ → EReal) (n : ℕ) : EReal := if n < 128 then T (bkt n) - T 31 else 0

theorem biasBy_far (T : ℕ → EReal) (n : ℕ) (h : 128 ≤ n) : biasBy T n = 0 := if_neg (by omega)

theorem biasBy_eq (T : ℕ → EReal) (hT : IsReal (T 31)) (n : ℕ) : biasBy T n = T (bkt n) - T 31 := by
  unfold biasBy
  by_cases h : n < 128
  · rw [if_pos h]
  · rw [if_neg h, bkt_far n (by omega)]
    obtain ⟨x, hx⟩ := hT
    rw [hx, ← EReal.coe_sub, sub_self, EReal.coe_zero]

theorem strip2_val (x0 : FVec Ideal S1x1x128 .f32) (hT : IsReal (tabRow x0 31)) (r : Fin 128) (c : Fin 384) :
    strip2 (F := Ideal) x0 (ix3 0 r c) = if 256 + r.val < c.val then ⊥ else biasBy (tabRow x0) (256 + r.val - c.val) := by
  rw [strip2_at, pay5_at]
  unfold IntOp.subi IntOp.addi
  rw [show (256#32 : BitVec 32) = BitVec.ofNat 32 256 from rfl, ← BitVec.ofNat_add]
  by_cases h : 256 + r.val < c.val
  · rw [if_pos h]
    have hneg : BitVec.ofNat 32 (256 + r.val) - BitVec.ofNat 32 c.val = BitVec.ofNat 32 (2 ^ 32 - (c.val - (256 + r.val))) := by
      refine BitVec.eq_of_toNat_eq ?_
      rw [BitVec.toNat_sub]
      simp only [BitVec.toNat_ofNat]
      omega
    have hz : IntOp.cmpi .sge (BitVec.ofNat 32 (256 + r.val) - BitVec.ofNat 32 c.val) 0#32 = 0#1 := by
      rw [hneg, WordCmp.cmpi_sge_zero]
      rw [decide_eq_false (by rw [BitVec.toNat_ofNat]; omega)]
      rfl
    rw [hz]; rfl
  · rw [if_neg h]
    have hpos : BitVec.ofNat 32 (256 + r.val) - BitVec.ofNat 32 c.val = BitVec.ofNat 32 (256 + r.val - c.val) := by
      refine BitVec.eq_of_toNat_eq ?_
      rw [BitVec.toNat_sub]
      simp only [BitVec.toNat_ofNat]
      omega
    rw [hpos, WordCmp.cmpi_sge_ofNat (w := 32) (by omega) (by omega), bktW_ofNat _ (by omega),
      ladder (tabRow x0) hT _ (bkt_le _), biasBy_eq _ hT]
    simp [Scalar.select]

/-- A tile under a write of a strip, within the strip. -/
theorem tile_in (R C : ℕ) (inb : ∀ a, (![0, R, C] : Fin 3 → ℕ) a + (![1, 128, 384] : Fin 3 → ℕ) a ≤ (⟨3, ![1, 256, 768]⟩ : Shape).size a)
    (W : FVec Ideal ⟨3, ![1, 128, 384]⟩ .f32) (L : List (View.Piece (Elt Ideal) ⟨3, ![1, 256, 768]⟩ .f32))
    (r : Fin 256) (c : Fin 768) (r0 : Fin 128) (c0 : Fin 384) (hr : r.val = R + r0.val) (hc : c.val = C + c0.val) :
    View.canon (Val := Elt Ideal) (e := .f32) (⟨Rect.unit (s := ⟨3, ![1, 256, 768]⟩) ![0, R, C] ![1, 128, 384] inb, W⟩ :: L) (ix3 0 r c)
      = W (ix3 0 r0 c0) := by
  have e : (ix3 0 r c : (⟨3, ![1, 256, 768]⟩ : Shape).Idx)
      = (Rect.unit (s := ⟨3, ![1, 256, 768]⟩) ![0, R, C] ![1, 128, 384] inb).emb (ix3 0 r0 c0) := by
    refine funext fun a => Fin.ext ?_
    refine Eq.trans ?_ (Rect.idx_unit_val _ _ inb (ix3 0 r0 c0) a).symm
    match a with
    | ⟨0, _⟩ => rfl
    | ⟨1, _⟩ => exact hr
    | ⟨2, _⟩ => exact hc
  rw [e]
  exact View.canon_cons_emb (Val := Elt Ideal) (e := .f32) (Rect.unit (s := ⟨3, ![1, 256, 768]⟩) ![0, R, C] ![1, 128, 384] inb) W L (ix3 0 r0 c0)

/-- A tile under a write of a strip, off the strip. -/
theorem tile_out (R C : ℕ) (inb : ∀ a, (![0, R, C] : Fin 3 → ℕ) a + (![1, 128, 384] : Fin 3 → ℕ) a ≤ (⟨3, ![1, 256, 768]⟩ : Shape).size a)
    (W : FVec Ideal ⟨3, ![1, 128, 384]⟩ .f32) (L : List (View.Piece (Elt Ideal) ⟨3, ![1, 256, 768]⟩ .f32))
    (r : Fin 256) (c : Fin 768) (h : ¬(R ≤ r.val ∧ r.val < R + 128 ∧ C ≤ c.val ∧ c.val < C + 384)) :
    View.canon (Val := Elt Ideal) (e := .f32) (⟨Rect.unit (s := ⟨3, ![1, 256, 768]⟩) ![0, R, C] ![1, 128, 384] inb, W⟩ :: L) (ix3 0 r c)
      = View.canon L (ix3 0 r c) := by
  refine View.canon_cons_of_not_mem _ L fun hm => h ?_
  have h1 := (Rect.mem_set_unit (s := ⟨3, ![1, 256, 768]⟩) (inb := inb)).mp hm (1 : Fin 3)
  have h2 := (Rect.mem_set_unit (s := ⟨3, ![1, 256, 768]⟩) (inb := inb)).mp hm (2 : Fin 3)
  have a1 : R ≤ r.val := h1.1
  have a2 : r.val < R + 128 := h1.2
  have a3 : C ≤ c.val := h2.1
  have a4 : c.val < C + 384 := h2.2
  exact ⟨a1, a2, a3, a4⟩

/-- A tile written whole. -/
theorem tile_all (inb : ∀ a, (![0, 0, 0] : Fin 3 → ℕ) a + (![1, 256, 768] : Fin 3 → ℕ) a ≤ (⟨3, ![1, 256, 768]⟩ : Shape).size a)
    (W : FVec Ideal ⟨3, ![1, 256, 768]⟩ .f32) (L : List (View.Piece (Elt Ideal) ⟨3, ![1, 256, 768]⟩ .f32)) (r : Fin 256) (c : Fin 768) :
    View.canon (Val := Elt Ideal) (e := .f32) (⟨Rect.unit (s := ⟨3, ![1, 256, 768]⟩) ![0, 0, 0] ![1, 256, 768] inb, W⟩ :: L) (ix3 0 r c)
      = W (ix3 0 r c) := by
  have e : (ix3 0 r c : (⟨3, ![1, 256, 768]⟩ : Shape).Idx)
      = (Rect.unit (s := ⟨3, ![1, 256, 768]⟩) ![0, 0, 0] ![1, 256, 768] inb).emb (ix3 0 r c) := by
    refine funext fun a => Fin.ext ?_
    refine Eq.trans ?_ (Rect.idx_unit_val _ _ inb (ix3 0 r c) a).symm
    match a with
    | ⟨0, _⟩ => rfl
    | ⟨1, _⟩ => exact (Nat.zero_add _).symm
    | ⟨2, _⟩ => exact (Nat.zero_add _).symm
  refine (congrArg _ e).trans ?_
  exact View.canon_cons_emb (Val := Elt Ideal) (e := .f32) (Rect.unit (s := ⟨3, ![1, 256, 768]⟩) ![0, 0, 0] ![1, 256, 768] inb) W L (ix3 0 r c)

/-- The tile: the causal mask, and under it the bias by distance. -/
theorem out2_at (x0 : FVec Ideal S1x1x128 .f32) (hT : IsReal (tabRow x0 31)) (r : Fin 256) (c : Fin 768) :
    out2 (F := Ideal) x0 (ix3 0 r c) = if 256 + r.val < c.val then ⊥ else biasBy (tabRow x0) (256 + r.val - c.val) := by
  have hr := r.isLt
  have hc := c.isLt
  unfold out2
  by_cases h1 : 128 ≤ r.val ∧ 128 ≤ c.val ∧ c.val < 512
  · have k1 : r.val - 128 < 128 := by omega
    have k2 : c.val - 128 < 384 := by omega
    have k3 : r.val = 128 + (r.val - 128) := by omega
    have k4 : c.val = 128 + (c.val - 128) := by omega
    refine (tile_in 128 128 _ _ _ r c ⟨r.val - 128, k1⟩ ⟨c.val - 128, k2⟩ k3 k4).trans ((strip2_val x0 hT _ _).trans ?_)
    show (if 256 + (r.val - 128) < c.val - 128 then ⊥ else biasBy (tabRow x0) (256 + (r.val - 128) - (c.val - 128))) = _
    have e1 : 256 + (r.val - 128) - (c.val - 128) = 256 + r.val - c.val := by omega
    have e2 : 256 + (r.val - 128) < c.val - 128 ↔ 256 + r.val < c.val := by omega
    rw [e1]
    simp only [e2]
  have n1 : ¬(128 ≤ r.val ∧ r.val < 128 + 128 ∧ 128 ≤ c.val ∧ c.val < 128 + 384) := by omega
  refine (tile_out 128 128 _ _ _ r c n1).trans ?_
  by_cases h2 : r.val < 128 ∧ c.val < 384
  · exact (tile_in 0 0 _ _ _ r c ⟨r.val, h2.1⟩ ⟨c.val, h2.2⟩ (Nat.zero_add _).symm (Nat.zero_add _).symm).trans (strip2_val x0 hT _ _)
  have n2 : ¬(0 ≤ r.val ∧ r.val < 0 + 128 ∧ 0 ≤ c.val ∧ c.val < 0 + 384) := by omega
  refine (tile_out 0 0 _ _ _ r c n2).trans ((tile_all _ _ _ r c).trans ((pay4_at r c).trans ?_))
  unfold IntOp.addi
  rw [show (256#32 : BitVec 32) = BitVec.ofNat 32 256 from rfl, ← BitVec.ofNat_add,
    WordCmp.cmpi_sgt_ofNat (w := 32) (by omega) (by omega)]
  by_cases h3 : 256 + r.val < c.val
  · rw [if_pos h3, decide_eq_true h3]; rfl
  · rw [if_neg h3, biasBy_far _ _ (by omega), decide_eq_false h3]; rfl

theorem idx2 : ∀ t : Fin cfg2.N, win2_0.index t = ![t.val, 0, 0] ∧ win2_1.index t = ![t.val, 0, 0] :=
  (by decide +kernel : ∀ t : Fin grid2.N, _)

/-- A head's row of the table the launch reads. -/
def tabOf (X : FVec Ideal S12x1x128 .f32) (h : Fin 12) (k : ℕ) : EReal := if hk : k < 128 then X (ix3 h 0 ⟨k, hk⟩) else 0

/-- The bias array. -/
def biasArr (X : FVec Ideal S12x1x128 .f32) : FVec Ideal S12x256x768 .f32 := fun y =>
  if 256 + (y 1).val < (y 2).val then ⊥ else biasBy (tabOf X (y 0)) (256 + (y 1).val - (y 2).val)

variable (V : Dev nD → Valuation τ sig (Elt Ideal))

set_option maxHeartbeats 1000000 in
theorem final2 (c : Dev nD) (hT : ∀ h, IsReal (tabOf (V c (Proc.devRef .tc main_v22)) h 31)) :
    (dat2 V c).arrAt 1 cfg2.N = biasArr (V c (Proc.devRef .tc main_v22)) := by
  refine (dat2 V c).arrAt_eq_of_covers 1 _ (by decide +kernel) fun t _ y => ?_
  have ht : t.val < 12 := t.isLt
  have b0 : ∀ (d : Fin 128), iblk2 V c 0 t (ix3 0 0 d)
      = V c (Proc.devRef .tc main_v22) (ix3 (n0 := 12) ⟨t.val, by omega⟩ 0 d) := by
    intro d; blk_ext [iblk2, idx2 t]
  have hr : tabRow (iblk2 V c 0 t) = tabOf (V c (Proc.devRef .tc main_v22)) ⟨t.val, by omega⟩ := by
    funext k
    unfold tabRow tabOf
    by_cases hk : k < 128
    · rw [dif_pos hk, dif_pos hk]; exact b0 _
    · rw [dif_neg hk, dif_neg hk]
  blk_simp
  rw [after2_1]; unfold oblk2
  idx_vars y
  obtain rfl : y0 = 0 := Subsingleton.elim _ _
  refine Eq.trans (b := biasArr (V c (Proc.devRef .tc main_v22)) (ix3 (n0 := 12) ⟨t.val, by omega⟩ y1 y2)) ?_ ?_
  · refine (out2_at _ (by rw [hr]; exact hT _) y1 y2).trans ?_
    rw [hr]; rfl
  · refine congrArg (biasArr _) ?_
    blk_ext [idx2 t]

end Cert.KernelIdeal.Val
-- ==== Proof.Value.AttnCommon.lean ====
/- What the four attention launches share: reading the score scratch, and the row they compute. -/
module

public import proofs.«01_k».proof.Proof.Value.Math
public import Idealize.ShloMosaic.Lib.Pointwise
public import Idealize.ShloMosaic.Lib.Pipeline.ValueKit

@[expose] public section

set_option maxRecDepth 16384

noncomputable section

namespace Cert.KernelIdeal.Val

open Cert.KernelIdeal Cert.KernelIdeal.Gen Cert.KernelIdeal.Own
open Idealize.ShloMosaic Idealize.ShloMosaic.TcCoe Idealize.SL.Sem
open Idealize.ShloMosaic.Pipeline (Dat)

/-- The scratch under a write of whole rows, within the written columns. -/
theorem scratch_in {N w : ℕ} (h : Fin 2) (st : ℕ) (off : Fin 3 → ℕ) (hoff : off = ![h.val, 0, st])
    (inb : ∀ a, off a + (![1, 256, w] : Fin 3 → ℕ) a ≤ (⟨3, ![2, 256, N]⟩ : Shape).size a)
    (W : FVec Ideal ⟨3, ![1, 256, w]⟩ .f32) (L : List (View.Piece (Elt Ideal) ⟨3, ![2, 256, N]⟩ .f32))
    (r : Fin 256) (j : Fin N) (c0 : Fin w) (hj : j.val = st + c0.val) :
    View.canon (Val := Elt Ideal) (e := .f32) (⟨Rect.unit (s := ⟨3, ![2, 256, N]⟩) off ![1, 256, w] inb, W⟩ :: L) (ix3 h r j) = W (ix3 0 r c0) := by
  subst hoff
  have e : (ix3 h r j : (⟨3, ![2, 256, N]⟩ : Shape).Idx)
      = (Rect.unit (s := ⟨3, ![2, 256, N]⟩) ![h.val, 0, st] ![1, 256, w] inb).emb (ix3 0 r c0) := by
    refine funext fun a => Fin.ext ?_
    refine Eq.trans ?_ (Rect.idx_unit_val _ _ inb (ix3 0 r c0) a).symm
    match a with
    | ⟨0, _⟩ => rfl
    | ⟨1, _⟩ => exact (Nat.zero_add _).symm
    | ⟨2, _⟩ => exact hj
  rw [e]
  exact View.canon_cons_emb (Val := Elt Ideal) (e := .f32) (Rect.unit (s := ⟨3, ![2, 256, N]⟩) ![h.val, 0, st] ![1, 256, w] inb) W L (ix3 0 r c0)

/-- The scratch under a write of whole rows, off the written columns. -/
theorem scratch_out {N w : ℕ} (h : Fin 2) (st : ℕ) (off : Fin 3 → ℕ) (hoff : off = ![h.val, 0, st])
    (inb : ∀ a, off a + (![1, 256, w] : Fin 3 → ℕ) a ≤ (⟨3, ![2, 256, N]⟩ : Shape).size a)
    (W : FVec Ideal ⟨3, ![1, 256, w]⟩ .f32) (L : List (View.Piece (Elt Ideal) ⟨3, ![2, 256, N]⟩ .f32))
    (r : Fin 256) (j : Fin N) (hj : j.val < st ∨ st + w ≤ j.val) :
    View.canon (Val := Elt Ideal) (e := .f32) (⟨Rect.unit (s := ⟨3, ![2, 256, N]⟩) off ![1, 256, w] inb, W⟩ :: L) (ix3 h r j) = View.canon L (ix3 h r j) := by
  subst hoff
  refine View.canon_cons_of_not_mem _ L fun hm => ?_
  have h2 := (Rect.mem_set_unit (s := ⟨3, ![2, 256, N]⟩) (inb := inb)).mp hm (2 : Fin 3)
  have a1 : st ≤ j.val := h2.1
  have a2 : j.val < st + w := h2.2
  omega

/-- A load of whole rows of a plane. -/
theorem ld_rows {N w : ℕ} (X : FVec Ideal ⟨3, ![2, 256, N]⟩ .f32) (h : Fin 2) (st : ℕ) (off : Fin 3 → ℕ) (hoff : off = ![h.val, 0, st])
    (inb : ∀ a, off a + (![1, 256, w] : Fin 3 → ℕ) a ≤ (⟨3, ![2, 256, N]⟩ : Shape).size a)
    (r : Fin 256) (c0 : Fin w) (j : Fin N) (hj : j.val = st + c0.val) :
    View.ld (Val := Elt Ideal) (e' := .f32) X (Rect.unit (s := ⟨3, ![2, 256, N]⟩) off ![1, 256, w] inb) (ix3 0 r c0) = X (ix3 h r j) := by
  subst hoff
  refine View.ld_unit_apply_of (Val := Elt Ideal) (e := .f32) X _ _ inb (ix3 0 r c0) (ix3 h r j) fun a => ?_
  match a with
  | ⟨0, _⟩ => rfl
  | ⟨1, _⟩ => exact (Nat.zero_add _).symm
  | ⟨2, _⟩ => exact hj

/-- The scratch's plane after the bare scores and the biased window. -/
theorem plane_scores {N : ℕ} (h : Fin 2) (st : ℕ) (off : Fin 3 → ℕ) (hoff : off = ![h.val, 0, st])
    (inb : ∀ a, off a + (![1, 256, 512] : Fin 3 → ℕ) a ≤ (⟨3, ![2, 256, N]⟩ : Shape).size a)
    (inb0 : ∀ a, (![h.val, 0, 0] : Fin 3 → ℕ) a + (![1, 256, N] : Fin 3 → ℕ) a ≤ (⟨3, ![2, 256, N]⟩ : Shape).size a)
    (B : FVec Ideal ⟨3, ![1, 256, N]⟩ .f32) (W : FVec Ideal ⟨3, ![1, 256, 512]⟩ .f32) (r : Fin 256) (j : Fin N) :
    View.canon (Val := Elt Ideal) (e := .f32) [⟨Rect.unit (s := ⟨3, ![2, 256, N]⟩) off ![1, 256, 512] inb, W⟩,
        ⟨Rect.unit (s := ⟨3, ![2, 256, N]⟩) ![h.val, 0, 0] ![1, 256, N] inb0, B⟩] (ix3 h r j)
      = if hj : st ≤ j.val ∧ j.val < st + 512 then W (ix3 0 r ⟨j.val - st, by omega⟩) else B (ix3 0 r j) := by
  by_cases hj : st ≤ j.val ∧ j.val < st + 512
  · rw [dif_pos hj]
    exact scratch_in h st off hoff inb W _ r j _ (by show j.val = st + (j.val - st); omega)
  · rw [dif_neg hj]
    refine (scratch_out h st off hoff inb W _ r j (by omega)).trans ?_
    exact scratch_in h 0 _ rfl inb0 B [] r j j (Nat.zero_add _).symm

/-- The scratch's plane after its last 256 columns are written over. -/
theorem plane_tail {N : ℕ} (h : Fin 2) (st : ℕ) (hst : st + 256 = N)
    (inb : ∀ a, (![h.val, 0, st] : Fin 3 → ℕ) a + (![1, 256, 256] : Fin 3 → ℕ) a ≤ (⟨3, ![2, 256, N]⟩ : Shape).size a)
    (W : FVec Ideal ⟨3, ![1, 256, 256]⟩ .f32) (L : List (View.Piece (Elt Ideal) ⟨3, ![2, 256, N]⟩ .f32))
    (m : EReal) (hW : ∀ y, W y = m) (r : Fin 256) (j : Fin N) :
    View.canon (Val := Elt Ideal) (e := .f32) (⟨Rect.unit (s := ⟨3, ![2, 256, N]⟩) ![h.val, 0, st] ![1, 256, 256] inb, W⟩ :: L) (ix3 h r j)
      = if st ≤ j.val then m else View.canon L (ix3 h r j) := by
  have jl := j.isLt
  by_cases hj : st ≤ j.val
  · rw [if_pos hj]
    exact (scratch_in h st _ rfl inb W L r j ⟨j.val - st, by omega⟩ (by show j.val = st + (j.val - st); omega)).trans (hW _)
  · rw [if_neg hj]
    exact scratch_out h st _ rfl inb W L r j (by omega)

/-- The window's bias, the unbiased columns and the masked tail together are the causal scores. -/
theorem scores_arith (A : ℕ → EReal) (hA : ∀ n, 128 ≤ n → A n = 0) (p : EReal) (qi N st wst r j : ℕ) (even : Prop) [Decidable even]
    (hE : even → N = 256 * (qi + 2)) (hO : ¬even → N = 256 * (qi + 1) ∧ 1 ≤ qi) (hst : st = 256 * (qi - 1))
    (hw : wst = if qi = 0 then 256 else 0) (hr : r < 256) (hj : j < N) :
    (if even ∧ N - 256 ≤ j then ⊥
      else if st ≤ j ∧ j < st + 512 then p + (if 256 + r < wst + (j - st) then ⊥ else A (256 + r - (wst + (j - st)))) else p)
      = if j ≤ 256 * qi + r then p + A (256 * qi + r - j) else ⊥ := by
  have hN : N = 256 * (qi + 2) ∨ (N = 256 * (qi + 1) ∧ 1 ≤ qi ∧ ¬even) := by
    by_cases h : even
    · exact Or.inl (hE h)
    · exact Or.inr ⟨(hO h).1, (hO h).2, h⟩
  by_cases h1 : even ∧ N - 256 ≤ j
  · rw [if_pos h1, if_neg]; have := hE h1.1; omega
  rw [if_neg h1]
  by_cases h2 : st ≤ j ∧ j < st + 512
  · rw [if_pos h2]
    by_cases h3 : j ≤ 256 * qi + r
    · have h4 : ¬ 256 + r < wst + (j - st) := by split at hw <;> omega
      have h5 : 256 + r - (wst + (j - st)) = 256 * qi + r - j := by split at hw <;> omega
      rw [if_pos h3, if_neg h4, h5]
    · have h4 : 256 + r < wst + (j - st) := by split at hw <;> omega
      rw [if_neg h3, if_pos h4, EReal.add_bot]
  · rw [if_neg h2]
    have hlt : j < st := by
      by_cases h : even
      · have := hE h
        have h6 : ¬ N - 256 ≤ j := fun hh => h1 ⟨h, hh⟩
        omega
      · have := hO h; omega
    have h3 : j ≤ 256 * qi + r := by omega
    rw [if_pos h3, hA _ (by omega), add_zero]

/-- A head's scores as the softmax reads them, whatever the head, the number of keys and the query block: the bare scores,
    the window with the bias added, and at an even block the masked tail, are the causal scores with the bias by distance. -/
theorem scores_head {N : ℕ} (h : Fin 2) (A : ℕ → EReal) (hA : ∀ n, 128 ≤ n → A n = 0) (qi st wst nt : ℕ) (even : Prop) [Decidable even]
    (hN : nt + 256 = N) (hE : even → N = 256 * (qi + 2)) (hO : ¬even → N = 256 * (qi + 1) ∧ 1 ≤ qi) (hst : st = 256 * (qi - 1))
    (hw : wst = if qi = 0 then 256 else 0) (offw offb : Fin 3 → ℕ) (hoffw : offw = ![h.val, 0, st]) (hoffb : offb = ![h.val, 0, wst])
    (inbw : ∀ a, offw a + (![1, 256, 512] : Fin 3 → ℕ) a ≤ (⟨3, ![2, 256, N]⟩ : Shape).size a)
    (inbb : ∀ a, offb a + (![1, 256, 512] : Fin 3 → ℕ) a ≤ (⟨3, ![2, 256, 768]⟩ : Shape).size a)
    (inbs : ∀ a, (![h.val, 0, 0] : Fin 3 → ℕ) a + (![1, 256, N] : Fin 3 → ℕ) a ≤ (⟨3, ![2, 256, N]⟩ : Shape).size a)
    (inbt : ∀ a, (![h.val, 0, nt] : Fin 3 → ℕ) a + (![1, 256, 256] : Fin 3 → ℕ) a ≤ (⟨3, ![2, 256, N]⟩ : Shape).size a)
    (P : FVec Ideal ⟨3, ![1, 256, 512]⟩ .f32 → FVec Ideal ⟨3, ![1, 256, 512]⟩ .f32 → FVec Ideal ⟨3, ![1, 256, 512]⟩ .f32)
    (hP : ∀ a b (r : Fin 256) (c : Fin 512), P a b (ix3 0 r c) = a (ix3 0 r c) + b (ix3 0 r c))
    (T : FVec Ideal ⟨3, ![1, 256, 256]⟩ .f32) (hT : ∀ y, T y = ⊥)
    (B : FVec Ideal ⟨3, ![1, 256, N]⟩ .f32) (p : Fin 256 → Fin N → EReal) (hB : ∀ r j, B (ix3 0 r j) = p r j)
    (x3 : FVec Ideal ⟨3, ![2, 256, 768]⟩ .f32)
    (hx : ∀ (r : Fin 256) (c : Fin 768), x3 (ix3 h r c) = if 256 + r.val < c.val then ⊥ else A (256 + r.val - c.val))
    (r : Fin 256) (j : Fin N) (ws : List (View.Piece (Elt Ideal) ⟨3, ![2, 256, N]⟩ .f32))
    (hws : ws = [⟨Rect.unit (s := ⟨3, ![2, 256, N]⟩) offw ![1, 256, 512] inbw,
          P (View.ld (Val := Elt Ideal) (e' := .f32)
              (View.canon (Val := Elt Ideal) (e := .f32) [⟨Rect.unit (s := ⟨3, ![2, 256, N]⟩) ![h.val, 0, 0] ![1, 256, N] inbs, B⟩])
              (Rect.unit (s := ⟨3, ![2, 256, N]⟩) offw ![1, 256, 512] inbw))
            (View.ld (Val := Elt Ideal) (e' := .f32) x3 (Rect.unit (s := ⟨3, ![2, 256, 768]⟩) offb ![1, 256, 512] inbb))⟩,
        ⟨Rect.unit (s := ⟨3, ![2, 256, N]⟩) ![h.val, 0, 0] ![1, 256, N] inbs, B⟩]) :
    (if even then
        View.ld (Val := Elt Ideal) (e' := .f32)
          (View.canon (Val := Elt Ideal) (e := .f32) (⟨Rect.unit (s := ⟨3, ![2, 256, N]⟩) ![h.val, 0, nt] ![1, 256, 256] inbt, T⟩ :: ws))
          (Rect.unit (s := ⟨3, ![2, 256, N]⟩) ![h.val, 0, 0] ![1, 256, N] inbs)
      else View.ld (Val := Elt Ideal) (e' := .f32) (View.canon (Val := Elt Ideal) (e := .f32) ws)
          (Rect.unit (s := ⟨3, ![2, 256, N]⟩) ![h.val, 0, 0] ![1, 256, N] inbs)) (ix3 0 r j)
      = if j.val ≤ 256 * qi + r.val then p r j + A (256 * qi + r.val - j.val) else ⊥ := by
  have hc : View.canon (Val := Elt Ideal) (e := .f32) ws (ix3 h r j)
      = if st ≤ j.val ∧ j.val < st + 512 then
          p r j + (if 256 + r.val < wst + (j.val - st) then ⊥ else A (256 + r.val - (wst + (j.val - st))))
        else p r j := by
    subst hws
    refine (plane_scores h st offw hoffw inbw inbs B _ r j).trans ?_
    by_cases hj : st ≤ j.val ∧ j.val < st + 512
    · rw [dif_pos hj, if_pos hj]
      refine (hP _ _ r _).trans (congrArg₂ (· + ·) ?_ ?_)
      · refine (ld_rows _ h st offw hoffw inbw r _ j (by show j.val = st + (j.val - st); omega)).trans ?_
        exact (scratch_in h 0 _ rfl inbs B [] r j j (Nat.zero_add _).symm).trans (hB r j)
      · refine (ld_rows x3 h wst offb hoffb inbb r _ (⟨wst + (j.val - st), ?_⟩ : Fin 768) rfl).trans (hx r _)
        have : wst ≤ 256 := by rw [hw]; split <;> omega
        omega
    · rw [dif_neg hj, if_neg hj]; exact hB r j
  rw [← scores_arith A hA _ qi N st wst r.val j.val even hE hO hst hw r.isLt j.isLt]
  by_cases he : even
  · rw [if_pos he]
    refine (ld_rows _ h 0 _ rfl inbs r j j (Nat.zero_add _).symm).trans ((plane_tail h nt hN inbt T ws ⊥ hT r j).trans ?_)
    by_cases ht : nt ≤ j.val
    · rw [if_pos ht, if_pos ⟨he, by omega⟩]
    · rw [if_neg ht, if_neg (by omega)]; exact hc
  · rw [if_neg he, if_neg (fun h => he h.1)]
    exact (ld_rows _ h 0 _ rfl inbs r j j (Nat.zero_add _).symm).trans hc

/-- Row `r` of the block of 512 query rows number `b`. -/
def qrow (b : Fin 4) (r : Fin 512) : Fin 2048 := ⟨512 * b.val + r.val, by omega⟩

/-- One entry of the attention over the first `N` keys: head `h`, query row `i`, column `d`; `A` is the bias by distance. -/
def attnRow (N : ℕ) (hN : N ≤ 2048) (A : Fin 12 → ℕ → EReal) (Q : FVec Ideal S12x2048x64 .bf16) (KV : FVec Ideal S24x2048x64 .bf16)
    (km vm : FVec Ideal S12x64x64 .bf16) (mk g : FVec Ideal S12x1x128 .f32) (h : Fin 12) (i : Fin 2048) (d : Fin 64) : EReal :=
  rowOut
    (fun j : Fin N => if j.val ≤ i.val then
        (∑ e : Fin 64, Q (ix3 h i e) * KV (ix3 (n0 := 24) ⟨h.val, by omega⟩ (n1 := 2048) ⟨j.val, by omega⟩ e)) + A h (i.val - j.val)
      else ⊥)
    (fun j => KV (ix3 (n0 := 24) ⟨h.val + 12, by omega⟩ (n1 := 2048) ⟨j.val, by omega⟩ d))
    (fun t : Fin 64 => ∑ e : Fin 64, Q (ix3 h i e) * km (ix3 h t e))
    (fun t => mk (ix3 h 0 (n2 := 128) ⟨t.val, by omega⟩)) (fun t => vm (ix3 h t d)) (g (ix3 h 0 0))

/-- The attention's array for the query block number `b`. -/
def attnArr (N : ℕ) (hN : N ≤ 2048) (A : Fin 12 → ℕ → EReal) (Q : FVec Ideal S12x2048x64 .bf16) (KV : FVec Ideal S24x2048x64 .bf16)
    (km vm : FVec Ideal S12x64x64 .bf16) (mk g : FVec Ideal S12x1x128 .f32) (b : Fin 4) : FVec Ideal S12x512x64 .bf16 := fun y =>
  attnRow N hN A Q KV km vm mk g (y 0) (qrow b (y 1)) (y 2)

theorem attnArr_at (N : ℕ) (hN : N ≤ 2048) (A : Fin 12 → ℕ → EReal) (Q : FVec Ideal S12x2048x64 .bf16) (KV : FVec Ideal S24x2048x64 .bf16)
    (km vm : FVec Ideal S12x64x64 .bf16) (mk g : FVec Ideal S12x1x128 .f32) (b : Fin 4) (h : Fin 12) (r : Fin 512) (d : Fin 64) :
    attnArr N hN A Q KV km vm mk g b (ix3 h r d) = attnRow N hN A Q KV km vm mk g h (qrow b r) d := rfl

theorem qrow_eq (b : Fin 4) (n : ℕ) (hn : n < 2048) (r : Fin 512) (h : 512 * b.val + r.val = n) : qrow b r = ⟨n, hn⟩ := Fin.ext h

end Cert.KernelIdeal.Val
-- ==== Proof.Value.Attn3.lean ====
/- The attention over 512 keys, entry by entry. -/
module

public import proofs.«01_k».proof.Proof.KernelIdeal.Region3
public import proofs.«01_k».proof.Proof.Value.AttnCommon

@[expose] public section

set_option maxRecDepth 16384

noncomputable section

namespace Cert.KernelIdeal.Val

open Cert.KernelIdeal Cert.KernelIdeal.Gen Cert.KernelIdeal.Own
open Idealize.ShloMosaic Idealize.ShloMosaic.TcCoe Idealize.SL.Sem
open Idealize.ShloMosaic.Pipeline (Dat)

set_option maxHeartbeats 1000000 in
/-- A head's output, at a row and a column. -/
theorem hd3_at (h : Fin 2) (sc : FVec Ideal S1x256x512 .f32) (x0 : FVec Ideal S2x256x64 .bf16) (x2 : FVec Ideal S2x512x64 .bf16)
    (x4 x5 : FVec Ideal S2x64x64 .bf16) (x7 x8 : FVec Ideal S2x1x128 .f32) (r : Fin 256) (d : Fin 64) :
    hd3 (F := Ideal) h sc x0 x2 x4 x5 x7 x8 (ix3 0 r d)
      = rowOut (fun j => sc (ix3 0 r j)) (fun j => x2 (ix3 h j d)) (fun t : Fin 64 => ∑ e : Fin 64, x0 (ix3 h r e) * x4 (ix3 h t e))
          (fun t => x7 (ix3 h 0 ⟨t.val, by omega⟩)) (fun t => x5 (ix3 h t d)) (x8 (ix3 h 0 0)) := by
  pointwise [hd3, k3_pay10, k3_pay7, k3_pay3, k3_pay8, k3_pay9, k3_pay2, rowOut, smx, smx1, bits_ninf]

/-- Bare scores. -/
theorem qk3_at (h : Fin 2) (x0 : FVec Ideal S2x256x64 .bf16) (x1 : FVec Ideal S2x512x64 .bf16) (r : Fin 256) (j : Fin 512) :
    qk3 (F := Ideal) h x0 x1 (ix3 0 r j) = ∑ d : Fin 64, x0 (ix3 h r d) * x1 (ix3 h j d) := by
  pointwise [qk3, k3_pay4, k3_pay2]
  done

theorem pay5_3_at (a b : FVec Ideal S1x256x512 .f32) (r : Fin 256) (c : Fin 512) :
    k3_pay5 (F := Ideal) a b (ix3 0 r c) = a (ix3 0 r c) + b (ix3 0 r c) := by
  pointwise [k3_pay5]

theorem pay6_3_at (y : S1x256x256.Idx) : k3_pay6 (F := Ideal) y = ⊥ := by
  idx_vars y
  pointwise [k3_pay6]
  rfl

section
variable (A : ℕ → EReal) (hA : ∀ n, 128 ≤ n → A n = 0) (i : grid3.Coords) (x0 : FVec Ideal S2x256x64 .bf16)
  (x1 : FVec Ideal S2x512x64 .bf16) (x3 : FVec Ideal S2x256x768 .f32) (r : Fin 256) (j : Fin 512)
include hA

/-- Head 0's scores as the softmax reads them: causal, with the bias by distance. -/
theorem sc3_0_at (hx : ∀ (r : Fin 256) (c : Fin 768), x3 (ix3 0 r c) = if 256 + r.val < c.val then ⊥ else A (256 + r.val - c.val)) :
    sc3_0 (F := Ideal) i x0 x1 x3 (ix3 0 r j)
      = if j.val ≤ 256 * (i 1).val + r.val then
          (∑ d : Fin 64, x0 (ix3 0 r d) * x1 (ix3 0 j d)) + A (256 * (i 1).val + r.val - j.val) else ⊥ := by
  have hi : (i 1).val < 2 := (i 1).isLt
  exact scores_head 0 A hA (i 1).val _ _ 256 ((i 1).val = 0) rfl (fun h => by omega) (fun h => by omega) (by omega)
    rfl _ _ (k3_off1_eq i) (k3_off2_eq i) _ _ _ _ _ pay5_3_at _ pay6_3_at _ _ (qk3_at 0 x0 x1) x3 hx r j _ rfl

/-- Head 1's, likewise. -/
theorem sc3_1_at (hx : ∀ (r : Fin 256) (c : Fin 768), x3 (ix3 1 r c) = if 256 + r.val < c.val then ⊥ else A (256 + r.val - c.val)) :
    sc3_1 (F := Ideal) i x0 x1 x3 (ix3 0 r j)
      = if j.val ≤ 256 * (i 1).val + r.val then
          (∑ d : Fin 64, x0 (ix3 1 r d) * x1 (ix3 1 j d)) + A (256 * (i 1).val + r.val - j.val) else ⊥ := by
  have hi : (i 1).val < 2 := (i 1).isLt
  exact scores_head 1 A hA (i 1).val _ _ 256 ((i 1).val = 0) rfl (fun h => by omega) (fun h => by omega) (by omega)
    rfl _ _ (k3_off3_eq i) (k3_off4_eq i) _ _ _ _ _ pay5_3_at _ pay6_3_at _ _ (qk3_at 1 x0 x1) x3 hx r j _ rfl

end

theorem idx3 : ∀ t : Fin cfg3.N, win3_0.index t = ![t.val / 2, t.val % 2, 0] ∧ win3_1.index t = ![t.val / 2, 0, 0]
    ∧ win3_2.index t = ![t.val / 2 + 6, 0, 0] ∧ win3_3.index t = ![t.val / 2, 0, 0] ∧ win3_4.index t = ![t.val / 2, 0, 0]
    ∧ win3_5.index t = ![t.val / 2, 0, 0] ∧ win3_7.index t = ![t.val / 2, 0, 0] ∧ win3_8.index t = ![t.val / 2, 0, 0]
    ∧ win3_9.index t = ![t.val / 2, t.val % 2, 0] :=
  (by decide +kernel : ∀ t : Fin grid3.N, _)

theorem coord3 : ∀ t : Fin cfg3.N, (grid3.coords t 1).val = t.val % 2 := (by decide +kernel : ∀ t : Fin grid3.N, _)

variable (V : Dev nD → Valuation τ sig (Elt Ideal))

set_option maxHeartbeats 4000000 in
/-- The attention array of query rows 0 to 511. -/
theorem final3 (c : Dev nD) (A : Fin 12 → ℕ → EReal) (hA : ∀ h n, 128 ≤ n → A h n = 0)
    (hB : ∀ (h : Fin 12) (r : Fin 256) (j : Fin 768), (V c (Proc.devRef .tc main_v24) : FVec Ideal S12x256x768 .f32) (ix3 h r j)
      = if 256 + r.val < j.val then ⊥ else A h (256 + r.val - j.val)) :
    (dat3 V c).arrAt 9 cfg3.N = attnArr 512 (by omega) A (V c (Proc.devRef .tc main_v1)) (V c (Proc.devRef .tc main_v2))
      (V c (Proc.devRef .tc main_v8)) (V c (Proc.devRef .tc main_v10)) (V c (Proc.devRef .tc main_v17)) (V c (Proc.devRef .tc main_v23)) 0 := by
  refine (dat3 V c).arrAt_eq_of_covers 9 _ (by decide +kernel) fun t _ y => ?_
  have ht : t.val < 12 := t.isLt
  have b0 : ∀ (h : Fin 2) (r : Fin 256) (d : Fin 64), iblk3 V c 0 t (ix3 h r d)
      = V c (Proc.devRef .tc main_v1) (ix3 (n0 := 12) ⟨2 * (t.val / 2) + h.val, by omega⟩ (n1 := 2048) ⟨256 * (t.val % 2) + r.val, by omega⟩ d) := by
    intro h r d; blk_ext [iblk3, idx3 t]
  have b1 : ∀ (h : Fin 2) (r : Fin 512) (d : Fin 64), iblk3 V c 1 t (ix3 h r d)
      = V c (Proc.devRef .tc main_v2) (ix3 (n0 := 24) ⟨2 * (t.val / 2) + h.val, by omega⟩ (n1 := 2048) ⟨r.val, by omega⟩ d) := by
    intro h r d; blk_ext [iblk3, idx3 t]
  have b2 : ∀ (h : Fin 2) (r : Fin 512) (d : Fin 64), iblk3 V c 2 t (ix3 h r d)
      = V c (Proc.devRef .tc main_v2) (ix3 (n0 := 24) ⟨2 * (t.val / 2) + h.val + 12, by omega⟩ (n1 := 2048) ⟨r.val, by omega⟩ d) := by
    intro h r d; blk_ext [iblk3, idx3 t]
  have b3 : ∀ (h : Fin 2) (r : Fin 256) (j : Fin 768), iblk3 V c 3 t (ix3 h r j)
      = V c (Proc.devRef .tc main_v24) (ix3 (n0 := 12) ⟨2 * (t.val / 2) + h.val, by omega⟩ r j) := by
    intro h r j; blk_ext [iblk3, idx3 t]
  have b4 : ∀ (h : Fin 2) (r d : Fin 64), iblk3 V c 4 t (ix3 h r d)
      = V c (Proc.devRef .tc main_v8) (ix3 (n0 := 12) ⟨2 * (t.val / 2) + h.val, by omega⟩ r d) := by
    intro h r d; blk_ext [iblk3, idx3 t]
  have b5 : ∀ (h : Fin 2) (r d : Fin 64), iblk3 V c 5 t (ix3 h r d)
      = V c (Proc.devRef .tc main_v10) (ix3 (n0 := 12) ⟨2 * (t.val / 2) + h.val, by omega⟩ r d) := by
    intro h r d; blk_ext [iblk3, idx3 t]
  have b7 : ∀ (h : Fin 2) (d : Fin 128), iblk3 V c 7 t (ix3 h 0 d)
      = V c (Proc.devRef .tc main_v17) (ix3 (n0 := 12) ⟨2 * (t.val / 2) + h.val, by omega⟩ 0 d) := by
    intro h d; blk_ext [iblk3, idx3 t]
  have b8 : ∀ (h : Fin 2) (d : Fin 128), iblk3 V c 8 t (ix3 h 0 d)
      = V c (Proc.devRef .tc main_v23) (ix3 (n0 := 12) ⟨2 * (t.val / 2) + h.val, by omega⟩ 0 d) := by
    intro h d; blk_ext [iblk3, idx3 t]
  have hx : ∀ (h : Fin 2) (r : Fin 256) (j : Fin 768), iblk3 V c 3 t (ix3 h r j)
      = if 256 + r.val < j.val then ⊥ else A ⟨2 * (t.val / 2) + h.val, by omega⟩ (256 + r.val - j.val) :=
    fun h r j => (b3 h r j).trans (hB _ r j)
  blk_simp
  rw [after3_9]; unfold oblk3 out3
  canon_tiles x h
  · idx_vars x
    obtain rfl : x0 = 0 := Subsingleton.elim _ _
    refine Eq.trans (b := attnArr 512 (by omega) A (V c (Proc.devRef .tc main_v1)) (V c (Proc.devRef .tc main_v2)) (V c (Proc.devRef .tc main_v8))
        (V c (Proc.devRef .tc main_v10)) (V c (Proc.devRef .tc main_v17)) (V c (Proc.devRef .tc main_v23)) 0
        (ix3 (n0 := 12) ⟨2 * (t.val / 2) + 1, by omega⟩ (n1 := 512) ⟨256 * (t.val % 2) + x1.val, by omega⟩ x2)) ?_ ?_
    · refine (hd3_at 1 _ _ _ _ _ _ _ x1 x2).trans ?_
      simp only [b0, b1, b2, b4, b5, b7, b8, sc3_1_at _ (hA _) _ _ _ _ _ _ (hx 1), coord3]
      rw [attnArr_at, qrow_eq 0 (256 * (t.val % 2) + x1.val) _ _ (by show 512 * 0 + (256 * (t.val % 2) + x1.val) = _; omega)]
      rfl
    · refine congrArg (attnArr _ _ _ _ _ _ _ _ _ _) ?_
      blk_ext [idx3 t]
  · idx_vars x
    obtain rfl : x0 = 0 := Subsingleton.elim _ _
    refine Eq.trans (b := attnArr 512 (by omega) A (V c (Proc.devRef .tc main_v1)) (V c (Proc.devRef .tc main_v2)) (V c (Proc.devRef .tc main_v8))
        (V c (Proc.devRef .tc main_v10)) (V c (Proc.devRef .tc main_v17)) (V c (Proc.devRef .tc main_v23)) 0
        (ix3 (n0 := 12) ⟨2 * (t.val / 2) + 0, by omega⟩ (n1 := 512) ⟨256 * (t.val % 2) + x1.val, by omega⟩ x2)) ?_ ?_
    · refine (hd3_at 0 _ _ _ _ _ _ _ x1 x2).trans ?_
      simp only [b0, b1, b2, b4, b5, b7, b8, sc3_0_at _ (hA _) _ _ _ _ _ _ (hx 0), coord3]
      rw [attnArr_at, qrow_eq 0 (256 * (t.val % 2) + x1.val) _ _ (by show 512 * 0 + (256 * (t.val % 2) + x1.val) = _; omega)]
      rfl
    · refine congrArg (attnArr _ _ _ _ _ _ _ _ _ _) ?_
      blk_ext [idx3 t]

end Cert.KernelIdeal.Val
-- ==== Proof.Value.Attn4.lean ====
/- The attention over 1024 keys, entry by entry. -/
module

public import proofs.«01_k».proof.Proof.KernelIdeal.Region4
public import proofs.«01_k».proof.Proof.Value.AttnCommon

@[expose] public section

set_option maxRecDepth 16384

noncomputable section

namespace Cert.KernelIdeal.Val

open Cert.KernelIdeal Cert.KernelIdeal.Gen Cert.KernelIdeal.Own
open Idealize.ShloMosaic Idealize.ShloMosaic.TcCoe Idealize.SL.Sem
open Idealize.ShloMosaic.Pipeline (Dat)

set_option maxHeartbeats 1000000 in
/-- A head's output, at a row and a column. -/
theorem hd4_at (h : Fin 2) (sc : FVec Ideal S1x256x1024 .f32) (x0 : FVec Ideal S2x256x64 .bf16) (x2 : FVec Ideal S2x1024x64 .bf16)
    (x4 x5 : FVec Ideal S2x64x64 .bf16) (x7 x8 : FVec Ideal S2x1x128 .f32) (r : Fin 256) (d : Fin 64) :
    hd4 (F := Ideal) h sc x0 x2 x4 x5 x7 x8 (ix3 0 r d)
      = rowOut (fun j => sc (ix3 0 r j)) (fun j => x2 (ix3 h j d)) (fun t : Fin 64 => ∑ e : Fin 64, x0 (ix3 h r e) * x4 (ix3 h t e))
          (fun t => x7 (ix3 h 0 ⟨t.val, by omega⟩)) (fun t => x5 (ix3 h t d)) (x8 (ix3 h 0 0)) := by
  pointwise [hd4, k4_pay10, k4_pay7, k4_pay3, k4_pay8, k4_pay9, k4_pay2, rowOut, smx, smx1, bits_ninf]

/-- Bare scores. -/
theorem qk4_at (h : Fin 2) (x0 : FVec Ideal S2x256x64 .bf16) (x1 : FVec Ideal S2x1024x64 .bf16) (r : Fin 256) (j : Fin 1024) :
    qk4 (F := Ideal) h x0 x1 (ix3 0 r j) = ∑ d : Fin 64, x0 (ix3 h r d) * x1 (ix3 h j d) := by
  pointwise [qk4, k4_pay4, k4_pay2]
  done

theorem pay5_4_at (a b : FVec Ideal S1x256x512 .f32) (r : Fin 256) (c : Fin 512) :
    k4_pay5 (F := Ideal) a b (ix3 0 r c) = a (ix3 0 r c) + b (ix3 0 r c) := by
  pointwise [k4_pay5]

theorem pay6_4_at (y : S1x256x256.Idx) : k4_pay6 (F := Ideal) y = ⊥ := by
  idx_vars y
  pointwise [k4_pay6]
  rfl

section
variable (A : ℕ → EReal) (hA : ∀ n, 128 ≤ n → A n = 0) (i : grid4.Coords) (x0 : FVec Ideal S2x256x64 .bf16)
  (x1 : FVec Ideal S2x1024x64 .bf16) (x3 : FVec Ideal S2x256x768 .f32) (r : Fin 256) (j : Fin 1024)
include hA

/-- Head 0's scores as the softmax reads them: causal, with the bias by distance. -/
theorem sc4_0_at (hx : ∀ (r : Fin 256) (c : Fin 768), x3 (ix3 0 r c) = if 256 + r.val < c.val then ⊥ else A (256 + r.val - c.val)) :
    sc4_0 (F := Ideal) i x0 x1 x3 (ix3 0 r j)
      = if j.val ≤ 256 * (2 + (i 1).val) + r.val then
          (∑ d : Fin 64, x0 (ix3 0 r d) * x1 (ix3 0 j d)) + A (256 * (2 + (i 1).val) + r.val - j.val) else ⊥ := by
  have hi : (i 1).val < 2 := (i 1).isLt
  exact scores_head 0 A hA (2 + (i 1).val) _ _ 768 ((i 1).val = 0) rfl (fun h => by omega) (fun h => by omega) (by omega)
    (by rw [if_neg (by omega)]) _ _ (k4_off1_eq i) (k4_off2_eq i) _ _ _ _ _ pay5_4_at _ pay6_4_at _ _ (qk4_at 0 x0 x1) x3 hx r j _ rfl

/-- Head 1's, likewise. -/
theorem sc4_1_at (hx : ∀ (r : Fin 256) (c : Fin 768), x3 (ix3 1 r c) = if 256 + r.val < c.val then ⊥ else A (256 + r.val - c.val)) :
    sc4_1 (F := Ideal) i x0 x1 x3 (ix3 0 r j)
      = if j.val ≤ 256 * (2 + (i 1).val) + r.val then
          (∑ d : Fin 64, x0 (ix3 1 r d) * x1 (ix3 1 j d)) + A (256 * (2 + (i 1).val) + r.val - j.val) else ⊥ := by
  have hi : (i 1).val < 2 := (i 1).isLt
  exact scores_head 1 A hA (2 + (i 1).val) _ _ 768 ((i 1).val = 0) rfl (fun h => by omega) (fun h => by omega) (by omega)
    (by rw [if_neg (by omega)]) _ _ (k4_off3_eq i) (k4_off4_eq i) _ _ _ _ _ pay5_4_at _ pay6_4_at _ _ (qk4_at 1 x0 x1) x3 hx r j _ rfl

end

theorem idx4 : ∀ t : Fin cfg4.N, win4_0.index t = ![t.val / 2, 2 + t.val % 2, 0] ∧ win4_1.index t = ![t.val / 2, 0, 0]
    ∧ win4_2.index t = ![t.val / 2 + 6, 0, 0] ∧ win4_3.index t = ![t.val / 2, 0, 0] ∧ win4_4.index t = ![t.val / 2, 0, 0]
    ∧ win4_5.index t = ![t.val / 2, 0, 0] ∧ win4_7.index t = ![t.val / 2, 0, 0] ∧ win4_8.index t = ![t.val / 2, 0, 0]
    ∧ win4_9.index t = ![t.val / 2, t.val % 2, 0] :=
  (by decide +kernel : ∀ t : Fin grid4.N, _)

theorem coord4 : ∀ t : Fin cfg4.N, (grid4.coords t 1).val = t.val % 2 := (by decide +kernel : ∀ t : Fin grid4.N, _)

variable (V : Dev nD → Valuation τ sig (Elt Ideal))

set_option maxHeartbeats 4000000 in
/-- The attention array of query rows 512 to 1023. -/
theorem final4 (c : Dev nD) (A : Fin 12 → ℕ → EReal) (hA : ∀ h n, 128 ≤ n → A h n = 0)
    (hB : ∀ (h : Fin 12) (r : Fin 256) (j : Fin 768), (V c (Proc.devRef .tc main_v24) : FVec Ideal S12x256x768 .f32) (ix3 h r j)
      = if 256 + r.val < j.val then ⊥ else A h (256 + r.val - j.val)) :
    (dat4 V c).arrAt 9 cfg4.N = attnArr 1024 (by omega) A (V c (Proc.devRef .tc main_v1)) (V c (Proc.devRef .tc main_v2))
      (V c (Proc.devRef .tc main_v8)) (V c (Proc.devRef .tc main_v10)) (V c (Proc.devRef .tc main_v17)) (V c (Proc.devRef .tc main_v23)) 1 := by
  refine (dat4 V c).arrAt_eq_of_covers 9 _ (by decide +kernel) fun t _ y => ?_
  have ht : t.val < 12 := t.isLt
  have b0 : ∀ (h : Fin 2) (r : Fin 256) (d : Fin 64), iblk4 V c 0 t (ix3 h r d)
      = V c (Proc.devRef .tc main_v1) (ix3 (n0 := 12) ⟨2 * (t.val / 2) + h.val, by omega⟩ (n1 := 2048) ⟨256 * (2 + t.val % 2) + r.val, by omega⟩ d) := by
    intro h r d; blk_ext [iblk4, idx4 t]
  have b1 : ∀ (h : Fin 2) (r : Fin 1024) (d : Fin 64), iblk4 V c 1 t (ix3 h r d)
      = V c (Proc.devRef .tc main_v2) (ix3 (n0 := 24) ⟨2 * (t.val / 2) + h.val, by omega⟩ (n1 := 2048) ⟨r.val, by omega⟩ d) := by
    intro h r d; blk_ext [iblk4, idx4 t]
  have b2 : ∀ (h : Fin 2) (r : Fin 1024) (d : Fin 64), iblk4 V c 2 t (ix3 h r d)
      = V c (Proc.devRef .tc main_v2) (ix3 (n0 := 24) ⟨2 * (t.val / 2) + h.val + 12, by omega⟩ (n1 := 2048) ⟨r.val, by omega⟩ d) := by
    intro h r d; blk_ext [iblk4, idx4 t]
  have b3 : ∀ (h : Fin 2) (r : Fin 256) (j : Fin 768), iblk4 V c 3 t (ix3 h r j)
      = V c (Proc.devRef .tc main_v24) (ix3 (n0 := 12) ⟨2 * (t.val / 2) + h.val, by omega⟩ r j) := by
    intro h r j; blk_ext [iblk4, idx4 t]
  have b4 : ∀ (h : Fin 2) (r d : Fin 64), iblk4 V c 4 t (ix3 h r d)
      = V c (Proc.devRef .tc main_v8) (ix3 (n0 := 12) ⟨2 * (t.val / 2) + h.val, by omega⟩ r d) := by
    intro h r d; blk_ext [iblk4, idx4 t]
  have b5 : ∀ (h : Fin 2) (r d : Fin 64), iblk4 V c 5 t (ix3 h r d)
      = V c (Proc.devRef .tc main_v10) (ix3 (n0 := 12) ⟨2 * (t.val / 2) + h.val, by omega⟩ r d) := by
    intro h r d; blk_ext [iblk4, idx4 t]
  have b7 : ∀ (h : Fin 2) (d : Fin 128), iblk4 V c 7 t (ix3 h 0 d)
      = V c (Proc.devRef .tc main_v17) (ix3 (n0 := 12) ⟨2 * (t.val / 2) + h.val, by omega⟩ 0 d) := by
    intro h d; blk_ext [iblk4, idx4 t]
  have b8 : ∀ (h : Fin 2) (d : Fin 128), iblk4 V c 8 t (ix3 h 0 d)
      = V c (Proc.devRef .tc main_v23) (ix3 (n0 := 12) ⟨2 * (t.val / 2) + h.val, by omega⟩ 0 d) := by
    intro h d; blk_ext [iblk4, idx4 t]
  have hx : ∀ (h : Fin 2) (r : Fin 256) (j : Fin 768), iblk4 V c 3 t (ix3 h r j)
      = if 256 + r.val < j.val then ⊥ else A ⟨2 * (t.val / 2) + h.val, by omega⟩ (256 + r.val - j.val) :=
    fun h r j => (b3 h r j).trans (hB _ r j)
  blk_simp
  rw [after4_9]; unfold oblk4 out4
  canon_tiles x h
  · idx_vars x
    obtain rfl : x0 = 0 := Subsingleton.elim _ _
    refine Eq.trans (b := attnArr 1024 (by omega) A (V c (Proc.devRef .tc main_v1)) (V c (Proc.devRef .tc main_v2)) (V c (Proc.devRef .tc main_v8))
        (V c (Proc.devRef .tc main_v10)) (V c (Proc.devRef .tc main_v17)) (V c (Proc.devRef .tc main_v23)) 1
        (ix3 (n0 := 12) ⟨2 * (t.val / 2) + 1, by omega⟩ (n1 := 512) ⟨256 * (t.val % 2) + x1.val, by omega⟩ x2)) ?_ ?_
    · refine (hd4_at 1 _ _ _ _ _ _ _ x1 x2).trans ?_
      simp only [b0, b1, b2, b4, b5, b7, b8, sc4_1_at _ (hA _) _ _ _ _ _ _ (hx 1), coord4]
      rw [attnArr_at, qrow_eq 1 (256 * (2 + t.val % 2) + x1.val) _ _ (by show 512 * 1 + (256 * (t.val % 2) + x1.val) = _; omega)]
      rfl
    · refine congrArg (attnArr _ _ _ _ _ _ _ _ _ _) ?_
      blk_ext [idx4 t]
  · idx_vars x
    obtain rfl : x0 = 0 := Subsingleton.elim _ _
    refine Eq.trans (b := attnArr 1024 (by omega) A (V c (Proc.devRef .tc main_v1)) (V c (Proc.devRef .tc main_v2)) (V c (Proc.devRef .tc main_v8))
        (V c (Proc.devRef .tc main_v10)) (V c (Proc.devRef .tc main_v17)) (V c (Proc.devRef .tc main_v23)) 1
        (ix3 (n0 := 12) ⟨2 * (t.val / 2) + 0, by omega⟩ (n1 := 512) ⟨256 * (t.val % 2) + x1.val, by omega⟩ x2)) ?_ ?_
    · refine (hd4_at 0 _ _ _ _ _ _ _ x1 x2).trans ?_
      simp only [b0, b1, b2, b4, b5, b7, b8, sc4_0_at _ (hA _) _ _ _ _ _ _ (hx 0), coord4]
      rw [attnArr_at, qrow_eq 1 (256 * (2 + t.val % 2) + x1.val) _ _ (by show 512 * 1 + (256 * (t.val % 2) + x1.val) = _; omega)]
      rfl
    · refine congrArg (attnArr _ _ _ _ _ _ _ _ _ _) ?_
      blk_ext [idx4 t]

end Cert.KernelIdeal.Val
-- ==== Proof.Value.Attn5.lean ====
/- The attention over 1536 keys, entry by entry. -/
module

public import proofs.«01_k».proof.Proof.KernelIdeal.Region5
public import proofs.«01_k».proof.Proof.Value.AttnCommon

@[expose] public section

set_option maxRecDepth 16384

noncomputable section

namespace Cert.KernelIdeal.Val

open Cert.KernelIdeal Cert.KernelIdeal.Gen Cert.KernelIdeal.Own
open Idealize.ShloMosaic Idealize.ShloMosaic.TcCoe Idealize.SL.Sem
open Idealize.ShloMosaic.Pipeline (Dat)

set_option maxHeartbeats 1000000 in
/-- A head's output, at a row and a column. -/
theorem hd5_at (h : Fin 2) (sc : FVec Ideal S1x256x1536 .f32) (x0 : FVec Ideal S2x256x64 .bf16) (x2 : FVec Ideal S2x1536x64 .bf16)
    (x4 x5 : FVec Ideal S2x64x64 .bf16) (x7 x8 : FVec Ideal S2x1x128 .f32) (r : Fin 256) (d : Fin 64) :
    hd5 (F := Ideal) h sc x0 x2 x4 x5 x7 x8 (ix3 0 r d)
      = rowOut (fun j => sc (ix3 0 r j)) (fun j => x2 (ix3 h j d)) (fun t : Fin 64 => ∑ e : Fin 64, x0 (ix3 h r e) * x4 (ix3 h t e))
          (fun t => x7 (ix3 h 0 ⟨t.val, by omega⟩)) (fun t => x5 (ix3 h t d)) (x8 (ix3 h 0 0)) := by
  pointwise [hd5, k5_pay10, k5_pay7, k5_pay3, k5_pay8, k5_pay9, k5_pay2, rowOut, smx, smx1, bits_ninf]

/-- Bare scores. -/
theorem qk5_at (h : Fin 2) (x0 : FVec Ideal S2x256x64 .bf16) (x1 : FVec Ideal S2x1536x64 .bf16) (r : Fin 256) (j : Fin 1536) :
    qk5 (F := Ideal) h x0 x1 (ix3 0 r j) = ∑ d : Fin 64, x0 (ix3 h r d) * x1 (ix3 h j d) := by
  pointwise [qk5, k5_pay4, k5_pay2]
  done

theorem pay5_5_at (a b : FVec Ideal S1x256x512 .f32) (r : Fin 256) (c : Fin 512) :
    k5_pay5 (F := Ideal) a b (ix3 0 r c) = a (ix3 0 r c) + b (ix3 0 r c) := by
  pointwise [k5_pay5]

theorem pay6_5_at (y : S1x256x256.Idx) : k5_pay6 (F := Ideal) y = ⊥ := by
  idx_vars y
  pointwise [k5_pay6]
  rfl

section
variable (A : ℕ → EReal) (hA : ∀ n, 128 ≤ n → A n = 0) (i : grid5.Coords) (x0 : FVec Ideal S2x256x64 .bf16)
  (x1 : FVec Ideal S2x1536x64 .bf16) (x3 : FVec Ideal S2x256x768 .f32) (r : Fin 256) (j : Fin 1536)
include hA

/-- Head 0's scores as the softmax reads them: causal, with the bias by distance. -/
theorem sc5_0_at (hx : ∀ (r : Fin 256) (c : Fin 768), x3 (ix3 0 r c) = if 256 + r.val < c.val then ⊥ else A (256 + r.val - c.val)) :
    sc5_0 (F := Ideal) i x0 x1 x3 (ix3 0 r j)
      = if j.val ≤ 256 * (4 + (i 1).val) + r.val then
          (∑ d : Fin 64, x0 (ix3 0 r d) * x1 (ix3 0 j d)) + A (256 * (4 + (i 1).val) + r.val - j.val) else ⊥ := by
  have hi : (i 1).val < 2 := (i 1).isLt
  exact scores_head 0 A hA (4 + (i 1).val) _ _ 1280 ((i 1).val = 0) rfl (fun h => by omega) (fun h => by omega) (by omega)
    (by rw [if_neg (by omega)]) _ _ (k5_off1_eq i) (k5_off2_eq i) _ _ _ _ _ pay5_5_at _ pay6_5_at _ _ (qk5_at 0 x0 x1) x3 hx r j _ rfl

/-- Head 1's, likewise. -/
theorem sc5_1_at (hx : ∀ (r : Fin 256) (c : Fin 768), x3 (ix3 1 r c) = if 256 + r.val < c.val then ⊥ else A (256 + r.val - c.val)) :
    sc5_1 (F := Ideal) i x0 x1 x3 (ix3 0 r j)
      = if j.val ≤ 256 * (4 + (i 1).val) + r.val then
          (∑ d : Fin 64, x0 (ix3 1 r d) * x1 (ix3 1 j d)) + A (256 * (4 + (i 1).val) + r.val - j.val) else ⊥ := by
  have hi : (i 1).val < 2 := (i 1).isLt
  exact scores_head 1 A hA (4 + (i 1).val) _ _ 1280 ((i 1).val = 0) rfl (fun h => by omega) (fun h => by omega) (by omega)
    (by rw [if_neg (by omega)]) _ _ (k5_off3_eq i) (k5_off4_eq i) _ _ _ _ _ pay5_5_at _ pay6_5_at _ _ (qk5_at 1 x0 x1) x3 hx r j _ rfl

end

theorem idx5 : ∀ t : Fin cfg5.N, win5_0.index t = ![t.val / 2, 4 + t.val % 2, 0] ∧ win5_1.index t = ![t.val / 2, 0, 0]
    ∧ win5_2.index t = ![t.val / 2 + 6, 0, 0] ∧ win5_3.index t = ![t.val / 2, 0, 0] ∧ win5_4.index t = ![t.val / 2, 0, 0]
    ∧ win5_5.index t = ![t.val / 2, 0, 0] ∧ win5_7.index t = ![t.val / 2, 0, 0] ∧ win5_8.index t = ![t.val / 2, 0, 0]
    ∧ win5_9.index t = ![t.val / 2, t.val % 2, 0] :=
  (by decide +kernel : ∀ t : Fin grid5.N, _)

theorem coord5 : ∀ t : Fin cfg5.N, (grid5.coords t 1).val = t.val % 2 := (by decide +kernel : ∀ t : Fin grid5.N, _)

variable (V : Dev nD → Valuation τ sig (Elt Ideal))

set_option maxHeartbeats 4000000 in
/-- The attention array of query rows 1024 to 1535. -/
theorem final5 (c : Dev nD) (A : Fin 12 → ℕ → EReal) (hA : ∀ h n, 128 ≤ n → A h n = 0)
    (hB : ∀ (h : Fin 12) (r : Fin 256) (j : Fin 768), (V c (Proc.devRef .tc main_v24) : FVec Ideal S12x256x768 .f32) (ix3 h r j)
      = if 256 + r.val < j.val then ⊥ else A h (256 + r.val - j.val)) :
    (dat5 V c).arrAt 9 cfg5.N = attnArr 1536 (by omega) A (V c (Proc.devRef .tc main_v1)) (V c (Proc.devRef .tc main_v2))
      (V c (Proc.devRef .tc main_v8)) (V c (Proc.devRef .tc main_v10)) (V c (Proc.devRef .tc main_v17)) (V c (Proc.devRef .tc main_v23)) 2 := by
  refine (dat5 V c).arrAt_eq_of_covers 9 _ (by decide +kernel) fun t _ y => ?_
  have ht : t.val < 12 := t.isLt
  have b0 : ∀ (h : Fin 2) (r : Fin 256) (d : Fin 64), iblk5 V c 0 t (ix3 h r d)
      = V c (Proc.devRef .tc main_v1) (ix3 (n0 := 12) ⟨2 * (t.val / 2) + h.val, by omega⟩ (n1 := 2048) ⟨256 * (4 + t.val % 2) + r.val, by omega⟩ d) := by
    intro h r d; blk_ext [iblk5, idx5 t]
  have b1 : ∀ (h : Fin 2) (r : Fin 1536) (d : Fin 64), full5_1 V c t (ix3 h r d)
      = V c (Proc.devRef .tc main_v2) (ix3 (n0 := 24) ⟨2 * (t.val / 2) + h.val, by omega⟩ (n1 := 2048) ⟨r.val, by omega⟩ d) := by
    intro h r d; unfold full5_1 Pipeline.Window.fill; rw [dif_pos (moved5_1 _ _)]; blk_ext [iblk5, idx5 t]
  have b2 : ∀ (h : Fin 2) (r : Fin 1536) (d : Fin 64), full5_2 V c t (ix3 h r d)
      = V c (Proc.devRef .tc main_v2) (ix3 (n0 := 24) ⟨2 * (t.val / 2) + h.val + 12, by omega⟩ (n1 := 2048) ⟨r.val, by omega⟩ d) := by
    intro h r d; unfold full5_2 Pipeline.Window.fill; rw [dif_pos (moved5_2 _ _)]; blk_ext [iblk5, idx5 t]
  have b3 : ∀ (h : Fin 2) (r : Fin 256) (j : Fin 768), iblk5 V c 3 t (ix3 h r j)
      = V c (Proc.devRef .tc main_v24) (ix3 (n0 := 12) ⟨2 * (t.val / 2) + h.val, by omega⟩ r j) := by
    intro h r j; blk_ext [iblk5, idx5 t]
  have b4 : ∀ (h : Fin 2) (r d : Fin 64), iblk5 V c 4 t (ix3 h r d)
      = V c (Proc.devRef .tc main_v8) (ix3 (n0 := 12) ⟨2 * (t.val / 2) + h.val, by omega⟩ r d) := by
    intro h r d; blk_ext [iblk5, idx5 t]
  have b5 : ∀ (h : Fin 2) (r d : Fin 64), iblk5 V c 5 t (ix3 h r d)
      = V c (Proc.devRef .tc main_v10) (ix3 (n0 := 12) ⟨2 * (t.val / 2) + h.val, by omega⟩ r d) := by
    intro h r d; blk_ext [iblk5, idx5 t]
  have b7 : ∀ (h : Fin 2) (d : Fin 128), iblk5 V c 7 t (ix3 h 0 d)
      = V c (Proc.devRef .tc main_v17) (ix3 (n0 := 12) ⟨2 * (t.val / 2) + h.val, by omega⟩ 0 d) := by
    intro h d; blk_ext [iblk5, idx5 t]
  have b8 : ∀ (h : Fin 2) (d : Fin 128), iblk5 V c 8 t (ix3 h 0 d)
      = V c (Proc.devRef .tc main_v23) (ix3 (n0 := 12) ⟨2 * (t.val / 2) + h.val, by omega⟩ 0 d) := by
    intro h d; blk_ext [iblk5, idx5 t]
  have hx : ∀ (h : Fin 2) (r : Fin 256) (j : Fin 768), iblk5 V c 3 t (ix3 h r j)
      = if 256 + r.val < j.val then ⊥ else A ⟨2 * (t.val / 2) + h.val, by omega⟩ (256 + r.val - j.val) :=
    fun h r j => (b3 h r j).trans (hB _ r j)
  blk_simp
  rw [after5_9]; unfold oblk5 out5
  canon_tiles x h
  · idx_vars x
    obtain rfl : x0 = 0 := Subsingleton.elim _ _
    refine Eq.trans (b := attnArr 1536 (by omega) A (V c (Proc.devRef .tc main_v1)) (V c (Proc.devRef .tc main_v2)) (V c (Proc.devRef .tc main_v8))
        (V c (Proc.devRef .tc main_v10)) (V c (Proc.devRef .tc main_v17)) (V c (Proc.devRef .tc main_v23)) 2
        (ix3 (n0 := 12) ⟨2 * (t.val / 2) + 1, by omega⟩ (n1 := 512) ⟨256 * (t.val % 2) + x1.val, by omega⟩ x2)) ?_ ?_
    · refine (hd5_at 1 _ _ _ _ _ _ _ x1 x2).trans ?_
      simp only [b0, b1, b2, b4, b5, b7, b8, sc5_1_at _ (hA _) _ _ _ _ _ _ (hx 1), coord5]
      rw [attnArr_at, qrow_eq 2 (256 * (4 + t.val % 2) + x1.val) _ _ (by show 512 * 2 + (256 * (t.val % 2) + x1.val) = _; omega)]
      rfl
    · refine congrArg (attnArr _ _ _ _ _ _ _ _ _ _) ?_
      blk_ext [idx5 t]
  · idx_vars x
    obtain rfl : x0 = 0 := Subsingleton.elim _ _
    refine Eq.trans (b := attnArr 1536 (by omega) A (V c (Proc.devRef .tc main_v1)) (V c (Proc.devRef .tc main_v2)) (V c (Proc.devRef .tc main_v8))
        (V c (Proc.devRef .tc main_v10)) (V c (Proc.devRef .tc main_v17)) (V c (Proc.devRef .tc main_v23)) 2
        (ix3 (n0 := 12) ⟨2 * (t.val / 2) + 0, by omega⟩ (n1 := 512) ⟨256 * (t.val % 2) + x1.val, by omega⟩ x2)) ?_ ?_
    · refine (hd5_at 0 _ _ _ _ _ _ _ x1 x2).trans ?_
      simp only [b0, b1, b2, b4, b5, b7, b8, sc5_0_at _ (hA _) _ _ _ _ _ _ (hx 0), coord5]
      rw [attnArr_at, qrow_eq 2 (256 * (4 + t.val % 2) + x1.val) _ _ (by show 512 * 2 + (256 * (t.val % 2) + x1.val) = _; omega)]
      rfl
    · refine congrArg (attnArr _ _ _ _ _ _ _ _ _ _) ?_
      blk_ext [idx5 t]

end Cert.KernelIdeal.Val
-- ==== Proof.Value.Attn6.lean ====
/- The attention over 2048 keys, entry by entry. -/
module

public import proofs.«01_k».proof.Proof.KernelIdeal.Region6
public import proofs.«01_k».proof.Proof.Value.AttnCommon

@[expose] public section

set_option maxRecDepth 16384

noncomputable section

namespace Cert.KernelIdeal.Val

open Cert.KernelIdeal Cert.KernelIdeal.Gen Cert.KernelIdeal.Own
open Idealize.ShloMosaic Idealize.ShloMosaic.TcCoe Idealize.SL.Sem
open Idealize.ShloMosaic.Pipeline (Dat)

set_option maxHeartbeats 1000000 in
/-- A head's output, at a row and a column. -/
theorem hd6_at (h : Fin 2) (sc : FVec Ideal S1x256x2048 .f32) (x0 : FVec Ideal S2x256x64 .bf16) (x2 : FVec Ideal S2x2048x64 .bf16)
    (x4 x5 : FVec Ideal S2x64x64 .bf16) (x7 x8 : FVec Ideal S2x1x128 .f32) (r : Fin 256) (d : Fin 64) :
    hd6 (F := Ideal) h sc x0 x2 x4 x5 x7 x8 (ix3 0 r d)
      = rowOut (fun j => sc (ix3 0 r j)) (fun j => x2 (ix3 h j d)) (fun t : Fin 64 => ∑ e : Fin 64, x0 (ix3 h r e) * x4 (ix3 h t e))
          (fun t => x7 (ix3 h 0 ⟨t.val, by omega⟩)) (fun t => x5 (ix3 h t d)) (x8 (ix3 h 0 0)) := by
  pointwise [hd6, k6_pay10, k6_pay7, k6_pay3, k6_pay8, k6_pay9, k6_pay2, rowOut, smx, smx1, bits_ninf]

/-- Bare scores. -/
theorem qk6_at (h : Fin 2) (x0 : FVec Ideal S2x256x64 .bf16) (x1 : FVec Ideal S2x2048x64 .bf16) (r : Fin 256) (j : Fin 2048) :
    qk6 (F := Ideal) h x0 x1 (ix3 0 r j) = ∑ d : Fin 64, x0 (ix3 h r d) * x1 (ix3 h j d) := by
  pointwise [qk6, k6_pay4, k6_pay2]
  done

theorem pay5_6_at (a b : FVec Ideal S1x256x512 .f32) (r : Fin 256) (c : Fin 512) :
    k6_pay5 (F := Ideal) a b (ix3 0 r c) = a (ix3 0 r c) + b (ix3 0 r c) := by
  pointwise [k6_pay5]

theorem pay6_6_at (y : S1x256x256.Idx) : k6_pay6 (F := Ideal) y = ⊥ := by
  idx_vars y
  pointwise [k6_pay6]
  rfl

section
variable (A : ℕ → EReal) (hA : ∀ n, 128 ≤ n → A n = 0) (i : grid6.Coords) (x0 : FVec Ideal S2x256x64 .bf16)
  (x1 : FVec Ideal S2x2048x64 .bf16) (x3 : FVec Ideal S2x256x768 .f32) (r : Fin 256) (j : Fin 2048)
include hA

/-- Head 0's scores as the softmax reads them: causal, with the bias by distance. -/
theorem sc6_0_at (hx : ∀ (r : Fin 256) (c : Fin 768), x3 (ix3 0 r c) = if 256 + r.val < c.val then ⊥ else A (256 + r.val - c.val)) :
    sc6_0 (F := Ideal) i x0 x1 x3 (ix3 0 r j)
      = if j.val ≤ 256 * (6 + (i 1).val) + r.val then
          (∑ d : Fin 64, x0 (ix3 0 r d) * x1 (ix3 0 j d)) + A (256 * (6 + (i 1).val) + r.val - j.val) else ⊥ := by
  have hi : (i 1).val < 2 := (i 1).isLt
  exact scores_head 0 A hA (6 + (i 1).val) _ _ 1792 ((i 1).val = 0) rfl (fun h => by omega) (fun h => by omega) (by omega)
    (by rw [if_neg (by omega)]) _ _ (k6_off1_eq i) (k6_off2_eq i) _ _ _ _ _ pay5_6_at _ pay6_6_at _ _ (qk6_at 0 x0 x1) x3 hx r j _ rfl

/-- Head 1's, likewise. -/
theorem sc6_1_at (hx : ∀ (r : Fin 256) (c : Fin 768), x3 (ix3 1 r c) = if 256 + r.val < c.val then ⊥ else A (256 + r.val - c.val)) :
    sc6_1 (F := Ideal) i x0 x1 x3 (ix3 0 r j)
      = if j.val ≤ 256 * (6 + (i 1).val) + r.val then
          (∑ d : Fin 64, x0 (ix3 1 r d) * x1 (ix3 1 j d)) + A (256 * (6 + (i 1).val) + r.val - j.val) else ⊥ := by
  have hi : (i 1).val < 2 := (i 1).isLt
  exact scores_head 1 A hA (6 + (i 1).val) _ _ 1792 ((i 1).val = 0) rfl (fun h => by omega) (fun h => by omega) (by omega)
    (by rw [if_neg (by omega)]) _ _ (k6_off3_eq i) (k6_off4_eq i) _ _ _ _ _ pay5_6_at _ pay6_6_at _ _ (qk6_at 1 x0 x1) x3 hx r j _ rfl

end

theorem idx6 : ∀ t : Fin cfg6.N, win6_0.index t = ![t.val / 2, 6 + t.val % 2, 0] ∧ win6_1.index t = ![t.val / 2, 0, 0]
    ∧ win6_2.index t = ![t.val / 2 + 6, 0, 0] ∧ win6_3.index t = ![t.val / 2, 0, 0] ∧ win6_4.index t = ![t.val / 2, 0, 0]
    ∧ win6_5.index t = ![t.val / 2, 0, 0] ∧ win6_7.index t = ![t.val / 2, 0, 0] ∧ win6_8.index t = ![t.val / 2, 0, 0]
    ∧ win6_9.index t = ![t.val / 2, t.val % 2, 0] :=
  (by decide +kernel : ∀ t : Fin grid6.N, _)

theorem coord6 : ∀ t : Fin cfg6.N, (grid6.coords t 1).val = t.val % 2 := (by decide +kernel : ∀ t : Fin grid6.N, _)

variable (V : Dev nD → Valuation τ sig (Elt Ideal))

set_option maxHeartbeats 4000000 in
/-- The attention array of query rows 1536 to 2047. -/
theorem final6 (c : Dev nD) (A : Fin 12 → ℕ → EReal) (hA : ∀ h n, 128 ≤ n → A h n = 0)
    (hB : ∀ (h : Fin 12) (r : Fin 256) (j : Fin 768), (V c (Proc.devRef .tc main_v24) : FVec Ideal S12x256x768 .f32) (ix3 h r j)
      = if 256 + r.val < j.val then ⊥ else A h (256 + r.val - j.val)) :
    (dat6 V c).arrAt 9 cfg6.N = attnArr 2048 (by omega) A (V c (Proc.devRef .tc main_v1)) (V c (Proc.devRef .tc main_v2))
      (V c (Proc.devRef .tc main_v8)) (V c (Proc.devRef .tc main_v10)) (V c (Proc.devRef .tc main_v17)) (V c (Proc.devRef .tc main_v23)) 3 := by
  refine (dat6 V c).arrAt_eq_of_covers 9 _ (by decide +kernel) fun t _ y => ?_
  have ht : t.val < 12 := t.isLt
  have b0 : ∀ (h : Fin 2) (r : Fin 256) (d : Fin 64), iblk6 V c 0 t (ix3 h r d)
      = V c (Proc.devRef .tc main_v1) (ix3 (n0 := 12) ⟨2 * (t.val / 2) + h.val, by omega⟩ (n1 := 2048) ⟨256 * (6 + t.val % 2) + r.val, by omega⟩ d) := by
    intro h r d; blk_ext [iblk6, idx6 t]
  have b1 : ∀ (h : Fin 2) (r : Fin 2048) (d : Fin 64), iblk6 V c 1 t (ix3 h r d)
      = V c (Proc.devRef .tc main_v2) (ix3 (n0 := 24) ⟨2 * (t.val / 2) + h.val, by omega⟩ (n1 := 2048) ⟨r.val, by omega⟩ d) := by
    intro h r d; blk_ext [iblk6, idx6 t]
  have b2 : ∀ (h : Fin 2) (r : Fin 2048) (d : Fin 64), iblk6 V c 2 t (ix3 h r d)
      = V c (Proc.devRef .tc main_v2) (ix3 (n0 := 24) ⟨2 * (t.val / 2) + h.val + 12, by omega⟩ (n1 := 2048) ⟨r.val, by omega⟩ d) := by
    intro h r d; blk_ext [iblk6, idx6 t]
  have b3 : ∀ (h : Fin 2) (r : Fin 256) (j : Fin 768), iblk6 V c 3 t (ix3 h r j)
      = V c (Proc.devRef .tc main_v24) (ix3 (n0 := 12) ⟨2 * (t.val / 2) + h.val, by omega⟩ r j) := by
    intro h r j; blk_ext [iblk6, idx6 t]
  have b4 : ∀ (h : Fin 2) (r d : Fin 64), iblk6 V c 4 t (ix3 h r d)
      = V c (Proc.devRef .tc main_v8) (ix3 (n0 := 12) ⟨2 * (t.val / 2) + h.val, by omega⟩ r d) := by
    intro h r d; blk_ext [iblk6, idx6 t]
  have b5 : ∀ (h : Fin 2) (r d : Fin 64), iblk6 V c 5 t (ix3 h r d)
      = V c (Proc.devRef .tc main_v10) (ix3 (n0 := 12) ⟨2 * (t.val / 2) + h.val, by omega⟩ r d) := by
    intro h r d; blk_ext [iblk6, idx6 t]
  have b7 : ∀ (h : Fin 2) (d : Fin 128), iblk6 V c 7 t (ix3 h 0 d)
      = V c (Proc.devRef .tc main_v17) (ix3 (n0 := 12) ⟨2 * (t.val / 2) + h.val, by omega⟩ 0 d) := by
    intro h d; blk_ext [iblk6, idx6 t]
  have b8 : ∀ (h : Fin 2) (d : Fin 128), iblk6 V c 8 t (ix3 h 0 d)
      = V c (Proc.devRef .tc main_v23) (ix3 (n0 := 12) ⟨2 * (t.val / 2) + h.val, by omega⟩ 0 d) := by
    intro h d; blk_ext [iblk6, idx6 t]
  have hx : ∀ (h : Fin 2) (r : Fin 256) (j : Fin 768), iblk6 V c 3 t (ix3 h r j)
      = if 256 + r.val < j.val then ⊥ else A ⟨2 * (t.val / 2) + h.val, by omega⟩ (256 + r.val - j.val) :=
    fun h r j => (b3 h r j).trans (hB _ r j)
  blk_simp
  rw [after6_9]; unfold oblk6 out6
  canon_tiles x h
  · idx_vars x
    obtain rfl : x0 = 0 := Subsingleton.elim _ _
    refine Eq.trans (b := attnArr 2048 (by omega) A (V c (Proc.devRef .tc main_v1)) (V c (Proc.devRef .tc main_v2)) (V c (Proc.devRef .tc main_v8))
        (V c (Proc.devRef .tc main_v10)) (V c (Proc.devRef .tc main_v17)) (V c (Proc.devRef .tc main_v23)) 3
        (ix3 (n0 := 12) ⟨2 * (t.val / 2) + 1, by omega⟩ (n1 := 512) ⟨256 * (t.val % 2) + x1.val, by omega⟩ x2)) ?_ ?_
    · refine (hd6_at 1 _ _ _ _ _ _ _ x1 x2).trans ?_
      simp only [b0, b1, b2, b4, b5, b7, b8, sc6_1_at _ (hA _) _ _ _ _ _ _ (hx 1), coord6]
      rw [attnArr_at, qrow_eq 3 (256 * (6 + t.val % 2) + x1.val) _ _ (by show 512 * 3 + (256 * (t.val % 2) + x1.val) = _; omega)]
      rfl
    · refine congrArg (attnArr _ _ _ _ _ _ _ _ _ _) ?_
      blk_ext [idx6 t]
  · idx_vars x
    obtain rfl : x0 = 0 := Subsingleton.elim _ _
    refine Eq.trans (b := attnArr 2048 (by omega) A (V c (Proc.devRef .tc main_v1)) (V c (Proc.devRef .tc main_v2)) (V c (Proc.devRef .tc main_v8))
        (V c (Proc.devRef .tc main_v10)) (V c (Proc.devRef .tc main_v17)) (V c (Proc.devRef .tc main_v23)) 3
        (ix3 (n0 := 12) ⟨2 * (t.val / 2) + 0, by omega⟩ (n1 := 512) ⟨256 * (t.val % 2) + x1.val, by omega⟩ x2)) ?_ ?_
    · refine (hd6_at 0 _ _ _ _ _ _ _ x1 x2).trans ?_
      simp only [b0, b1, b2, b4, b5, b7, b8, sc6_0_at _ (hA _) _ _ _ _ _ _ (hx 0), coord6]
      rw [attnArr_at, qrow_eq 3 (256 * (6 + t.val % 2) + x1.val) _ _ (by show 512 * 3 + (256 * (t.val % 2) + x1.val) = _; omega)]
      rfl
    · refine congrArg (attnArr _ _ _ _ _ _ _ _ _ _) ?_
      blk_ext [idx6 t]

end Cert.KernelIdeal.Val
-- ==== Proof.Value.Out.lean ====
/- The output projection, entry by entry. -/
module

public import proofs.«01_k».proof.Proof.KernelIdeal.Region7
public import proofs.«01_k».proof.Proof.Value.Proj
public import Idealize.ShloMosaic.Lib.Pointwise
public import Idealize.ShloMosaic.Lib.Pipeline.ValueKit

@[expose] public section

set_option maxRecDepth 16384

noncomputable section

namespace Cert.KernelIdeal.Val

open Cert.KernelIdeal Cert.KernelIdeal.Gen Cert.KernelIdeal.Own
open Idealize.ShloMosaic Idealize.ShloMosaic.TcCoe Idealize.SL.Sem
open Idealize.ShloMosaic.Pipeline (Dat)

/-- Head `n`'s block of 512 rows, as the launch reads it. -/
def head7 (x : FVec Ideal S12x512x64 .bf16) (n : Fin 12) : FVec Ideal S512x64 .bf16 :=
  k7_pay2 (F := Ideal) (View.ld x (rh7 n))

/-- The twelve heads side by side. -/
def cat7 (x : FVec Ideal S12x512x64 .bf16) : FVec Ideal S512x768 .bf16 :=
  concatenate S512x768 1 (List.ofFn fun n : Fin 12 => (⟨S512x64, head7 x n⟩ : (s : Shape) × (s.Idx → EReal)))
    concatenates_S512x64_S512x64_S512x64_S512x64_S512x64_S512x64_S512x64_S512x64_S512x64_S512x64_S512x64_S512x64_S512x768_d1

theorem head7_at (x : FVec Ideal S12x512x64 .bf16) (n : Fin 12) (r : Fin 512) (d : Fin 64) : head7 x n (ix2 r d) = x (ix3 n r d) := by
  pointwise [head7, k7_pay2]

theorem cat7_at (x : FVec Ideal S12x512x64 .bf16) (n : Fin 12) (r : Fin 512) (d : Fin 64) : cat7 x (ix2 r (col12 n d)) = x (ix3 n r d) := by
  refine Eq.trans ?_ (head7_at x n r d)
  unfold cat7
  refine concatenate_ofFn_apply (t := S512x768) (s₁ := S512x64) 1 (head7 x) _ rfl 64 rfl (ix2 r (col12 n d)) n ?_ (ix2 r d) ?_ ?_
  · show (n.val * 64 + d.val) / 64 = n.val
    omega
  · show d.val = (n.val * 64 + d.val) % 64
    omega
  · intro b hb
    match b, hb with
    | ⟨0, _⟩, _ => rfl
    | ⟨1, _⟩, hb => exact absurd rfl hb

theorem rows7_eq (x : FVec Ideal S12x512x64 .bf16) (w : FVec Ideal S768x768 .f32) (b : FVec Ideal S1x768 .f32) :
    rows7 (F := Ideal) x w b
      = addf (matmul dot_S512x768_S768x768_S512x768_1_0_0_1_n_n none (cat7 x) (k7_pay1 (F := Ideal) (View.ld w rw7)) (constant S512x768 .f32 0x00000000#32))
          (broadcastTo S512x768 (shapeCast S1x768 (show FVec Ideal S1x768 .f32 from View.ld (Val := Elt Ideal) (e' := .f32) b rb7) shapeCasts_S1x768_S1x768) broadcasts_S1x768_S512x768) := rfl

theorem prod7_at (a : FVec Ideal S512x768 .bf16) (w : FVec Ideal S768x768 .f32) (b : FVec Ideal S1x768 .f32) (r : Fin 512) (j : Fin 768) :
    addf (F := Ideal) (matmul dot_S512x768_S768x768_S512x768_1_0_0_1_n_n none a (k7_pay1 (F := Ideal) (View.ld w rw7)) (constant S512x768 .f32 0x00000000#32))
          (broadcastTo S512x768 (shapeCast S1x768 (show FVec Ideal S1x768 .f32 from View.ld (Val := Elt Ideal) (e' := .f32) b rb7) shapeCasts_S1x768_S1x768) broadcasts_S1x768_S512x768) (ix2 r j)
      = (∑ k : Fin 768, a (ix2 r k) * w (ix2 k j)) + b (ix2 0 j) := by
  pointwise [k7_pay1]

theorem rows7_at (x : FVec Ideal S12x512x64 .bf16) (w : FVec Ideal S768x768 .f32) (b : FVec Ideal S1x768 .f32) (r : Fin 512) (j : Fin 768) :
    rows7 (F := Ideal) x w b (ix2 r j) = (∑ k : Fin 12, ∑ d : Fin 64, x (ix3 k r d) * w (ix2 (col12 k d) j)) + b (ix2 0 j) := by
  rw [rows7_eq, prod7_at]
  refine congrArg (· + _) ?_
  refine (Fin.sum_univ_tiles 12 64 rfl _).trans ?_
  refine Finset.sum_congr rfl fun k _ => Finset.sum_congr rfl fun d _ => ?_
  exact congrArg (· * _) (cat7_at x k r d)

/-- The block a query row lies in, and its row there. -/
def brow (i : Fin 2048) : Fin 4 := ⟨i.val / 512, by omega⟩
def rrow (i : Fin 2048) : Fin 512 := ⟨i.val % 512, by omega⟩

theorem brow_eq (i : Fin 2048) (b : Fin 4) (r : Fin 512) (h : i.val = 512 * b.val + r.val) : brow i = b :=
  Fin.ext (by show i.val / 512 = b.val; omega)
theorem rrow_eq (i : Fin 2048) (b : Fin 4) (r : Fin 512) (h : i.val = 512 * b.val + r.val) : rrow i = r :=
  Fin.ext (by show i.val % 512 = r.val; omega)

/-- The output's array over the four blocks' attention. -/
def outArr (x : Fin 4 → FVec Ideal S12x512x64 .bf16) (w : FVec Ideal S768x768 .f32) (b : FVec Ideal S1x768 .f32) : FVec Ideal S2048x768 .f32 := fun y =>
  (∑ k : Fin 12, ∑ d : Fin 64, x (brow (y 0)) (ix3 k (rrow (y 0)) d) * w (ix2 (col12 k d) (y 1))) + b (ix2 0 (y 1))

/-- A row of a block is a row of the output's array. -/
theorem outArr_of (x : Fin 4 → FVec Ideal S12x512x64 .bf16) (w : FVec Ideal S768x768 .f32) (bb : FVec Ideal S1x768 .f32)
    (b : Fin 4) (z : S512x768.Idx) (y : S2048x768.Idx) (h0 : ((y 0 : Fin 2048) : ℕ) = 512 * b.val + ((z 0 : Fin 512) : ℕ))
    (h1 : ((y 1 : Fin 768) : ℕ) = ((z 1 : Fin 768) : ℕ)) :
    rows7 (F := Ideal) (x b) w bb z = outArr x w bb y := by
  have e0 : brow (y 0) = b := brow_eq _ b (z 0) h0
  have e1 : rrow (y 0) = z 0 := rrow_eq _ b (z 0) h0
  have e2 : (y 1 : Fin 768) = z 1 := Fin.ext h1
  have ez : z = ix2 (z 0) (z 1) := funext fun a => match a with | ⟨0, _⟩ => rfl | ⟨1, _⟩ => rfl
  rw [ez]
  refine (rows7_at (x b) w bb (z 0) (z 1)).trans ?_
  unfold outArr
  rw [e0, e1, e2]

theorem out7_eq (x : Fin 4 → FVec Ideal S12x512x64 .bf16) (w : FVec Ideal S768x768 .f32) (bb : FVec Ideal S1x768 .f32) :
    out7 (F := Ideal) (x 0) (x 1) (x 2) (x 3) w bb = outArr x w bb := by
  funext y
  unfold out7
  canon_tiles z h
  · exact outArr_of x w bb 3 z y h0 h1
  · exact outArr_of x w bb 2 z y h0 h1
  · exact outArr_of x w bb 1 z y h0 h1
  · exact outArr_of x w bb 0 z y (h0.trans (Nat.zero_add _).symm) h1

theorem idx7 : ∀ t : Fin cfg7.N, win7_0.index t = ![0, 0, 0] ∧ win7_1.index t = ![0, 0, 0] ∧ win7_2.index t = ![0, 0, 0]
    ∧ win7_3.index t = ![0, 0, 0] ∧ win7_4.index t = ![0, 0] ∧ win7_5.index t = ![0, 0] ∧ win7_6.index t = ![0, 0] :=
  (by decide +kernel : ∀ t : Fin grid7.N, _)

theorem ext3 {n0 n1 n2 : ℕ} {f g : (⟨3, ![n0, n1, n2]⟩ : Shape).Idx → EReal} (h : ∀ a b c, f (ix3 a b c) = g (ix3 a b c)) : f = g := by
  funext y
  rw [show y = ix3 (y 0) (y 1) (y 2) from funext fun a => match a with | ⟨0, _⟩ => rfl | ⟨1, _⟩ => rfl | ⟨2, _⟩ => rfl]
  exact h _ _ _

theorem ext2 {n0 n1 : ℕ} {f g : (⟨2, ![n0, n1]⟩ : Shape).Idx → EReal} (h : ∀ a b, f (ix2 a b) = g (ix2 a b)) : f = g := by
  funext y
  rw [show y = ix2 (y 0) (y 1) from funext fun a => match a with | ⟨0, _⟩ => rfl | ⟨1, _⟩ => rfl]
  exact h _ _

/-- The launch's one point. -/
def t7 : Fin cfg7.N := ⟨0, by decide +kernel⟩

variable (V : Dev nD → Valuation τ sig (Elt Ideal))

set_option maxHeartbeats 1000000 in
theorem final7 (c : Dev nD) (x : Fin 4 → FVec Ideal S12x512x64 .bf16) (h0 : V c (Proc.devRef .tc main_v25) = x 0)
    (h1 : V c (Proc.devRef .tc main_v26) = x 1) (h2 : V c (Proc.devRef .tc main_v27) = x 2) (h3 : V c (Proc.devRef .tc main_v28) = x 3) :
    (dat7 V c).arrAt 6 cfg7.N = outArr x (V c (Proc.devRef .tc main_arg6)) (V c (Proc.devRef .tc main_v29)) := by
  have b0 : ∀ (t : Fin cfg7.N) (a : Fin 12) (r : Fin 512) (d : Fin 64), iblk7 V c 0 t (ix3 a r d) = V c (Proc.devRef .tc main_v25) (ix3 a r d) := by
    intro t a r d; blk_ext [iblk7, idx7 t]
  have b1 : ∀ (t : Fin cfg7.N) (a : Fin 12) (r : Fin 512) (d : Fin 64), iblk7 V c 1 t (ix3 a r d) = V c (Proc.devRef .tc main_v26) (ix3 a r d) := by
    intro t a r d; blk_ext [iblk7, idx7 t]
  have b2 : ∀ (t : Fin cfg7.N) (a : Fin 12) (r : Fin 512) (d : Fin 64), iblk7 V c 2 t (ix3 a r d) = V c (Proc.devRef .tc main_v27) (ix3 a r d) := by
    intro t a r d; blk_ext [iblk7, idx7 t]
  have b3 : ∀ (t : Fin cfg7.N) (a : Fin 12) (r : Fin 512) (d : Fin 64), iblk7 V c 3 t (ix3 a r d) = V c (Proc.devRef .tc main_v28) (ix3 a r d) := by
    intro t a r d; blk_ext [iblk7, idx7 t]
  have b4 : ∀ (t : Fin cfg7.N) (r j : Fin 768), iblk7 V c 4 t (ix2 r j) = V c (Proc.devRef .tc main_arg6) (ix2 r j) := by
    intro t r j; blk_ext [iblk7, idx7 t]
  have b5 : ∀ (t : Fin cfg7.N) (j : Fin 768), iblk7 V c 5 t (ix2 0 j) = V c (Proc.devRef .tc main_v29) (ix2 0 j) := by
    intro t j; blk_ext [iblk7, idx7 t]
  have e0 : (iblk7 V c 0 t7 : FVec Ideal S12x512x64 .bf16) = x 0 := by rw [← h0]; exact ext3 (b0 t7)
  have e1 : (iblk7 V c 1 t7 : FVec Ideal S12x512x64 .bf16) = x 1 := by rw [← h1]; exact ext3 (b1 t7)
  have e2 : (iblk7 V c 2 t7 : FVec Ideal S12x512x64 .bf16) = x 2 := by rw [← h2]; exact ext3 (b2 t7)
  have e3 : (iblk7 V c 3 t7 : FVec Ideal S12x512x64 .bf16) = x 3 := by rw [← h3]; exact ext3 (b3 t7)
  have e4 : (iblk7 V c 4 t7 : FVec Ideal S768x768 .f32) = V c (Proc.devRef .tc main_arg6) := ext2 (b4 t7)
  have e5 : (iblk7 V c 5 t7 : FVec Ideal S1x768 .f32) = V c (Proc.devRef .tc main_v29) := ext2 fun a j => by
    obtain rfl : a = 0 := Subsingleton.elim _ _
    exact b5 t7 j
  have e : oblk7 V c t7 = outArr x (V c (Proc.devRef .tc main_arg6)) (V c (Proc.devRef .tc main_v29)) := by
    unfold oblk7
    exact (congrArg₂ (fun f g => f g) (congrArg₂ (fun f g => f g) (congrArg₂ (fun f g => f g) (congrArg₂ (fun f g => f g)
      (congrArg₂ (out7 (F := Ideal)) e0 e1) e2) e3) e4) e5).trans (out7_eq x _ _)
  refine (dat7 V c).arrAt_eq_of_after_last 6 t7 (by decide +kernel) _ fun j => ?_
  blk_simp
  rw [after7_6, e]

end Cert.KernelIdeal.Val
-- ==== Proof.Value.KernelOut.lean ====
/- The kernel's result, entry by entry, in terms of the arguments. -/
module

public import proofs.«01_k».proof.Proof.Value.Chain
public import proofs.«01_k».proof.Proof.Value.Mid
public import proofs.«01_k».proof.Proof.Value.BiasTile
public import proofs.«01_k».proof.Proof.Value.Attn3
public import proofs.«01_k».proof.Proof.Value.Attn4
public import proofs.«01_k».proof.Proof.Value.Attn5
public import proofs.«01_k».proof.Proof.Value.Attn6
public import proofs.«01_k».proof.Proof.Value.Out

@[expose] public section

set_option maxRecDepth 16384

noncomputable section

namespace Cert.KernelIdeal.Val

open Cert.KernelIdeal Cert.KernelIdeal.Gen Cert.KernelIdeal.Own
open Idealize.ShloMosaic Idealize.ShloMosaic.TcCoe Idealize.SL.Sem
open Idealize.ShloMosaic.Pipeline (Dat)

variable (m : (ℓ : Loc nD τ sig) → Buf (Elt Ideal) ℓ) (c : Dev nD)

/-- The arguments by their coordinates. -/
def args : Args where
  X i e := m (c, Proc.devRef .tc main_arg0) (ix3 (n0 := 1) (n1 := 2048) (n2 := 768) 0 i e)
  km h t e := m (c, Proc.devRef .tc main_arg1) (ix4 (n0 := 1) (n1 := 12) (n2 := 32) (n3 := 64) 0 h t e)
  vm h t e := m (c, Proc.devRef .tc main_arg2) (ix4 (n0 := 1) (n1 := 12) (n2 := 32) (n3 := 64) 0 h t e)
  mask h t := m (c, Proc.devRef .tc main_arg3) (ix3 (n0 := 1) (n1 := 12) (n2 := 32) 0 h t)
  Wq i e := m (c, Proc.devRef .tc main_arg4) (ix2 (n0 := 768) (n1 := 768) i e)
  Wkv i e := m (c, Proc.devRef .tc main_arg5) (ix2 (n0 := 768) (n1 := 1536) i e)
  Wo i e := m (c, Proc.devRef .tc main_arg6) (ix2 (n0 := 768) (n1 := 768) i e)
  bo e := m (c, Proc.devRef .tc main_arg7) (ix1 (n0 := 768) e)
  nk h e := m (c, Proc.devRef .tc main_arg8) (ix3 (n0 := 12) (n1 := 1) (n2 := 64) h 0 e)
  nv h e := m (c, Proc.devRef .tc main_arg9) (ix3 (n0 := 12) (n1 := 1) (n2 := 64) h 0 e)
  g h := m (c, Proc.devRef .tc main_arg10) (ix3 (n0 := 12) (n1 := 1) (n2 := 1) h 0 0)
  T t h := m (c, Proc.devRef .tc main_arg11) (ix2 (n0 := 32) (n1 := 12) t h)

/-! ## The attention's operands, entry by entry -/

theorem rows_at (X : FVec Ideal S1x2048x768 .f32) (i : Fin 2048) (e : Fin 768) :
    shapeCast S2048x768 X shapeCasts_S1x2048x768_S2048x768 (ix2 i e) = X (ix3 0 i e) := by
  pointwise

theorem projQ_rows (X : FVec Ideal S1x2048x768 .f32) (W : FVec Ideal S768x768 .f32) (h : Fin 12) (i : Fin 2048) (e : Fin 64) :
    projQ (shapeCast S2048x768 X shapeCasts_S1x2048x768_S2048x768) W (ix3 h i e)
      = (∑ a : Fin 768, X (ix3 0 i a) * W (ix2 a (col12 h e))) * ((1 / 8 : ℝ) : EReal) := by
  show (∑ a : Fin 768, shapeCast S2048x768 X _ (ix2 i a) * W (ix2 a (col12 h e))) * Ideal.ofBits .f32 0x3E000000#32 = _
  rw [bits_eighth]
  exact congrArg (· * _) (Finset.sum_congr rfl fun a _ => congrArg (· * _) (rows_at _ i a))

theorem projKV_rows (X : FVec Ideal S1x2048x768 .f32) (W : FVec Ideal S768x1536 .f32) (h : Fin 24) (i : Fin 2048) (e : Fin 64) :
    projKV (shapeCast S2048x768 X shapeCasts_S1x2048x768_S2048x768) W (ix3 h i e)
      = ∑ a : Fin 768, X (ix3 0 i a) * W (ix2 a (col24 h e)) :=
  Finset.sum_congr rfl fun a _ => congrArg (· * _) (rows_at _ i a)

theorem q_at (h : Fin 12) (i : Fin 2048) (e : Fin 64) :
    W12 m c (Proc.devRef .tc main_v1) (ix3 h i e) = (args m c).q h i e * ((1 / 8 : ℝ) : EReal) :=
  (congrFun (W12_v1 m c) _).trans ((projQ_rows _ _ h i e).trans rfl)

theorem k_at (h : Fin 12) (i : Fin 2048) (e : Fin 64) :
    W12 m c (Proc.devRef .tc main_v2) (ix3 (n0 := 24) ⟨h.val, by omega⟩ i e) = (args m c).k h i e :=
  (congrFun (W12_v2 m c) _).trans ((projKV_rows _ _ _ i e).trans rfl)

theorem v_at (h : Fin 12) (i : Fin 2048) (e : Fin 64) :
    W12 m c (Proc.devRef .tc main_v2) (ix3 (n0 := 24) ⟨h.val + 12, by omega⟩ i e) = (args m c).v h i e :=
  (congrFun (W12_v2 m c) _).trans ((projKV_rows _ _ _ i e).trans rfl)

theorem km_at (h : Fin 12) (t e : Fin 64) : W12 m c (Proc.devRef .tc main_v8) (ix3 h t e) = (args m c).memK h t.val e :=
  (congrFun (W12_v8 m c) _).trans rfl

theorem vm_at (h : Fin 12) (t e : Fin 64) : W12 m c (Proc.devRef .tc main_v10) (ix3 h t e) = (args m c).memV h e t.val :=
  (congrFun (W12_v10 m c) _).trans rfl

theorem maskAt_eq (h : Fin 12) (t : ℕ) : maskAt (m (c, Proc.devRef .tc main_arg3)) h t = if t ∈ (args m c).slots h then 1 else 0 := by
  unfold maskAt Args.slots
  simp only [Finset.mem_filter, Finset.mem_range]
  by_cases h1 : t < 1
  · rw [if_pos h1, if_pos ⟨by omega, Or.inl h1⟩]
  · rw [if_neg h1]
    by_cases h2 : t < 33
    · rw [dif_pos h2]
      have ht : t - 1 < 32 := by omega
      rcases BitVec.eq_zero_or_eq_one ((args m c).mask h ⟨t - 1, ht⟩) with e | e
      · rw [if_neg (fun hc => hc.2.elim h1 fun ⟨_, hc⟩ => absurd (e.symm.trans hc) (by decide))]
        exact (congrArg (fun b : BitVec 1 => ((b.toNat : ℝ) : EReal)) e).trans (by simp)
      · rw [if_pos ⟨h2, Or.inr ⟨ht, e⟩⟩]
        exact (congrArg (fun b : BitVec 1 => ((b.toNat : ℝ) : EReal)) e).trans (by simp)
    · rw [dif_neg h2, if_neg (fun hc => h2 hc.1)]

theorem tabOf_eq (h : Fin 12) (n : ℕ) : tabOf (W12 m c (Proc.devRef .tc main_v22)) h n = (args m c).tab h n := by
  unfold tabOf Args.tab
  by_cases h1 : n < 128
  · rw [dif_pos h1]
    exact (W12_v22 m c h ⟨n, h1⟩).trans rfl
  · rw [dif_neg h1, dif_neg (by omega)]

/-- The bias by distance, as the bias launch tabulates it. -/
def biasOf (h : Fin 12) (n : ℕ) : EReal := biasBy (tabOf (W12 m c (Proc.devRef .tc main_v22)) h) n

theorem dot_scale {n : ℕ} (a b : Fin n → EReal) (r : ℝ) (hr : 0 ≤ r) : ∑ e, (a e * (r : EReal)) * b e = (∑ e, a e * b e) * (r : EReal) := by
  rw [mul_comm _ (r : EReal), coe_mul_sum _ _ r hr]
  exact Finset.sum_congr rfl fun e _ => by rw [mul_comm (a e), mul_assoc]

section
variable (hD : (args m c).Finite)
include hD

theorem tab_real (h : Fin 12) : IsReal (tabOf (W12 m c (Proc.devRef .tc main_v22)) h 31) := by
  rw [tabOf_eq]; exact hD.tab_real h 31

theorem biasOf_eq (h : Fin 12) (n : ℕ) : biasOf m c h n = (args m c).bias h n := by
  unfold biasOf
  rw [biasBy_eq _ (tab_real m c hD h), tabOf_eq, tabOf_eq]
  rfl

/-- A row of the attention over the first `N` keys is the head's row, once the query row is among the first `N`. -/
theorem attn_head (N : ℕ) (hN : N ≤ 2048) (h : Fin 12) (i : Fin 2048) (d : Fin 64) (hi : i.val < N) :
    attnRow N hN (biasOf m c) (W12 m c (Proc.devRef .tc main_v1)) (W12 m c (Proc.devRef .tc main_v2)) (W12 m c (Proc.devRef .tc main_v8))
      (W12 m c (Proc.devRef .tc main_v10)) (W12 m c (Proc.devRef .tc main_v17)) (W12 m c (Proc.devRef .tc main_v23)) h i d
      = (args m c).head h i d := by
  have hg := W12_v23 m c h
  unfold attnRow rowOut Args.head
  refine congrArg₂ (· + ·) (congrArg₂ (· * ·) (hD.kernel_loc h i d N hi _ _ (fun j => ?_) fun j => ?_) (congrArg Ideal.logistic hg))
    (congrArg₂ (· * ·) (hD.kernel_mem h i d _ _ _ (fun t => ?_) (fun t => ?_) fun t => ?_) (congrArg (fun g => 1 - Ideal.logistic g) hg))
  · show (if j.val ≤ i.val then _ else _) = _
    by_cases hj : j.val ≤ i.val
    · rw [if_pos hj, if_pos hj, biasOf_eq m c hD]
      unfold Args.loc
      rw [dif_pos (show j.val < 2048 by omega)]
      refine congrArg (· + _) ?_
      rw [← dot_scale _ _ (1 / 8) (by norm_num)]
      exact Finset.sum_congr rfl fun e _ => congrArg₂ (· * ·) (q_at m c h i e) (k_at m c h _ e)
    · rw [if_neg hj, if_neg hj]
  · unfold Args.val
    rw [dif_pos (show j.val < 2048 by omega)]
    exact v_at m c h _ d
  · unfold Args.mem
    rw [← dot_scale _ _ (1 / 8) (by norm_num)]
    exact Finset.sum_congr rfl fun e _ => congrArg₂ (· * ·) (q_at m c h i e) (km_at m c h t e)
  · exact (W12_v17 m c h _).trans (maskAt_eq m c h t.val)
  · exact vm_at m c h t d

end

/-! ## The attention's operands stay as they are across its launches -/

/-- What an attention launch reads besides the bias. -/
def readRefs : List (Ref sig .tc) := [main_v1, main_v2, main_v8, main_v10, main_v17, main_v23]

section
variable (r : Ref sig .tc)

theorem W13_read (h : r ∈ readRefs) : W13 m c (Proc.devRef .tc r) = W12 m c (Proc.devRef .tc r) :=
  W13_of m c r ((by decide : ∀ r ∈ readRefs, r ≠ main_v24) r h)
theorem W14_read (h : r ∈ main_v24 :: readRefs) : W14 m c (Proc.devRef .tc r) = W13 m c (Proc.devRef .tc r) :=
  W14_of m c r ((by decide : ∀ r ∈ main_v24 :: readRefs, r ≠ main_v25) r h)
theorem W15_read (h : r ∈ main_v24 :: readRefs) : W15 m c (Proc.devRef .tc r) = W13 m c (Proc.devRef .tc r) :=
  (W15_of m c r ((by decide : ∀ r ∈ main_v24 :: readRefs, r ≠ main_v26) r h)).trans (W14_read m c r h)
theorem W16_read (h : r ∈ main_v24 :: readRefs) : W16 m c (Proc.devRef .tc r) = W13 m c (Proc.devRef .tc r) :=
  (W16_of m c r ((by decide : ∀ r ∈ main_v24 :: readRefs, r ≠ main_v27) r h)).trans (W15_read m c r h)

end

/-- The attention's array over given contents. -/
def attnOf (A : Fin 12 → ℕ → EReal) (V : Dev nD → Valuation τ sig (Elt Ideal)) (N : ℕ) (hN : N ≤ 2048) (b : Fin 4) : FVec Ideal S12x512x64 .bf16 :=
  attnArr N hN A (V c (Proc.devRef .tc main_v1)) (V c (Proc.devRef .tc main_v2)) (V c (Proc.devRef .tc main_v8))
      (V c (Proc.devRef .tc main_v10)) (V c (Proc.devRef .tc main_v17)) (V c (Proc.devRef .tc main_v23)) b

theorem attnOf_congr (A : Fin 12 → ℕ → EReal) (V V' : Dev nD → Valuation τ sig (Elt Ideal)) (N : ℕ) (hN : N ≤ 2048) (b : Fin 4)
    (h : ∀ r ∈ readRefs, V c (Proc.devRef .tc r) = V' c (Proc.devRef .tc r)) : attnOf c A V N hN b = attnOf c A V' N hN b := by
  unfold attnOf
  rw [h main_v1 (by decide), h main_v2 (by decide), h main_v8 (by decide), h main_v10 (by decide), h main_v17 (by decide), h main_v23 (by decide)]

/-- The attention's array for a block of query rows. -/
def blockArr (b : Fin 4) : FVec Ideal S12x512x64 .bf16 :=
  attnOf c (biasOf m c) (W12 m) (512 * (b.val + 1)) (by omega) b

theorem biasOf_far (h : Fin 12) (n : ℕ) (hn : 128 ≤ n) : biasOf m c h n = 0 := biasBy_far _ n hn

section
variable (hD : (args m c).Finite)
include hD

theorem blockArr_at (b : Fin 4) (h : Fin 12) (r : Fin 512) (d : Fin 64) :
    blockArr m c b (ix3 h r d) = (args m c).head h (qrow b r) d :=
  attn_head m c hD _ (by omega) h (qrow b r) d (by show 512 * b.val + r.val < _; omega)

theorem W13_v24 (h : Fin 12) (r : Fin 256) (j : Fin 768) : (W13 m c (Proc.devRef .tc main_v24) : FVec Ideal S12x256x768 .f32) (ix3 h r j)
    = if 256 + r.val < j.val then ⊥ else biasOf m c h (256 + r.val - j.val) :=
  (congrFun ((W13_out m c).trans (final2 (W12 m) c (tab_real m c hD))) _).trans rfl

theorem W14_v25 : W14 m c (Proc.devRef .tc main_v25) = blockArr m c 0 :=
  (W14_out m c).trans ((final3 (W13 m) c (biasOf m c) (biasOf_far m c) (W13_v24 m c hD)).trans
    (attnOf_congr c _ (W13 m) (W12 m) 512 (by omega) 0 fun r h => W13_read m c r h))

theorem W15_v26 : W15 m c (Proc.devRef .tc main_v26) = blockArr m c 1 :=
  (W15_out m c).trans ((final4 (W14 m) c (biasOf m c) (biasOf_far m c) (fun h r j =>
      (congrFun (W14_read m c main_v24 (by decide)) _).trans (W13_v24 m c hD h r j))).trans
    (attnOf_congr c _ (W14 m) (W12 m) 1024 (by omega) 1 fun r h => (W14_read m c r (List.mem_cons_of_mem _ h)).trans (W13_read m c r h)))

theorem W16_v27 : W16 m c (Proc.devRef .tc main_v27) = blockArr m c 2 :=
  (W16_out m c).trans ((final5 (W15 m) c (biasOf m c) (biasOf_far m c) (fun h r j =>
      (congrFun (W15_read m c main_v24 (by decide)) _).trans (W13_v24 m c hD h r j))).trans
    (attnOf_congr c _ (W15 m) (W12 m) 1536 (by omega) 2 fun r h => (W15_read m c r (List.mem_cons_of_mem _ h)).trans (W13_read m c r h)))

theorem W17_v28 : W17 m c (Proc.devRef .tc main_v28) = blockArr m c 3 :=
  (W17_out m c).trans ((final6 (W16 m) c (biasOf m c) (biasOf_far m c) (fun h r j =>
      (congrFun (W16_read m c main_v24 (by decide)) _).trans (W13_v24 m c hD h r j))).trans
    (attnOf_congr c _ (W16 m) (W12 m) 2048 (by omega) 3 fun r h => (W16_read m c r (List.mem_cons_of_mem _ h)).trans (W13_read m c r h)))

theorem W18_v25 : W18 m c (Proc.devRef .tc main_v25) = blockArr m c 0 :=
  (W18_of m c main_v25 (by decide)).trans ((W17_of m c main_v25 (by decide)).trans ((W16_of m c main_v25 (by decide)).trans
    ((W15_of m c main_v25 (by decide)).trans (W14_v25 m c hD))))
theorem W18_v26 : W18 m c (Proc.devRef .tc main_v26) = blockArr m c 1 :=
  (W18_of m c main_v26 (by decide)).trans ((W17_of m c main_v26 (by decide)).trans ((W16_of m c main_v26 (by decide)).trans (W15_v26 m c hD)))
theorem W18_v27 : W18 m c (Proc.devRef .tc main_v27) = blockArr m c 2 :=
  (W18_of m c main_v27 (by decide)).trans ((W17_of m c main_v27 (by decide)).trans (W16_v27 m c hD))
theorem W18_v28 : W18 m c (Proc.devRef .tc main_v28) = blockArr m c 3 :=
  (W18_of m c main_v28 (by decide)).trans (W17_v28 m c hD)

omit hD in
theorem bo_at (b : FVec Ideal S768 .f32) (j : Fin 768) : shapeCast S1x768 b shapeCasts_S768_S1x768 (ix2 0 j) = b (ix1 j) := by
  pointwise

omit hD in
theorem res_at (x : FVec Ideal S2048x768 .f32) (i : Fin 2048) (j : Fin 768) :
    shapeCast S1x2048x768 x shapeCasts_S2048x768_S1x2048x768 (ix3 0 i j) = x (ix2 i j) := by
  pointwise

theorem W19_v30 : W19 m c (Proc.devRef .tc main_v30) = outArr (blockArr m c) (m (c, Proc.devRef .tc main_arg6))
    (shapeCast S1x768 (m (c, Proc.devRef .tc main_arg7)) shapeCasts_S768_S1x768) := by
  have e29 : W18 m c (Proc.devRef .tc main_v29) = _ := h7_v29 (W17 m c)
  rw [W19_out, final7 (W18 m) c (blockArr m c) (W18_v25 m c hD) (W18_v26 m c hD) (W18_v27 m c hD) (W18_v28 m c hD),
    W18_arg m c main_arg6 (by decide), e29, W17_arg m c main_arg7 (by decide)]

/-- The kernel's result, entry by entry. -/
theorem result_at (i : Fin 2048) (j : Fin 768) :
    W20 m c (Proc.devRef .tc main_v31) (ix3 (n0 := 1) (n1 := 2048) (n2 := 768) 0 i j) = (args m c).out i j := by
  have e : W20 m c (Proc.devRef .tc main_v31) = _ := h8_v31 (W19 m c)
  have e30 := W19_v30 m c hD
  refine (congrFun e _).trans ((res_at _ i j).trans ((congrFun e30 _).trans ?_))
  unfold Args.out
  refine congrArg₂ (· + ·) (Finset.sum_congr rfl fun h _ => Finset.sum_congr rfl fun d _ => congrArg (· * _) ?_) (bo_at _ j)
  refine (blockArr_at m c hD (brow i) h (rrow i) d).trans ?_
  rw [qrow_eq (brow i) i.val i.isLt (rrow i) (Nat.div_add_mod _ _)]

end

end Cert.KernelIdeal.Val
-- ==== Proof.Value.RefScore.lean ====
/- The reference's projections, buckets and causal scores, entry by entry. -/
module

public import proofs.«01_k».proof.Proof.Gen.ReferenceIdeal.Run
public import proofs.«01_k».proof.Proof.Value.Math
public import proofs.«01_k».proof.Proof.Value.Bucket
public import proofs.«01_k».proof.Proof.Value.Mid
public import Idealize.ShloMosaic.Lib.Pointwise
public import Idealize.ShloMosaic.Lib.Tactic.CleanTypes

@[expose] public section

set_option maxRecDepth 16384

noncomputable section

namespace Cert.ReferenceIdeal.Val

open Cert.ReferenceIdeal Cert.ReferenceIdeal.Gen Cert.ReferenceIdeal.Value
open Cert.KernelIdeal.Val
open Idealize.ShloMosaic Idealize.ShloMosaic.TcCoe Idealize.SL.Sem

variable (V : Valuation τ sig (Elt Ideal))

/-- Which table rows named by `w` exist. -/
def rowMask (w : IVec S2048x2048x1 32) : IVec S2048x2048 1 :=
  Host.reduce IntOp.andi (andi (cmpi .sge w (broadcastInDim S2048x2048x1 ![] bcast_S_S2048x2048x1 (constantI S_ 32 0#32))) (cmpi .sle w (broadcastInDim S2048x2048x1 ![0, 1, 2] bcast_S1x1x1_S2048x2048x1_0_1_2 (broadcastInDim S1x1x1 ![2] bcast_S1_S1x1x1_2 (constantI S1 32 31#32))))) (constantI S_ 1 1#1) reducesTo_S2048x2048x1_S2048x2048_d2 h_S_

/-- The table rows named by `w`. -/
def rowPick {F : FTy → Type} (T : FVec F S32x12 .f32) (w : IVec S2048x2048x1 32) : FVec F S2048x2048x12 .f32 :=
  Host.gather gather_S32x12_S2048x2048x1_S2048x2048x12_2_0_n_n_0_2_112 T w

/-- The table rows named by `w`, a filler where there is none. -/
def rowTake {F : FTy → Type} [FloatOps F] (T : FVec F S32x12 .f32) (w : IVec S2048x2048x1 32) : FVec F S2048x2048x12 .f32 :=
  select (broadcastInDim S2048x2048x12 ![0, 1] bcast_S2048x2048_S2048x2048x12_0_1 (rowMask w)) (rowPick T w) (broadcastInDim S2048x2048x12 ![] bcast_S_S2048x2048x12 (constant S_ .f32 0x7FC00000#32))

/-- The causal scores from the table's rows `G`, the queries and the keys. -/
def scoreOf {F : FTy → Type} [FloatOps F] (G : FVec F S2048x2048x12 .f32) (q : FVec F S1x12x2048x64 .f32) (kv : FVec F S1x2048x1536 .f32) :
    FVec F S1x12x2048x2048 .f32 :=
  select (broadcastInDim S1x12x2048x2048 ![0, 1, 2, 3] bcast_S1x1x2048x2048_S1x12x2048x2048_0_1_2_3 (broadcastInDim S1x1x2048x2048 ![2, 3] bcast_S2048x2048_S1x1x2048x2048_2_3 (select (cmpi .sge (addi (iotaInDim S2048x2048 32 0) (broadcastInDim S2048x2048 ![] bcast_S_S2048x2048 (constantI S_ 32 0#32))) (iotaInDim S2048x2048 32 1)) (broadcastInDim S2048x2048 ![] bcast_S_S2048x2048 (constantI S_ 1 0#1)) (broadcastInDim S2048x2048 ![] bcast_S_S2048x2048 (constantI S_ 1 1#1))))) (broadcastInDim S1x12x2048x2048 ![] bcast_S_S1x12x2048x2048 (id (constant S_ .f32 0xFF800000#32))) (addf (mulf (broadcastInDim S1x12x2048x2048 ![1, 2, 3] bcast_S12x2048x2048_S1x12x2048x2048_1_2_3 (transpose S12x2048x2048 [2, 0, 1] G transposes_S2048x2048x12_S12x2048x2048_2_0_1)) (broadcastInDim S1x12x2048x2048 ![] bcast_S_S1x12x2048x2048 (constant S_ .f32 0x41000000#32))) (mulf (Host.dotGeneral dot_S1x12x2048x64_S1x12x2048x64_S1x12x2048x2048_3_3_2_2_01_01 none q (transpose S1x12x2048x64 [0, 2, 1, 3] (shapeCast _ (extractStridedSlice S1x2048x768 ![0, 0, 0] kv slices_S1x2048x1536_S1x2048x768_0_0_0) shapeCasts_S1x2048x768_S1x2048x12x64) transposes_S1x2048x12x64_S1x12x2048x64_0_2_1_3)) (broadcastInDim S1x12x2048x2048 ![] bcast_S_S1x12x2048x2048 (constant S_ .f32 0x3E000000#32))))

theorem v51_eq : res_main_v51 V = scoreOf (rowTake (V (Proc.devRef .tc main_arg11)) (res_main_call1_v5 V)) (res_main_v5 V) (res_main_v1 V) := rfl

/-- The gather's dimension numbers. -/
abbrev rowDims := gather_S32x12_S2048x2048x1_S2048x2048x12_2_0_n_n_0_2_112

/-- The gather read at an index: the table at the named row, clamped into the table. -/
theorem rowPick_at {α : FTy → Type} (T : FVec α S32x12 .f32) (w : IVec S2048x2048x1 32) (i j : Fin 2048) (h : Fin 12) :
    rowPick T w (ix3 i j h) = T (ix2 (n0 := 32) ⟨min (w (ix3 i j 0)).toInt.toNat 31, by omega⟩ h) := by
  unfold rowPick Host.gather
  refine congrArg T ?_
  funext a
  refine Fin.ext ?_
  obtain rfl | rfl : a = (0 : Fin 2) ∨ a = (1 : Fin 2) := by
    rcases Fin.eq_zero_or_eq_succ (n := 1) a with h0 | ⟨b, hb⟩
    · exact Or.inl h0
    · obtain rfl : b = 0 := Subsingleton.elim _ _
      exact Or.inr hb
  · show rowDims.start (ix3 i j h) w 0 + rowDims.batchCoord (ix3 i j h) 0 + rowDims.offCoord (ix3 i j h) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ rowDims.startIndexMap from List.mem_singleton.mpr rfl)]
    have hsi : rowDims.siIdx (ix3 i j h)
        ⟨List.idxOf (0 : Fin 2) rowDims.startIndexMap,
          List.idxOf_lt_length_iff.2 (List.mem_singleton.mpr rfl)⟩ = ix3 i j 0 := by
      funext b
      refine Fin.ext ?_
      match b with
      | ⟨0, _⟩ => rfl
      | ⟨1, _⟩ => rfl
      | ⟨2, _⟩ => rfl
    rw [hsi]
    rfl
  · show rowDims.start (ix3 i j h) w 1 + rowDims.batchCoord (ix3 i j h) 1 + rowDims.offCoord (ix3 i j h) 1 = _
    rw [GatherDims.batchCoord_eq_zero _ _ _ List.not_mem_nil]
    unfold GatherDims.start
    rw [dif_neg (show (1 : Fin 2) ∉ rowDims.startIndexMap by decide)]
    unfold GatherDims.offCoord
    rw [dif_pos (by decide)]
    show 0 + 0 + h.val = h.val
    omega

/-! ## Words -/

theorem neg_sub_word (i j : ℕ) (h : j ≤ i) : -IntOp.subi (BitVec.ofNat 32 j) (BitVec.ofNat 32 i) = BitVec.ofNat 32 (i - j) := by
  unfold IntOp.subi
  have e : BitVec.ofNat 32 i = BitVec.ofNat 32 (i - j) + BitVec.ofNat 32 j := by
    rw [← BitVec.ofNat_add, Nat.sub_add_cancel h]
  rw [BitVec.neg_sub, e]
  first
    | exact neg_add_cancel_comm_assoc _ _
    | (rw [BitVec.add_comm (BitVec.ofNat 32 (i - j)), ← BitVec.add_assoc, BitVec.add_comm (-_), ← BitVec.sub_eq_add_neg, BitVec.sub_self, BitVec.zero_add])

theorem v22_at (i j : Fin 2048) (h : j.val ≤ i.val) : res_main_v22 V (ix2 i j) = BitVec.ofNat 32 (i.val - j.val) := by
  unfold res_main_v22
  clean_types
  pointwise
  rw [neg_sub_word _ _ h]
  exact (maxsi_ofNat_small (i.val - j.val) 0 (by omega) (by omega)).trans (by rw [Nat.max_zero])

theorem v41_at (i j : Fin 2048) (h : j.val ≤ i.val) : res_main_v41 V (ix2 i j) = BitVec.ofNat 32 (bkt (i.val - j.val)) := by
  unfold res_main_v41
  clean_types
  pointwise
  rw [v22_at V i j h]
  exact bktR_ofNat (i.val - j.val) (by omega)

theorem word_at (i j : Fin 2048) (h : j.val ≤ i.val) : res_main_call1_v5 V (ix3 i j 0) = BitVec.ofNat 32 (bkt (i.val - j.val)) := by
  unfold res_main_call1_v5
  clean_types
  pointwise
  have hb := bkt_le (i.val - j.val)
  rw [v41_at V i j h]
  exact (select_slt_ofNat (bkt (i.val - j.val)) 0 (by omega) (by omega) _ _).trans (if_neg (by omega))

/-! ## The table's rows -/

theorem rowMask_at (w : IVec S2048x2048x1 32) (i j : Fin 2048) (n : ℕ) (hn : n ≤ 31) (hw : w (ix3 i j 0) = BitVec.ofNat 32 n) :
    rowMask w (ix2 i j) = 1#1 := by
  unfold rowMask
  clean_types
  pointwise
  rw [show (Finset.univ : Finset (Fin 1)) = {0} from rfl, Finset.fold_singleton, hw]
  interval_cases n <;> rfl

theorem rowTake_at (T : FVec Ideal S32x12 .f32) (w : IVec S2048x2048x1 32) (h : Fin 12) (i j : Fin 2048) (n : ℕ) (hn : n ≤ 31)
    (hw : w (ix3 i j 0) = BitVec.ofNat 32 n) : rowTake T w (ix3 i j h) = T (ix2 (n0 := 32) ⟨n, by omega⟩ h) := by
  unfold rowTake
  clean_types
  pointwise
  rw [rowMask_at w i j n hn hw, rowPick_at, show ∀ a b : EReal, Scalar.select 1#1 a b = a from fun _ _ => rfl]
  refine congrArg T (congrArg (fun r => ix2 r h) (Fin.ext ?_))
  show min (w (ix3 i j 0)).toInt.toNat 31 = n
  rw [hw, toInt_ofNat_small n (by omega), Int.toNat_natCast]
  omega

/-! ## The scores -/

theorem scoreOf_at (G : FVec Ideal S2048x2048x12 .f32) (q : FVec Ideal S1x12x2048x64 .f32) (kv : FVec Ideal S1x2048x1536 .f32)
    (h : Fin 12) (i j : Fin 2048) : scoreOf G q kv (ix4 0 h i j) = if j.val ≤ i.val then
      G (ix3 i j h) * ((8 : ℝ) : EReal) + (∑ e : Fin 64, q (ix4 0 h i e) * kv (ix3 0 j (col24 ⟨h.val, by omega⟩ e))) * ((1 / 8 : ℝ) : EReal) else ⊥ := by
  unfold scoreOf
  clean_types
  pointwise
  rw [show IntOp.addi (BitVec.ofNat 32 i.val) 0#32 = BitVec.ofNat 32 i.val from BitVec.add_zero _,
    WordCmp.cmpi_sge_ofNat (w := 32) (by omega) (by omega), bits_eight, bits_eighth]
  by_cases hj : j.val ≤ i.val
  · rw [if_pos hj, decide_eq_true hj]; rfl
  · rw [if_neg hj, decide_eq_false hj]; exact bits_ninf

/-- The arguments by their coordinates. -/
def args : Args where
  X i e := V (Proc.devRef .tc main_arg0) (ix3 (n0 := 1) (n1 := 2048) (n2 := 768) 0 i e)
  km h t e := V (Proc.devRef .tc main_arg1) (ix4 (n0 := 1) (n1 := 12) (n2 := 32) (n3 := 64) 0 h t e)
  vm h t e := V (Proc.devRef .tc main_arg2) (ix4 (n0 := 1) (n1 := 12) (n2 := 32) (n3 := 64) 0 h t e)
  mask h t := V (Proc.devRef .tc main_arg3) (ix3 (n0 := 1) (n1 := 12) (n2 := 32) 0 h t)
  Wq i e := V (Proc.devRef .tc main_arg4) (ix2 (n0 := 768) (n1 := 768) i e)
  Wkv i e := V (Proc.devRef .tc main_arg5) (ix2 (n0 := 768) (n1 := 1536) i e)
  Wo i e := V (Proc.devRef .tc main_arg6) (ix2 (n0 := 768) (n1 := 768) i e)
  bo e := V (Proc.devRef .tc main_arg7) (ix1 (n0 := 768) e)
  nk h e := V (Proc.devRef .tc main_arg8) (ix3 (n0 := 12) (n1 := 1) (n2 := 64) h 0 e)
  nv h e := V (Proc.devRef .tc main_arg9) (ix3 (n0 := 12) (n1 := 1) (n2 := 64) h 0 e)
  g h := V (Proc.devRef .tc main_arg10) (ix3 (n0 := 12) (n1 := 1) (n2 := 1) h 0 0)
  T t h := V (Proc.devRef .tc main_arg11) (ix2 (n0 := 32) (n1 := 12) t h)

theorem v1_at (i : Fin 2048) (d : Fin 1536) : res_main_v1 V (ix3 0 i d) = ∑ a : Fin 768, (args V).X i a * (args V).Wkv a d := by
  unfold res_main_v1
  clean_types
  pointwise
  rfl

theorem v5_at (h : Fin 12) (i : Fin 2048) (d : Fin 64) : res_main_v5 V (ix4 0 h i d) = (args V).q h i d := by
  unfold res_main_v5
  clean_types
  pointwise
  rfl

theorem v51_at (h : Fin 12) (i j : Fin 2048) : res_main_v51 V (ix4 0 h i j) = if j.val ≤ i.val then
    (args V).tab h (bkt (i.val - j.val)) + (∑ e : Fin 64, (args V).q h i e * (args V).k h j e) * ((1 / 8 : ℝ) : EReal) else ⊥ := by
  rw [v51_eq, scoreOf_at]
  by_cases hj : j.val ≤ i.val
  · rw [if_pos hj, if_pos hj]
    have hb := bkt_le (i.val - j.val)
    rw [rowTake_at _ _ h i j (bkt (i.val - j.val)) hb (word_at V i j hj)]
    unfold Args.tab
    rw [dif_pos (by omega)]
    refine congrArg₂ (· + ·) rfl (congrArg (· * _) (Finset.sum_congr rfl fun e _ => ?_))
    rw [v5_at, v1_at]; rfl
  · rw [if_neg hj, if_neg hj]

end Cert.ReferenceIdeal.Val
-- ==== Proof.Value.Ref.lean ====
/- The reference, entry by entry: its result is the arguments' `Args.out`. -/
module

public import proofs.«01_k».proof.Proof.Gen.ReferenceIdeal.Run
public import proofs.«01_k».proof.Proof.Value.Math
public import proofs.«01_k».proof.Proof.Value.Bucket
public import proofs.«01_k».proof.Proof.Value.RefScore
public import Idealize.ShloMosaic.Lib.Pointwise
public import Idealize.ShloMosaic.Lib.Tactic.CleanTypes

@[expose] public section

set_option maxRecDepth 16384

noncomputable section

namespace Cert.ReferenceIdeal.Val

open Cert.ReferenceIdeal Cert.ReferenceIdeal.Gen Cert.ReferenceIdeal.Value
open Cert.KernelIdeal.Val
open Idealize.ShloMosaic Idealize.ShloMosaic.TcCoe Idealize.SL.Sem

variable (V : Valuation τ sig (Elt Ideal))

/-- The causal scores. -/
def s51 (h : Fin 12) (i j : Fin 2048) : EReal := res_main_v51 V (ix4 0 h i j)
/-- The causal scores less their maximum. -/
def s55 (h : Fin 12) (i j : Fin 2048) : EReal := res_main_v55 V (ix4 0 h i j)
/-- The causal weights. -/
def s62 (h : Fin 12) (i j : Fin 2048) : EReal := res_main_v62 V (ix4 0 h i j)
/-- The memory scores. -/
def s75 (h : Fin 12) (i : Fin 2048) (t : Fin 33) : EReal := res_main_v75 V (ix4 0 h i t)
/-- The memory scores less their maximum, masked. -/
def s82 (h : Fin 12) (i : Fin 2048) (t : Fin 33) : EReal := res_main_v82 V (ix4 0 h i t)
/-- The memory weights. -/
def s89 (h : Fin 12) (i : Fin 2048) (t : Fin 33) : EReal := res_main_v89 V (ix4 0 h i t)

theorem v55_at (h : Fin 12) (i j : Fin 2048) : s55 V h i j
    = s51 V h i j - Finset.univ.fold max ⊥ (fun x => s51 V h i x) := by
  unfold s55 s51 res_main_v55
  clean_types
  pointwise
  rw [bits_ninf]

/-- The rows' maxima. -/
def rowMax2048 {F : FTy → Type} [FloatOps F] (G : FVec F S1x12x2048x2048 .f32) : FVec F S1x12x2048 .f32 :=
  Host.reduce FloatOps.maximumf G (constant S_ .f32 0xFF800000#32) reducesTo_S1x12x2048x2048_S1x12x2048_d3 h_S_

/-- The exponentials of the scores less the maxima `M`. -/
def expOf2048 {F : FTy → Type} [FloatOps F] (G : FVec F S1x12x2048x2048 .f32) (M : FVec F S1x12x2048 .f32) : FVec F S1x12x2048x2048 .f32 :=
  Host.exp (subf G (broadcastInDim S1x12x2048x2048 ![0, 1, 2, 3] bcast_S1x12x2048x1_S1x12x2048x2048_0_1_2_3 (broadcastInDim S1x12x2048x1 ![0, 1, 2] bcast_S1x12x2048_S1x12x2048x1_0_1_2 (maximumf (broadcastInDim S1x12x2048 ![] bcast_S_S1x12x2048 (constant S_ .f32 0xFF800000#32)) M))))

theorem rowMax2048_at (G : FVec Ideal S1x12x2048x2048 .f32) (h : Fin 12) (i : Fin 2048) :
    rowMax2048 G (ix3 0 h i) = Finset.univ.fold max ⊥ (fun x => G (ix4 0 h i x)) := by
  unfold rowMax2048
  clean_types
  pointwise
  rw [bits_ninf]

theorem expOf2048_at (G : FVec Ideal S1x12x2048x2048 .f32) (M : FVec Ideal S1x12x2048 .f32) (h : Fin 12) (i : Fin 2048) (j : Fin 2048) :
    expOf2048 G M (ix4 0 h i j) = Ideal.exp (G (ix4 0 h i j) - max ⊥ (M (ix3 0 h i))) := by
  unfold expOf2048
  clean_types
  pointwise
  rw [bits_ninf]

theorem v62_eq : res_main_v62 V = expOf2048 (res_main_v55 V) (rowMax2048 (res_main_v55 V)) := rfl

theorem v62_at (h : Fin 12) (i : Fin 2048) (j : Fin 2048) : s62 V h i j
    = Ideal.exp (s55 V h i j - max ⊥ (Finset.univ.fold max ⊥ (fun x => s55 V h i x))) := by
  unfold s62 s55
  rw [v62_eq, expOf2048_at, rowMax2048_at]

theorem v75_at (h : Fin 12) (i : Fin 2048) (t : Fin 33) : s75 V h i t = (args V).mem h i t.val := by
  unfold s75 res_main_v75
  clean_types
  pointwise
  rw [bits_eighth]
  refine congrArg (· * _) (Finset.sum_congr rfl fun e _ => ?_)
  refine congrArg₂ (· * ·) (v5_at V h i e) ?_
  unfold Args.memK
  by_cases h1 : t.val < 1
  · rw [dif_pos h1, if_pos h1]; rfl
  · rw [dif_neg h1, if_neg h1, dif_pos t.isLt]; rfl

theorem v82_at (h : Fin 12) (i : Fin 2048) (t : Fin 33) : s82 V h i t = if t.val ∈ (args V).slots h then
    s75 V h i t - Finset.univ.fold max ⊥ (fun x => s75 V h i x) else ⊥ := by
  unfold s82 s75 res_main_v82
  clean_types
  pointwise
  rw [bits_ninf]
  unfold Args.slots
  simp only [Finset.mem_filter, Finset.mem_range, t.isLt, true_and]
  by_cases h1 : t.val < 1
  · rw [dif_neg (by omega), if_pos (Or.inl h1)]; rfl
  · rw [dif_pos (by omega)]
    have ht : t.val - 1 < 32 := by omega
    rcases BitVec.eq_zero_or_eq_one (V (Proc.devRef .tc main_arg3) (ix3 (n0 := 1) (n1 := 12) (n2 := 32) 0 h ⟨t.val - 1, ht⟩)) with e | e
    · rw [if_neg (fun c => c.elim h1 fun ⟨_, c⟩ => absurd (e.symm.trans c) (by decide))]
      exact (congrArg (fun b : BitVec 1 => Scalar.select (~~~b) (id (constant S_ FTy.f32 4286578688#32) ix0) _) e).trans bits_ninf
    · rw [if_pos (Or.inr ⟨ht, e⟩)]
      exact congrArg (fun b : BitVec 1 => Scalar.select (~~~b) (id (constant S_ FTy.f32 4286578688#32) ix0) _) e

/-- The rows' maxima. -/
def rowMax33 {F : FTy → Type} [FloatOps F] (G : FVec F S1x12x2048x33 .f32) : FVec F S1x12x2048 .f32 :=
  Host.reduce FloatOps.maximumf G (constant S_ .f32 0xFF800000#32) reducesTo_S1x12x2048x33_S1x12x2048_d3 h_S_

/-- The exponentials of the scores less the maxima `M`. -/
def expOf33 {F : FTy → Type} [FloatOps F] (G : FVec F S1x12x2048x33 .f32) (M : FVec F S1x12x2048 .f32) : FVec F S1x12x2048x33 .f32 :=
  Host.exp (subf G (broadcastInDim S1x12x2048x33 ![0, 1, 2, 3] bcast_S1x12x2048x1_S1x12x2048x33_0_1_2_3 (broadcastInDim S1x12x2048x1 ![0, 1, 2] bcast_S1x12x2048_S1x12x2048x1_0_1_2 (maximumf (broadcastInDim S1x12x2048 ![] bcast_S_S1x12x2048 (constant S_ .f32 0xFF800000#32)) M))))

theorem rowMax33_at (G : FVec Ideal S1x12x2048x33 .f32) (h : Fin 12) (i : Fin 2048) :
    rowMax33 G (ix3 0 h i) = Finset.univ.fold max ⊥ (fun x => G (ix4 0 h i x)) := by
  unfold rowMax33
  clean_types
  pointwise
  rw [bits_ninf]

theorem expOf33_at (G : FVec Ideal S1x12x2048x33 .f32) (M : FVec Ideal S1x12x2048 .f32) (h : Fin 12) (i : Fin 2048) (t : Fin 33) :
    expOf33 G M (ix4 0 h i t) = Ideal.exp (G (ix4 0 h i t) - max ⊥ (M (ix3 0 h i))) := by
  unfold expOf33
  clean_types
  pointwise
  rw [bits_ninf]

theorem v89_eq : res_main_v89 V = expOf33 (res_main_v82 V) (rowMax33 (res_main_v82 V)) := rfl

theorem v89_at (h : Fin 12) (i : Fin 2048) (t : Fin 33) : s89 V h i t
    = Ideal.exp (s82 V h i t - max ⊥ (Finset.univ.fold max ⊥ (fun x => s82 V h i x))) := by
  unfold s89 s82
  rw [v89_eq, expOf33_at, rowMax33_at]

theorem v101_at (h : Fin 12) : res_main_v101 V (ix4 0 h 0 0) = Ideal.logistic ((args V).g h) := by
  unfold res_main_v101
  clean_types
  pointwise
  rfl

/-- The reference's heads before the output projection, as a term of the arguments. -/
def resHeads {F : FTy → Type} [FloatOps F] (V : Valuation τ sig (Elt F)) : FVec F S1x12x2048x64 .f32 :=
  addf (mulf (Host.dotGeneral dot_S1x12x2048x2048_S1x12x2048x64_S1x12x2048x64_3_2_2_3_01_01 none (Host.divf (res_main_v62 V) (broadcastInDim S1x12x2048x2048 ![0, 1, 2, 3] bcast_S1x12x2048x1_S1x12x2048x2048_0_1_2_3 (broadcastInDim S1x12x2048x1 ![0, 1, 2] bcast_S1x12x2048_S1x12x2048x1_0_1_2 (Host.reduceAdd (res_main_v62 V) (constant S_ .f32 0x00000000#32) reducesTo_S1x12x2048x2048_S1x12x2048_d3 h_S_)))) (transpose S1x12x2048x64 [0, 2, 1, 3] (shapeCast _ (extractStridedSlice S1x2048x768 ![0, 0, 768] (res_main_v1 V) slices_S1x2048x1536_S1x2048x768_0_0_768) shapeCasts_S1x2048x768_S1x2048x12x64) transposes_S1x2048x12x64_S1x12x2048x64_0_2_1_3)) (broadcastInDim S1x12x2048x64 ![0, 1, 2, 3] bcast_S1x12x1x1_S1x12x2048x64_0_1_2_3 (res_main_v101 V))) (mulf (Host.dotGeneral dot_S1x12x2048x33_S1x12x33x64_S1x12x2048x64_3_2_2_3_01_01 none (Host.divf (res_main_v89 V) (broadcastInDim S1x12x2048x33 ![0, 1, 2, 3] bcast_S1x12x2048x1_S1x12x2048x33_0_1_2_3 (broadcastInDim S1x12x2048x1 ![0, 1, 2] bcast_S1x12x2048_S1x12x2048x1_0_1_2 (Host.reduceAdd (res_main_v89 V) (constant S_ .f32 0x00000000#32) reducesTo_S1x12x2048x33_S1x12x2048_d3 h_S_)))) (concatenate S1x12x33x64 2 [⟨S1x12x1x64, (broadcastInDim S1x12x1x64 ![1, 2, 3] bcast_S12x1x64_S1x12x1x64_1_2_3 (V (Proc.devRef .tc main_arg9)))⟩, ⟨S1x12x32x64, (V (Proc.devRef .tc main_arg2))⟩] concatenates_S1x12x1x64_S1x12x32x64_S1x12x33x64_d2)) (broadcastInDim S1x12x2048x64 ![0, 1, 2, 3] bcast_S1x12x1x1_S1x12x2048x64_0_1_2_3 (subf (broadcastInDim S1x12x1x1 ![] bcast_S_S1x12x1x1 (constant S_ .f32 0x3F800000#32)) (res_main_v101 V))))

/-- The reference's result, as a term of the arguments. -/
def resOut {F : FTy → Type} [FloatOps F] (V : Valuation τ sig (Elt F)) : FVec F S1x2048x768 .f32 :=
  addf (Host.dotGeneral dot_S1x2048x768_S768x768_S1x2048x768_2_0_01_1_n_n none (shapeCast _ (transpose S1x2048x12x64 [0, 2, 1, 3] (resHeads V) transposes_S1x12x2048x64_S1x2048x12x64_0_2_1_3) shapeCasts_S1x2048x12x64_S1x2048x768) (V (Proc.devRef .tc main_arg6))) (broadcastInDim S1x2048x768 ![0, 1, 2] bcast_S1x1x768_S1x2048x768_0_1_2 (broadcastInDim S1x1x768 ![2] bcast_S768_S1x1x768_2 (V (Proc.devRef .tc main_arg7))))

/-- A sum over 33 entries, its first apart. -/
theorem join33 (f : Fin 33 → EReal) (a : Fin 1 → EReal) (b : Fin 32 → EReal) (ha : a 0 = f 0) (hb : ∀ x, b x = f x.succ) :
    (∑ x, a x) + ∑ x, b x = ∑ t, f t := by
  rw [Fin.sum_univ_succ (n := 32), Fin.sum_univ_one, ha]
  exact congrArg (f 0 + ·) (Finset.sum_congr rfl fun x _ => hb x)

theorem resHeads_at (hD : (args V).Finite) (h : Fin 12) (i : Fin 2048) (d : Fin 64) : resHeads V (ix4 0 h i d) = (args V).head h i d := by
  unfold resHeads
  clean_types
  pointwise
  rw [v101_at]
  unfold Args.head
  refine congrArg₂ (· + ·) (congrArg (· * _) ?_) (congrArg (· * _) ?_)
  · rw [← hD.ref_loc h i d (fun j => s51 V h i j) (fun j => s55 V h i j) (fun j => (args V).v h j d)
      (v51_at V h i) (v55_at V h i) fun _ => rfl]
    unfold smx2
    refine Finset.sum_congr rfl fun j _ => congrArg₂ (· * ·) (congrArg₂ Ideal.div (v62_at V h i j) (Finset.sum_congr rfl fun l _ => v62_at V h i l)) ?_
    rw [v1_at]
    exact Finset.sum_congr rfl fun a _ => congrArg (_ * ·) (congrArg ((args V).Wkv a) (Fin.ext (by show 768 + (h.val * 64 + d.val) = (h.val + 12) * 64 + d.val; omega)))
  · rw [← hD.ref_mem h i d (fun t => s75 V h i t) (fun t => s82 V h i t) (fun t => (args V).memV h d t.val)
      (v75_at V h i) (v82_at V h i) fun _ => rfl]
    have hs : (∑ x : Fin 33, s89 V h i x) = ∑ x : Fin 33, Ideal.exp (s82 V h i x - max ⊥ (Finset.univ.fold max ⊥ (fun x => s82 V h i x))) :=
      Finset.sum_congr rfl fun l _ => v89_at V h i l
    unfold smx2
    refine join33 _ _ _ ?_ fun x => ?_
    · exact congrArg₂ (· * ·) (congrArg₂ Ideal.div (v89_at V h i 0) hs) rfl
    · refine congrArg₂ (· * ·) (congrArg₂ Ideal.div ?_ hs) ?_
      · exact (congrArg (s89 V h i) (Fin.ext (by show 1 + x.val = x.val + 1; omega) : _ = x.succ)).trans (v89_at V h i x.succ)
      · show _ = (args V).memV h d x.succ.val
        unfold Args.memV
        rw [if_neg (by simp), dif_pos x.succ.isLt]
        rfl

theorem resOut_at (hD : (args V).Finite) (i : Fin 2048) (j : Fin 768) : resOut V (ix3 0 i j) = (args V).out i j := by
  unfold resOut
  clean_types
  pointwise
  unfold Args.out
  refine congrArg₂ (· + ·) ?_ (show _ = V (Proc.devRef .tc main_arg7) (ix1 (n0 := 768) j) from rfl)
  rw [Fin.sum_univ_tiles 12 64 rfl]
  refine Finset.sum_congr rfl fun h _ => Finset.sum_congr rfl fun d _ => ?_
  refine congrArg₂ (· * ·) ((congrArg₂ (fun a b => resHeads V (ix4 0 a i b)) (Fin.ext ?_) (Fin.ext ?_)).trans (resHeads_at V hD h i d))
    (congrArg (fun a => (args V).Wo a j) (Fin.ext ?_))
  all_goals simp [col12]
  all_goals omega

end Cert.ReferenceIdeal.Val
-- ==== Proof.Value.Final.lean ====
/- The value claim: the idealized kernel and the reference end with equal results.
   Both results are the same function of the arguments' entries, `Args.out`; the precondition makes the entries the
   scores are computed from real. -/
module

public import proofs.«01_k».proof.Defs
public import proofs.«01_k».proof.Proof.KernelIdeal.Run
public import proofs.«01_k».proof.Proof.Gen.ReferenceIdeal.Run
public import proofs.«01_k».proof.Proof.Value.KernelOut
public import proofs.«01_k».proof.Proof.Value.Ref
public import Idealize.ShloMosaic.Lib.ReduceAll

@[expose] public section

set_option maxRecDepth 16384

noncomputable section

namespace Cert.Proof.ValueClaim

open Cert.KernelIdeal.Val
open Idealize.ShloMosaic Idealize.ShloMosaic.TcCoe Idealize.SL.Sem

/-! ## The precondition, decoded -/

theorem pre_facts : Cert.Pre_finite_scores.Facts where
  bcast_S_S1x2048x768 := by decide
  reducesTo_S1x2048x768_S_d0_1_2 := by decide
  h_S_ := by decide
  bcast_S_S1x12x32x64 := by decide
  reducesTo_S1x12x32x64_S_d0_1_2_3 := by decide
  bcast_S_S768x768 := by decide
  reducesTo_S768x768_S_d0_1 := by decide
  slices_S768x1536_S768x768_0_0 := by decide
  bcast_S_S12x1x64 := by decide
  reducesTo_S12x1x64_S_d0_1_2 := by decide
  bcast_S_S32x12 := by decide
  reducesTo_S32x12_S_d0_1 := by decide

theorem bits_inf : Ideal.ofBits .f32 0x7F800000#32 = ⊤ := by simp [Ideal.ofBits, Ideal.ieee]

theorem isReal_of_abs_lt (x : EReal) (h : max x (-x) < ⊤) : IsReal x := by
  induction x using EReal.rec with
  | bot => simp at h
  | top => simp at h
  | coe r => exact ⟨r, rfl⟩

/-- An array whose finiteness test came out true has real entries. -/
theorem all_real {s : Shape} {axes : List (Fin s.rank)} (a : FVec Ideal s .f32) (hb : (⟨0, ![]⟩ : Shape).BroadcastsInDim s (![] : Fin 0 → Fin s.rank))
    (hr : s.ReducesTo axes ⟨0, ![]⟩) (hu : 0 < (⟨0, ![]⟩ : Shape).numel) (j : (⟨0, ![]⟩ : Shape).Idx)
    (e : Host.reduce IntOp.andi (cmpf .olt (Host.absf a) (broadcastInDim s ![] hb (constant (F := Ideal) ⟨0, ![]⟩ .f32 0x7F800000#32)))
      (constantI ⟨0, ![]⟩ 1 1#1) hr hu j = 1#1) (i : s.Idx) : IsReal (a i) := by
  haveI : Subsingleton (⟨0, ![]⟩ : Shape).Idx := ⟨fun x y => funext fun k => k.elim0⟩
  have h : BitVec.ofBool (decide (max (a i) (-(a i)) < Ideal.ofBits .f32 0x7F800000#32)) = 1#1 := Host.reduce_andi_all _ _ hr hu j e i
  rw [bits_inf] at h
  refine isReal_of_abs_lt _ ?_
  by_contra hc
  rw [decide_eq_false hc] at h
  exact absurd h (by decide)

/-- An entry of the half of the key/value weights that makes the keys. -/
theorem keys_at (a : FVec Ideal ⟨2, ![768, 1536]⟩ .f32) (hs : (⟨2, ![768, 1536]⟩ : Shape).Slices ![0, 0] ⟨2, ![768, 768]⟩) (i e : Fin 768) :
    extractStridedSlice ⟨2, ![768, 768]⟩ ![0, 0] a hs (ix2 i e) = a (ix2 i ⟨e.val, by omega⟩) := by
  pointwise

theorem keys_real (a : FVec Ideal ⟨2, ![768, 1536]⟩ .f32) (hs : (⟨2, ![768, 1536]⟩ : Shape).Slices ![0, 0] ⟨2, ![768, 768]⟩)
    (h : ∀ y, IsReal (extractStridedSlice ⟨2, ![768, 768]⟩ ![0, 0] a hs y)) (i : Fin 768) (e : Fin 1536) (he : e.val < 768) : IsReal (a (ix2 i e)) := by
  have h' := h (ix2 i ⟨e.val, he⟩)
  rwa [keys_at] at h'

/-- The precondition makes the entries the scores are computed from real. -/
theorem finite (m : (ℓ : Loc Cert.KernelIdeal.nD Cert.KernelIdeal.τ Cert.KernelIdeal.sig) → Buf (Elt Ideal) ℓ)
    (hp : Cert.Pre_KernelIdeal_finite_scores (hPre_finite_scores := pre_facts) m) (c : Dev Cert.KernelIdeal.nD) : (Cert.KernelIdeal.Val.args m c).Finite := by
  have h := congrFun (hp c) (fun k => k.elim0)
  unfold Cert.Pre_finite_scores.fn Cert.Pre_finite_scores.fn_part1 at h
  obtain ⟨h, h11⟩ := IntOp.andi_eq_one.1 h
  obtain ⟨h, h8⟩ := IntOp.andi_eq_one.1 h
  obtain ⟨h, h5⟩ := IntOp.andi_eq_one.1 h
  obtain ⟨h, h4⟩ := IntOp.andi_eq_one.1 h
  obtain ⟨h0, h1⟩ := IntOp.andi_eq_one.1 h
  exact ⟨fun i e => all_real _ _ _ _ _ h0 _, fun i t e => all_real _ _ _ _ _ h1 _, fun i e => all_real _ _ _ _ _ h4 _,
    fun i e he => keys_real _ _ (all_real _ _ _ _ _ h5) i e he, fun i e => all_real _ _ _ _ _ h8 _, fun t i => all_real _ _ _ _ _ h11 _⟩

/-! ## The two programs' arguments -/

/-- The arguments by their coordinates, from the arrays. -/
def argsOf (a0 : FVec Ideal ⟨3, ![1, 2048, 768]⟩ .f32) (a1 a2 : FVec Ideal ⟨4, ![1, 12, 32, 64]⟩ .f32) (a3 : IVec ⟨3, ![1, 12, 32]⟩ 1)
    (a4 : FVec Ideal ⟨2, ![768, 768]⟩ .f32) (a5 : FVec Ideal ⟨2, ![768, 1536]⟩ .f32) (a6 : FVec Ideal ⟨2, ![768, 768]⟩ .f32)
    (a7 : FVec Ideal ⟨1, ![768]⟩ .f32) (a8 a9 : FVec Ideal ⟨3, ![12, 1, 64]⟩ .f32) (a10 : FVec Ideal ⟨3, ![12, 1, 1]⟩ .f32)
    (a11 : FVec Ideal ⟨2, ![32, 12]⟩ .f32) : Args where
  X i e := a0 (ix3 0 i e)
  km h t e := a1 (ix4 0 h t e)
  vm h t e := a2 (ix4 0 h t e)
  mask h t := a3 (ix3 0 h t)
  Wq i e := a4 (ix2 i e)
  Wkv i e := a5 (ix2 i e)
  Wo i e := a6 (ix2 i e)
  bo e := a7 (ix1 e)
  nk h e := a8 (ix3 h 0 e)
  nv h e := a9 (ix3 h 0 e)
  g h := a10 (ix3 h 0 0)
  T t h := a11 (ix2 t h)

theorem argsOf_congr {a0 b0 a1 b1 a2 b2 a3 b3 a4 b4 a5 b5 a6 b6 a7 b7 a8 b8 a9 b9 a10 b10 a11 b11}
    (h0 : a0 = b0) (h1 : a1 = b1) (h2 : a2 = b2) (h3 : a3 = b3) (h4 : a4 = b4) (h5 : a5 = b5) (h6 : a6 = b6) (h7 : a7 = b7)
    (h8 : a8 = b8) (h9 : a9 = b9) (h10 : a10 = b10) (h11 : a11 = b11) :
    argsOf a0 a1 a2 a3 a4 a5 a6 a7 a8 a9 a10 a11 = argsOf b0 b1 b2 b3 b4 b5 b6 b7 b8 b9 b10 b11 := by
  subst h0 h1 h2 h3 h4 h5 h6 h7 h8 h9 h10 h11; rfl

/-! ## The claim -/

/-- Arrays that agree at every entry of the result's shape are equal. -/
theorem ext_result {f g : FVec Ideal ⟨3, ![1, 2048, 768]⟩ .f32} (h : ∀ (i : Fin 2048) (j : Fin 768), f (ix3 0 i j) = g (ix3 0 i j)) : f = g := by
  refine ext3 fun a i j => ?_
  rw [show a = 0 from Subsingleton.elim _ _]
  exact h i j

theorem algebraic : Cert.algebraic_KernelIdeal_ReferenceIdeal_pre_finite_scores (hPre_finite_scores := pre_facts) := by
  intro m g m' g' hp ha
  refine ⟨fun c => Cert.KernelIdeal.Own.W20 m c (Proc.devRef .tc Cert.KernelIdeal.main_v31), Cert.KernelIdeal.Own.value_run m g, ?_⟩
  refine (θ_run Cert.ReferenceIdeal.defs _ _).mono (fun r h c => ⟨(h c).1.trans ?_, (h c).2⟩) (Cert.ReferenceIdeal.Value.run (F := Ideal) m' g')
  obtain ⟨h0, h1, h2, h3, h4, h5, h6, h7, h8, h9, h10, h11⟩ := ha c
  have hargs : Cert.ReferenceIdeal.Val.args (StableHlo.launchContents m' c) = Cert.KernelIdeal.Val.args m c :=
    argsOf_congr h0 h1 h2 h3 h4 h5 h6 h7 h8 h9 h10 h11
  have hD := finite m hp c
  show Cert.ReferenceIdeal.Val.resOut (StableHlo.launchContents m' c) = _
  refine ext_result fun i j => ?_
  refine (Cert.ReferenceIdeal.Val.resOut_at _ (hargs ▸ hD) i j).trans ?_
  rw [hargs]
  exact (result_at m c hD i j).symm

end Cert.Proof.ValueClaim

end
-- ==== Proof.lean ====
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Claims.Frames
public import proofs.«01_k».proof.Proof.Value.Final

@[expose] public section

noncomputable section

namespace Cert.Proof

/-- Every claim of the certificate. -/
theorem claim : Cert.Claim :=
  ⟨Cert.Kernel.Gen.facts, Cert.KernelIdeal.Gen.facts, Cert.ReferenceIdeal.Gen.facts, ValueClaim.pre_facts,
    FrameClaims.frame_p, FrameClaims.frame_pi, fun m ρ _ => FrameClaims.frame_pi m ρ trivial,
    FrameClaims.frame_ri, fun m ρ _ => FrameClaims.frame_ri m ρ trivial, FrameClaims.preserves, ValueClaim.algebraic⟩

end Cert.Proof

end
